-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S64x200x6 : Shape := ⟨3, ![64, 200, 6]⟩
abbrev S64x200x9 : Shape := ⟨3, ![64, 200, 9]⟩
abbrev S64x200 : Shape := ⟨2, ![64, 200]⟩
abbrev S100000x128 : Shape := ⟨2, ![100000, 128]⟩
abbrev S512x128 : Shape := ⟨2, ![512, 128]⟩
abbrev S128x512 : Shape := ⟨2, ![128, 512]⟩
abbrev S512 : Shape := ⟨1, ![512]⟩
abbrev S512x512 : Shape := ⟨2, ![512, 512]⟩
abbrev S_ : Shape := ⟨0, ![]⟩

class Facts : Prop where
  bcast_S_S64x200x6 : S_.BroadcastsInDim S64x200x6 (![] : Fin 0 → Fin S64x200x6.rank)
  reducesTo_S64x200x6_S_d0_1_2 : S64x200x6.ReducesTo [0, 1, 2] S_
  h_S_ : 0 < S_.numel
  bcast_S_S64x200x9 : S_.BroadcastsInDim S64x200x9 (![] : Fin 0 → Fin S64x200x9.rank)
  reducesTo_S64x200x9_S_d0_1_2 : S64x200x9.ReducesTo [0, 1, 2] S_
  bcast_S_S64x200 : S_.BroadcastsInDim S64x200 (![] : Fin 0 → Fin S64x200.rank)
  reducesTo_S64x200_S_d0_1 : S64x200.ReducesTo [0, 1] S_

variable [Facts]

def fn_part1 {F : FTy → Type} [FloatOps F] (main_arg1 : IVec S64x200x9 32) (main_arg4 : IVec S64x200 32) (main_v12 : IVec S_ 1) (main_v14 : IVec S64x200x9 1) (main_v15 : IVec S64x200x9 32) : IVec S_ 1 :=
  let main_v16 : IVec S64x200x9 1 := cmpi .slt main_arg1 main_v15
  let main_v17 : IVec S64x200x9 1 := andi main_v14 main_v16
  let main_c_7 : IVec S_ 1 := constantI S_ 1 1#1
  let main_v18 : IVec S_ 1 := (fun x v => Host.reduce IntOp.andi x v reducesTo_S64x200x9_S_d0_1_2 h_S_) main_v17 main_c_7
  let main_v19 : IVec S_ 1 := andi main_v12 main_v18
  let main_c_8 : IVec S_ 32 := constantI S_ 32 0#32
  let main_v20 : IVec S64x200 32 := broadcastInDim S64x200 ![] bcast_S_S64x200 main_c_8
  let main_v21 : IVec S64x200 1 := cmpi .sge main_arg4 main_v20
  let main_c_9 : IVec S_ 32 := constantI S_ 32 9#32
  let main_v22 : IVec S64x200 32 := broadcastInDim S64x200 ![] bcast_S_S64x200 main_c_9
  let main_v23 : IVec S64x200 1 := cmpi .sle main_arg4 main_v22
  let main_v24 : IVec S64x200 1 := andi main_v21 main_v23
  let main_c_10 : IVec S_ 1 := constantI S_ 1 1#1
  let main_v25 : IVec S_ 1 := (fun x v => Host.reduce IntOp.andi x v reducesTo_S64x200_S_d0_1 h_S_) main_v24 main_c_10
  let main_v26 : IVec S_ 1 := andi main_v19 main_v25
  main_v26

def fn {F : FTy → Type} [FloatOps F] (main_arg0 : IVec S64x200x6 32) (main_arg1 : IVec S64x200x9 32) (main_arg2 : IVec S64x200x6 32) (main_arg3 : IVec S64x200 32) (main_arg4 : IVec S64x200 32) (main_arg5 : IVec S64x200 32) (main_arg6 : FVec F S64x200 .f32) (main_arg7 : FVec F S100000x128 .f32) (main_arg8 : FVec F S512x128 .f32) (main_arg9 : FVec F S128x512 .f32) (main_arg10 : FVec F S128x512 .f32) (main_arg11 : FVec F S512 .f32) (main_arg12 : FVec F S128x512 .f32) (main_arg13 : FVec F S128x512 .f32) (main_arg14 : FVec F S512 .f32) (main_arg15 : FVec F S512x512 .f32) : IVec S_ 1 :=
  let main_c : IVec S_ 32 := constantI S_ 32 0#32
  let main_v0 : IVec S64x200x6 32 := broadcastInDim S64x200x6 ![] bcast_S_S64x200x6 main_c
  let main_v1 : IVec S64x200x6 1 := cmpi .sge main_arg0 main_v0
  let main_c_0 : IVec S_ 32 := constantI S_ 32 100000#32
  let main_v2 : IVec S64x200x6 32 := broadcastInDim S64x200x6 ![] bcast_S_S64x200x6 main_c_0
  let main_v3 : IVec S64x200x6 1 := cmpi .slt main_arg0 main_v2
  let main_v4 : IVec S64x200x6 1 := andi main_v1 main_v3
  let main_c_1 : IVec S_ 1 := constantI S_ 1 1#1
  let main_v5 : IVec S_ 1 := (fun x v => Host.reduce IntOp.andi x v reducesTo_S64x200x6_S_d0_1_2 h_S_) main_v4 main_c_1
  let main_c_2 : IVec S_ 32 := constantI S_ 32 0#32
  let main_v6 : IVec S64x200x6 32 := broadcastInDim S64x200x6 ![] bcast_S_S64x200x6 main_c_2
  let main_v7 : IVec S64x200x6 1 := cmpi .sge main_arg2 main_v6
  let main_c_3 : IVec S_ 32 := constantI S_ 32 100000#32
  let main_v8 : IVec S64x200x6 32 := broadcastInDim S64x200x6 ![] bcast_S_S64x200x6 main_c_3
  let main_v9 : IVec S64x200x6 1 := cmpi .slt main_arg2 main_v8
  let main_v10 : IVec S64x200x6 1 := andi main_v7 main_v9
  let main_c_4 : IVec S_ 1 := constantI S_ 1 1#1
  let main_v11 : IVec S_ 1 := (fun x v => Host.reduce IntOp.andi x v reducesTo_S64x200x6_S_d0_1_2 h_S_) main_v10 main_c_4
  let main_v12 : IVec S_ 1 := andi main_v5 main_v11
  let main_c_5 : IVec S_ 32 := constantI S_ 32 0#32
  let main_v13 : IVec S64x200x9 32 := broadcastInDim S64x200x9 ![] bcast_S_S64x200x9 main_c_5
  let main_v14 : IVec S64x200x9 1 := cmpi .sge main_arg1 main_v13
  let main_c_6 : IVec S_ 32 := constantI S_ 32 512#32
  let main_v15 : IVec S64x200x9 32 := broadcastInDim S64x200x9 ![] bcast_S_S64x200x9 main_c_6
  fn_part1 (F := F) main_arg1 main_arg4 main_v12 main_v14 main_v15
-- ==== Kernel.lean ====
abbrev S64x200x6 : Shape := ⟨3, ![64, 200, 6]⟩
abbrev S64x200x9 : Shape := ⟨3, ![64, 200, 9]⟩
abbrev S64x200 : Shape := ⟨2, ![64, 200]⟩
abbrev S100000x128 : Shape := ⟨2, ![100000, 128]⟩
abbrev S512x128 : Shape := ⟨2, ![512, 128]⟩
abbrev S128x512 : Shape := ⟨2, ![128, 512]⟩
abbrev S512 : Shape := ⟨1, ![512]⟩
abbrev S512x512 : Shape := ⟨2, ![512, 512]⟩
abbrev S12800x6 : Shape := ⟨2, ![12800, 6]⟩
abbrev S25600x6 : Shape := ⟨2, ![25600, 6]⟩
abbrev S32x4800 : Shape := ⟨2, ![32, 4800]⟩
abbrev S12800 : Shape := ⟨1, ![12800]⟩
abbrev S25600 : Shape := ⟨1, ![25600]⟩
abbrev S1600x16 : Shape := ⟨2, ![1600, 16]⟩
abbrev S12800x9 : Shape := ⟨2, ![12800, 9]⟩
abbrev S9x12800 : Shape := ⟨2, ![9, 12800]⟩
abbrev S1x12800 : Shape := ⟨2, ![1, 12800]⟩
abbrev S10x12800 : Shape := ⟨2, ![10, 12800]⟩
abbrev S1x512 : Shape := ⟨2, ![1, 512]⟩
abbrev S256x512 : Shape := ⟨2, ![256, 512]⟩
abbrev S2x512 : Shape := ⟨2, ![2, 512]⟩
abbrev S1600x1536 : Shape := ⟨2, ![1600, 1536]⟩
abbrev S16x1536 : Shape := ⟨2, ![16, 1536]⟩
abbrev S1x1536 : Shape := ⟨2, ![1, 1536]⟩
abbrev S25600x128 : Shape := ⟨2, ![25600, 128]⟩
abbrev S4800 : Shape := ⟨1, ![4800]⟩
abbrev S2x1536 : Shape := ⟨2, ![2, 1536]⟩
abbrev S2x96x128 : Shape := ⟨3, ![2, 96, 128]⟩
abbrev S2x16x128 : Shape := ⟨3, ![2, 16, 128]⟩
abbrev S2 : Shape := ⟨1, ![2]⟩
abbrev S_ : Shape := ⟨0, ![]⟩
abbrev S1x4800 : Shape := ⟨2, ![1, 4800]⟩
abbrev S1536 : Shape := ⟨1, ![1536]⟩
abbrev S1 : Shape := ⟨1, ![1]⟩
abbrev S1x96x128 : Shape := ⟨3, ![1, 96, 128]⟩
abbrev S96x128 : Shape := ⟨2, ![96, 128]⟩
abbrev S96 : Shape := ⟨1, ![96]⟩
abbrev S1x16x128 : Shape := ⟨3, ![1, 16, 128]⟩
abbrev S16x128 : Shape := ⟨2, ![16, 128]⟩
abbrev S1x16 : Shape := ⟨2, ![1, 16]⟩
abbrev S16 : Shape := ⟨1, ![16]⟩
abbrev S1x1x16 : Shape := ⟨3, ![1, 1, 16]⟩
abbrev S12800x256 : Shape := ⟨2, ![12800, 256]⟩
abbrev S10x512 : Shape := ⟨2, ![10, 512]⟩
abbrev S512x256 : Shape := ⟨2, ![512, 256]⟩
abbrev S4608x128 : Shape := ⟨2, ![4608, 128]⟩
abbrev S512x10 : Shape := ⟨2, ![512, 10]⟩
abbrev S512x1 : Shape := ⟨2, ![512, 1]⟩
abbrev S12800x1 : Shape := ⟨2, ![12800, 1]⟩
abbrev S12800x512 : Shape := ⟨2, ![12800, 512]⟩
abbrev S64x200x512 : Shape := ⟨3, ![64, 200, 512]⟩

abbrev nBuf : Table → Nat
  | .hbm => 42
  | .local .tc .vmem => 33
  | .local .scVector .vmem => 4
  | _ => 0

abbrev bufTy : (tb : Table) → Fin (nBuf tb) → BufTy
  | .hbm, ⟨0, _⟩ => ⟨S64x200x6, .i32⟩
  | .hbm, ⟨1, _⟩ => ⟨S64x200x9, .i32⟩
  | .hbm, ⟨2, _⟩ => ⟨S64x200x6, .i32⟩
  | .hbm, ⟨3, _⟩ => ⟨S64x200, .i32⟩
  | .hbm, ⟨4, _⟩ => ⟨S64x200, .i32⟩
  | .hbm, ⟨5, _⟩ => ⟨S64x200, .i32⟩
  | .hbm, ⟨6, _⟩ => ⟨S64x200, .f32⟩
  | .hbm, ⟨7, _⟩ => ⟨S100000x128, .f32⟩
  | .hbm, ⟨8, _⟩ => ⟨S512x128, .f32⟩
  | .hbm, ⟨9, _⟩ => ⟨S128x512, .f32⟩
  | .hbm, ⟨10, _⟩ => ⟨S128x512, .f32⟩
  | .hbm, ⟨11, _⟩ => ⟨S512, .f32⟩
  | .hbm, ⟨12, _⟩ => ⟨S128x512, .f32⟩
  | .hbm, ⟨13, _⟩ => ⟨S128x512, .f32⟩
  | .hbm, ⟨14, _⟩ => ⟨S512, .f32⟩
  | .hbm, ⟨15, _⟩ => ⟨S512x512, .f32⟩
  | .hbm, ⟨16, _⟩ => ⟨S12800x6, .i32⟩
  | .hbm, ⟨17, _⟩ => ⟨S12800x6, .i32⟩
  | .hbm, ⟨18, _⟩ => ⟨S25600x6, .i32⟩
  | .hbm, ⟨19, _⟩ => ⟨S32x4800, .i32⟩
  | .hbm, ⟨20, _⟩ => ⟨S12800, .i32⟩
  | .hbm, ⟨21, _⟩ => ⟨S12800, .i32⟩
  | .hbm, ⟨22, _⟩ => ⟨S25600, .i32⟩
  | .hbm, ⟨23, _⟩ => ⟨S25600, .f32⟩
  | .hbm, ⟨24, _⟩ => ⟨S1600x16, .f32⟩
  | .hbm, ⟨25, _⟩ => ⟨S12800x9, .i32⟩
  | .hbm, ⟨26, _⟩ => ⟨S9x12800, .i32⟩
  | .hbm, ⟨27, _⟩ => ⟨S1x12800, .i32⟩
  | .hbm, ⟨28, _⟩ => ⟨S10x12800, .i32⟩
  | .hbm, ⟨29, _⟩ => ⟨S512x512, .bf16⟩
  | .hbm, ⟨30, _⟩ => ⟨S1x512, .f32⟩
  | .hbm, ⟨31, _⟩ => ⟨S1x512, .f32⟩
  | .hbm, ⟨32, _⟩ => ⟨S512x128, .bf16⟩
  | .hbm, ⟨33, _⟩ => ⟨S256x512, .bf16⟩
  | .hbm, ⟨34, _⟩ => ⟨S256x512, .bf16⟩
  | .hbm, ⟨35, _⟩ => ⟨S2x512, .f32⟩
  | .hbm, ⟨36, _⟩ => ⟨S1600x1536, .f32⟩
  | .hbm, ⟨37, _⟩ => ⟨S25600x128, .f32⟩
  | .hbm, ⟨38, _⟩ => ⟨S12800x256, .bf16⟩
  | .hbm, ⟨39, _⟩ => ⟨S12800x1, .f32⟩
  | .hbm, ⟨40, _⟩ => ⟨S12800x512, .f32⟩
  | .hbm, ⟨41, _⟩ => ⟨S64x200x512, .f32⟩
  | .local .tc .vmem, ⟨0, _⟩ => ⟨S512x128, .f32⟩
  | .local .tc .vmem, ⟨1, _⟩ => ⟨S128x512, .f32⟩
  | .local .tc .vmem, ⟨2, _⟩ => ⟨S1x512, .f32⟩
  | .local .tc .vmem, ⟨3, _⟩ => ⟨S128x512, .f32⟩
  | .local .tc .vmem, ⟨4, _⟩ => ⟨S1x512, .f32⟩
  | .local .tc .vmem, ⟨5, _⟩ => ⟨S128x512, .f32⟩
  | .local .tc .vmem, ⟨6, _⟩ => ⟨S128x512, .f32⟩
  | .local .tc .vmem, ⟨7, _⟩ => ⟨S1600x16, .f32⟩
  | .local .tc .vmem, ⟨8, _⟩ => ⟨S512x128, .bf16⟩
  | .local .tc .vmem, ⟨9, _⟩ => ⟨S256x512, .bf16⟩
  | .local .tc .vmem, ⟨10, _⟩ => ⟨S256x512, .bf16⟩
  | .local .tc .vmem, ⟨11, _⟩ => ⟨S2x512, .f32⟩
  | .local .tc .vmem, ⟨12, _⟩ => ⟨S1600x1536, .f32⟩
  | .local .tc .vmem, ⟨13, _⟩ => ⟨S10x512, .i32⟩
  | .local .tc .vmem, ⟨14, _⟩ => ⟨S10x512, .i32⟩
  | .local .tc .vmem, ⟨15, _⟩ => ⟨S512x128, .bf16⟩
  | .local .tc .vmem, ⟨16, _⟩ => ⟨S256x512, .bf16⟩
  | .local .tc .vmem, ⟨17, _⟩ => ⟨S256x512, .bf16⟩
  | .local .tc .vmem, ⟨18, _⟩ => ⟨S2x512, .f32⟩
  | .local .tc .vmem, ⟨19, _⟩ => ⟨S512x256, .bf16⟩
  | .local .tc .vmem, ⟨20, _⟩ => ⟨S512x256, .bf16⟩
  | .local .tc .vmem, ⟨21, _⟩ => ⟨S4608x128, .bf16⟩
  | .local .tc .vmem, ⟨22, _⟩ => ⟨S512x128, .f32⟩
  | .local .tc .vmem, ⟨23, _⟩ => ⟨S512x128, .f32⟩
  | .local .tc .vmem, ⟨24, _⟩ => ⟨S512x128, .f32⟩
  | .local .tc .vmem, ⟨25, _⟩ => ⟨S512x128, .f32⟩
  | .local .tc .vmem, ⟨26, _⟩ => ⟨S512x256, .bf16⟩
  | .local .tc .vmem, ⟨27, _⟩ => ⟨S512x256, .bf16⟩
  | .local .tc .vmem, ⟨28, _⟩ => ⟨S512x1, .f32⟩
  | .local .tc .vmem, ⟨29, _⟩ => ⟨S512x1, .f32⟩
  | .local .tc .vmem, ⟨30, _⟩ => ⟨S512x512, .bf16⟩
  | .local .tc .vmem, ⟨31, _⟩ => ⟨S512x512, .f32⟩
  | .local .tc .vmem, ⟨32, _⟩ => ⟨S512x512, .f32⟩
  | .local .scVector .vmem, ⟨0, _⟩ => ⟨S4800, .i32⟩
  | .local .scVector .vmem, ⟨1, _⟩ => ⟨S2x1536, .f32⟩
  | .local .scVector .vmem, ⟨2, _⟩ => ⟨S2x96x128, .f32⟩
  | .local .scVector .vmem, ⟨3, _⟩ => ⟨S2x16x128, .f32⟩
  | _, _ => ⟨S64x200x6, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTables nBuf rfl bufTy 4 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v16_2 : Ref sig .tc := ⟨.hbm, 34, rfl⟩
abbrev main_v16_3 : Ref sig .tc := ⟨.hbm, 35, rfl⟩
abbrev main_v16_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v3_scv : Ref sig .scVector := ⟨.hbm, 19, rfl⟩
abbrev main_v16_4_scv : Ref sig .scVector := ⟨.hbm, 36, rfl⟩
abbrev main_arg7_scv : Ref sig .scVector := ⟨.hbm, 7, rfl⟩
abbrev main_v17_scv : Ref sig .scVector := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem5_0 : DmaSem sig := 37
abbrev cc3_sem5_1 : DmaSem sig := 38
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1600x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1600x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_49_r0 : BitVec 32 := 0#32
  ![v1.toNat, 0]
def k1_off2 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32 : BitVec 32 := 50#32
  let v2 : BitVec 32 := Scalar.muli v1 c50_i32
  let v3 : BitVec 32 := Scalar.addi v2 c0_i32
  let c0_i32_3 : BitVec 32 := 0#32
  ![v3.toNat, 0]
@[reducible] def k1_t1_loop : Scf.Loop 32 :=
  let c0_i32_26 : BitVec 32 := 0#32
  let c25_i32 : BitVec 32 := 25#32
  let v37 : BitVec 32 := Scalar.addi c0_i32_26 c25_i32
  let c1_i32_27 : BitVec 32 := 1#32
  ⟨c0_i32_26, v37, c1_i32_27⟩
def k1_off3 (i : grid1.Coords) (k1_t1 : Fin k1_t1_loop.trips) (c0_i32_50 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32 : BitVec 32 := 50#32
  let v2 : BitVec 32 := Scalar.muli v1 c50_i32
  let c2_i32_49 : BitVec 32 := 2#32
  let c0_i32_26 : BitVec 32 := 0#32
  let c1_i32_27 : BitVec 32 := 1#32
  let arg13 : BitVec 32 := Scf.iv c0_i32_26 c1_i32_27 k1_t1
  let v55 : BitVec 32 := Scalar.muli c2_i32_49 arg13
  let v56 : BitVec 32 := Scalar.addi v55 c0_i32_50
  let v5484 : BitVec 32 := Scalar.addi v2 v56
  let c16_i32_2760 : BitVec 32 := 16#32
  let v5485 : BitVec 32 := Scalar.muli v5484 c16_i32_2760
  let c0_i32_2765 : BitVec 32 := 0#32
  ![v5485.toNat, 0]
def k1_cond2 (k1_t1 : Fin k1_t1_loop.trips) : BitVec 1 :=
  let c2_i32_49 : BitVec 32 := 2#32
  let c0_i32_26 : BitVec 32 := 0#32
  let c1_i32_27 : BitVec 32 := 1#32
  let arg13 : BitVec 32 := Scf.iv c0_i32_26 c1_i32_27 k1_t1
  let v55 : BitVec 32 := Scalar.muli c2_i32_49 arg13
  let c0_i32_50 : BitVec 32 := 0#32
  let v56 : BitVec 32 := Scalar.addi v55 c0_i32_50
  let c2_i32_2769 : BitVec 32 := 2#32
  let v5494 : BitVec 32 := Scalar.addi v56 c2_i32_2769
  let c50_i32_2770 : BitVec 32 := 50#32
  let v5495 : BitVec 1 := Scalar.cmpi .slt v5494 c50_i32_2770
  let v5496 : BitVec 32 := Scalar.extui v5495
  let c0_i32_2771 : BitVec 32 := 0#32
  let v5497 : BitVec 1 := Scalar.cmpi .ne v5496 c0_i32_2771
  v5497

def k1_off4 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32 : BitVec 32 := 50#32
  let v2 : BitVec 32 := Scalar.muli v1 c50_i32
  let c2_i32_49 : BitVec 32 := 2#32
  let c0_i32_26 : BitVec 32 := 0#32
  let c1_i32_27 : BitVec 32 := 1#32
  let arg13 : BitVec 32 := Scf.iv c0_i32_26 c1_i32_27 k1_t1
  let v55 : BitVec 32 := Scalar.muli c2_i32_49 arg13
  let c0_i32_50 : BitVec 32 := 0#32
  let v56 : BitVec 32 := Scalar.addi v55 c0_i32_50
  let c2_i32_5683 : BitVec 32 := 2#32
  let v10941 : BitVec 32 := Scalar.addi v56 c2_i32_5683
  let v10942 : BitVec 32 := Scalar.addi v2 v10941
  let c0_i32_5687 : BitVec 32 := 0#32
  ![v10942.toNat, 0]
def k1_off5 (k1_t1 : Fin k1_t1_loop.trips) : Fin 1 → Nat :=
  let c2_i32_49 : BitVec 32 := 2#32
  let c0_i32_26 : BitVec 32 := 0#32
  let c1_i32_27 : BitVec 32 := 1#32
  let arg13 : BitVec 32 := Scf.iv c0_i32_26 c1_i32_27 k1_t1
  let v55 : BitVec 32 := Scalar.muli c2_i32_49 arg13
  let c0_i32_50 : BitVec 32 := 0#32
  let v56 : BitVec 32 := Scalar.addi v55 c0_i32_50
  let c2_i32_5683 : BitVec 32 := 2#32
  let v10941 : BitVec 32 := Scalar.addi v56 c2_i32_5683
  let c96_i32_5690 : BitVec 32 := 96#32
  let v10953 : BitVec 32 := Scalar.muli v10941 c96_i32_5690
  ![v10953.toNat]
def k1_cond4 (k1_t1 : Fin k1_t1_loop.trips) : BitVec 1 :=
  let c2_i32_2772 : BitVec 32 := 2#32
  let c0_i32_26 : BitVec 32 := 0#32
  let c1_i32_27 : BitVec 32 := 1#32
  let arg13 : BitVec 32 := Scf.iv c0_i32_26 c1_i32_27 k1_t1
  let v5498 : BitVec 32 := Scalar.muli c2_i32_2772 arg13
  let c1_i32_2773 : BitVec 32 := 1#32
  let v5499 : BitVec 32 := Scalar.addi v5498 c1_i32_2773
  let c2_i32_5679 : BitVec 32 := 2#32
  let v10937 : BitVec 32 := Scalar.addi v5499 c2_i32_5679
  let c50_i32_5680 : BitVec 32 := 50#32
  let v10938 : BitVec 1 := Scalar.cmpi .slt v10937 c50_i32_5680
  let v10939 : BitVec 32 := Scalar.extui v10938
  let c0_i32_5681 : BitVec 32 := 0#32
  let v10940 : BitVec 1 := Scalar.cmpi .ne v10939 c0_i32_5681
  v10940

def k1_off6 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32 : BitVec 32 := 50#32
  let v2 : BitVec 32 := Scalar.muli v1 c50_i32
  let c2_i32_2772 : BitVec 32 := 2#32
  let c0_i32_26 : BitVec 32 := 0#32
  let c1_i32_27 : BitVec 32 := 1#32
  let arg13 : BitVec 32 := Scf.iv c0_i32_26 c1_i32_27 k1_t1
  let v5498 : BitVec 32 := Scalar.muli c2_i32_2772 arg13
  let c1_i32_2773 : BitVec 32 := 1#32
  let v5499 : BitVec 32 := Scalar.addi v5498 c1_i32_2773
  let c2_i32_5683 : BitVec 32 := 2#32
  let v10941 : BitVec 32 := Scalar.addi v5499 c2_i32_5683
  let v10942 : BitVec 32 := Scalar.addi v2 v10941
  let c0_i32_5687 : BitVec 32 := 0#32
  ![v10942.toNat, 0]
def k1_off7 (k1_t1 : Fin k1_t1_loop.trips) : Fin 1 → Nat :=
  let c2_i32_2772 : BitVec 32 := 2#32
  let c0_i32_26 : BitVec 32 := 0#32
  let c1_i32_27 : BitVec 32 := 1#32
  let arg13 : BitVec 32 := Scf.iv c0_i32_26 c1_i32_27 k1_t1
  let v5498 : BitVec 32 := Scalar.muli c2_i32_2772 arg13
  let c1_i32_2773 : BitVec 32 := 1#32
  let v5499 : BitVec 32 := Scalar.addi v5498 c1_i32_2773
  let c2_i32_5683 : BitVec 32 := 2#32
  let v10941 : BitVec 32 := Scalar.addi v5499 c2_i32_5683
  let c96_i32_5690 : BitVec 32 := 96#32
  let v10953 : BitVec 32 := Scalar.muli v10941 c96_i32_5690
  ![v10953.toNat]
abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10x512 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S512x512 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x200x6 : Shape := ⟨3, ![64, 200, 6]⟩
abbrev S64x200x9 : Shape := ⟨3, ![64, 200, 9]⟩
abbrev S64x200 : Shape := ⟨2, ![64, 200]⟩
abbrev S100000x128 : Shape := ⟨2, ![100000, 128]⟩
abbrev S512x128 : Shape := ⟨2, ![512, 128]⟩
abbrev S128x512 : Shape := ⟨2, ![128, 512]⟩
abbrev S512 : Shape := ⟨1, ![512]⟩
abbrev S512x512 : Shape := ⟨2, ![512, 512]⟩
abbrev S_ : Shape := ⟨0, ![]⟩
abbrev S64x200x6x1 : Shape := ⟨4, ![64, 200, 6, 1]⟩
abbrev S64x200x6x128 : Shape := ⟨4, ![64, 200, 6, 128]⟩
abbrev S64x200x9x1 : Shape := ⟨4, ![64, 200, 9, 1]⟩
abbrev S64x200x9x128 : Shape := ⟨4, ![64, 200, 9, 128]⟩
abbrev S6 : Shape := ⟨1, ![6]⟩
abbrev S1x1x6 : Shape := ⟨3, ![1, 1, 6]⟩
abbrev S64x200x1 : Shape := ⟨3, ![64, 200, 1]⟩
abbrev S64x200x128 : Shape := ⟨3, ![64, 200, 128]⟩
abbrev S12800x9x128 : Shape := ⟨3, ![12800, 9, 128]⟩
abbrev S12800 : Shape := ⟨1, ![12800]⟩
abbrev S12800x128 : Shape := ⟨2, ![12800, 128]⟩
abbrev S9x12800x128 : Shape := ⟨3, ![9, 12800, 128]⟩
abbrev S9 : Shape := ⟨1, ![9]⟩
abbrev S1x12800x128 : Shape := ⟨3, ![1, 12800, 128]⟩
abbrev S1 : Shape := ⟨1, ![1]⟩
abbrev S12800x512 : Shape := ⟨2, ![12800, 512]⟩
abbrev S1x512 : Shape := ⟨2, ![1, 512]⟩
abbrev S12800x1 : Shape := ⟨2, ![12800, 1]⟩
abbrev S1x9 : Shape := ⟨2, ![1, 9]⟩
abbrev S12800x9 : Shape := ⟨2, ![12800, 9]⟩
abbrev S12800x9x1 : Shape := ⟨3, ![12800, 9, 1]⟩
abbrev S1x1x1 : Shape := ⟨3, ![1, 1, 1]⟩
abbrev S12800x256 : Shape := ⟨2, ![12800, 256]⟩
abbrev S64x200x256 : Shape := ⟨3, ![64, 200, 256]⟩
abbrev S64x200x512 : Shape := ⟨3, ![64, 200, 512]⟩

abbrev nBuf : Space → Nat
  | .hbm => 262
  | .vmem => 0
  | .smem => 0
  | _ => 0

abbrev hbmTy0_0 (i : Nat) : BufTy := match i % 128 with
  | 0 => ⟨S64x200x6, .i32⟩
  | 1 => ⟨S64x200x9, .i32⟩
  | 2 => ⟨S64x200x6, .i32⟩
  | 3 => ⟨S64x200, .i32⟩
  | 4 => ⟨S64x200, .i32⟩
  | 5 => ⟨S64x200, .i32⟩
  | 6 => ⟨S64x200, .f32⟩
  | 7 => ⟨S100000x128, .f32⟩
  | 8 => ⟨S512x128, .f32⟩
  | 9 => ⟨S128x512, .f32⟩
  | 10 => ⟨S128x512, .f32⟩
  | 11 => ⟨S512, .f32⟩
  | 12 => ⟨S128x512, .f32⟩
  | 13 => ⟨S128x512, .f32⟩
  | 14 => ⟨S512, .f32⟩
  | 15 => ⟨S512x512, .f32⟩
  | 16 => ⟨S_, .i32⟩
  | 17 => ⟨S64x200x6, .i32⟩
  | 18 => ⟨S64x200x6, .i1⟩
  | 19 => ⟨S_, .i32⟩
  | 20 => ⟨S64x200x6, .i32⟩
  | 21 => ⟨S64x200x6, .i32⟩
  | 22 => ⟨S64x200x6, .i32⟩
  | 23 => ⟨S64x200x6x1, .i32⟩
  | 24 => ⟨S64x200x6x128, .f32⟩
  | 25 => ⟨S_, .i32⟩
  | 26 => ⟨S64x200x6, .i32⟩
  | 27 => ⟨S64x200x6, .i1⟩
  | 28 => ⟨S_, .i32⟩
  | 29 => ⟨S64x200x6, .i32⟩
  | 30 => ⟨S64x200x6, .i32⟩
  | 31 => ⟨S64x200x6, .i32⟩
  | 32 => ⟨S64x200x6x1, .i32⟩
  | 33 => ⟨S64x200x6x128, .f32⟩
  | 34 => ⟨S_, .i32⟩
  | 35 => ⟨S64x200x9, .i32⟩
  | 36 => ⟨S64x200x9, .i1⟩
  | 37 => ⟨S_, .i32⟩
  | 38 => ⟨S64x200x9, .i32⟩
  | 39 => ⟨S64x200x9, .i32⟩
  | 40 => ⟨S64x200x9, .i32⟩
  | 41 => ⟨S64x200x9x1, .i32⟩
  | 42 => ⟨S64x200x9x128, .f32⟩
  | 43 => ⟨S6, .i32⟩
  | 44 => ⟨S1x1x6, .i32⟩
  | 45 => ⟨S64x200x1, .i32⟩
  | 46 => ⟨S64x200x6, .i32⟩
  | 47 => ⟨S64x200x6, .i32⟩
  | 48 => ⟨S64x200x6, .i1⟩
  | 49 => ⟨S64x200x6, .f32⟩
  | 50 => ⟨S64x200x6x1, .f32⟩
  | 51 => ⟨S1x1x6, .i32⟩
  | 52 => ⟨S64x200x1, .i32⟩
  | 53 => ⟨S64x200x6, .i32⟩
  | 54 => ⟨S64x200x6, .i32⟩
  | 55 => ⟨S64x200x6, .i1⟩
  | 56 => ⟨S64x200x6, .f32⟩
  | 57 => ⟨S64x200x6x1, .f32⟩
  | 58 => ⟨S64x200x6x128, .f32⟩
  | 59 => ⟨S64x200x6x128, .f32⟩
  | 60 => ⟨S_, .f32⟩
  | 61 => ⟨S64x200x128, .f32⟩
  | 62 => ⟨S64x200x6x128, .f32⟩
  | 63 => ⟨S64x200x6x128, .f32⟩
  | 64 => ⟨S_, .f32⟩
  | 65 => ⟨S64x200x128, .f32⟩
  | 66 => ⟨S12800x9x128, .f32⟩
  | 67 => ⟨S12800, .i32⟩
  | 68 => ⟨S_, .f32⟩
  | 69 => ⟨S12800x128, .f32⟩
  | 70 => ⟨S_, .f32⟩
  | 71 => ⟨S12800x128, .f32⟩
  | 72 => ⟨S9x12800x128, .f32⟩
  | 73 => ⟨S9, .i32⟩
  | 74 => ⟨S_, .i32⟩
  | 75 => ⟨S9x12800x128, .f32⟩
  | 76 => ⟨S9, .i32⟩
  | 77 => ⟨S128x512, .f32⟩
  | 78 => ⟨S128x512, .f32⟩
  | 79 => ⟨S512, .f32⟩
  | 80 => ⟨S12800, .i32⟩
  | 81 => ⟨S_, .i32⟩
  | 82 => ⟨S12800x128, .f32⟩
  | 83 => ⟨S12800x128, .f32⟩
  | 84 => ⟨S_, .i32⟩
  | 85 => ⟨S_, .i1⟩
  | 86 => ⟨S_, .i32⟩
  | 87 => ⟨S_, .i32⟩
  | 88 => ⟨S1x12800x128, .f32⟩
  | 89 => ⟨S12800x128, .f32⟩
  | 90 => ⟨S1, .i32⟩
  | 91 => ⟨S_, .i32⟩
  | 92 => ⟨S12800x512, .f32⟩
  | 93 => ⟨S12800x512, .f32⟩
  | 94 => ⟨S12800x512, .f32⟩
  | 95 => ⟨S1x512, .f32⟩
  | 96 => ⟨S12800x512, .f32⟩
  | 97 => ⟨S12800x512, .f32⟩
  | 98 => ⟨S12800x128, .f32⟩
  | 99 => ⟨S12800x128, .f32⟩
  | 100 => ⟨S12800x128, .f32⟩
  | 101 => ⟨S12800x128, .f32⟩
  | 102 => ⟨S12800x128, .f32⟩
  | 103 => ⟨S12800x128, .f32⟩
  | 104 => ⟨S_, .f32⟩
  | 105 => ⟨S12800x128, .f32⟩
  | 106 => ⟨S12800x128, .f32⟩
  | 107 => ⟨S_, .f32⟩
  | 108 => ⟨S12800x128, .f32⟩
  | 109 => ⟨S12800x128, .f32⟩
  | 110 => ⟨S12800x128, .f32⟩
  | 111 => ⟨S12800x128, .f32⟩
  | 112 => ⟨S_, .f32⟩
  | 113 => ⟨S12800x128, .f32⟩
  | 114 => ⟨S12800x128, .f32⟩
  | 115 => ⟨S_, .f32⟩
  | 116 => ⟨S12800x128, .f32⟩
  | 117 => ⟨S12800x128, .f32⟩
  | 118 => ⟨S12800x128, .f32⟩
  | 119 => ⟨S12800x128, .f32⟩
  | 120 => ⟨S12800x128, .f32⟩
  | 121 => ⟨S_, .f32⟩
  | 122 => ⟨S12800x128, .f32⟩
  | 123 => ⟨S12800x128, .f32⟩
  | 124 => ⟨S_, .f32⟩
  | 125 => ⟨S12800x128, .f32⟩
  | 126 => ⟨S12800x128, .f32⟩
  | 127 => ⟨S12800x128, .f32⟩
  | _ => ⟨S64x200x6, .i32⟩

abbrev hbmTy0_1 (i : Nat) : BufTy := match i % 128 with
  | 0 => ⟨S12800x128, .f32⟩
  | 1 => ⟨S12800x128, .f32⟩
  | 2 => ⟨S12800x128, .f32⟩
  | 3 => ⟨S12800x128, .f32⟩
  | 4 => ⟨S12800, .i32⟩
  | 5 => ⟨S12800, .i1⟩
  | 6 => ⟨S12800x1, .i1⟩
  | 7 => ⟨S12800x128, .i1⟩
  | 8 => ⟨S12800x128, .f32⟩
  | 9 => ⟨S12800x128, .i1⟩
  | 10 => ⟨S12800x128, .f32⟩
  | 11 => ⟨S_, .i32⟩
  | 12 => ⟨S_, .i32⟩
  | 13 => ⟨S12800x1, .i32⟩
  | 14 => ⟨S_, .i32⟩
  | 15 => ⟨S12800x1, .i32⟩
  | 16 => ⟨S12800x1, .i32⟩
  | 17 => ⟨S9, .i32⟩
  | 18 => ⟨S1x9, .i32⟩
  | 19 => ⟨S12800x9, .i32⟩
  | 20 => ⟨S12800x9, .i32⟩
  | 21 => ⟨S12800x9, .i32⟩
  | 22 => ⟨S_, .i32⟩
  | 23 => ⟨S_, .i32⟩
  | 24 => ⟨S_, .i32⟩
  | 25 => ⟨S12800x9, .i32⟩
  | 26 => ⟨S12800x9, .i32⟩
  | 27 => ⟨S_, .i32⟩
  | 28 => ⟨S12800x9, .i32⟩
  | 29 => ⟨S12800x9, .i32⟩
  | 30 => ⟨S12800x9x1, .i32⟩
  | 31 => ⟨S_, .i32⟩
  | 32 => ⟨S12800x9x1, .i32⟩
  | 33 => ⟨S12800x9x1, .i1⟩
  | 34 => ⟨S_, .i32⟩
  | 35 => ⟨S12800x9x1, .i32⟩
  | 36 => ⟨S12800x9x1, .i32⟩
  | 37 => ⟨S12800x9x1, .i32⟩
  | 38 => ⟨S1, .i32⟩
  | 39 => ⟨S_, .i32⟩
  | 40 => ⟨S12800x9x1, .i32⟩
  | 41 => ⟨S12800x9x1, .i1⟩
  | 42 => ⟨S1x1x1, .i32⟩
  | 43 => ⟨S12800x9x1, .i32⟩
  | 44 => ⟨S12800x9x1, .i1⟩
  | 45 => ⟨S12800x9x1, .i1⟩
  | 46 => ⟨S_, .i1⟩
  | 47 => ⟨S12800x9, .i1⟩
  | 48 => ⟨S12800x9x128, .f32⟩
  | 49 => ⟨S12800x9x128, .i1⟩
  | 50 => ⟨S_, .f32⟩
  | 51 => ⟨S12800x9x128, .f32⟩
  | 52 => ⟨S12800x9x128, .f32⟩
  | 53 => ⟨S_, .f32⟩
  | 54 => ⟨S12800x128, .f32⟩
  | 55 => ⟨S_, .f32⟩
  | 56 => ⟨S12800x128, .f32⟩
  | 57 => ⟨S9x12800x128, .f32⟩
  | 58 => ⟨S9, .i32⟩
  | 59 => ⟨S_, .i32⟩
  | 60 => ⟨S9x12800x128, .f32⟩
  | 61 => ⟨S9, .i32⟩
  | 62 => ⟨S128x512, .f32⟩
  | 63 => ⟨S128x512, .f32⟩
  | 64 => ⟨S512, .f32⟩
  | 65 => ⟨S12800, .i32⟩
  | 66 => ⟨S_, .i32⟩
  | 67 => ⟨S12800x128, .f32⟩
  | 68 => ⟨S12800x128, .f32⟩
  | 69 => ⟨S_, .i32⟩
  | 70 => ⟨S_, .i1⟩
  | 71 => ⟨S_, .i32⟩
  | 72 => ⟨S_, .i32⟩
  | 73 => ⟨S1x12800x128, .f32⟩
  | 74 => ⟨S12800x128, .f32⟩
  | 75 => ⟨S1, .i32⟩
  | 76 => ⟨S_, .i32⟩
  | 77 => ⟨S12800x512, .f32⟩
  | 78 => ⟨S12800x512, .f32⟩
  | 79 => ⟨S12800x512, .f32⟩
  | 80 => ⟨S1x512, .f32⟩
  | 81 => ⟨S12800x512, .f32⟩
  | 82 => ⟨S12800x512, .f32⟩
  | 83 => ⟨S12800x128, .f32⟩
  | 84 => ⟨S12800x128, .f32⟩
  | 85 => ⟨S12800x128, .f32⟩
  | 86 => ⟨S12800x128, .f32⟩
  | 87 => ⟨S12800x128, .f32⟩
  | 88 => ⟨S12800x128, .f32⟩
  | 89 => ⟨S_, .f32⟩
  | 90 => ⟨S12800x128, .f32⟩
  | 91 => ⟨S12800x128, .f32⟩
  | 92 => ⟨S_, .f32⟩
  | 93 => ⟨S12800x128, .f32⟩
  | 94 => ⟨S12800x128, .f32⟩
  | 95 => ⟨S12800x128, .f32⟩
  | 96 => ⟨S12800x128, .f32⟩
  | 97 => ⟨S_, .f32⟩
  | 98 => ⟨S12800x128, .f32⟩
  | 99 => ⟨S12800x128, .f32⟩
  | 100 => ⟨S_, .f32⟩
  | 101 => ⟨S12800x128, .f32⟩
  | 102 => ⟨S12800x128, .f32⟩
  | 103 => ⟨S12800x128, .f32⟩
  | 104 => ⟨S12800x128, .f32⟩
  | 105 => ⟨S12800x128, .f32⟩
  | 106 => ⟨S_, .f32⟩
  | 107 => ⟨S12800x128, .f32⟩
  | 108 => ⟨S12800x128, .f32⟩
  | 109 => ⟨S_, .f32⟩
  | 110 => ⟨S12800x128, .f32⟩
  | 111 => ⟨S12800x128, .f32⟩
  | 112 => ⟨S12800x128, .f32⟩
  | 113 => ⟨S12800x128, .f32⟩
  | 114 => ⟨S12800x128, .f32⟩
  | 115 => ⟨S12800x128, .f32⟩
  | 116 => ⟨S12800x128, .f32⟩
  | 117 => ⟨S12800, .i32⟩
  | 118 => ⟨S12800, .i1⟩
  | 119 => ⟨S12800x1, .i1⟩
  | 120 => ⟨S12800x128, .i1⟩
  | 121 => ⟨S12800x128, .f32⟩
  | 122 => ⟨S12800x128, .i1⟩
  | 123 => ⟨S12800x128, .f32⟩
  | 124 => ⟨S_, .i32⟩
  | 125 => ⟨S_, .i32⟩
  | 126 => ⟨S12800x256, .f32⟩
  | 127 => ⟨S64x200x256, .f32⟩
  | _ => ⟨S64x200x6, .i32⟩

abbrev hbmTy0_2 (i : Nat) : BufTy := match i % 128 with
  | 0 => ⟨S64x200x1, .f32⟩
  | 1 => ⟨S64x200x256, .f32⟩
  | 2 => ⟨S64x200x256, .f32⟩
  | 3 => ⟨S64x200x512, .f32⟩
  | 4 => ⟨S64x200x512, .f32⟩
  | 5 => ⟨S64x200x512, .f32⟩
  | _ => ⟨S64x200x6, .i32⟩

abbrev hbmTy (i : Nat) : BufTy := match i / 128 with
  | 0 => hbmTy0_0 i
  | 1 => hbmTy0_1 i
  | 2 => hbmTy0_2 i
  | _ => ⟨S64x200x6, .i32⟩

abbrev bufTy : (tb : Table) → Fin (tcTables nBuf tb) → BufTy
  | .hbm, ⟨i, _⟩ => hbmTy i
  | _, _ => ⟨S64x200x6, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_5 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_8 : Ref sig .tc := ⟨.hbm, 74, rfl⟩
abbrev main_v48_0 : Ref sig .tc := ⟨.hbm, 75, rfl⟩
abbrev main_v48_1 : Ref sig .tc := ⟨.hbm, 76, rfl⟩
abbrev main_v48_2 : Ref sig .tc := ⟨.hbm, 77, rfl⟩
abbrev main_v48_3 : Ref sig .tc := ⟨.hbm, 78, rfl⟩
abbrev main_v48_4 : Ref sig .tc := ⟨.hbm, 79, rfl⟩
abbrev main_v48_5 : Ref sig .tc := ⟨.hbm, 80, rfl⟩
abbrev main_v48_6 : Ref sig .tc := ⟨.hbm, 81, rfl⟩
abbrev main_v48_7 : Ref sig .tc := ⟨.hbm, 82, rfl⟩
abbrev main_v48_8 : Ref sig .tc := ⟨.hbm, 83, rfl⟩
abbrev main_while0c_c_23 : Ref sig .tc := ⟨.hbm, 84, rfl⟩
abbrev main_while0c_v73 : Ref sig .tc := ⟨.hbm, 85, rfl⟩
abbrev main_while0b_call0_c : Ref sig .tc := ⟨.hbm, 86, rfl⟩
abbrev main_while0b_call0_c_0 : Ref sig .tc := ⟨.hbm, 87, rfl⟩
abbrev main_while0b_call0_v0 : Ref sig .tc := ⟨.hbm, 88, rfl⟩
abbrev main_while0b_v73 : Ref sig .tc := ⟨.hbm, 89, rfl⟩
abbrev main_while0b_call1_v0 : Ref sig .tc := ⟨.hbm, 90, rfl⟩
abbrev main_while0b_v74 : Ref sig .tc := ⟨.hbm, 91, rfl⟩
abbrev main_while0b_v75 : Ref sig .tc := ⟨.hbm, 92, rfl⟩
abbrev main_while0b_v76 : Ref sig .tc := ⟨.hbm, 93, rfl⟩
abbrev main_while0b_v77 : Ref sig .tc := ⟨.hbm, 94, rfl⟩
abbrev main_while0b_v78 : Ref sig .tc := ⟨.hbm, 95, rfl⟩
abbrev main_while0b_v79 : Ref sig .tc := ⟨.hbm, 96, rfl⟩
abbrev main_while0b_v80 : Ref sig .tc := ⟨.hbm, 97, rfl⟩
abbrev main_while0b_v81 : Ref sig .tc := ⟨.hbm, 98, rfl⟩
abbrev main_while0b_v82 : Ref sig .tc := ⟨.hbm, 99, rfl⟩
abbrev main_while0b_v83 : Ref sig .tc := ⟨.hbm, 100, rfl⟩
abbrev main_while0b_v84 : Ref sig .tc := ⟨.hbm, 101, rfl⟩
abbrev main_while0b_v85 : Ref sig .tc := ⟨.hbm, 102, rfl⟩
abbrev main_while0b_v86 : Ref sig .tc := ⟨.hbm, 103, rfl⟩
abbrev main_while0b_cst_23 : Ref sig .tc := ⟨.hbm, 104, rfl⟩
abbrev main_while0b_v87 : Ref sig .tc := ⟨.hbm, 105, rfl⟩
abbrev main_while0b_v88 : Ref sig .tc := ⟨.hbm, 106, rfl⟩
abbrev main_while0b_cst_24 : Ref sig .tc := ⟨.hbm, 107, rfl⟩
abbrev main_while0b_v89 : Ref sig .tc := ⟨.hbm, 108, rfl⟩
abbrev main_while0b_v90 : Ref sig .tc := ⟨.hbm, 109, rfl⟩
abbrev main_while0b_v91 : Ref sig .tc := ⟨.hbm, 110, rfl⟩
abbrev main_while0b_v92 : Ref sig .tc := ⟨.hbm, 111, rfl⟩
abbrev main_while0b_cst_25 : Ref sig .tc := ⟨.hbm, 112, rfl⟩
abbrev main_while0b_v93 : Ref sig .tc := ⟨.hbm, 113, rfl⟩
abbrev main_while0b_v94 : Ref sig .tc := ⟨.hbm, 114, rfl⟩
abbrev main_while0b_cst_26 : Ref sig .tc := ⟨.hbm, 115, rfl⟩
abbrev main_while0b_v95 : Ref sig .tc := ⟨.hbm, 116, rfl⟩
abbrev main_while0b_v96 : Ref sig .tc := ⟨.hbm, 117, rfl⟩
abbrev main_while0b_v97 : Ref sig .tc := ⟨.hbm, 118, rfl⟩
abbrev main_while0b_v98 : Ref sig .tc := ⟨.hbm, 119, rfl⟩
abbrev main_while0b_v99 : Ref sig .tc := ⟨.hbm, 120, rfl⟩
abbrev main_while0b_cst_27 : Ref sig .tc := ⟨.hbm, 121, rfl⟩
abbrev main_while0b_v100 : Ref sig .tc := ⟨.hbm, 122, rfl⟩
abbrev main_while0b_v101 : Ref sig .tc := ⟨.hbm, 123, rfl⟩
abbrev main_while0b_cst_28 : Ref sig .tc := ⟨.hbm, 124, rfl⟩
abbrev main_while0b_v102 : Ref sig .tc := ⟨.hbm, 125, rfl⟩
abbrev main_while0b_v103 : Ref sig .tc := ⟨.hbm, 126, rfl⟩
abbrev main_while0b_v104 : Ref sig .tc := ⟨.hbm, 127, rfl⟩
abbrev main_while0b_v105 : Ref sig .tc := ⟨.hbm, 128, rfl⟩
abbrev main_while0b_v106 : Ref sig .tc := ⟨.hbm, 129, rfl⟩
abbrev main_while0b_v107 : Ref sig .tc := ⟨.hbm, 130, rfl⟩
abbrev main_while0b_v108 : Ref sig .tc := ⟨.hbm, 131, rfl⟩
abbrev main_while0b_v109 : Ref sig .tc := ⟨.hbm, 132, rfl⟩
abbrev main_while0b_v110 : Ref sig .tc := ⟨.hbm, 133, rfl⟩
abbrev main_while0b_v111 : Ref sig .tc := ⟨.hbm, 134, rfl⟩
abbrev main_while0b_call2_v0 : Ref sig .tc := ⟨.hbm, 135, rfl⟩
abbrev main_while0b_v112 : Ref sig .tc := ⟨.hbm, 136, rfl⟩
abbrev main_while0b_call3_v0 : Ref sig .tc := ⟨.hbm, 137, rfl⟩
abbrev main_while0b_v113 : Ref sig .tc := ⟨.hbm, 138, rfl⟩
abbrev main_while0b_c_29 : Ref sig .tc := ⟨.hbm, 139, rfl⟩
abbrev main_while0b_v114 : Ref sig .tc := ⟨.hbm, 140, rfl⟩
abbrev main_v49 : Ref sig .tc := ⟨.hbm, 141, rfl⟩
abbrev main_c_9 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_v56 : Ref sig .tc := ⟨.hbm, 149, rfl⟩
abbrev main_c_10 : Ref sig .tc := ⟨.hbm, 150, rfl⟩
abbrev main_c_11 : Ref sig .tc := ⟨.hbm, 151, rfl⟩
abbrev main_call4_v0 : Ref sig .tc := ⟨.hbm, 152, rfl⟩
abbrev main_call4_v1 : Ref sig .tc := ⟨.hbm, 153, rfl⟩
abbrev main_call4_v2 : Ref sig .tc := ⟨.hbm, 154, rfl⟩
abbrev main_call4_v3 : Ref sig .tc := ⟨.hbm, 155, rfl⟩
abbrev main_call4_v4 : Ref sig .tc := ⟨.hbm, 156, rfl⟩
abbrev main_v57 : Ref sig .tc := ⟨.hbm, 157, rfl⟩
abbrev main_v58 : Ref sig .tc := ⟨.hbm, 158, rfl⟩
abbrev main_call5_c : Ref sig .tc := ⟨.hbm, 159, rfl⟩
abbrev main_call5_v0 : Ref sig .tc := ⟨.hbm, 160, rfl⟩
abbrev main_call5_v1 : Ref sig .tc := ⟨.hbm, 161, rfl⟩
abbrev main_call5_c_0 : Ref sig .tc := ⟨.hbm, 162, rfl⟩
abbrev main_call5_v2 : Ref sig .tc := ⟨.hbm, 163, rfl⟩
abbrev main_call5_v3 : Ref sig .tc := ⟨.hbm, 164, rfl⟩
abbrev main_call5_v4 : Ref sig .tc := ⟨.hbm, 165, rfl⟩
abbrev main_call5_c_1 : Ref sig .tc := ⟨.hbm, 166, rfl⟩
abbrev main_call5_c_2 : Ref sig .tc := ⟨.hbm, 167, rfl⟩
abbrev main_call5_v5 : Ref sig .tc := ⟨.hbm, 168, rfl⟩
abbrev main_call5_v6 : Ref sig .tc := ⟨.hbm, 169, rfl⟩
abbrev main_call5_v7 : Ref sig .tc := ⟨.hbm, 170, rfl⟩
abbrev main_call5_v8 : Ref sig .tc := ⟨.hbm, 171, rfl⟩
abbrev main_call5_v9 : Ref sig .tc := ⟨.hbm, 172, rfl⟩
abbrev main_call5_v10 : Ref sig .tc := ⟨.hbm, 173, rfl⟩
abbrev main_call5_c_3 : Ref sig .tc := ⟨.hbm, 174, rfl⟩
abbrev main_call5_v11 : Ref sig .tc := ⟨.hbm, 175, rfl⟩
abbrev main_call5_v12 : Ref sig .tc := ⟨.hbm, 176, rfl⟩
abbrev main_call5_v13 : Ref sig .tc := ⟨.hbm, 177, rfl⟩
abbrev main_call5_cst : Ref sig .tc := ⟨.hbm, 178, rfl⟩
abbrev main_call5_v14 : Ref sig .tc := ⟨.hbm, 179, rfl⟩
abbrev main_v59 : Ref sig .tc := ⟨.hbm, 180, rfl⟩
abbrev main_cst_12 : Ref sig .tc := ⟨.hbm, 181, rfl⟩
abbrev main_v60 : Ref sig .tc := ⟨.hbm, 182, rfl⟩
abbrev main_cst_13 : Ref sig .tc := ⟨.hbm, 183, rfl⟩
abbrev main_v61 : Ref sig .tc := ⟨.hbm, 184, rfl⟩
abbrev main_v62 : Ref sig .tc := ⟨.hbm, 185, rfl⟩
abbrev main_v63 : Ref sig .tc := ⟨.hbm, 186, rfl⟩
abbrev main_c_14 : Ref sig .tc := ⟨.hbm, 187, rfl⟩
abbrev main_v64_0 : Ref sig .tc := ⟨.hbm, 188, rfl⟩
abbrev main_v64_1 : Ref sig .tc := ⟨.hbm, 189, rfl⟩
abbrev main_v64_2 : Ref sig .tc := ⟨.hbm, 190, rfl⟩
abbrev main_v64_3 : Ref sig .tc := ⟨.hbm, 191, rfl⟩
abbrev main_v64_4 : Ref sig .tc := ⟨.hbm, 192, rfl⟩
abbrev main_v64_5 : Ref sig .tc := ⟨.hbm, 193, rfl⟩
abbrev main_v64_6 : Ref sig .tc := ⟨.hbm, 194, rfl⟩
abbrev main_v64_7 : Ref sig .tc := ⟨.hbm, 195, rfl⟩
abbrev main_v64_8 : Ref sig .tc := ⟨.hbm, 196, rfl⟩
abbrev main_while1c_c_23 : Ref sig .tc := ⟨.hbm, 197, rfl⟩
abbrev main_while1c_v73 : Ref sig .tc := ⟨.hbm, 198, rfl⟩
abbrev main_while1b_call6_c : Ref sig .tc := ⟨.hbm, 199, rfl⟩
abbrev main_while1b_call6_c_0 : Ref sig .tc := ⟨.hbm, 200, rfl⟩
abbrev main_while1b_call6_v0 : Ref sig .tc := ⟨.hbm, 201, rfl⟩
abbrev main_while1b_v73 : Ref sig .tc := ⟨.hbm, 202, rfl⟩
abbrev main_while1b_call7_v0 : Ref sig .tc := ⟨.hbm, 203, rfl⟩
abbrev main_while1b_v74 : Ref sig .tc := ⟨.hbm, 204, rfl⟩
abbrev main_while1b_v75 : Ref sig .tc := ⟨.hbm, 205, rfl⟩
abbrev main_while1b_v76 : Ref sig .tc := ⟨.hbm, 206, rfl⟩
abbrev main_while1b_v77 : Ref sig .tc := ⟨.hbm, 207, rfl⟩
abbrev main_while1b_v78 : Ref sig .tc := ⟨.hbm, 208, rfl⟩
abbrev main_while1b_v79 : Ref sig .tc := ⟨.hbm, 209, rfl⟩
abbrev main_while1b_v80 : Ref sig .tc := ⟨.hbm, 210, rfl⟩
abbrev main_while1b_v81 : Ref sig .tc := ⟨.hbm, 211, rfl⟩
abbrev main_while1b_v82 : Ref sig .tc := ⟨.hbm, 212, rfl⟩
abbrev main_while1b_v83 : Ref sig .tc := ⟨.hbm, 213, rfl⟩
abbrev main_while1b_v84 : Ref sig .tc := ⟨.hbm, 214, rfl⟩
abbrev main_while1b_v85 : Ref sig .tc := ⟨.hbm, 215, rfl⟩
abbrev main_while1b_v86 : Ref sig .tc := ⟨.hbm, 216, rfl⟩
abbrev main_while1b_cst_23 : Ref sig .tc := ⟨.hbm, 217, rfl⟩
abbrev main_while1b_v87 : Ref sig .tc := ⟨.hbm, 218, rfl⟩
abbrev main_while1b_v88 : Ref sig .tc := ⟨.hbm, 219, rfl⟩
abbrev main_while1b_cst_24 : Ref sig .tc := ⟨.hbm, 220, rfl⟩
abbrev main_while1b_v89 : Ref sig .tc := ⟨.hbm, 221, rfl⟩
abbrev main_while1b_v90 : Ref sig .tc := ⟨.hbm, 222, rfl⟩
abbrev main_while1b_v91 : Ref sig .tc := ⟨.hbm, 223, rfl⟩
abbrev main_while1b_v92 : Ref sig .tc := ⟨.hbm, 224, rfl⟩
abbrev main_while1b_cst_25 : Ref sig .tc := ⟨.hbm, 225, rfl⟩
abbrev main_while1b_v93 : Ref sig .tc := ⟨.hbm, 226, rfl⟩
abbrev main_while1b_v94 : Ref sig .tc := ⟨.hbm, 227, rfl⟩
abbrev main_while1b_cst_26 : Ref sig .tc := ⟨.hbm, 228, rfl⟩
abbrev main_while1b_v95 : Ref sig .tc := ⟨.hbm, 229, rfl⟩
abbrev main_while1b_v96 : Ref sig .tc := ⟨.hbm, 230, rfl⟩
abbrev main_while1b_v97 : Ref sig .tc := ⟨.hbm, 231, rfl⟩
abbrev main_while1b_v98 : Ref sig .tc := ⟨.hbm, 232, rfl⟩
abbrev main_while1b_v99 : Ref sig .tc := ⟨.hbm, 233, rfl⟩
abbrev main_while1b_cst_27 : Ref sig .tc := ⟨.hbm, 234, rfl⟩
abbrev main_while1b_v100 : Ref sig .tc := ⟨.hbm, 235, rfl⟩
abbrev main_while1b_v101 : Ref sig .tc := ⟨.hbm, 236, rfl⟩
abbrev main_while1b_cst_28 : Ref sig .tc := ⟨.hbm, 237, rfl⟩
abbrev main_while1b_v102 : Ref sig .tc := ⟨.hbm, 238, rfl⟩
abbrev main_while1b_v103 : Ref sig .tc := ⟨.hbm, 239, rfl⟩
abbrev main_while1b_v104 : Ref sig .tc := ⟨.hbm, 240, rfl⟩
abbrev main_while1b_v105 : Ref sig .tc := ⟨.hbm, 241, rfl⟩
abbrev main_while1b_v106 : Ref sig .tc := ⟨.hbm, 242, rfl⟩
abbrev main_while1b_v107 : Ref sig .tc := ⟨.hbm, 243, rfl⟩
abbrev main_while1b_v108 : Ref sig .tc := ⟨.hbm, 244, rfl⟩
abbrev main_while1b_v109 : Ref sig .tc := ⟨.hbm, 245, rfl⟩
abbrev main_while1b_v110 : Ref sig .tc := ⟨.hbm, 246, rfl⟩
abbrev main_while1b_v111 : Ref sig .tc := ⟨.hbm, 247, rfl⟩
abbrev main_while1b_call8_v0 : Ref sig .tc := ⟨.hbm, 248, rfl⟩
abbrev main_while1b_v112 : Ref sig .tc := ⟨.hbm, 249, rfl⟩
abbrev main_while1b_call9_v0 : Ref sig .tc := ⟨.hbm, 250, rfl⟩
abbrev main_while1b_v113 : Ref sig .tc := ⟨.hbm, 251, rfl⟩
abbrev main_while1b_c_29 : Ref sig .tc := ⟨.hbm, 252, rfl⟩
abbrev main_while1b_v114 : Ref sig .tc := ⟨.hbm, 253, rfl⟩
abbrev main_v65 : Ref sig .tc := ⟨.hbm, 254, rfl⟩
abbrev main_v66 : Ref sig .tc := ⟨.hbm, 255, rfl⟩
abbrev main_v67 : Ref sig .tc := ⟨.hbm, 256, rfl⟩
abbrev main_v68 : Ref sig .tc := ⟨.hbm, 257, rfl⟩
abbrev main_v69 : Ref sig .tc := ⟨.hbm, 258, rfl⟩
abbrev main_v70 : Ref sig .tc := ⟨.hbm, 259, rfl⟩
abbrev main_v71 : Ref sig .tc := ⟨.hbm, 260, rfl⟩
abbrev main_v72 : Ref sig .tc := ⟨.hbm, 261, rfl⟩

abbrev nD : Nat := 1
abbrev τ : Topo := Topo.v7x

variable {F : FTy → Type} [FloatOps F]

abbrev main_while0_count : Scf.Loop 32 := ⟨0#32, 9#32, 1#32⟩

abbrev main_while1_count : Scf.Loop 32 := ⟨0#32, 9#32, 1#32⟩
-- ==== Proof.Kernel.Same.lean ====
/-
  The program and its ideal form are one program: no rewrite was applied, and the two are read at any floats. So what the
  ideal program's run does, it does here.
-/
module

public import proofs.«01_k».proof.Proof.Gen.Kernel
public import proofs.«01_k».proof.Proof.Gen.KernelIdeal

@[expose] public section

noncomputable section

namespace Cert.Kernel.SC

open Idealize.ShloMosaic

variable {F : FTy → Type} [FloatOps F]

-- The two texts are long and are compared operation by operation.
set_option maxRecDepth 4000
set_option maxHeartbeats 4000000

/-! ## The bodies -/

theorem prep_same : Cert.Kernel.cc0__prep_body (F := F) = Cert.KernelIdeal.cc0__prep_body (F := F) := rfl
theorem pool_same : Cert.Kernel.cc1__sc_pool_body (F := F) = Cert.KernelIdeal.cc1__sc_pool_body (F := F) := rfl
theorem lstm_same : Cert.Kernel.cc2__lstm_body (F := F) = Cert.KernelIdeal.cc2__lstm_body (F := F) := rfl
theorem gemm_same : Cert.Kernel.cc3__gemm_body (F := F) = Cert.KernelIdeal.cc3__gemm_body (F := F) := rfl

/-- The bodies' table. -/
theorem bodies_same : Cert.Kernel.defs₀ (F := F) = Cert.KernelIdeal.defs₀ (F := F) := by
  funext p ℓ a
  match p, ℓ, a with
  | .tc, 0, (t, s) => rfl
  | .tc, 1, _ => rfl
  | .tc, 2, (t, s) => rfl
  | .tc, 3, (t, s) => rfl
  | .scScalar _, _, _ => rfl
  | .scVector _ _, 0, _ => rfl
  | .scVector _ _, 1, _ => rfl
  | .scVector _ _, 2, _ => rfl
  | .scVector _ _, 3, _ => rfl

/-! ## The program -/

/-- The table with the calls' regions and dispatches. -/
theorem defs_same : Cert.Kernel.defs (F := F) = Cert.KernelIdeal.defs (F := F) :=
  congrArg (fun D => Cert.Kernel.sc.defs (Pipeline.defs Cert.Kernel.pcfgs D)) bodies_same

/-- Every thread's program. -/
theorem threads_same : Cert.Kernel.threads (F := F) = Cert.KernelIdeal.threads (F := F) := rfl

end Cert.Kernel.SC

end
-- ==== Proof.KernelIdeal.Trip.lean ====
/-
  One trip of a tile's loop, written by its structure: two chunks, each in its slot. A slot waits for its masks and table
  rows, forms sixteen rows' weighted sums, sends them out and requests the chunk after next.
-/
module
public import proofs.«01_k».proof.Proof.Gen.KernelIdeal.Skeleton

@[expose] public section
noncomputable section
namespace Cert.KernelIdeal.Trip
open Cert.KernelIdeal Cert.KernelIdeal.Gen Idealize.ShloMosaic Idealize.SL.Sem
variable {F : FTy → Type} [FloatOps F]

/-- `f 0`, then `f 1`, …, then `f (n - 1)`. -/
def rep {E : Type → Type} (n : ℕ) : ((i : ℕ) → i < n → Prog E PUnit) → Prog E PUnit :=
  Nat.rec (fun _ => .ret ⟨⟩) (fun n ih f => ih (fun i h => f i (Nat.lt_succ_of_lt h)) >>= fun _ => f n (Nat.lt_succ_self n)) n

/-- A row's piece lies in an array of two axes. -/
theorem inb2 {b B x X e : ℕ} (h0 : b < B) (h1 : x + e ≤ X) :
    ∀ a, (![b, x] : Fin 2 → ℕ) a + (⟨2, ![1, e]⟩ : Shape).size a ≤ (⟨2, ![B, X]⟩ : Shape).size a :=
  fun a => match a with | 0 => h0 | 1 => h1

/-- A row's piece lies in an array of three axes. -/
theorem inb3 {b B r R x X e : ℕ} (h0 : b < B) (h1 : r < R) (h2 : x + e ≤ X) :
    ∀ a, (![b, r, x] : Fin 3 → ℕ) a + (⟨3, ![1, 1, e]⟩ : Shape).size a ≤ (⟨3, ![B, R, X]⟩ : Shape).size a :=
  fun a => match a with | 0 => h0 | 1 => h1 | 2 => h2

/-- A tile's operations. -/
abbrev TE (F : FTy → Type) (c : Fin τ.nSC) (s : Fin τ.nSub) : Type → Type := TpuEff nD τ sig (Elt F) Λ₀ (.scVector c s)

section
variable {c : Fin τ.nSC} {s : Fin τ.nSub}
variable (arg7 : Memref sig .scVector .vmem S2x1536 .f32) (arg8 : Memref sig .scVector .vmem S2x96x128 .f32) (arg9 : Memref sig .scVector .vmem S2x16x128 .f32)
variable (b : ℕ) (hb : b < 2)

/-- Sixteen lanes of a slot's masks, from lane `x`. -/
def ldM (x : ℕ) (h : x + 16 ≤ 1536) : Prog (TE F c s) (Vec F S1x16 .f32) :=
  .op (TpuEff.load arg7 (Rect.unit (s := S2x1536) ![b, x] S1x16.size (inb2 hb h)).toLoadRect (View.loadsAt_vmem h_S1x16)) .ret

/-- Sixteen lanes of row `r` of a slot's table rows, from lane `x`. -/
def ldR (r x : ℕ) (hr : r < 96) (h : x + 16 ≤ 128) : Prog (TE F c s) (Vec F S1x1x16 .f32) :=
  .op (TpuEff.load arg8 (Rect.unit (s := S2x96x128) ![b, r, x] S1x1x16.size (inb3 hb hr h)).toLoadRect (View.loadsAt_vmem h_S1x1x16)) .ret

/-- Sixteen lanes of row `r` of a slot's sums, from lane `x`, set to `w`. -/
def upd (r x : ℕ) (hr : r < 16) (h : x + 16 ≤ 128) (w : FVec F S1x1x16 .f32) : Prog (TE F c s) PUnit :=
  .op (TpuEff.load arg9 (Rect.unit (s := S2x16x128) ![b, r, x] S1x1x16.size (inb3 hb hr h)).toLoadRect (View.loadsAt_vmem h_S1x1x16)) fun _ =>
  .op (TpuEff.store arg9 (Rect.unit (s := S2x16x128) ![b, r, x] S1x1x16.size (inb3 hb hr h)) w Finset.univ (View.stores_vmem_bits_univ h_S1x1x16 rfl) (.inl rfl)) .ret

/-- The lanes' weighted sum of six rows. -/
def wsum (m0 m1 m2 m3 m4 m5 : FVec F S16 .f32) (r0 r1 r2 r3 r4 r5 : Vec F S1x1x16 .f32) : FVec F S1x1x16 .f32 :=
  let t (r : Vec F S1x1x16 .f32) (m : FVec F S16 .f32) : FVec F S16 .f32 := mulf (shapeCast S16 r shapeCasts_S1x1x16_S16) m
  shapeCast S1x1x16 (addf (addf (addf (addf (addf (t r0 m0) (t r1 m1)) (t r2 m2)) (t r3 m3)) (t r4 m4)) (t r5 m5)) shapeCasts_S16_S1x1x16

/-- Sixteen lanes of one row's sum: six table rows' lanes, weighted. -/
def block (m0 m1 m2 m3 m4 m5 : FVec F S16 .f32) (ci : ℕ) (hc : ci < 16) (v : ℕ) (hv : v < 8) : Prog (TE F c s) PUnit := do
  let r0 ← ldR arg8 b hb (ci * 6 + 0) (v * 16) (by omega) (by omega)
  let r1 ← ldR arg8 b hb (ci * 6 + 1) (v * 16) (by omega) (by omega)
  let r2 ← ldR arg8 b hb (ci * 6 + 2) (v * 16) (by omega) (by omega)
  let r3 ← ldR arg8 b hb (ci * 6 + 3) (v * 16) (by omega) (by omega)
  let r4 ← ldR arg8 b hb (ci * 6 + 4) (v * 16) (by omega) (by omega)
  let r5 ← ldR arg8 b hb (ci * 6 + 5) (v * 16) (by omega) (by omega)
  upd arg9 b hb ci (v * 16) hc (by omega) (wsum m0 m1 m2 m3 m4 m5 r0 r1 r2 r3 r4 r5)

/-- One row's sum: its six weights, then its eight groups of sixteen lanes. -/
def ctx (ci : ℕ) (hc : ci < 16) : Prog (TE F c s) PUnit := do
  let m0 ← ldM arg7 b hb ((ci * 6 + 0) * 16) (by omega)
  let m1 ← ldM arg7 b hb ((ci * 6 + 1) * 16) (by omega)
  let m2 ← ldM arg7 b hb ((ci * 6 + 2) * 16) (by omega)
  let m3 ← ldM arg7 b hb ((ci * 6 + 3) * 16) (by omega)
  let m4 ← ldM arg7 b hb ((ci * 6 + 4) * 16) (by omega)
  let m5 ← ldM arg7 b hb ((ci * 6 + 5) * 16) (by omega)
  let k (m : Vec F S1x16 .f32) : FVec F S16 .f32 := shapeCast S16 m shapeCasts_S1x16_S16
  rep 8 (block arg8 arg9 b hb (k m0) (k m1) (k m2) (k m3) (k m4) (k m5) ci hc)

/-- The sixteen rows of a slot. -/
def pool : Prog (TE F c s) PUnit := rep 16 (ctx arg7 arg8 arg9 b hb)
end

/-- Is the chunk `x` past the first two: the condition under which a slot first waits for its earlier write-out. -/
def cW (x : BitVec 32) : BitVec 1 := Scalar.cmpi .ne (Scalar.extui (Scalar.cmpi .sge x 2#32)) 0#32

section
variable {c : Fin τ.nSC} {s : Fin τ.nSub}
variable (arg3 : Memref sig .scVector .hbm S1600x1536 .f32) (arg4 : Memref sig .scVector .hbm S100000x128 .f32) (arg5 : Memref sig .scVector .hbm S25600x128 .f32)
  (arg6 : Memref sig .scVector .vmem S4800 .i32) (arg7 : Memref sig .scVector .vmem S2x1536 .f32) (arg8 : Memref sig .scVector .vmem S2x96x128 .f32)
  (arg9 : Memref sig .scVector .vmem S2x16x128 .f32) (arg10 arg11 arg12 : DmaSems sig S2)
variable (b : ℕ) (hb : b < 2)

/-- A slot of two. -/
theorem inbS (b : ℕ) (hb : b < 2) : ∀ a, (![b] : Fin 1 → ℕ) a + S1.size a ≤ S2.size a := fun a => match a with | 0 => hb
/-- A slot's row of two. -/
theorem inbB {X : ℕ} (b : ℕ) (h : b < 2) : ∀ a, (![b, 0] : Fin 2 → ℕ) a + (⟨2, ![1, X]⟩ : Shape).size a ≤ (⟨2, ![2, X]⟩ : Shape).size a :=
  inb2 h (Nat.zero_add X).le
/-- A slot's block of two. -/
theorem inbC {X Y : ℕ} (b : ℕ) (h : b < 2) : ∀ a, (![b, 0, 0] : Fin 3 → ℕ) a + (⟨3, ![1, X, Y]⟩ : Shape).size a ≤ (⟨3, ![2, X, Y]⟩ : Shape).size a :=
  fun a => match a with | 0 => h | 1 => (Nat.zero_add X).le | 2 => (Nat.zero_add Y).le

/-- A slot's semaphore of an array of two. -/
abbrev semB (x : DmaSems sig S2) : DmaSem sig := ((x.slice (Rect.unit (s := S2) ![b] S1.size (inbS b hb))).squeeze S_ squeezes_S1_S_).sem
/-- A slot's row of the masks' buffer, of the rows' buffer, of the sums' buffer. -/
abbrev maskB : Memref sig .scVector .vmem S1536 .f32 := (arg7.slice (Rect.unit (s := S2x1536) ![b, 0] S1x1536.size (inbB b hb)) (fun _ => rfl)).squeeze S1536 squeezes_S1x1536_S1536
abbrev rowsB : Memref sig .scVector .vmem S96x128 .f32 := (arg8.slice (Rect.unit (s := S2x96x128) ![b, 0, 0] S1x96x128.size (inbC b hb)) (fun _ => rfl)).squeeze S96x128 squeezes_S1x96x128_S96x128
abbrev accB : Memref sig .scVector .vmem S16x128 .f32 := (arg9.slice (Rect.unit (s := S2x16x128) ![b, 0, 0] S1x16x128.size (inbC b hb)) (fun _ => rfl)).squeeze S16x128 squeezes_S1x16x128_S16x128
/-- A row of the masks, a list of row numbers, a block of the result, at given offsets; the whole table. -/
abbrev maskRow (off : Fin 2 → ℕ) (h : ∀ a, off a + S1x1536.size a ≤ S1600x1536.size a) : Memref sig .scVector .hbm S1536 .f32 :=
  (arg3.slice (Rect.unit (s := S1600x1536) off S1x1536.size h) (fun _ => rfl)).squeeze S1536 squeezes_S1x1536_S1536
abbrev idxList (off : Fin 1 → ℕ) (h : ∀ a, off a + S96.size a ≤ S4800.size a) : Memref sig .scVector .vmem S96 .i32 :=
  arg6.slice (Rect.unit (s := S4800) off S96.size h) (fun _ => rfl)
abbrev outBlock (off : Fin 2 → ℕ) (h : ∀ a, off a + S16x128.size a ≤ S25600x128.size a) : Memref sig .scVector .hbm S16x128 .f32 :=
  arg5.slice (Rect.unit (s := S25600x128) off S16x128.size h) (fun _ => rfl)
abbrev tableAll : Memref sig .scVector .hbm S100000x128 .f32 :=
  arg4.slice (Rect.unit (s := S100000x128) ![0, 0] S100000x128.size inb_S100000x128_S100000x128_0_0) (fun _ => rfl)

/-- The slot's masks and rows are waited for. -/
def waitIn : Prog (TE F c s) PUnit :=
  .op (.waitDma2 (semB b hb arg11) (maskRow arg3 ![0, 0] inb_S1600x1536_S1x1536_0_0) (maskB arg7 b hb) ((View.wordExact_bits rfl).reshape _ _) ((View.wordExact_bits rfl).reshape _ _)) fun _ =>
  SparseCore.waitIndirectGather (semB b hb arg10) (tableAll arg4) (rowsB arg8 b hb) (View.wordExact_bits rfl) ((View.wordExact_bits rfl).reshape _ _)
/-- The slot's earlier write-out is waited for. -/
def waitOut : Prog (TE F c s) PUnit :=
  .op (.waitDma2 (semB b hb arg12) (accB arg9 b hb) (outBlock arg5 ![0, 0] inb_S25600x128_S16x128_0_0) ((View.wordExact_bits rfl).reshape _ _) (View.wordExact_bits rfl)) .ret
/-- The slot's sums are sent to their block of the result. -/
def sendOut (off : Fin 2 → ℕ) (h : ∀ a, off a + S16x128.size a ≤ S25600x128.size a) : Prog (TE F c s) PUnit :=
  .op (.enqueueDma (accB arg9 b hb) (.here (outBlock arg5 off h)) (.dma (semB b hb arg12)) ((View.wordExact_bits rfl).reshape _ _) (View.wordExact_bits rfl) ⟨Or.inl rfl, trivial⟩) .ret
/-- A chunk's masks and rows are requested into the slot. -/
def issue (offM : Fin 2 → ℕ) (hM : ∀ a, offM a + S1x1536.size a ≤ S1600x1536.size a) (offI : Fin 1 → ℕ) (hI : ∀ a, offI a + S96.size a ≤ S4800.size a) : Prog (TE F c s) PUnit :=
  .op (.enqueueDma (maskRow arg3 offM hM) (.here (maskB arg7 b hb)) (.dma (semB b hb arg11)) ((View.wordExact_bits rfl).reshape _ _) ((View.wordExact_bits rfl).reshape _ _) ⟨Or.inl rfl, trivial⟩) fun _ =>
  SparseCore.enqueueIndirectGather rfl (tableAll arg4) (rowsB arg8 b hb) gathers_S100000x128_S96x128 (idxList arg6 offI hI) rfl (semB b hb arg10) (View.wordExact_bits rfl) rfl (Or.inl rfl)

/-- One chunk in its slot: wait for its masks and rows (and, when `w`, for the slot's write-out before), form the sums,
    send them out, and (when `n`) request the chunk after next. -/
def slot (w n : Prop) [Decidable w] [Decidable n] (offO : Fin 2 → ℕ) (hO : ∀ a, offO a + S16x128.size a ≤ S25600x128.size a)
    (offM : Fin 2 → ℕ) (hM : n → ∀ a, offM a + S1x1536.size a ≤ S1600x1536.size a)
    (offI : Fin 1 → ℕ) (hI : n → ∀ a, offI a + S96.size a ≤ S4800.size a) : Prog (TE F c s) PUnit := do
  waitIn arg3 arg4 arg7 arg8 arg10 arg11 b hb
  if w then waitOut arg5 arg9 arg12 b hb else .ret ⟨⟩
  pool arg7 arg8 arg9 b hb
  sendOut arg5 arg9 arg12 b hb offO hO
  if h : n then issue arg3 arg4 arg6 arg7 arg8 arg10 arg11 b hb offM (hM h) offI (hI h) else .ret ⟨⟩
end

section
variable (i : grid1.Coords) (arg2 : Memref sig .scVector .hbm S32x4800 .i32) (harg2 : arg2.IsWhole) (arg3 : Memref sig .scVector .hbm S1600x1536 .f32) (harg3 : arg3.IsWhole) (arg4 : Memref sig .scVector .hbm S100000x128 .f32) (harg4 : arg4.IsWhole) (arg5 : Memref sig .scVector .hbm S25600x128 .f32) (harg5 : arg5.IsWhole) (arg6 : Memref sig .scVector .vmem S4800 .i32) (harg6 : arg6.IsWhole) (arg7 : Memref sig .scVector .vmem S2x1536 .f32) (harg7 : arg7.IsWhole) (arg8 : Memref sig .scVector .vmem S2x96x128 .f32) (harg8 : arg8.IsWhole) (arg9 : Memref sig .scVector .vmem S2x16x128 .f32) (harg9 : arg9.IsWhole) (arg10 : DmaSems sig S2) (arg11 : DmaSems sig S2) (arg12 : DmaSems sig S2) (v55_r0 : DmaSems sig S_)

/-- The chunk of a trip that its second slot holds, as the trip computes it. -/
def chunkB (k : Fin k1_t1_loop.trips) (b : BitVec 32) : BitVec 32 := Scalar.addi (Scalar.muli 2#32 (Scf.iv 0#32 1#32 k)) b

/-- A trip: the even chunk in the first slot, the odd one in the second. -/
def trip (k : Fin k1_t1_loop.trips) : Prog (TE F ((i 0).castLE hcore1) ((i 1).castLE hsub1)) (BitVec 32) := do
  slot arg3 arg4 arg5 arg6 arg7 arg8 arg9 arg10 arg11 arg12 0 (by omega) (cW (chunkB k 0#32) = 1#1) (k1_cond2 k = 1#1)
    (k1_off3 i k 0#32) (k1_off3_inb i k 0) (k1_off4 i k) (k1_off4_inb i k) (k1_off5 k) (k1_off5_inb k)
  slot arg3 arg4 arg5 arg6 arg7 arg8 arg9 arg10 arg11 arg12 1 (by omega) (cW (chunkB k 1#32) = 1#1) (k1_cond4 k = 1#1)
    (k1_off3 i k 1#32) (k1_off3_inb i k 1) (k1_off6 i k) (k1_off6_inb i k) (k1_off7 k) (k1_off7_inb k)
  pure 0#32

end
end Cert.KernelIdeal.Trip
end
-- ==== Proof.KernelIdeal.Base.lean ====
/-
  The SparseCore call's setting: the program as the launch theorem sees it, the ghost state, the buffers the call works
  on, the parts of those buffers that a slot of the double buffering uses, and the value the call forms from a slot's
  masks and rows.
-/
module

public import proofs.«01_k».proof.Proof.KernelIdeal.Trip
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdxCore
public import Idealize.ShloMosaic.Lib.ValueLayout
public import Idealize.ShloMosaic.Lib.Tactic

@[expose] public section

noncomputable section

namespace Cert.KernelIdeal.SC

open Cert.KernelIdeal Cert.KernelIdeal.Gen Cert.KernelIdeal.Trip
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The ghost state: the handshakes' rounds, the pipelines' rounds, the transfers' counters. -/
abbrev UH : Type := URounds (GSem nD τ sig) ℕ
abbrev UU : Type := UH × (UR sig nD τ × Counters)
abbrev MM (F : FTy → Type) : Type := MT nD τ sig (HIx 1) (Elt F) ℕ UU ℕ

abbrev 𝒱₀ : Variants := Variants.none

variable [FloatOps F]

/-- A vector subcore's run of a program. -/
abbrev Run (d : Dev nD) (c : Fin τ.nSC) (s : Fin τ.nSub) {α : Type} (p : Prog (TE F c s) α) (Q : α → sProp (MM F)) : sProp (MM F) :=
  wp frame (wpE (defs₀ (F := F)) 𝒱₀ (V d c s) none) Set.univ p Q

/-- The operands and scratch buffers of the call. -/
abbrev idxV : Memref sig .scVector .hbm S32x4800 .i32 := Memref.whole main_v3_scv
abbrev mskV : Memref sig .scVector .hbm S1600x1536 .f32 := Memref.whole main_v16_4_scv
abbrev tabV : Memref sig .scVector .hbm S100000x128 .f32 := Memref.whole main_arg7_scv
abbrev outV : Memref sig .scVector .hbm S25600x128 .f32 := Memref.whole main_v17_scv
abbrev lstV : Memref sig .scVector .vmem S4800 .i32 := Memref.whole cc1_scratch0
abbrev mV : Memref sig .scVector .vmem S2x1536 .f32 := Memref.whole cc1_scratch1
abbrev rV : Memref sig .scVector .vmem S2x96x128 .f32 := Memref.whole cc1_scratch2
abbrev aV : Memref sig .scVector .vmem S2x16x128 .f32 := Memref.whole cc1_scratch3

/-- The part of each two-slot buffer that belongs to slot `b`. -/
def mSet (b : ℕ) : Finset S2x1536.Idx := Finset.univ.filter fun i => (i 0).val = b
def rSet (b : ℕ) : Finset S2x96x128.Idx := Finset.univ.filter fun i => (i 0).val = b
def aSet (b : ℕ) : Finset S2x16x128.Idx := Finset.univ.filter fun i => (i 0).val = b

theorem mem_mSet {b : ℕ} {i : S2x1536.Idx} : i ∈ mSet b ↔ (i 0).val = b := by simp [mSet]
theorem mem_rSet {b : ℕ} {i : S2x96x128.Idx} : i ∈ rSet b ↔ (i 0).val = b := by simp [rSet]
theorem mem_aSet {b : ℕ} {i : S2x16x128.Idx} : i ∈ aSet b ↔ (i 0).val = b := by simp [aSet]

/-- The sum of six products, in the order the call adds them. -/
def sum6 (r m : Fin 6 → F .f32) : F .f32 :=
  FloatOps.addf (FloatOps.addf (FloatOps.addf (FloatOps.addf (FloatOps.addf (FloatOps.mulf (r 0) (m 0)) (FloatOps.mulf (r 1) (m 1)))
    (FloatOps.mulf (r 2) (m 2))) (FloatOps.mulf (r 3) (m 3))) (FloatOps.mulf (r 4) (m 4))) (FloatOps.mulf (r 5) (m 5))

/-- What a slot's sums are, entry by entry, from its masks and rows. -/
def pooled (f7 : S2x1536.Idx → F .f32) (f8 : S2x96x128.Idx → F .f32) (j : S2x16x128.Idx) : F .f32 :=
  sum6 (fun s => f8 (ix3 (j 0) (⟨(j 1).val * 6 + s.val, by have := (j 1).isLt; have := s.isLt; simp at *; omega⟩ : Fin 96) (j 2)))
    (fun s => f7 (ix2 (j 0) (⟨((j 1).val * 6 + s.val) * 16 + (j 2).val % 16, by have := (j 1).isLt; have := s.isLt; simp at *; omega⟩ : Fin 1536)))

end Cert.KernelIdeal.SC

end
-- ==== Proof.KernelIdeal.Pool.lean ====
/-
  The sums of one slot: running the slot's sixteen contexts leaves, at every entry of the slot's part of the sums'
  buffer, the sum of six products of the slot's rows and masks.
-/
module

public import proofs.«01_k».proof.Proof.KernelIdeal.Base

@[expose] public section

noncomputable section

namespace Cert.KernelIdeal.SC

open Cert.KernelIdeal Cert.KernelIdeal.Gen Cert.KernelIdeal.Trip
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The sums' buffer with entries `x … x + 15` of row `r` of the slot replaced. -/
def put (r x : ℕ) (w : Fin 16 → F .f32) (g : S2x16x128.Idx → F .f32) (j : S2x16x128.Idx) : F .f32 :=
  if h : (j 1).val = r ∧ x ≤ (j 2).val ∧ (j 2).val < x + 16 then w ⟨(j 2).val - x, by omega⟩ else g j

/-- The sums' buffer when the first `n` blocks of sixteen entries of the slot are formed. -/
def fill (P g : S2x16x128.Idx → F .f32) (n : ℕ) (j : S2x16x128.Idx) : F .f32 := if (j 1).val * 8 + (j 2).val / 16 < n then P j else g j

section
variable (d : Dev nD) (c : Fin τ.nSC) (s : Fin τ.nSub)

/-- A repeated program runs along an invariant. -/
theorem rep_wp (n : ℕ) (f : (i : ℕ) → i < n → Prog (TE F c s) PUnit) (I : ℕ → sProp (MM F))
    (h : ∀ i hi, I i ⊢ Run d c s (f i hi) fun _ => I (i + 1)) : I 0 ⊢ Run d c s (rep n f) fun _ => I n := by
  induction n with
  | zero => iintro H; iapply (le_wp_ret _ _); iexact H
  | succ n ih =>
    show I 0 ⊢ Run d c s (rep n (fun i h => f i (Nat.lt_succ_of_lt h)) >>= fun _ => f n (Nat.lt_succ_self n)) fun _ => I (n + 1)
    unfold Run
    rw [wp_bind]
    exact (ih _ fun i hi => h i _).trans (wp_mono frame _ _ fun _ => h n _)

variable (b : ℕ) (hb : b < 2)

abbrev mPts (f : S2x1536.Idx → F .f32) : sProp (MM F) := mV.view.loc (V d c s) ↦[mSet b]{fullShare} f
abbrev rPts (f : S2x96x128.Idx → F .f32) : sProp (MM F) := rV.view.loc (V d c s) ↦[rSet b]{fullShare} f
abbrev aPts (f : S2x16x128.Idx → F .f32) : sProp (MM F) := aV.view.loc (V d c s) ↦[aSet b]{fullShare} f

/-- A load of sixteen masks of the slot. -/
theorem ldM_wp {β : Type} (x : ℕ) (h : x + 16 ≤ 1536) (f : S2x1536.Idx → F .f32) (k : Vec F S1x16 .f32 → Prog (TE F c s) β) (Q : β → sProp (MM F)) :
    mPts d c s b f ⊢ iprop((mPts d c s b f -∗ Run d c s (k fun j => f (ix2 (⟨b, hb⟩ : Fin 2) (⟨x + (j 1).val, by have : (j 1).val < 16 := (j 1).isLt; omega⟩ : Fin 1536))) Q)
      -∗ Run d c s (ldM mV b hb x h >>= k) Q) := by
  have hs : mV.view.setOn ((Rect.unit (s := S2x1536) ![b, x] S1x16.size (inb2 hb h)).toLoadRect.set) ⊆ mSet b := by
    intro i hi
    obtain ⟨j, hj, rfl⟩ := Finset.mem_map.mp hi
    have := (Rect.mem_set_unit (s := S2x1536) (off := ![b, x]) (size := S1x16.size) (inb := inb2 hb h)).mp hj 0
    refine mem_mSet.mpr ?_
    show (j 0).val = b
    simp at this; omega
  have e : (mV.view.readAt (Elt F) (Rect.unit (s := S2x1536) ![b, x] S1x16.size (inb2 hb h)).toLoadRect f : Vec F S1x16 .f32)
      = fun j => f (ix2 (⟨b, hb⟩ : Fin 2) (⟨x + (j 1).val, by have : (j 1).val < 16 := (j 1).isLt; omega⟩ : Fin 1536)) := by
    funext j
    show f _ = f _
    congr 1; funext a
    match a with
    | 0 => exact Fin.ext (by have := (j 0).isLt; show b + 1 * (j 0).val = b; simp at this; omega)
    | 1 => exact Fin.ext (by show x + 1 * (j 1).val = x + (j 1).val; omega)
  have := wp_load (defs := defs₀ (F := F)) 𝒱₀ (V d c s) none Set.univ (Γ := .empty) (m := mV) (r := (Rect.unit (s := S2x1536) ![b, x] S1x16.size (inb2 hb h)).toLoadRect)
    (hl := View.loadsAt_vmem h_S1x16) (k := k) (Q := Q) (f := f) (q := fullShare) hs
  rw [e] at this
  exact this

/-- A load of sixteen entries of one of the slot's rows. -/
theorem ldR_wp {β : Type} (r x : ℕ) (hr : r < 96) (h : x + 16 ≤ 128) (f : S2x96x128.Idx → F .f32) (k : Vec F S1x1x16 .f32 → Prog (TE F c s) β) (Q : β → sProp (MM F)) :
    rPts d c s b f ⊢ iprop((rPts d c s b f -∗ Run d c s (k fun j => f (ix3 (⟨b, hb⟩ : Fin 2) (⟨r, hr⟩ : Fin 96) (⟨x + (j 2).val, by have := (j 2).isLt; simp at this; omega⟩ : Fin 128))) Q)
      -∗ Run d c s (ldR rV b hb r x hr h >>= k) Q) := by
  have hs : rV.view.setOn ((Rect.unit (s := S2x96x128) ![b, r, x] S1x1x16.size (inb3 hb hr h)).toLoadRect.set) ⊆ rSet b := by
    intro i hi
    obtain ⟨j, hj, rfl⟩ := Finset.mem_map.mp hi
    have := (Rect.mem_set_unit (s := S2x96x128) (off := ![b, r, x]) (size := S1x1x16.size) (inb := inb3 hb hr h)).mp hj 0
    refine mem_rSet.mpr ?_
    show (j 0).val = b
    simp at this; omega
  have e : (rV.view.readAt (Elt F) (Rect.unit (s := S2x96x128) ![b, r, x] S1x1x16.size (inb3 hb hr h)).toLoadRect f : Vec F S1x1x16 .f32)
      = fun j => f (ix3 (⟨b, hb⟩ : Fin 2) (⟨r, hr⟩ : Fin 96) (⟨x + (j 2).val, by have := (j 2).isLt; simp at this; omega⟩ : Fin 128)) := by
    funext j
    show f _ = f _
    congr 1; funext a
    match a with
    | 0 => exact Fin.ext (by have := (j 0).isLt; show b + 1 * (j 0).val = b; simp at this; omega)
    | 1 => exact Fin.ext (by have := (j 1).isLt; show r + 1 * (j 1).val = r; simp at this; omega)
    | 2 => exact Fin.ext (by show x + 1 * (j 2).val = x + (j 2).val; omega)
  have := wp_load (defs := defs₀ (F := F)) 𝒱₀ (V d c s) none Set.univ (Γ := .empty) (m := rV) (r := (Rect.unit (s := S2x96x128) ![b, r, x] S1x1x16.size (inb3 hb hr h)).toLoadRect)
    (hl := View.loadsAt_vmem h_S1x1x16) (k := k) (Q := Q) (f := f) (q := fullShare) hs
  rw [e] at this
  exact this

/-- Writing sixteen entries of a row of the slot's sums (the read before is of no use). -/
theorem upd_wp (r x : ℕ) (hr : r < 16) (h : x + 16 ≤ 128) (w : FVec F S1x1x16 .f32) (g : S2x16x128.Idx → F .f32) (Q : PUnit → sProp (MM F)) :
    aPts d c s b g ⊢ iprop((aPts d c s b (put r x (fun l => w (ix3 (0 : Fin 1) (0 : Fin 1) l)) g) -∗ Q ⟨⟩)
      -∗ Run d c s (upd aV b hb r x hr h w) Q) := by
  have hu : ∀ i : S2x16x128.Idx, i ∈ (Rect.unit (s := S2x16x128) ![b, r, x] S1x1x16.size (inb3 hb hr h)).set →
      (i 0).val = b ∧ (i 1).val = r ∧ x ≤ (i 2).val ∧ (i 2).val < x + 16 := by
    intro i hi
    have := (Rect.mem_set_unit (s := S2x16x128) (off := ![b, r, x]) (size := S1x1x16.size) (inb := inb3 hb hr h)).mp hi
    have h0 := this 0; have h1 := this 1; have h2 := this 2
    simp at h0 h1 h2; omega
  have hs : aV.view.setOn ((Rect.unit (s := S2x16x128) ![b, r, x] S1x1x16.size (inb3 hb hr h)).toLoadRect.set) ⊆ aSet b := by
    intro i hi
    obtain ⟨j, hj, rfl⟩ := Finset.mem_map.mp hi
    exact mem_aSet.mpr (hu j hj).1
  have hs' : (aV.access (Rect.unit (s := S2x16x128) ![b, r, x] S1x1x16.size (inb3 hb hr h))).setOn Finset.univ ⊆ aSet b := by
    intro i hi
    have hi' : i ∈ ((View.whole cc1_scratch3).slice (Rect.unit (s := S2x16x128) ![b, r, x] S1x1x16.size (inb3 hb hr h))).set := hi
    rw [View.set_slice_whole] at hi'
    exact mem_aSet.mpr (hu i hi').1
  have e : (aV.view.loc (V d c s) ↦[aSet b]{fullShare} ((aV.access (Rect.unit (s := S2x16x128) ![b, r, x] S1x1x16.size (inb3 hb hr h))).write (Elt F) g w Finset.univ) : sProp (MM F))
      = aPts d c s b (put r x (fun l => w (ix3 (0 : Fin 1) (0 : Fin 1) l)) g) := by
    refine pointsTo_congr fun i hi => ?_
    have hi := mem_aSet.mp hi
    unfold put
    split
    · rename_i hc
      have hl : (i 2).val - x < 16 := by omega
      have : (aV.access (Rect.unit (s := S2x16x128) ![b, r, x] S1x1x16.size (inb3 hb hr h))).emb (ix3 (0 : Fin 1) (0 : Fin 1) (⟨(i 2).val - x, hl⟩ : Fin 16)) = i := by
        funext a
        match a with
        | 0 => exact Fin.ext (by show b + 1 * 0 = (i 0).val; omega)
        | 1 => exact Fin.ext (by show r + 1 * 0 = (i 1).val; omega)
        | 2 => exact Fin.ext (by show x + 1 * ((i 2).val - x) = (i 2).val; omega)
      conv_lhs => rw [← this]
      rw [View.write_emb_of_mem _ _ (Finset.mem_univ _)]
      rfl
    · rename_i hc
      refine View.write_of_not_mem _ _ _ fun hm => hc ?_
      have hi' : i ∈ ((View.whole cc1_scratch3).slice (Rect.unit (s := S2x16x128) ![b, r, x] S1x1x16.size (inb3 hb hr h))).set := hm
      rw [View.set_slice_whole] at hi'
      exact (hu i hi').2
  have ld := wp_load (defs := defs₀ (F := F)) 𝒱₀ (V d c s) none Set.univ (Γ := .empty) (m := aV) (r := (Rect.unit (s := S2x16x128) ![b, r, x] S1x1x16.size (inb3 hb hr h)).toLoadRect)
    (hl := View.loadsAt_vmem h_S1x1x16) (k := fun _ => .op (TpuEff.store aV (Rect.unit (s := S2x16x128) ![b, r, x] S1x1x16.size (inb3 hb hr h)) w Finset.univ (View.stores_vmem_bits_univ h_S1x1x16 rfl) (.inl rfl)) .ret)
    (Q := Q) (f := g) (q := fullShare) hs
  have st := wp_store (defs := defs₀ (F := F)) 𝒱₀ (V d c s) none Set.univ (Γ := .empty) (m := aV) (r := Rect.unit (s := S2x16x128) ![b, r, x] S1x1x16.size (inb3 hb hr h))
    (w := w) (Mk := Finset.univ) (hx := View.stores_vmem_bits_univ h_S1x1x16 rfl) (hm := .inl rfl) (k := .ret) (Q := Q) (f := g) hs'
  iintro Ha Hk
  unfold upd Run
  iapply ld $$ Ha
  iintro Ha
  iapply st $$ Ha
  iintro Ha
  ihave Ha' := (Entails.of_eq e) $$ Ha
  iapply (le_wp_ret _ _)
  iapply Hk
  iexact Ha'

/-- An entry of the weighted sum of six rows. -/
theorem wsum_apply (m0 m1 m2 m3 m4 m5 : FVec F S16 .f32) (r0 r1 r2 r3 r4 r5 : Vec F S1x1x16 .f32) (l : Fin 16) :
    wsum m0 m1 m2 m3 m4 m5 r0 r1 r2 r3 r4 r5 (ix3 (0 : Fin 1) (0 : Fin 1) l)
      = sum6 (fun s => (![r0, r1, r2, r3, r4, r5] s) (ix3 (0 : Fin 1) (0 : Fin 1) l)) (fun s => (![m0, m1, m2, m3, m4, m5] s) (ix1 l)) := by
  have hp : (S16.rowMajor (ix1 l)).val = (S1x1x16.rowMajor (ix3 (0 : Fin 1) (0 : Fin 1) l)).val := by
    rw [Shape.rowMajor_val_three, Shape.rowMajor_val_one]; show l.val = (0 * 1 + 0) * 16 + l.val; omega
  unfold wsum
  rw [shapeCast_apply _ _ _ (ix1 l) hp]
  simp only [addf, mulf, shapeCast_apply _ shapeCasts_S1x1x16_S16 (ix1 l) (ix3 (0 : Fin 1) (0 : Fin 1) l) hp.symm]
  rfl

variable (f7 : S2x1536.Idx → F .f32) (f8 : S2x96x128.Idx → F .f32) (g : S2x16x128.Idx → F .f32)

/-- One block of sixteen entries: six rows read, the weighted sum written. -/
theorem block_wp (m0 m1 m2 m3 m4 m5 : FVec F S16 .f32) (ci : ℕ) (hc : ci < 16)
    (hm : ∀ (s : Fin 6) (l : Fin 16), (![m0, m1, m2, m3, m4, m5] s) (ix1 l) = f7 (ix2 (⟨b, hb⟩ : Fin 2) (⟨(ci * 6 + s.val) * 16 + l.val, by omega⟩ : Fin 1536)))
    (v : ℕ) (hv : v < 8) :
    iprop(rPts d c s b f8 ∗ aPts d c s b (fill (pooled f7 f8) g (ci * 8 + v)))
      ⊢ Run d c s (block rV aV b hb m0 m1 m2 m3 m4 m5 ci hc v hv)
        fun _ => iprop(rPts d c s b f8 ∗ aPts d c s b (fill (pooled f7 f8) g (ci * 8 + (v + 1)))) := by
  iintro ⟨Hr, Ha⟩
  unfold block
  iapply (ldR_wp d c s b hb (ci * 6 + 0) (v * 16) _ _ f8 _ _) $$ Hr; iintro Hr
  iapply (ldR_wp d c s b hb (ci * 6 + 1) (v * 16) _ _ f8 _ _) $$ Hr; iintro Hr
  iapply (ldR_wp d c s b hb (ci * 6 + 2) (v * 16) _ _ f8 _ _) $$ Hr; iintro Hr
  iapply (ldR_wp d c s b hb (ci * 6 + 3) (v * 16) _ _ f8 _ _) $$ Hr; iintro Hr
  iapply (ldR_wp d c s b hb (ci * 6 + 4) (v * 16) _ _ f8 _ _) $$ Hr; iintro Hr
  iapply (ldR_wp d c s b hb (ci * 6 + 5) (v * 16) _ _ f8 _ _) $$ Hr; iintro Hr
  iapply (upd_wp d c s b hb ci (v * 16) hc _ _ _ _) $$ Ha; iintro Ha
  isplitl [Hr]; · iexact Hr
  iapply (Entails.of_eq (pointsTo_congr ?_)) $$ Ha
  intro i hi
  have hi := mem_aSet.mp hi
  have hi1 : (i 1).val < 16 := (i 1).isLt
  have hi2 : (i 2).val < 128 := (i 2).isLt
  unfold put
  split
  · rename_i hcc
    beta_reduce
    rw [wsum_apply, fill, if_pos (by omega)]
    unfold pooled
    congr 1 <;> funext s'
    · fin_cases s' <;>
      · refine congrArg f8 (funext fun a => ?_)
        match a with
        | 0 => exact Fin.ext hi.symm
        | 1 => exact Fin.ext (by simp [hcc.1])
        | 2 => exact Fin.ext (by show v * 16 + ((i 2).val - v * 16) = (i 2).val; omega)
    · rw [hm]
      refine congrArg f7 (funext fun a => ?_)
      match a with
      | 0 => exact Fin.ext hi.symm
      | 1 => exact Fin.ext (by show (ci * 6 + s'.val) * 16 + ((i 2).val - v * 16) = ((i 1).val * 6 + s'.val) * 16 + (i 2).val % 16; rw [hcc.1]; omega)
  · rename_i hcc
    unfold fill
    by_cases h1 : (i 1).val * 8 + (i 2).val / 16 < ci * 8 + v
    · rw [if_pos h1, if_pos (by omega)]
    · rw [if_neg h1, if_neg (by omega)]

/-- The eight blocks of a context, its masks read. -/
theorem blocks_wp (m0 m1 m2 m3 m4 m5 : FVec F S16 .f32) (ci : ℕ) (hc : ci < 16)
    (hm : ∀ (s : Fin 6) (l : Fin 16), (![m0, m1, m2, m3, m4, m5] s) (ix1 l) = f7 (ix2 (⟨b, hb⟩ : Fin 2) (⟨(ci * 6 + s.val) * 16 + l.val, by omega⟩ : Fin 1536))) :
    iprop(mPts d c s b f7 ∗ rPts d c s b f8 ∗ aPts d c s b (fill (pooled f7 f8) g (ci * 8)))
      ⊢ Run d c s (rep 8 (block rV aV b hb m0 m1 m2 m3 m4 m5 ci hc))
        fun _ => iprop(mPts d c s b f7 ∗ rPts d c s b f8 ∗ aPts d c s b (fill (pooled f7 f8) g ((ci + 1) * 8))) := by
  have key := rep_wp d c s 8 (block rV aV b hb m0 m1 m2 m3 m4 m5 ci hc)
    (fun v => iprop(rPts d c s b f8 ∗ aPts d c s b (fill (pooled f7 f8) g (ci * 8 + v)))) fun v hv => block_wp d c s b hb f7 f8 g m0 m1 m2 m3 m4 m5 ci hc hm v hv
  rw [Nat.succ_mul]
  exact (sep_mono_r key).trans (wp_frame_l frame _ _)

/-- One context: its six masks read, its eight blocks formed. -/
theorem ctx_wp (ci : ℕ) (hc : ci < 16) :
    iprop(mPts d c s b f7 ∗ rPts d c s b f8 ∗ aPts d c s b (fill (pooled f7 f8) g (ci * 8)))
      ⊢ Run d c s (ctx mV rV aV b hb ci hc)
        fun _ => iprop(mPts d c s b f7 ∗ rPts d c s b f8 ∗ aPts d c s b (fill (pooled f7 f8) g ((ci + 1) * 8))) := by
  iintro ⟨Hm, Hr, Ha⟩
  unfold ctx
  iapply (ldM_wp d c s b hb ((ci * 6 + 0) * 16) _ f7 _ _) $$ Hm; iintro Hm
  iapply (ldM_wp d c s b hb ((ci * 6 + 1) * 16) _ f7 _ _) $$ Hm; iintro Hm
  iapply (ldM_wp d c s b hb ((ci * 6 + 2) * 16) _ f7 _ _) $$ Hm; iintro Hm
  iapply (ldM_wp d c s b hb ((ci * 6 + 3) * 16) _ f7 _ _) $$ Hm; iintro Hm
  iapply (ldM_wp d c s b hb ((ci * 6 + 4) * 16) _ f7 _ _) $$ Hm; iintro Hm
  iapply (ldM_wp d c s b hb ((ci * 6 + 5) * 16) _ f7 _ _) $$ Hm; iintro Hm
  iapply (blocks_wp d c s b hb f7 f8 g _ _ _ _ _ _ ci hc ?_) $$ [Hm Hr Ha]
  · intro s' l
    refine (congrFun (?_ : _ = shapeCast S16 (fun j : S1x16.Idx => f7 (ix2 (⟨b, hb⟩ : Fin 2)
      (⟨(ci * 6 + s'.val) * 16 + (j 1).val, by have : (j 1).val < 16 := (j 1).isLt; omega⟩ : Fin 1536))) shapeCasts_S1x16_S16) _).trans (shapeCast_1a_a_apply _ _ l)
    fin_cases s' <;> rfl
  isplitl [Hm]; · iexact Hm
  isplitl [Hr]; · iexact Hr
  iexact Ha

attribute [local irreducible] rep in
/-- A slot's sums: masks and rows as they were, the slot's part of the sums' buffer at the sums of products. -/
theorem pool_wp :
    iprop(mPts d c s b f7 ∗ rPts d c s b f8 ∗ aPts d c s b g)
      ⊢ Run d c s (pool mV rV aV b hb) fun _ => iprop(mPts d c s b f7 ∗ rPts d c s b f8 ∗ aPts d c s b (pooled f7 f8)) := by
  have e0 : fill (pooled f7 f8) g (0 * 8) = g := by
    funext j
    simp [fill]
  have e1 : fill (pooled f7 f8) g (16 * 8) = pooled f7 f8 := by
    funext j
    have h1 : (j 1).val < 16 := (j 1).isLt
    have h2 : (j 2).val < 128 := (j 2).isLt
    rw [fill, if_pos (by omega)]
  have key : iprop(mPts d c s b f7 ∗ rPts d c s b f8 ∗ aPts d c s b (fill (pooled f7 f8) g (0 * 8)))
      ⊢ Run d c s (rep 16 (ctx (F := F) (c := c) (s := s) mV rV aV b hb))
        fun _ => iprop(mPts d c s b f7 ∗ rPts d c s b f8 ∗ aPts d c s b (fill (pooled f7 f8) g (16 * 8))) := by
    refine rep_wp d c s 16 (ctx (F := F) (c := c) (s := s) mV rV aV b hb)
      (fun ci => iprop(mPts d c s b f7 ∗ rPts d c s b f8 ∗ aPts d c s b (fill (pooled f7 f8) g (ci * 8)))) ?_
    intro ci hc
    exact ctx_wp d c s b hb f7 f8 g ci hc
  rw [e0, e1] at key
  exact key
end
end Cert.KernelIdeal.SC

end
-- ==== Proof.KernelIdeal.Parts.lean ====
/-
  The parts of the call's buffers that one chunk moves: where each slice's entries lie, and what a copy into it leaves.
-/
module

public import proofs.«01_k».proof.Proof.KernelIdeal.Pool

@[expose] public section

noncomputable section

namespace Cert.KernelIdeal.SC

open Cert.KernelIdeal Cert.KernelIdeal.Gen Cert.KernelIdeal.Trip
open Idealize.ShloMosaic Idealize.ShloMosaic.ValueIdx
open Idealize.ShloMosaic.SparseCore (S V T)

variable {F : FTy → Type}

/-- Row `r` of the masks; entries `96 q … 96 q + 95` of a list; rows `16 g … 16 g + 15` of the result. -/
def mskRow (r : ℕ) : Finset S1600x1536.Idx := Finset.univ.filter fun i => (i 0).val = r
def lstSeg (q : ℕ) : Finset S4800.Idx := Finset.univ.filter fun i => (i 0).val / 96 = q
def outRows (lo hi : ℕ) : Finset S25600x128.Idx := Finset.univ.filter fun i => lo ≤ (i 0).val / 16 ∧ (i 0).val / 16 < hi

theorem mem_mskRow {r : ℕ} {i : S1600x1536.Idx} : i ∈ mskRow r ↔ (i 0).val = r := by simp [mskRow]
theorem mem_lstSeg {q : ℕ} {i : S4800.Idx} : i ∈ lstSeg q ↔ (i 0).val / 96 = q := by simp [lstSeg]
theorem mem_outRows {lo hi : ℕ} {i : S25600x128.Idx} : i ∈ outRows lo hi ↔ lo ≤ (i 0).val / 16 ∧ (i 0).val / 16 < hi := by simp [outRows]

section
variable (b : ℕ) (hb : b < 2)

theorem maskB_emb (x : S1536.Idx) : (maskB mV b hb).view.emb x = (ix2 (⟨b, hb⟩ : Fin 2) (x 0) : S2x1536.Idx) := by
  show (Rect.unit (s := S2x1536) ![b, 0] S1x1536.size (inbB b hb)).emb (Shape.reshapeEquiv squeezes_S1x1536_S1536.numel_eq x) = _
  rw [Shape.reshapeEquiv_cons_one]
  funext a
  match a with
  | 0 => exact Fin.ext (by show b + 1 * 0 = b; omega)
  | 1 => exact Fin.ext (by show 0 + 1 * (x 0).val = (x 0).val; omega)

theorem rowsB_emb (x : S96x128.Idx) : (rowsB rV b hb).view.emb x = (ix3 (⟨b, hb⟩ : Fin 2) (x 0) (x 1) : S2x96x128.Idx) := by
  show (Rect.unit (s := S2x96x128) ![b, 0, 0] S1x96x128.size (inbC b hb)).emb (Shape.reshapeEquiv squeezes_S1x96x128_S96x128.numel_eq x) = _
  rw [Shape.reshapeEquiv_cons_one]
  funext a
  match a with
  | 0 => exact Fin.ext (by show b + 1 * 0 = b; omega)
  | 1 => exact Fin.ext (by show 0 + 1 * (x 0).val = (x 0).val; omega)
  | 2 => exact Fin.ext (by show 0 + 1 * (x 1).val = (x 1).val; omega)

theorem accB_emb (x : S16x128.Idx) : (accB aV b hb).view.emb x = (ix3 (⟨b, hb⟩ : Fin 2) (x 0) (x 1) : S2x16x128.Idx) := by
  show (Rect.unit (s := S2x16x128) ![b, 0, 0] S1x16x128.size (inbC b hb)).emb (Shape.reshapeEquiv squeezes_S1x16x128_S16x128.numel_eq x) = _
  rw [Shape.reshapeEquiv_cons_one]
  funext a
  match a with
  | 0 => exact Fin.ext (by show b + 1 * 0 = b; omega)
  | 1 => exact Fin.ext (by show 0 + 1 * (x 0).val = (x 0).val; omega)
  | 2 => exact Fin.ext (by show 0 + 1 * (x 1).val = (x 1).val; omega)

theorem maskB_set : (maskB mV b hb).view.set = mSet b := by
  refine (View.set_reshape _ _).trans ((View.set_slice_whole _ _).trans ?_)
  ext i
  refine Rect.mem_set_unit.trans (Iff.trans ?_ mem_mSet.symm)
  exact ⟨fun h => by have := h 0; simp at this; omega,
    fun h a => match a with | 0 => ⟨h.ge, by show (i 0).val < b + 1; omega⟩ | 1 => ⟨Nat.zero_le _, by have h1 : (i 1).val < 1536 := (i 1).isLt; show (i 1).val < 0 + 1536; omega⟩⟩

theorem rowsB_set : (rowsB rV b hb).view.set = rSet b := by
  refine (View.set_reshape _ _).trans ((View.set_slice_whole _ _).trans ?_)
  ext i
  refine Rect.mem_set_unit.trans (Iff.trans ?_ mem_rSet.symm)
  exact ⟨fun h => by have := h 0; simp at this; omega,
    fun h a => match a with
      | 0 => ⟨h.ge, by show (i 0).val < b + 1; omega⟩
      | 1 => ⟨Nat.zero_le _, by have h1 : (i 1).val < 96 := (i 1).isLt; show (i 1).val < 0 + 96; omega⟩
      | 2 => ⟨Nat.zero_le _, by have h1 : (i 2).val < 128 := (i 2).isLt; show (i 2).val < 0 + 128; omega⟩⟩

theorem accB_set : (accB aV b hb).view.set = aSet b := by
  refine (View.set_reshape _ _).trans ((View.set_slice_whole _ _).trans ?_)
  ext i
  refine Rect.mem_set_unit.trans (Iff.trans ?_ mem_aSet.symm)
  exact ⟨fun h => by have := h 0; simp at this; omega,
    fun h a => match a with
      | 0 => ⟨h.ge, by show (i 0).val < b + 1; omega⟩
      | 1 => ⟨Nat.zero_le _, by have h1 : (i 1).val < 16 := (i 1).isLt; show (i 1).val < 0 + 16; omega⟩
      | 2 => ⟨Nat.zero_le _, by have h1 : (i 2).val < 128 := (i 2).isLt; show (i 2).val < 0 + 128; omega⟩⟩
end

section
variable (g : ℕ)

theorem maskRow_emb (h : ∀ a, (![g, 0] : Fin 2 → ℕ) a + S1x1536.size a ≤ S1600x1536.size a) (hg : g < 1600) (x : S1536.Idx) :
    (maskRow mskV ![g, 0] h).view.emb x = (ix2 (⟨g, hg⟩ : Fin 1600) (x 0) : S1600x1536.Idx) := by
  show (Rect.unit (s := S1600x1536) ![g, 0] S1x1536.size h).emb (Shape.reshapeEquiv squeezes_S1x1536_S1536.numel_eq x) = _
  rw [Shape.reshapeEquiv_cons_one]
  funext a
  match a with
  | 0 => exact Fin.ext (by show g + 1 * 0 = g; omega)
  | 1 => exact Fin.ext (by show 0 + 1 * (x 0).val = (x 0).val; omega)

theorem maskRow_set (h : ∀ a, (![g, 0] : Fin 2 → ℕ) a + S1x1536.size a ≤ S1600x1536.size a) : (maskRow mskV ![g, 0] h).view.set = mskRow g := by
  refine (View.set_reshape _ _).trans ((View.set_slice_whole _ _).trans ?_)
  ext i
  refine Rect.mem_set_unit.trans (Iff.trans ?_ mem_mskRow.symm)
  exact ⟨fun h => by have := h 0; simp at this; omega,
    fun h a => match a with | 0 => ⟨h.ge, by show (i 0).val < g + 1; omega⟩ | 1 => ⟨Nat.zero_le _, by have h1 : (i 1).val < 1536 := (i 1).isLt; show (i 1).val < 0 + 1536; omega⟩⟩

theorem idxList_emb (q : ℕ) (h : ∀ a, (![96 * q] : Fin 1 → ℕ) a + S96.size a ≤ S4800.size a) (hq : q < 50) (x : S96.Idx) :
    (idxList lstV ![96 * q] h).view.emb x = (ix1 (⟨96 * q + (x 0).val, by have h1 : (x 0).val < 96 := (x 0).isLt; omega⟩ : Fin 4800) : S4800.Idx) := by
  funext a
  match a with
  | 0 => exact Fin.ext (by show 96 * q + 1 * (x 0).val = 96 * q + (x 0).val; omega)

theorem idxList_set (q : ℕ) (h : ∀ a, (![96 * q] : Fin 1 → ℕ) a + S96.size a ≤ S4800.size a) : (idxList lstV ![96 * q] h).view.set = lstSeg q := by
  refine (View.set_slice_whole _ _).trans ?_
  ext i
  refine Rect.mem_set_unit.trans (Iff.trans ?_ mem_lstSeg.symm)
  exact ⟨fun h => by have := h 0; simp at this; omega,
    fun h a => match a with | 0 => by show 96 * q ≤ (i 0).val ∧ (i 0).val < 96 * q + 96; omega⟩

theorem outBlock_emb (h : ∀ a, (![16 * g, 0] : Fin 2 → ℕ) a + S16x128.size a ≤ S25600x128.size a) (hg : g < 1600) (x : S16x128.Idx) :
    (outBlock outV ![16 * g, 0] h).view.emb x = (ix2 (⟨16 * g + (x 0).val, by have h1 : (x 0).val < 16 := (x 0).isLt; omega⟩ : Fin 25600) (x 1) : S25600x128.Idx) := by
  funext a
  match a with
  | 0 => exact Fin.ext (by show 16 * g + 1 * (x 0).val = 16 * g + (x 0).val; omega)
  | 1 => exact Fin.ext (by show 0 + 1 * (x 1).val = (x 1).val; omega)

theorem outBlock_set (h : ∀ a, (![16 * g, 0] : Fin 2 → ℕ) a + S16x128.size a ≤ S25600x128.size a) : (outBlock outV ![16 * g, 0] h).view.set = outRows g (g + 1) := by
  refine (View.set_slice_whole _ _).trans ?_
  ext i
  refine Rect.mem_set_unit.trans (Iff.trans ?_ mem_outRows.symm)
  exact ⟨fun h => by have := h 0; simp at this; omega,
    fun h a => match a with
      | 0 => by show 16 * g ≤ (i 0).val ∧ (i 0).val < 16 * g + 16; omega
      | 1 => ⟨Nat.zero_le _, by have h1 : (i 1).val < 128 := (i 1).isLt; show (i 1).val < 0 + 128; omega⟩⟩
end

theorem tableAll_emb (x : S100000x128.Idx) : (tableAll tabV).view.emb x = x := by
  funext a
  match a with
  | 0 => exact Fin.ext (by show 0 + 1 * (x 0).val = (x 0).val; omega)
  | 1 => exact Fin.ext (by show 0 + 1 * (x 1).val = (x 1).val; omega)

theorem tableAll_set : (tableAll tabV).view.set = (Finset.univ : Finset S100000x128.Idx) := by
  refine (View.set_slice_whole _ _).trans ?_
  ext i
  refine Rect.mem_set_unit.trans ⟨fun _ => Finset.mem_univ _, fun _ a => ?_⟩
  match a with
  | 0 => exact ⟨Nat.zero_le _, by have h1 : (i 0).val < 100000 := (i 0).isLt; show (i 0).val < 0 + 100000; omega⟩
  | 1 => exact ⟨Nat.zero_le _, by have h1 : (i 1).val < 128 := (i 1).isLt; show (i 1).val < 0 + 128; omega⟩

/-- What the masks' and the rows' buffers hold for chunk `q` of a tile whose first chunk is `g₀` and whose list is `fl`. -/
def mskOf (fm : S1600x1536.Idx → F .f32) (g : Fin 1600) : S2x1536.Idx → F .f32 := fun j => fm (ix2 g (j 1))
def rowsOf (ft : S100000x128.Idx → F .f32) (fl : S4800.Idx → BitVec 32) (q : Fin 50) : S2x96x128.Idx → F .f32 := fun j =>
  ft (ix2 (⟨(fl (ix1 (⟨96 * q.val + (j 1).val, by have h1 : (j 1).val < 96 := (j 1).isLt; omega⟩ : Fin 4800))).toNat % 100000, Nat.mod_lt _ (by omega)⟩ : Fin 100000) (j 2))

/-- The result of the call: entry `l` of row `r` is the sum, over the six places of that row's context, of the table's
    row at the list's place times the mask. -/
def target (fi : S32x4800.Idx → BitVec 32) (fm : S1600x1536.Idx → F .f32) (ft : S100000x128.Idx → F .f32) [FloatOps F] (j : S25600x128.Idx) : F .f32 :=
  have h0 : (j 0).val < 25600 := (j 0).isLt
  sum6
    (fun s => ft (ix2 (⟨(fi (ix2 (⟨(j 0).val / 800, by omega⟩ : Fin 32) (⟨((j 0).val % 800) * 6 + s.val, by omega⟩ : Fin 4800))).toNat % 100000, Nat.mod_lt _ (by omega)⟩ : Fin 100000) (j 1)))
    (fun s => fm (ix2 (⟨(j 0).val / 16, by omega⟩ : Fin 1600) (⟨(((j 0).val % 16) * 6 + s.val) * 16 + (j 1).val % 16, by omega⟩ : Fin 1536)))

/-- A copy of a row of the masks into a slot leaves the slot at that row. -/
theorem mask_landed (b : ℕ) (hb : b < 2) (g : ℕ) (hg : g < 1600) (h : ∀ a, (![g, 0] : Fin 2 → ℕ) a + S1x1536.size a ≤ S1600x1536.size a)
    (fm : S1600x1536.Idx → F .f32) (fd : S2x1536.Idx → F .f32) (j : S2x1536.Idx) (hj : j ∈ mSet b) :
    ((maskB mV b hb).view.write (Elt F) fd ((maskRow mskV ![g, 0] h).view.read (Elt F) fm) Finset.univ : S2x1536.Idx → F .f32) j = mskOf fm ⟨g, hg⟩ j := by
  have e : j = (maskB mV b hb).view.emb (ix1 (j 1)) := by
    rw [maskB_emb]
    funext a
    match a with
    | 0 => exact Fin.ext (mem_mSet.mp hj)
    | 1 => rfl
  rw [e, View.write_emb_of_mem _ _ (Finset.mem_univ _), ← e]
  show fm ((maskRow mskV ![g, 0] h).view.emb (ix1 (j 1))) = _
  rw [maskRow_emb g h hg]
  rfl

/-- A gather of the table's rows at a list's segment into a slot leaves the slot at those rows. -/
theorem rows_landed (b : ℕ) (hb : b < 2) (q : ℕ) (hq : q < 50) (h : ∀ a, (![96 * q] : Fin 1 → ℕ) a + S96.size a ≤ S4800.size a)
    (ft : S100000x128.Idx → F .f32) (fl : S4800.Idx → BitVec 32) (hn : S96.numel = S96x128.size gathers_S100000x128_S96x128.axis')
    (hin : ∀ x, ((idxList lstV ![96 * q] h).view.read (Elt F) fl x).toNat < S100000x128.size gathers_S100000x128_S96x128.axis)
    (fd : S2x96x128.Idx → F .f32) (j : S2x96x128.Idx) (hj : j ∈ rSet b) :
    ((rowsB rV b hb).view.write (Elt F) fd (SparseCore.gatherPayload gathers_S100000x128_S96x128 ((tableAll tabV).view.read (Elt F) ft)
        (SparseCore.rows ((idxList lstV ![96 * q] h).view.read (Elt F) fl) hn hin)) Finset.univ : S2x96x128.Idx → F .f32) j = rowsOf ft fl ⟨q, hq⟩ j := by
  have e : j = (rowsB rV b hb).view.emb (ix2 (j 1) (j 2)) := by
    rw [rowsB_emb]
    funext a
    match a with
    | 0 => exact Fin.ext (mem_rSet.mp hj)
    | 1 => rfl
    | 2 => rfl
  rw [e, View.write_emb_of_mem _ _ (Finset.mem_univ _), ← e]
  have hk : S96.rowMajor.symm (Fin.cast hn.symm (j 1)) = (ix1 (j 1) : S96.Idx) := by
    rw [Equiv.symm_apply_eq]
    exact Fin.ext (Shape.rowMajor_val_one (d := ![96]) (ix1 (j 1))).symm
  have hv : ((idxList lstV ![96 * q] h).view.read (Elt F) fl (ix1 (j 1)) : BitVec 32)
      = fl (ix1 (⟨96 * q + (j 1).val, by have h1 : (j 1).val < 96 := (j 1).isLt; omega⟩ : Fin 4800)) := by
    show fl ((idxList lstV ![96 * q] h).view.emb (ix1 (j 1))) = _
    rw [idxList_emb q h hq]
  have hlt := hin (ix1 (j 1))
  rw [hv] at hlt
  show ft ((tableAll tabV).view.emb (gathers_S100000x128_S96x128.idx
    (SparseCore.rows ((idxList lstV ![96 * q] h).view.read (Elt F) fl) hn hin) (ix2 (j 1) (j 2)))) = _
  rw [tableAll_emb]
  refine congrArg ft (funext fun a => ?_)
  match a with
  | 0 =>
    refine Fin.ext ?_
    show ((idxList lstV ![96 * q] h).view.read (Elt F) fl (S96.rowMajor.symm (Fin.cast hn.symm (j 1))) : BitVec 32).toNat = _
    rw [hk, hv]
    exact (Nat.mod_eq_of_lt hlt).symm
  | 1 => exact Fin.ext rfl

/-- A copy of a slot's sums into a block of the result leaves the block at the result's values. -/
theorem out_landed [FloatOps F] (b : ℕ) (hb : b < 2) (w q : ℕ) (hw : w < 32) (hq : q < 50) (h : ∀ a, (![16 * (50 * w + q), 0] : Fin 2 → ℕ) a + S16x128.size a ≤ S25600x128.size a)
    (fi : S32x4800.Idx → BitVec 32) (fm : S1600x1536.Idx → F .f32) (ft : S100000x128.Idx → F .f32) (fd : S25600x128.Idx → F .f32)
    (j : S25600x128.Idx) (hj : j ∈ outRows (50 * w + q) (50 * w + q + 1)) :
    ((outBlock outV ![16 * (50 * w + q), 0] h).view.write (Elt F) fd ((accB aV b hb).view.read (Elt F)
      (pooled (mskOf fm ⟨50 * w + q, by omega⟩) (rowsOf ft (fun j => fi (ix2 (⟨w, hw⟩ : Fin 32) (j 0))) ⟨q, hq⟩))) Finset.univ : S25600x128.Idx → F .f32) j
      = target fi fm ft j := by
  have h0 := mem_outRows.mp hj
  have e : j = (outBlock outV ![16 * (50 * w + q), 0] h).view.emb (ix2 (⟨(j 0).val % 16, by omega⟩ : Fin 16) (j 1)) := by
    have h2 := outBlock_emb (50 * w + q) h (by omega) (ix2 (⟨(j 0).val % 16, by omega⟩ : Fin 16) (j 1))
    refine Eq.trans ?_ h2.symm
    have h3 : j 0 = (⟨16 * (50 * w + q) + (j 0).val % 16, by omega⟩ : Fin 25600) := Fin.ext (by show (j 0).val = 16 * (50 * w + q) + (j 0).val % 16; omega)
    exact (eq_ix2 j).trans (congrArg (fun x : Fin 25600 => (ix2 x (j 1) : S25600x128.Idx)) h3)
  rw [e, View.write_emb_of_mem _ _ (Finset.mem_univ _), ← e]
  show pooled _ _ ((accB aV b hb).view.emb (ix2 (⟨(j 0).val % 16, by omega⟩ : Fin 16) (j 1))) = _
  rw [accB_emb]
  unfold pooled target
  refine congrArg₂ sum6 (funext fun s => ?_) (funext fun s => ?_)
  · refine congrArg ft (congrArg (fun x : Fin 100000 => (ix2 x (j 1) : S100000x128.Idx)) (Fin.ext (congrArg (fun x : BitVec 32 => x.toNat % 100000) (congrArg fi (funext fun a => ?_)))))
    match a with
    | 0 => exact Fin.ext (by show w = (j 0).val / 800; omega)
    | 1 => exact Fin.ext (by show 96 * q + ((j 0).val % 16 * 6 + s.val) = (j 0).val % 800 * 6 + s.val; omega)
  · refine congrArg fm (funext fun a => ?_)
    match a with
    | 0 => exact Fin.ext (by show 50 * w + q = (j 0).val / 16; omega)
    | 1 => exact Fin.ext rfl

end Cert.KernelIdeal.SC

end
-- ==== Proof.KernelIdeal.Slot.lean ====
/-
  One chunk in its slot: what a slot holds while its masks and rows are on their way, while its sums are on their way
  out, and while neither is; and what each of the slot's steps makes of that.
-/
module

public import proofs.«01_k».proof.Proof.KernelIdeal.Parts
import Mathlib.Tactic.IntervalCases

@[expose] public section

noncomputable section

namespace Cert.KernelIdeal.SC

open Cert.KernelIdeal Cert.KernelIdeal.Gen Cert.KernelIdeal.Trip
open Idealize.ShloMosaic Idealize.ShloMosaic.ValueIdx
open Idealize.ShloMosaic.SparseCore (S V T)
open Idealize.ShloMosaic.SparseCore.Cfg (HIx)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section
variable (d : Dev nD) (c : Fin τ.nSC) (s : Fin τ.nSub)

/-- A run followed by another: the second starts from what the first leaves. -/
theorem run_seq {α β : Type} {P : sProp (MM F)} {p : Prog (TE F c s) α} {R : sProp (MM F)} (h : P ⊢ Run d c s p fun _ => R)
    (k : α → Prog (TE F c s) β) (Q : β → sProp (MM F)) : P ⊢ iprop((R -∗ ∀ a, Run d c s (k a) Q) -∗ Run d c s (p >>= k) Q) := by
  unfold Run
  rw [wp_bind]
  refine h.trans ((wp_wand frame _ _ (Q' := fun a => wp frame (wpE (defs₀ (F := F)) 𝒱₀ (V d c s) none) Set.univ (k a) Q)).trans ?_)
  iintro H HK
  iapply H
  iintro %a HR
  ihave HK' := HK $$ HR
  iapply HK'

/-- A run is the run of it followed by nothing. -/
theorem run_ret {α : Type} (p : Prog (TE F c s) α) (Q : α → sProp (MM F)) : Run d c s (p >>= .ret) Q ⊢ Run d c s p Q :=
  Entails.of_eq (congrArg (fun p => Run d c s p Q) (bind_pure p))

variable (O : CellTallies nD τ sig (HIx 1)) (W : Waits sig (HIx 1))

/-- What the tile owes: `O`, having waited (beyond `W`) at its own cells only; and the evidence that it may wait there. -/
def Ow : sProp (MM F) :=
  iprop(MayWaits (V d c s) (default : HIx 1) O ∗ ∃ W', ⌜∀ p ∈ W', p ∈ W ∨ p.2 = none⌝ ∗ owes (V d c s) O W')

/-- A wait for a copy on its way. -/
theorem wait_wp {s₁ s₂ : Shape} {e₁ e₂ : EltTy} {sp sp' : Space} {κ : Kind} (sem : DmaSem sig) (srcw : Memref sig .scVector sp s₁ e₁) (dstw : Memref sig κ sp' s₂ e₂)
    (hs : srcw.view.WordExact) (hd : dstw.view.WordExact) {N : ℕ} (hN : dstw.view.dmaCredit = N) (D : sProp (MM F))
    {β : Type} (k : PUnit → Prog (TE F c s) β) (Q : β → sProp (MM F)) :
    iprop(Flight countersEmb (V d c s) (.dma sem) (default : HIx 1) N D ∗ Ow d c s O W)
      ⊢ iprop((iprop(D ∗ semVal (V d c s, .dma sem) 0 ∗ Ow d c s O W) -∗ Run d c s (k ⟨⟩) Q)
        -∗ Run d c s (.op (.waitDma2 sem srcw dstw hs hd) k) Q) := by
  unfold Ow
  iintro ⟨Hf, #Hm, %W', %hW, HO⟩ HK
  iapply (Transfers.wp_waitLocalO countersEmb 𝒱₀ (V d c s) none (default : HIx 1) hN) $$ [Hf HO]
  · isplitl [Hf]; · iexact Hf
    isplitl [HO]; · iexact HO
    iapply (MayWaits.elim (SemLoc.dma sem)) $$ Hm
  iintro ⟨HD, Hv, HO⟩
  iapply HK
  isplitl [HD]; · iexact HD
  isplitl [Hv]; · iexact Hv
  isplitr; · iexact Hm
  iexists _; isplitr
  swap; · iexact HO
  ipureintro; intro p hp
  rcases Finset.mem_insert.mp hp with hp | hp
  · exact .inr (hp ▸ rfl)
  · exact hW p hp

variable (qm qt ql : PosShare TreeShare)
variable (fi : S32x4800.Idx → BitVec 32) (fm : S1600x1536.Idx → F .f32) (ft : S100000x128.Idx → F .f32) (fl : S4800.Idx → BitVec 32)
variable (b : ℕ) (hb : b < 2)

abbrev mskPts (I : Finset S1600x1536.Idx) : sProp (MM F) := mskV.view.loc (V d c s) ↦[I]{qm} fm
abbrev tabPts : sProp (MM F) := tabV.view.loc (V d c s) ↦[(Finset.univ : Finset S100000x128.Idx)]{qt} ft
abbrev lstPts (I : Finset S4800.Idx) : sProp (MM F) := lstV.view.loc (V d c s) ↦[I]{ql} fl
abbrev outPts (I : Finset S25600x128.Idx) (f : S25600x128.Idx → F .f32) : sProp (MM F) := outV.view.loc (V d c s) ↦[I]{fullShare} f

/-- The slot's shares of the masks, of the table and of the tile's list. -/
def shares : sProp (MM F) := iprop(mskPts d c s qm fm Finset.univ ∗ tabPts d c s qt ft ∗ lstPts d c s ql fl Finset.univ)
/-- The slot's two cells of the copies into it, at zero. -/
def cells : sProp (MM F) := iprop(semVal (V d c s, .dma (semB b hb cc1_scratch5)) 0 ∗ semVal (V d c s, .dma (semB b hb cc1_scratch4)) 0)
/-- Nothing is on its way into the slot. -/
def idle : sProp (MM F) :=
  iprop((∃ f, mPts d c s b f) ∗ (∃ f, rPts d c s b f) ∗ shares d c s qm qt ql fm ft fl ∗ cells d c s b hb)
/-- The slot holds chunk `q`'s masks and rows. -/
def ready (g : Fin 1600) (q : Fin 50) : sProp (MM F) :=
  iprop(mPts d c s b (mskOf fm g) ∗ rPts d c s b (rowsOf ft fl q) ∗ shares d c s qm qt ql fm ft fl ∗ cells d c s b hb)
/-- Chunk `q`'s masks and rows are on their way into the slot. -/
def coming (g : Fin 1600) (q : Fin 50) : sProp (MM F) :=
  iprop(Flight countersEmb (V d c s) (.dma (semB b hb cc1_scratch5)) (default : HIx 1) (maskB mV b hb).view.dmaCredit
      iprop(mPts d c s b (mskOf fm g) ∗ mskPts d c s qm fm (mskRow g.val))
    ∗ mskPts d c s qm fm (Finset.univ \ mskRow g.val)
    ∗ Flight countersEmb (V d c s) (.dma (semB b hb cc1_scratch4)) (default : HIx 1) (rowsB rV b hb).view.dmaCredit
      iprop(rPts d c s b (rowsOf ft fl q) ∗ tabPts d c s qt ft ∗ lstPts d c s ql fl (lstSeg q.val))
    ∗ lstPts d c s ql fl (Finset.univ \ lstSeg q.val))

/-- The amount of a gather into a slot is the amount its wait names. -/
theorem gather_amount : ∀ h : S100000x128.Gathers 0 S96x128,
    ∑ j, ((rowsB rV b hb).slice (S96x128.rowRect h.axis' j) (S96x128.stride_rowRect h.axis' j)).view.dmaCredit = (rowsB rV b hb).view.dmaCredit := by
  intro h
  interval_cases b <;> revert h hb <;> decide

/-- Requesting a chunk's masks and rows into an idle slot. -/
theorem issue_wp (hfl : ∀ j, (fl j).toNat < 100000) (g : Fin 1600) (q : Fin 50) (offM : Fin 2 → ℕ) (hM : ∀ a, offM a + S1x1536.size a ≤ S1600x1536.size a)
    (offI : Fin 1 → ℕ) (hI : ∀ a, offI a + S96.size a ≤ S4800.size a) (eM : offM = ![g.val, 0]) (eI : offI = ![96 * q.val]) :
    idle d c s qm qt ql fm ft fl b hb
      ⊢ Run d c s (issue mskV tabV lstV mV rV cc1_scratch4 cc1_scratch5 b hb offM hM offI hI) fun _ => coming d c s qm qt ql fm ft fl b hb g q := by
  subst eM eI
  unfold idle shares cells coming issue
  iintro ⟨⟨%f7, Hm⟩, ⟨%f8, Hr⟩, ⟨Hmsk, Ht, Hl⟩, Hv5, Hv4⟩
  ihave Hmsk := (pointsTo_split_subset (q := qm) (f := fm) (Finset.subset_univ (mskRow g.val))).1 $$ Hmsk
  icases Hmsk with ⟨Hmsk, Hmsk'⟩
  ihave Hl := (pointsTo_split_subset (q := ql) (f := fl) (Finset.subset_univ (lstSeg q.val))).1 $$ Hl
  icases Hl with ⟨Hl, Hl'⟩
  iapply (Transfers.wp_dmaLocal countersEmb 𝒱₀ (V d c s) none (src := maskRow mskV ![g.val, 0] hM) (dst := maskB mV b hb) (q := qm) (fs := fm) (Sd := mSet b) (fd := f7)
    (default : HIx 1) (maskB mV b hb).view.dmaCredit rfl (View.dmaCredit_pos _ (by decide)) (maskB_set b hb).subset) $$ [Hmsk Hm Hv5]
  · isplitl [Hmsk]; · rw [maskRow_set]; iexact Hmsk
    isplitl [Hm]; · iexact Hm
    iexact Hv5
  iintro HfM
  iapply (run_ret d c s _ _)
  iapply (SparseCore.wp_indirectGatherLocal countersEmb 𝒱₀ (V d c s) none (src := tableAll tabV) (dst := rowsB rV b hb) (hg := gathers_S100000x128_S96x128)
    (offs := idxList lstV ![96 * q.val] hI) (q := qt) (qo := ql) (fs := ft) (fd := f8) (fo := fl)
    (default : HIx 1) (rowsB rV b hb).view.dmaCredit (gather_amount b hb _) (by decide) (fun x => hfl _)) $$ [Ht Hr Hl Hv4]
  · isplitl [Ht]; · rw [tableAll_set]; iexact Ht
    isplitl [Hr]; · rw [rowsB_set]; iexact Hr
    isplitl [Hl]; · rw [idxList_set]; iexact Hl
    iexact Hv4
  iintro HfG
  iapply (le_wp_ret _ _)
  isplitl [HfM]
  · iapply (Transfers.Flight_mono _ _ (BIClass.sep_mono (Entails.of_eq (pointsTo_congr fun j hj => mask_landed b hb g.val g.isLt hM fm f7 j hj)) (Entails.of_eq (by rw [maskRow_set])))) $$ HfM
  isplitl [Hmsk']; · iexact Hmsk'
  isplitl [HfG]
  · rw [tableAll_set, idxList_set, rowsB_set]
    iapply (Transfers.Flight_mono _ _ (BIClass.sep_mono (Entails.of_eq (pointsTo_congr fun j hj => rows_landed b hb q.val q.isLt hI ft fl _ _ f8 j hj)) .rfl)) $$ HfG
  iexact Hl'

/-- Waiting for a chunk's masks and rows. -/
theorem waitIn_wp (g : Fin 1600) (q : Fin 50) :
    iprop(coming d c s qm qt ql fm ft fl b hb g q ∗ Ow d c s O W)
      ⊢ Run d c s (waitIn mskV tabV mV rV cc1_scratch4 cc1_scratch5 b hb) fun _ => iprop(ready d c s qm qt ql fm ft fl b hb g q ∗ Ow d c s O W) := by
  unfold coming ready shares cells waitIn
  iintro ⟨⟨HfM, Hmsk', HfG, Hl'⟩, HO⟩
  iapply (wait_wp d c s O W (semB b hb cc1_scratch5) (maskRow mskV ![0, 0] inb_S1600x1536_S1x1536_0_0) (maskB mV b hb) ((View.wordExact_bits rfl).reshape _ _) ((View.wordExact_bits rfl).reshape _ _) rfl _ _ _) $$ [HfM HO]; · isplitl [HfM] <;> iassumption
  iintro ⟨⟨Hm, Hmsk⟩, Hv5, HO⟩
  unfold SparseCore.waitIndirectGather
  iapply (wait_wp d c s O W (semB b hb cc1_scratch4) (tableAll tabV) (rowsB rV b hb) (View.wordExact_bits rfl) ((View.wordExact_bits rfl).reshape _ _) rfl _ _ _) $$ [HfG HO]; · isplitl [HfG] <;> iassumption
  iintro ⟨⟨Hr, Ht, Hl⟩, Hv4, HO⟩
  iapply (le_wp_ret _ _)
  isplitr [HO]; swap; · iexact HO
  isplitl [Hm]; · iexact Hm
  isplitl [Hr]; · iexact Hr
  isplitl [Hmsk Hmsk' Ht Hl Hl']
  · isplitl [Hmsk Hmsk']
    · iapply (pointsTo_split_subset (q := qm) (f := fm) (Finset.subset_univ (mskRow g.val))).2
      isplitl [Hmsk] <;> iassumption
    isplitl [Ht]; · iexact Ht
    iapply (pointsTo_split_subset (q := ql) (f := fl) (Finset.subset_univ (lstSeg q.val))).2
    isplitl [Hl] <;> iassumption
  isplitl [Hv5] <;> iassumption

/-- A slot's sums' buffer and its cell, at rest; on their way out to chunk `g`'s rows of the result. -/
def still : sProp (MM F) := iprop((∃ f, aPts d c s b f) ∗ semVal (V d c s, .dma (semB b hb cc1_scratch6)) 0)
def going (g : ℕ) : sProp (MM F) :=
  Flight countersEmb (V d c s) (.dma (semB b hb cc1_scratch6)) (default : HIx 1) (outBlock outV ![0, 0] inb_S25600x128_S16x128_0_0).view.dmaCredit
    iprop(outPts d c s (outRows g (g + 1)) (target fi fm ft) ∗ ∃ f, aPts d c s b f)

/-- Waiting for a slot's sums to be out. -/
theorem waitOut_wp (g : ℕ) :
    iprop(going d c s fi fm ft b hb g ∗ Ow d c s O W)
      ⊢ Run d c s (waitOut outV aV cc1_scratch6 b hb) fun _ => iprop(still d c s b hb ∗ outPts d c s (outRows g (g + 1)) (target fi fm ft) ∗ Ow d c s O W) := by
  unfold going still waitOut
  iintro ⟨Hf, HO⟩
  iapply (wait_wp d c s O W (semB b hb cc1_scratch6) (accB aV b hb) (outBlock outV ![0, 0] inb_S25600x128_S16x128_0_0) ((View.wordExact_bits rfl).reshape _ _) (View.wordExact_bits rfl) rfl _ _ _) $$ [Hf HO]; · isplitl [Hf] <;> iassumption
  iintro ⟨⟨Ho, Ha⟩, Hv, HO⟩
  iapply (le_wp_ret _ _)
  isplitl [Ha Hv]; · isplitl [Ha] <;> iassumption
  isplitl [Ho] <;> iassumption

/-- Sending a slot's sums out to chunk `q` of tile `w`. -/
theorem sendOut_wp (w q : ℕ) (hw : w < 32) (hq : q < 50) (hfl : fl = fun j => fi (ix2 (⟨w, hw⟩ : Fin 32) (j 0))) (fo : S25600x128.Idx → F .f32)
    (off : Fin 2 → ℕ) (h : ∀ a, off a + S16x128.size a ≤ S25600x128.size a) (e : off = ![16 * (50 * w + q), 0]) :
    iprop(aPts d c s b (pooled (mskOf fm ⟨50 * w + q, by omega⟩) (rowsOf ft fl ⟨q, hq⟩)) ∗ semVal (V d c s, .dma (semB b hb cc1_scratch6)) 0
        ∗ outPts d c s (outRows (50 * w + q) (50 * w + q + 1)) fo)
      ⊢ Run d c s (sendOut outV aV cc1_scratch6 b hb off h) fun _ => going d c s fi fm ft b hb (50 * w + q) := by
  subst e hfl
  unfold going sendOut
  iintro ⟨Ha, Hv, Ho⟩
  iapply (Transfers.wp_dmaLocal countersEmb 𝒱₀ (V d c s) none (src := accB aV b hb) (dst := outBlock outV ![16 * (50 * w + q), 0] h) (q := fullShare)
    (Sd := outRows (50 * w + q) (50 * w + q + 1)) (fd := fo)
    (default : HIx 1) (outBlock outV ![0, 0] inb_S25600x128_S16x128_0_0).view.dmaCredit rfl (View.dmaCredit_pos _ (by decide)) (outBlock_set _ h).subset) $$ [Ha Ho Hv]
  · isplitl [Ha]; · rw [accB_set]; iexact Ha
    isplitl [Ho]; · iexact Ho
    iexact Hv
  iintro Hf
  iapply (le_wp_ret _ _)
  refine Transfers.Flight_mono _ _ (BIClass.sep_mono (Entails.of_eq (pointsTo_congr fun j hj => out_landed b hb w q hw hq h fi fm ft fo j hj)) ?_)
  rw [accB_set]
  iintro H
  iexists _
  iexact H

end
end Cert.KernelIdeal.SC

end
-- ==== Proof.KernelIdeal.TripLow.lean ====
/-
  The printed trip of the tiles' loop is the structured one (`Trip.trip`), for the trips from 0 to 11: at each
  literal trip the conditions compute, and the two programs are equal by definition.
-/
module
public import proofs.«01_k».proof.Proof.KernelIdeal.Trip
import Mathlib.Tactic.IntervalCases

@[expose] public section
noncomputable section
namespace Cert.KernelIdeal.Trip
open Cert.KernelIdeal Cert.KernelIdeal.Gen Idealize.ShloMosaic Idealize.SL.Sem
variable {F : FTy → Type} [FloatOps F]
section
variable (i : grid1.Coords) (arg2 : Memref sig .scVector .hbm S32x4800 .i32) (harg2 : arg2.IsWhole) (arg3 : Memref sig .scVector .hbm S1600x1536 .f32) (harg3 : arg3.IsWhole) (arg4 : Memref sig .scVector .hbm S100000x128 .f32) (harg4 : arg4.IsWhole) (arg5 : Memref sig .scVector .hbm S25600x128 .f32) (harg5 : arg5.IsWhole) (arg6 : Memref sig .scVector .vmem S4800 .i32) (harg6 : arg6.IsWhole) (arg7 : Memref sig .scVector .vmem S2x1536 .f32) (harg7 : arg7.IsWhole) (arg8 : Memref sig .scVector .vmem S2x96x128 .f32) (harg8 : arg8.IsWhole) (arg9 : Memref sig .scVector .vmem S2x16x128 .f32) (harg9 : arg9.IsWhole) (arg10 : DmaSems sig S2) (arg11 : DmaSems sig S2) (arg12 : DmaSems sig S2) (v55_r0 : DmaSems sig S_)
set_option maxRecDepth 65536
set_option maxHeartbeats 0 in
set_option smartUnfolding false in
/-- Every trip `k` with `0 ≤ k < 12`, as printed, is the structured trip. -/
theorem tripLow_eq (v2 : BitVec 32) (acc : BitVec 32) : (n : ℕ) → 0 ≤ n → n < 12 → (h : n < k1_t1_loop.trips) →
    k1_t1_body (F := F) i arg2 harg2 arg3 harg3 arg4 harg4 arg5 harg5 arg6 harg6 arg7 harg7 arg8 harg8 arg9 harg9 arg10 arg11 arg12 v55_r0 v2 ⟨n, h⟩ acc = trip i arg3 arg4 arg5 arg6 arg7 arg8 arg9 arg10 arg11 arg12 ⟨n, h⟩ := by
  intro n hlo hhi h
  interval_cases n <;> rfl
end
end Cert.KernelIdeal.Trip
end
-- ==== Proof.KernelIdeal.TripHigh.lean ====
/-
  The printed trip of the tiles' loop is the structured one (`Trip.trip`), for the trips from 12 to 24: at each
  literal trip the conditions compute, and the two programs are equal by definition.
-/
module
public import proofs.«01_k».proof.Proof.KernelIdeal.Trip
import Mathlib.Tactic.IntervalCases

@[expose] public section
noncomputable section
namespace Cert.KernelIdeal.Trip
open Cert.KernelIdeal Cert.KernelIdeal.Gen Idealize.ShloMosaic Idealize.SL.Sem
variable {F : FTy → Type} [FloatOps F]
section
variable (i : grid1.Coords) (arg2 : Memref sig .scVector .hbm S32x4800 .i32) (harg2 : arg2.IsWhole) (arg3 : Memref sig .scVector .hbm S1600x1536 .f32) (harg3 : arg3.IsWhole) (arg4 : Memref sig .scVector .hbm S100000x128 .f32) (harg4 : arg4.IsWhole) (arg5 : Memref sig .scVector .hbm S25600x128 .f32) (harg5 : arg5.IsWhole) (arg6 : Memref sig .scVector .vmem S4800 .i32) (harg6 : arg6.IsWhole) (arg7 : Memref sig .scVector .vmem S2x1536 .f32) (harg7 : arg7.IsWhole) (arg8 : Memref sig .scVector .vmem S2x96x128 .f32) (harg8 : arg8.IsWhole) (arg9 : Memref sig .scVector .vmem S2x16x128 .f32) (harg9 : arg9.IsWhole) (arg10 : DmaSems sig S2) (arg11 : DmaSems sig S2) (arg12 : DmaSems sig S2) (v55_r0 : DmaSems sig S_)
set_option maxRecDepth 65536
set_option maxHeartbeats 0 in
set_option smartUnfolding false in
/-- Every trip `k` with `12 ≤ k < 25`, as printed, is the structured trip. -/
theorem tripHigh_eq (v2 : BitVec 32) (acc : BitVec 32) : (n : ℕ) → 12 ≤ n → n < 25 → (h : n < k1_t1_loop.trips) →
    k1_t1_body (F := F) i arg2 harg2 arg3 harg3 arg4 harg4 arg5 harg5 arg6 harg6 arg7 harg7 arg8 harg8 arg9 harg9 arg10 arg11 arg12 v55_r0 v2 ⟨n, h⟩ acc = trip i arg3 arg4 arg5 arg6 arg7 arg8 arg9 arg10 arg11 arg12 ⟨n, h⟩ := by
  intro n hlo hhi h
  interval_cases n <;> rfl
end
end Cert.KernelIdeal.Trip
end
-- ==== Proof.KernelIdeal.Loop.lean ====
/-
  The tile's loop: one chunk run in its slot, a trip of two chunks, and the trips from the first to the last.
-/
module

public import proofs.«01_k».proof.Proof.KernelIdeal.Slot
public import proofs.«01_k».proof.Proof.KernelIdeal.TripLow
public import proofs.«01_k».proof.Proof.KernelIdeal.TripHigh
public import Idealize.ShloMosaic.Lib.Scf

@[expose] public section

noncomputable section

namespace Cert.KernelIdeal.SC

open Cert.KernelIdeal Cert.KernelIdeal.Gen Cert.KernelIdeal.Trip
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section
variable (d : Dev nD) (c : Fin τ.nSC) (s : Fin τ.nSub)
variable (O : CellTallies nD τ sig (HIx 1)) (W : Waits sig (HIx 1))
variable (qm qt ql : PosShare TreeShare)
variable (fi : S32x4800.Idx → BitVec 32) (fm : S1600x1536.Idx → F .f32) (ft : S100000x128.Idx → F .f32) (fl : S4800.Idx → BitVec 32)
  (fo : S25600x128.Idx → F .f32)
variable (w : ℕ) (hw : w < 32)
variable (b : ℕ) (hb : b < 2)

/-- What holds at the end of a program that is done. -/
theorem run_done (R : sProp (MM F)) : R ⊢ Run d c s (.ret ⟨⟩ : Prog (TE F c s) PUnit) fun _ => R := by
  iintro H
  iapply (le_wp_ret _ _)
  iexact H

/-- The half of a share that a slot holds. -/
def half (q : PosShare TreeShare) (b : ℕ) : PosShare TreeShare := if b = 0 then q.left else q.right

/-- Rows of the result held together are the rows up to a chunk and those from it. -/
theorem outPts_split (f : S25600x128.Idx → F .f32) {lo mid hi : ℕ} (h₁ : lo ≤ mid) (h₂ : mid ≤ hi) :
    outPts d c s (outRows lo hi) f = iprop(outPts d c s (outRows lo mid) f ∗ outPts d c s (outRows mid hi) f) := by
  have e : outRows lo hi = outRows lo mid ∪ outRows mid hi := by
    ext i
    rw [Finset.mem_union, mem_outRows, mem_outRows, mem_outRows]
    omega
  have hd : Disjoint (outRows lo mid) (outRows mid hi) := by
    rw [Finset.disjoint_left]
    intro i h h'
    have := mem_outRows.mp h
    have := mem_outRows.mp h'
    omega
  rw [e]
  exact BI.Entails.antisymm (pointsTo_union hd).1 (pointsTo_union hd).2

theorem outPts_none (f : S25600x128.Idx → F .f32) (lo hi : ℕ) (h : hi ≤ lo) : outPts d c s (outRows lo hi) f = (iprop(emp) : sProp (MM F)) := by
  have e : outRows lo hi = ∅ := by
    ext i
    rw [mem_outRows]
    simp
    omega
  rw [e]
  exact pointsTo_empty

/-- Before trip `k` the slot's next chunk is on its way in, if there is one. -/
def comeK (k : ℕ) : sProp (MM F) :=
  if h : k < 25 then coming d c s (half qm b) (half qt b) (half ql b) fm ft fl b hb ⟨50 * w + (2 * k + b), by omega⟩ ⟨2 * k + b, by omega⟩
  else idle d c s (half qm b) (half qt b) (half ql b) fm ft fl b hb
/-- Before trip `k` the slot's chunk of the trip before is on its way out, if there is one. -/
def goK (k : ℕ) : sProp (MM F) := if k = 0 then still d c s b hb else going d c s fi fm ft b hb (50 * w + (2 * k + b - 2))
/-- What trip `k` finds out of the slot: the rows of the chunk of the trip before. -/
def gotK (k : ℕ) : sProp (MM F) := if k = 0 then iprop(emp) else outPts d c s (outRows (50 * w + (2 * k + b - 2)) (50 * w + (2 * k + b - 1))) (target fi fm ft)

theorem outStep_wp (k : ℕ) (n : Prop) [Decidable n] (hn : n ↔ k ≠ 0) :
    iprop(goK d c s fi fm ft w b hb k ∗ Ow d c s O W)
      ⊢ Run d c s (if n then waitOut outV aV cc1_scratch6 b hb else .ret ⟨⟩) fun _ => iprop(still d c s b hb ∗ gotK d c s fi fm ft w b k ∗ Ow d c s O W) := by
  unfold goK gotK
  by_cases h : k = 0
  · rw [if_pos h, if_pos h, if_neg (by rw [hn]; simpa using h)]
    iintro ⟨Hs, HO⟩
    iapply (run_done d c s _)
    isplitl [Hs]; · iexact Hs
    isplitr; · iempintro
    iexact HO
  · rw [if_neg h, if_neg h, if_pos (hn.mpr h)]
    have e : 50 * w + (2 * k + b - 1) = 50 * w + (2 * k + b - 2) + 1 := by omega
    rw [e]
    exact waitOut_wp d c s O W fi fm ft b hb _

theorem inStep_wp (hfl : ∀ j, (fl j).toNat < 100000) (k : ℕ) (n : Prop) [Decidable n] (hn : n ↔ k + 1 < 25)
    (offM : Fin 2 → ℕ) (hM : n → ∀ a, offM a + S1x1536.size a ≤ S1600x1536.size a)
    (offI : Fin 1 → ℕ) (hI : n → ∀ a, offI a + S96.size a ≤ S4800.size a)
    (eM : offM = ![50 * w + (2 * k + b + 2), 0]) (eI : offI = ![96 * (2 * k + b + 2)]) :
    idle d c s (half qm b) (half qt b) (half ql b) fm ft fl b hb
      ⊢ Run d c s (if h : n then issue mskV tabV lstV mV rV cc1_scratch4 cc1_scratch5 b hb offM (hM h) offI (hI h) else .ret ⟨⟩)
        fun _ => comeK d c s qm qt ql fm ft fl w hw b hb (k + 1) := by
  unfold comeK
  by_cases h : k + 1 < 25
  · rw [dif_pos h, dif_pos (hn.mpr h)]
    refine issue_wp d c s _ _ _ fm ft fl b hb hfl _ _ offM _ offI _ ?_ ?_
    · rw [eM, show 50 * w + (2 * k + b + 2) = 50 * w + (2 * (k + 1) + b) by omega]
    · rw [eI, show 2 * k + b + 2 = 2 * (k + 1) + b by omega]
  · rw [dif_neg h, dif_neg (by rw [hn]; exact h)]
    exact run_done d c s _

theorem slot_seq (p n : Prop) [Decidable p] [Decidable n] (offO : Fin 2 → ℕ) (hO : ∀ a, offO a + S16x128.size a ≤ S25600x128.size a)
    (offM : Fin 2 → ℕ) (hM : n → ∀ a, offM a + S1x1536.size a ≤ S1600x1536.size a)
    (offI : Fin 1 → ℕ) (hI : n → ∀ a, offI a + S96.size a ≤ S4800.size a) :
    (slot mskV tabV outV lstV mV rV aV cc1_scratch4 cc1_scratch5 cc1_scratch6 b hb p n offO hO offM hM offI hI : Prog (TE F c s) PUnit)
      = waitIn mskV tabV mV rV cc1_scratch4 cc1_scratch5 b hb >>= fun _ =>
          (if p then waitOut outV aV cc1_scratch6 b hb else .ret ⟨⟩) >>= fun _ =>
          Trip.pool mV rV aV b hb >>= fun _ =>
          sendOut outV aV cc1_scratch6 b hb offO hO >>= fun _ =>
          (if h : n then issue mskV tabV lstV mV rV cc1_scratch4 cc1_scratch5 b hb offM (hM h) offI (hI h) else .ret ⟨⟩) := by
  unfold slot
  by_cases hp : p
  · simp only [if_pos hp]
  · simp only [if_neg hp]

attribute [local irreducible] Trip.pool waitIn waitOut sendOut issue in
/-- One chunk in its slot. -/
theorem slot_wp (hfl : ∀ j, (fl j).toNat < 100000) (efl : fl = fun j => fi (ix2 (⟨w, hw⟩ : Fin 32) (j 0))) (k : ℕ) (hk : k < 25)
    (p n : Prop) [Decidable p] [Decidable n] (hp : p ↔ k ≠ 0) (hn : n ↔ k + 1 < 25)
    (offO : Fin 2 → ℕ) (hO : ∀ a, offO a + S16x128.size a ≤ S25600x128.size a)
    (offM : Fin 2 → ℕ) (hM : n → ∀ a, offM a + S1x1536.size a ≤ S1600x1536.size a)
    (offI : Fin 1 → ℕ) (hI : n → ∀ a, offI a + S96.size a ≤ S4800.size a)
    (eO : offO = ![16 * (50 * w + (2 * k + b)), 0])
    (eM : offM = ![50 * w + (2 * k + b + 2), 0]) (eI : offI = ![96 * (2 * k + b + 2)]) :
    iprop(comeK d c s qm qt ql fm ft fl w hw b hb k ∗ goK d c s fi fm ft w b hb k
        ∗ outPts d c s (outRows (50 * w + (2 * k + b)) (50 * w + (2 * k + b) + 1)) fo ∗ Ow d c s O W)
      ⊢ Run d c s (slot mskV tabV outV lstV mV rV aV cc1_scratch4 cc1_scratch5 cc1_scratch6 b hb p n offO hO offM hM offI hI)
        fun _ => iprop(comeK d c s qm qt ql fm ft fl w hw b hb (k + 1) ∗ goK d c s fi fm ft w b hb (k + 1)
          ∗ gotK d c s fi fm ft w b k ∗ Ow d c s O W) := by
  rw [slot_seq]
  rw [show comeK d c s qm qt ql fm ft fl w hw b hb k
    = coming d c s (half qm b) (half qt b) (half ql b) fm ft fl b hb ⟨50 * w + (2 * k + b), by omega⟩ ⟨2 * k + b, by omega⟩ from dif_pos hk]
  rw [show goK d c s fi fm ft w b hb (k + 1) = going d c s fi fm ft b hb (50 * w + (2 * k + b)) from
    (if_neg (Nat.succ_ne_zero k)).trans (by congr 2; omega)]
  iintro ⟨Hc, Hg, Ho, HO⟩
  iapply (run_seq d c s (waitIn_wp d c s O W (half qm b) (half qt b) (half ql b) fm ft fl b hb _ _) _ _) $$ [Hc HO]; · isplitl [Hc] <;> iassumption
  iintro ⟨Hr, HO⟩ %u
  iapply (run_seq d c s (outStep_wp d c s O W fi fm ft w b hb k p hp) _ _) $$ [Hg HO]; · isplitl [Hg] <;> iassumption
  iintro ⟨Hs, Hgot, HO⟩ %u
  unfold ready still
  icases Hr with ⟨Hm, Hr, Hsh, Hcl⟩
  icases Hs with ⟨⟨%f9, Ha⟩, Hv⟩
  iapply (run_seq d c s (pool_wp d c s b hb _ _ f9) _ _) $$ [Hm Hr Ha]
  · isplitl [Hm]; · iexact Hm
    isplitl [Hr]; · iexact Hr
    iexact Ha
  iintro ⟨Hm, Hr, Ha⟩ %u
  iapply (run_seq d c s (sendOut_wp d c s fi fm ft fl b hb w (2 * k + b) hw (by omega) efl fo offO hO eO) _ _) $$ [Ha Hv Ho]
  · isplitl [Ha]; · iexact Ha
    isplitl [Hv] <;> iassumption
  iintro Hg %u
  iapply (run_ret d c s _ _)
  iapply (run_seq d c s (inStep_wp d c s qm qt ql fm ft fl w hw b hb hfl k n hn offM hM offI hI eM eI) _ _) $$ [Hm Hr Hsh Hcl]
  · unfold idle
    isplitl [Hm]; · iexists _; iexact Hm
    isplitl [Hr]; · iexists _; iexact Hr
    isplitl [Hsh] <;> iassumption
  iintro Hc %u
  iapply (run_done d c s _)
  isplitl [Hc]; · iexact Hc
  isplitl [Hg]; · iexact Hg
  isplitl [Hgot] <;> iassumption

/-- The rows of the chunks done before a trip, with those the trip finds out, are those done before the next. -/
theorem got_join (k : ℕ) :
    iprop(outPts d c s (outRows (50 * w) (50 * w + (2 * k - 2))) (target fi fm ft) ∗ gotK d c s fi fm ft w 0 k ∗ gotK d c s fi fm ft w 1 k)
      ⊢ outPts d c s (outRows (50 * w) (50 * w + (2 * (k + 1) - 2))) (target fi fm ft) := by
  unfold gotK
  by_cases h : k = 0
  · rw [if_pos h, if_pos h, outPts_none d c s _ _ (50 * w + (2 * (k + 1) - 2)) (by omega), outPts_none d c s _ _ (50 * w + (2 * k - 2)) (by omega)]
    iintro _
    iempintro
  · rw [if_neg h, if_neg h, outPts_split d c s _ (lo := 50 * w) (mid := 50 * w + (2 * k - 2)) (hi := 50 * w + (2 * (k + 1) - 2)) (by omega) (by omega),
      outPts_split d c s _ (lo := 50 * w + (2 * k - 2)) (mid := 50 * w + (2 * k - 1)) (hi := 50 * w + (2 * (k + 1) - 2)) (by omega) (by omega),
      show 50 * w + (2 * k + 1 - 2) = 50 * w + (2 * k - 1) by omega, show 50 * w + (2 * k + 1 - 1) = 50 * w + (2 * (k + 1) - 2) by omega,
      show 50 * w + (2 * k + 0 - 2) = 50 * w + (2 * k - 2) by omega, show 50 * w + (2 * k + 0 - 1) = 50 * w + (2 * k - 1) by omega]

/-- Before trip `k`. -/
def Inv (k : ℕ) : sProp (MM F) :=
  iprop((comeK d c s qm qt ql fm ft fl w hw 0 Nat.zero_lt_two k ∗ comeK d c s qm qt ql fm ft fl w hw 1 Nat.one_lt_two k)
    ∗ (goK d c s fi fm ft w 0 Nat.zero_lt_two k ∗ goK d c s fi fm ft w 1 Nat.one_lt_two k)
    ∗ outPts d c s (outRows (50 * w + 2 * k) (50 * w + 50)) fo
    ∗ outPts d c s (outRows (50 * w) (50 * w + (2 * k - 2))) (target fi fm ft)
    ∗ Ow d c s O W)

end

section
variable (d : Dev nD) (i : grid1.Coords)
variable (O : CellTallies nD τ sig (HIx 1)) (W : Waits sig (HIx 1))
variable (qm qt ql : PosShare TreeShare)
variable (fi : S32x4800.Idx → BitVec 32) (fm : S1600x1536.Idx → F .f32) (ft : S100000x128.Idx → F .f32) (fl : S4800.Idx → BitVec 32)
  (fo : S25600x128.Idx → F .f32)

/-- The tile's SparseCore and its number in it; its number among all the tiles. -/
abbrev cI : Fin τ.nSC := (i 0).castLE hcore1
abbrev sI : Fin τ.nSub := (i 1).castLE hsub1
abbrev wI : ℕ := 2 * (i 1).val + (i 0).val
theorem wI_lt : wI i < 32 := by
  have h0 : (i 0).val < 2 := (i 0).isLt
  have h1 : (i 1).val < 16 := (i 1).isLt
  unfold wI; omega

theorem trips_eq : k1_t1_loop.trips = 25 := by decide

theorem cW0 : ∀ k : Fin k1_t1_loop.trips, cW (chunkB k 0#32) = 1#1 ↔ k.val ≠ 0 := by decide
theorem cW1 : ∀ k : Fin k1_t1_loop.trips, cW (chunkB k 1#32) = 1#1 ↔ k.val ≠ 0 := by decide
theorem cN0 : ∀ k : Fin k1_t1_loop.trips, k1_cond2 k = 1#1 ↔ k.val + 1 < 25 := by decide
theorem cN1 : ∀ k : Fin k1_t1_loop.trips, k1_cond4 k = 1#1 ↔ k.val + 1 < 25 := by decide

/-- One trip: a chunk in each slot. -/
theorem trip_wp (hfl : ∀ j, (fl j).toNat < 100000) (efl : fl = fun j => fi (ix2 (⟨wI i, wI_lt i⟩ : Fin 32) (j 0))) (k : Fin k1_t1_loop.trips) :
    Inv d (cI i) (sI i) O W qm qt ql fi fm ft fl fo (wI i) (wI_lt i) k.val
      ⊢ Run d (cI i) (sI i) (trip i mskV tabV outV lstV mV rV aV cc1_scratch4 cc1_scratch5 cc1_scratch6 k)
        (fun _ => Inv d (cI i) (sI i) O W qm qt ql fi fm ft fl fo (wI i) (wI_lt i) (k.val + 1)) := by
  have hk : k.val < 25 := trips_eq ▸ k.isLt
  have h0 : (i 0).val < 2 := (i 0).isLt
  have h1 : (i 1).val < 16 := (i 1).isLt
  unfold trip Inv
  rw [outPts_split d _ _ fo (lo := 50 * wI i + 2 * k.val) (mid := 50 * wI i + (2 * k.val + 0) + 1) (hi := 50 * wI i + 50) (by omega) (by omega),
    outPts_split d _ _ fo (lo := 50 * wI i + (2 * k.val + 0) + 1) (mid := 50 * wI i + 2 * (k.val + 1)) (hi := 50 * wI i + 50) (by omega) (by omega)]
  iintro ⟨⟨Hc0, Hc1⟩, ⟨Hg0, Hg1⟩, ⟨Ho0, Ho1, Ho⟩, Hd, HO⟩
  iapply (run_seq d _ _ (slot_wp d (cI i) (sI i) O W qm qt ql fi fm ft fl fo (wI i) (wI_lt i) 0 (by omega) hfl efl k.val hk _ _ (cW0 k) (cN0 k)
    _ (k1_off3_inb i k 0) _ (k1_off4_inb i k) _ (k1_off5_inb k)
    ((k1_off3_eq i k 0).trans (by congr 1; simp [wI]; omega)) ((k1_off4_eq i k).trans (by congr 1; simp [wI]; omega)) ((k1_off5_eq k).trans (by congr 1; omega))) _ _) $$ [Hc0 Hg0 Ho0 HO]
  · isplitl [Hc0]; · iexact Hc0
    isplitl [Hg0]; · iexact Hg0
    isplitl [Ho0]; · iexact Ho0
    iexact HO
  iintro ⟨Hc0, Hg0, Ht0, HO⟩ %u
  iapply (run_seq d _ _ (slot_wp d (cI i) (sI i) O W qm qt ql fi fm ft fl fo (wI i) (wI_lt i) 1 (by omega) hfl efl k.val hk _ _ (cW1 k) (cN1 k)
    _ (k1_off3_inb i k 1) _ (k1_off6_inb i k) _ (k1_off7_inb k)
    ((k1_off3_eq i k 1).trans (by congr 1; simp [wI]; omega)) ((k1_off6_eq i k).trans (by congr 1; simp [wI]; omega)) ((k1_off7_eq k).trans (by congr 1; omega))) _ _) $$ [Hc1 Hg1 Ho1 HO]
  · isplitl [Hc1]; · iexact Hc1
    isplitl [Hg1]; · iexact Hg1
    isplitl [Ho1]; · iexact Ho1
    iexact HO
  iintro ⟨Hc1, Hg1, Ht1, HO⟩ %u
  iapply (le_wp_ret _ _)
  isplitl [Hc0 Hc1]; · isplitl [Hc0] <;> iassumption
  isplitl [Hg0 Hg1]; · isplitl [Hg0] <;> iassumption
  isplitl [Ho]; · iexact Ho
  isplitr [HO]; swap; · iexact HO
  iapply (got_join d (cI i) (sI i) fi fm ft (wI i) k.val)
  isplitl [Hd]; · iexact Hd
  isplitl [Ht0] <;> iassumption

/-- A trip as printed is the structured trip. -/
theorem body_eq (v2 acc : BitVec 32) (k : Fin k1_t1_loop.trips) (h2 h3 h4 h5 h6 h7 h8 h9) (v55 : DmaSems sig S_) :
    k1_t1_body (F := F) i idxV h2 mskV h3 tabV h4 outV h5 lstV h6 mV h7 rV h8 aV h9 cc1_scratch4 cc1_scratch5 cc1_scratch6 v55 v2 k acc
      = trip i mskV tabV outV lstV mV rV aV cc1_scratch4 cc1_scratch5 cc1_scratch6 k := by
  have hk : k.val < 25 := trips_eq ▸ k.isLt
  by_cases h : k.val < 12
  · exact tripLow_eq i idxV h2 mskV h3 tabV h4 outV h5 lstV h6 mV h7 rV h8 aV h9 cc1_scratch4 cc1_scratch5 cc1_scratch6 v55 v2 acc k.val (Nat.zero_le _) h k.isLt
  · exact tripHigh_eq i idxV h2 mskV h3 tabV h4 outV h5 lstV h6 mV h7 rV h8 aV h9 cc1_scratch4 cc1_scratch5 cc1_scratch6 v55 v2 acc k.val (by omega) hk k.isLt

end
end Cert.KernelIdeal.SC

end
-- ==== Proof.KernelIdeal.Tile.lean ====
/-
  What one tile does: it fetches its list of row numbers, requests its first two chunks, runs its loop and waits for its
  last two chunks to be out.
-/
module

public import proofs.«01_k».proof.Proof.KernelIdeal.Loop
public import Idealize.ShloMosaic.Lib.SparseCore.Quiescent

@[expose] public section

noncomputable section

namespace Cert.KernelIdeal.SC

open Cert.KernelIdeal Cert.KernelIdeal.Gen Cert.KernelIdeal.Trip
open Idealize.ShloMosaic Idealize.ShloMosaic.ValueIdx
open Idealize.ShloMosaic.SparseCore (S V T)
open Idealize.ShloMosaic.SparseCore.Cfg (HIx ownBufs ownSems0 ownCells ownRefs mem_ownCells mem_ownRefs)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section
variable (i : grid1.Coords)

/-- The tile's row of the lists. -/
abbrev idxRow : Memref sig .scVector .hbm S4800 .i32 :=
  (idxV.slice (Rect.unit (s := S32x4800) (k1_off1 i) S1x4800.size (k1_off1_inb i)) (fun _ => rfl)).squeeze S4800 squeezes_S1x4800_S4800

/-- The tile's program, in its steps. -/
def tileProg : Prog (TE F (cI i) (sI i)) PUnit :=
  .op (.enqueueDma (idxRow i) (.here lstV) (.dma cc1_scoped0.sem) ((View.wordExact_bits rfl).reshape _ _) (Memref.isWhole_whole _).wordExact ⟨Or.inl rfl, trivial⟩) fun _ =>
  .op (.waitDma2 cc1_scoped0.sem (idxRow i) lstV ((View.wordExact_bits rfl).reshape _ _) (Memref.isWhole_whole _).wordExact) fun _ =>
  issue mskV tabV lstV mV rV cc1_scratch4 cc1_scratch5 0 Nat.zero_lt_two (k1_off2 i 0#32) (k1_off2_inb i 0) ![0] inb_S4800_S96_0 >>= fun _ =>
  issue mskV tabV lstV mV rV cc1_scratch4 cc1_scratch5 1 Nat.one_lt_two (k1_off2 i 1#32) (k1_off2_inb i 1) ![96] inb_S4800_S96_96 >>= fun _ =>
  Scf.Loop.for k1_t1_loop k1_t1_ok 0#32 (k1_t1_body i idxV (Memref.isWhole_whole _) mskV (Memref.isWhole_whole _) tabV (Memref.isWhole_whole _) outV (Memref.isWhole_whole _)
      lstV (Memref.isWhole_whole _) mV (Memref.isWhole_whole _) rV (Memref.isWhole_whole _) aV (Memref.isWhole_whole _) cc1_scratch4 cc1_scratch5 cc1_scratch6 cc1_scoped0
      (Scalar.muli (Scalar.addi (Scalar.muli (BitVec.ofNat 32 (i 1).val) 2#32) (BitVec.ofNat 32 (i 0).val)) 50#32)) >>= fun _ =>
  waitOut outV aV cc1_scratch6 0 Nat.zero_lt_two >>= fun _ =>
  waitOut outV aV cc1_scratch6 1 Nat.one_lt_two

set_option maxRecDepth 65536 in
theorem tileProg_eq : cc1__sc_pool_body (F := F) i idxV (Memref.isWhole_whole _) mskV (Memref.isWhole_whole _) tabV (Memref.isWhole_whole _) outV (Memref.isWhole_whole _)
      lstV (Memref.isWhole_whole _) mV (Memref.isWhole_whole _) rV (Memref.isWhole_whole _) aV (Memref.isWhole_whole _) cc1_scratch4 cc1_scratch5 cc1_scratch6 cc1_scoped0
    = tileProg i := by
  rw [cc1__sc_pool_body_eq_skeleton]
  unfold cc1__sc_pool_body_skel
  rw [k1_part288_eq_skeleton, k1_part289_eq_skeleton]
  unfold k1_part288_skel k1_part289_skel tileProg
  simp only [bind_assoc]
  rfl

/-! ## The list -/

theorem idxRow_emb (x : S4800.Idx) : (idxRow i).view.emb x = (ix2 (⟨wI i, wI_lt i⟩ : Fin 32) (x 0) : S32x4800.Idx) := by
  show (Rect.unit (s := S32x4800) (k1_off1 i) S1x4800.size (k1_off1_inb i)).emb (Shape.reshapeEquiv squeezes_S1x4800_S4800.numel_eq x) = _
  rw [Shape.reshapeEquiv_cons_one]
  have e := k1_off1_eq i
  funext a
  match a with
  | 0 => exact Fin.ext (by show k1_off1 i 0 + 1 * 0 = wI i; rw [e]; unfold wI; simp)
  | 1 => exact Fin.ext (by show k1_off1 i 1 + 1 * (x 0).val = (x 0).val; rw [e]; simp)

/-- The fetch leaves the list at the tile's row. -/
theorem list_landed (fi : S32x4800.Idx → BitVec 32) (f : S4800.Idx → BitVec 32) :
    (lstV.view.write (Elt F) f ((idxRow i).view.read (Elt F) fi) Finset.univ : S4800.Idx → BitVec 32) = fun j => fi (ix2 (⟨wI i, wI_lt i⟩ : Fin 32) (j 0)) := by
  rw [View.write_whole_univ]
  funext j
  show fi ((idxRow i).view.emb j) = _
  rw [idxRow_emb]

end

/-! ## A buffer of two slots -/

theorem slots_split {ℓ : Loc nD τ sig} (A B : Finset (Idx ℓ)) (hd : Disjoint A B) (hc : A ∪ B = Finset.univ) (f : Buf (Elt F) ℓ) :
    (ℓ ↦{fullShare} f : sProp (MM F)) ⊢ iprop((ℓ ↦[A]{fullShare} f) ∗ ℓ ↦[B]{fullShare} f) := by
  rw [show (ℓ ↦{fullShare} f : sProp (MM F)) = ℓ ↦[A ∪ B]{fullShare} f by rw [hc]]
  exact (pointsTo_union hd).1
theorem slots_join {ℓ : Loc nD τ sig} (A B : Finset (Idx ℓ)) (hd : Disjoint A B) (hc : A ∪ B = Finset.univ) (f g : Buf (Elt F) ℓ) :
    iprop((ℓ ↦[A]{fullShare} f) ∗ ℓ ↦[B]{fullShare} g) ⊢ (iprop(∃ f, ℓ ↦{fullShare} f) : sProp (MM F)) := by
  have h : iprop((ℓ ↦[A]{fullShare} f) ∗ ℓ ↦[B]{fullShare} g) ⊢ (ℓ ↦{fullShare} (fun i => if i ∈ A then f i else g i) : sProp (MM F)) := by
    rw [show (ℓ ↦{fullShare} (fun i => if i ∈ A then f i else g i) : sProp (MM F)) = ℓ ↦[A ∪ B]{fullShare} (fun i => if i ∈ A then f i else g i) by rw [hc]]
    refine BI.Entails.trans (BIClass.sep_mono (Entails.of_eq (pointsTo_congr fun i hi => ?_)) (Entails.of_eq (pointsTo_congr fun i hi => ?_))) (pointsTo_union hd).2
    · rw [if_pos hi]
    · rw [if_neg fun hA => Finset.disjoint_left.mp hd hA hi]
  refine h.trans ?_
  iintro H
  iexists _
  iexact H

theorem mSet_disj : Disjoint (mSet 0) (mSet 1) := Finset.disjoint_left.mpr fun i h h' => by have := mem_mSet.mp h; have := mem_mSet.mp h'; omega
theorem rSet_disj : Disjoint (rSet 0) (rSet 1) := Finset.disjoint_left.mpr fun i h h' => by have := mem_rSet.mp h; have := mem_rSet.mp h'; omega
theorem aSet_disj : Disjoint (aSet 0) (aSet 1) := Finset.disjoint_left.mpr fun i h h' => by have := mem_aSet.mp h; have := mem_aSet.mp h'; omega
theorem mSet_cover : mSet 0 ∪ mSet 1 = Finset.univ := by
  ext i; have h : (i 0).val < 2 := (i 0).isLt; simp only [Finset.mem_union, mem_mSet, Finset.mem_univ, iff_true]; omega
theorem rSet_cover : rSet 0 ∪ rSet 1 = Finset.univ := by
  ext i; have h : (i 0).val < 2 := (i 0).isLt; simp only [Finset.mem_union, mem_rSet, Finset.mem_univ, iff_true]; omega
theorem aSet_cover : aSet 0 ∪ aSet 1 = Finset.univ := by
  ext i; have h : (i 0).val < 2 := (i 0).isLt; simp only [Finset.mem_union, mem_aSet, Finset.mem_univ, iff_true]; omega

theorem half_zero (q : PosShare TreeShare) : half q 0 = q.left := if_pos rfl
theorem half_one (q : PosShare TreeShare) : half q 1 = q.right := if_neg Nat.one_ne_zero
/-- A share held is its two slots' halves. -/
theorem halves {ℓ : Loc nD τ sig} (I : Finset (Idx ℓ)) (q : PosShare TreeShare) (f : Buf (Elt F) ℓ) :
    (ℓ ↦[I]{q} f : sProp (MM F)) = iprop((ℓ ↦[I]{half q 0} f) ∗ ℓ ↦[I]{half q 1} f) := by
  rw [half_zero, half_one]
  exact BI.Entails.antisymm (pointsTo_share (PosShare.mem_left_op_right q)).1 (pointsTo_share (PosShare.mem_left_op_right q)).2

/-! ## The tile's own buffers and cells -/

section
variable (d : Dev nD) (c : Fin τ.nSC) (s : Fin τ.nSub)

abbrev cellAt (x : DmaSem sig) : GSem nD τ sig := (V d c s, .dma x)
/-- The cells the tile's copies use. -/
def tileCells : Finset (GSem nD τ sig) :=
  {cellAt d c s cc1_scoped0.sem, cellAt d c s (semB 0 Nat.zero_lt_two cc1_scratch4), cellAt d c s (semB 1 Nat.one_lt_two cc1_scratch4),
    cellAt d c s (semB 0 Nat.zero_lt_two cc1_scratch5), cellAt d c s (semB 1 Nat.one_lt_two cc1_scratch5),
    cellAt d c s (semB 0 Nat.zero_lt_two cc1_scratch6), cellAt d c s (semB 1 Nat.one_lt_two cc1_scratch6)}
theorem cell_own (x : DmaSem sig) (h : (SemLoc.dma x : SemLoc sig).isScoped .scVector = true) : cellAt d c s x ∈ ownCells (V d c s) := mem_ownCells.mpr ⟨rfl, h⟩
theorem tileCells_own : tileCells d c s ⊆ ownCells (V d c s) := by
  intro g hg
  simp only [tileCells, Finset.mem_insert, Finset.mem_singleton] at hg
  rcases hg with rfl | rfl | rfl | rfl | rfl | rfl | rfl <;> exact cell_own d c s _ (by decide)
theorem cellAt_ne {x y : DmaSem sig} (h : x ≠ y) : cellAt d c s x ≠ cellAt d c s y := fun e => h (SemLoc.dma.inj (Prod.ext_iff.mp e).2)

theorem ownSems0_tile :
    (ownSems0 (V d c s) : sProp (MM F))
      = iprop((semVal (cellAt d c s cc1_scoped0.sem) 0 ∗ semVal (cellAt d c s (semB 0 Nat.zero_lt_two cc1_scratch4)) 0 ∗ semVal (cellAt d c s (semB 1 Nat.one_lt_two cc1_scratch4)) 0
          ∗ semVal (cellAt d c s (semB 0 Nat.zero_lt_two cc1_scratch5)) 0 ∗ semVal (cellAt d c s (semB 1 Nat.one_lt_two cc1_scratch5)) 0
          ∗ semVal (cellAt d c s (semB 0 Nat.zero_lt_two cc1_scratch6)) 0 ∗ semVal (cellAt d c s (semB 1 Nat.one_lt_two cc1_scratch6)) 0)
        ∗ bigSep (ownCells (V d c s) \ tileCells d c s) fun g => semVal g 0) := by
  unfold SparseCore.Cfg.ownSems0
  rw [SparseCore.bigSep_sdiff_split' (tileCells_own d c s)]
  congr 1
  unfold tileCells
  rw [SparseCore.bigSep_insert' (by simp only [Finset.mem_insert, Finset.mem_singleton, not_or]; exact ⟨cellAt_ne d c s (by decide), cellAt_ne d c s (by decide), cellAt_ne d c s (by decide), cellAt_ne d c s (by decide), cellAt_ne d c s (by decide), cellAt_ne d c s (by decide)⟩),
    SparseCore.bigSep_insert' (by simp only [Finset.mem_insert, Finset.mem_singleton, not_or]; exact ⟨cellAt_ne d c s (by decide), cellAt_ne d c s (by decide), cellAt_ne d c s (by decide), cellAt_ne d c s (by decide), cellAt_ne d c s (by decide)⟩),
    SparseCore.bigSep_insert' (by simp only [Finset.mem_insert, Finset.mem_singleton, not_or]; exact ⟨cellAt_ne d c s (by decide), cellAt_ne d c s (by decide), cellAt_ne d c s (by decide), cellAt_ne d c s (by decide)⟩),
    SparseCore.bigSep_insert' (by simp only [Finset.mem_insert, Finset.mem_singleton, not_or]; exact ⟨cellAt_ne d c s (by decide), cellAt_ne d c s (by decide), cellAt_ne d c s (by decide)⟩),
    SparseCore.bigSep_insert' (by simp only [Finset.mem_insert, Finset.mem_singleton, not_or]; exact ⟨cellAt_ne d c s (by decide), cellAt_ne d c s (by decide)⟩),
    SparseCore.bigSep_insert' (by simp only [Finset.mem_insert, Finset.mem_singleton, not_or]; exact cellAt_ne d c s (by decide)), bigSep_singleton]

abbrev refAt (b : Ref sig .scVector) : DevRef τ sig := (Proc.scVector c s).devRef b
/-- The tile's scratch buffers. -/
def tileRefs : Finset (DevRef τ sig) := {refAt c s cc1_scratch0, refAt c s cc1_scratch1, refAt c s cc1_scratch2, refAt c s cc1_scratch3}
theorem tileRefs_own : tileRefs c s ⊆ ownRefs (τ := τ) (.scVector c s) := by
  intro g hg
  simp only [tileRefs, Finset.mem_insert, Finset.mem_singleton] at hg
  rcases hg with rfl | rfl | rfl | rfl <;> exact SparseCore.Cfg.mem_ownRefs_of_owner (p := Proc.scVector c s) rfl
theorem refAt_ne {x y : Ref sig .scVector} (h : x ≠ y) : refAt c s x ≠ refAt c s y := fun e => h (Proc.devRef_injective _ e)

theorem ownBufs_tile :
    (ownBufs (V d c s) : sProp (MM F))
      = iprop(((∃ f, lstV.view.loc (V d c s) ↦{fullShare} f) ∗ (∃ f, mV.view.loc (V d c s) ↦{fullShare} f)
          ∗ (∃ f, rV.view.loc (V d c s) ↦{fullShare} f) ∗ ∃ f, aV.view.loc (V d c s) ↦{fullShare} f)
        ∗ bigSep (ownRefs (τ := τ) (.scVector c s) \ tileRefs c s) fun b => iprop(∃ f, ((d, b) : Loc nD τ sig) ↦{fullShare} f)) := by
  unfold SparseCore.Cfg.ownBufs
  refine (SparseCore.bigSep_sdiff_split' (tileRefs_own c s)).trans ?_
  congr 1
  unfold tileRefs
  rw [SparseCore.bigSep_insert' (by simp only [Finset.mem_insert, Finset.mem_singleton, not_or]; exact ⟨refAt_ne c s (by decide), refAt_ne c s (by decide), refAt_ne c s (by decide)⟩),
    SparseCore.bigSep_insert' (by simp only [Finset.mem_insert, Finset.mem_singleton, not_or]; exact ⟨refAt_ne c s (by decide), refAt_ne c s (by decide)⟩),
    SparseCore.bigSep_insert' (by simp only [Finset.mem_singleton]; exact refAt_ne c s (by decide)), bigSep_singleton]

end

/-! ## The program the launch sees -/

abbrev ΛP : Labels := Pipeline.Sig Λ₀ (Fin 3) fun p => (pcfgs (F := F) p).Adm
abbrev K : SparseCore.Cfg τ sig (ΛP (F := F)) 1 := sc (F := F)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The rows of the last two chunks complete the tile's rows. -/
theorem last_join (d : Dev nD) (c : Fin τ.nSC) (s : Fin τ.nSub) (fi : S32x4800.Idx → BitVec 32) (fm : S1600x1536.Idx → F .f32) (ft : S100000x128.Idx → F .f32) (w : ℕ) :
    iprop(outPts d c s (outRows (50 * w) (50 * w + (2 * 25 - 2))) (target fi fm ft)
        ∗ outPts d c s (outRows (50 * w + (2 * 25 + 0 - 2)) (50 * w + (2 * 25 + 0 - 2) + 1)) (target fi fm ft)
        ∗ outPts d c s (outRows (50 * w + (2 * 25 + 1 - 2)) (50 * w + (2 * 25 + 1 - 2) + 1)) (target fi fm ft))
      ⊢ outPts d c s (outRows (50 * w) (50 * w + 50)) (target fi fm ft) := by
  rw [outPts_split d c s _ (lo := 50 * w) (mid := 50 * w + (2 * 25 - 2)) (hi := 50 * w + 50) (by omega) (by omega),
    outPts_split d c s _ (lo := 50 * w + (2 * 25 - 2)) (mid := 50 * w + (2 * 25 - 2) + 1) (hi := 50 * w + 50) (by omega) (by omega)]

/-! ## The tile -/

section
variable (d : Dev nD) (i : grid1.Coords)
variable (O : CellTallies nD τ sig (HIx 1)) (W : Waits sig (HIx 1))
variable (q : PosShare TreeShare)
variable (fi : S32x4800.Idx → BitVec 32) (fm : S1600x1536.Idx → F .f32) (ft : S100000x128.Idx → F .f32) (fo : S25600x128.Idx → F .f32)

/-- What a tile is handed: shares of the lists, the masks and the table, and its rows of the result. -/
def tilePts (c : Fin τ.nSC) (s : Fin τ.nSub) (w : ℕ) (f : S25600x128.Idx → F .f32) : sProp (MM F) :=
  iprop((idxV.view.loc (V d c s) ↦[(Finset.univ : Finset S32x4800.Idx)]{q} fi) ∗ mskPts d c s q fm Finset.univ ∗ tabPts d c s q ft
    ∗ outPts d c s (outRows (50 * w) (50 * w + 50)) f)

theorem loop_wp (fl : S4800.Idx → BitVec 32) (hfl : ∀ j, (fl j).toNat < 100000) (efl : fl = fun j => fi (ix2 (⟨wI i, wI_lt i⟩ : Fin 32) (j 0))) (v2 : BitVec 32)
    (h2 h3 h4 h5 h6 h7 h8 h9) (v55 : DmaSems sig S_) (qm qt ql : PosShare TreeShare) :
    Inv d (cI i) (sI i) O W qm qt ql fi fm ft fl fo (wI i) (wI_lt i) 0
      ⊢ Run d (cI i) (sI i) (Scf.Loop.for k1_t1_loop k1_t1_ok 0#32 (k1_t1_body i idxV h2 mskV h3 tabV h4 outV h5 lstV h6 mV h7 rV h8 aV h9 cc1_scratch4 cc1_scratch5 cc1_scratch6 v55 v2))
        fun _ => Inv d (cI i) (sI i) O W qm qt ql fi fm ft fl fo (wI i) (wI_lt i) 25 := by
  unfold Scf.Loop.for
  have hbody : ∀ (k : Fin k1_t1_loop.trips) (acc : BitVec 32), Inv d (cI i) (sI i) O W qm qt ql fi fm ft fl fo (wI i) (wI_lt i) k.val
      ⊢ wp frame (wpE (defs₀ (F := F)) 𝒱₀ (V d (cI i) (sI i)) none) Set.univ
        (k1_t1_body i idxV h2 mskV h3 tabV h4 outV h5 lstV h6 mV h7 rV h8 aV h9 cc1_scratch4 cc1_scratch5 cc1_scratch6 v55 v2 k acc)
        (fun _ => Inv d (cI i) (sI i) O W qm qt ql fi fm ft fl fo (wI i) (wI_lt i) (k.val + 1)) := by
    intro k acc
    rw [body_eq]
    exact trip_wp d i O W qm qt ql fi fm ft fl fo hfl efl k
  iintro H
  iapply (Scf.wp_for frame _ Set.univ _ _ _ k1_t1_ok 0#32 _
    (fun k (_ : BitVec 32) => Inv d (cI i) (sI i) O W qm qt ql fi fm ft fl fo (wI i) (wI_lt i) k) hbody)
  isplitl [H]; · iexact H
  iintro %acc H
  iapply (Entails.of_eq (congrArg (Inv d (cI i) (sI i) O W qm qt ql fi fm ft fl fo (wI i) (wI_lt i)) trips_eq))
  iexact H

attribute [local irreducible] issue waitOut in
/-- The tile's program: from its shares and rows at any contents, the rows at the sums of the rows its lists name. -/
theorem tileProg_wp (hfi : ∀ j, (fi j).toNat < 100000) :
    iprop(tilePts d q fi fm ft (cI i) (sI i) (wI i) fo ∗ scopedBufs (V d (cI i) (sI i)) ∗ scopedSems0 (V d (cI i) (sI i)) ∗ Ow d (cI i) (sI i) O W)
      ⊢ Run d (cI i) (sI i) (tileProg i) fun _ => iprop(tilePts d q fi fm ft (cI i) (sI i) (wI i) (target fi fm ft)
          ∗ scopedBufs (V d (cI i) (sI i)) ∗ scopedSems0 (V d (cI i) (sI i)) ∗ Ow d (cI i) (sI i) O W) := by
  have h0 : (i 0).val < 2 := (i 0).isLt
  have h1 : (i 1).val < 16 := (i 1).isLt
  have hF : (K (F := F)).Facts := facts
  rw [(K (F := F)).scopedBufs_V hF d (cI i) (sI i), SparseCore.Cfg.scopedSems0_V (Val := Elt F) d (cI i) (sI i), ownSems0_tile, ownBufs_tile]
  unfold tilePts tileProg
  iintro ⟨⟨Hi, Hm, Ht, Ho⟩, ⟨⟨⟨%fl0, Hl⟩, ⟨%f7, H7⟩, ⟨%f8, H8⟩, %f9, H9⟩, Hbufs⟩, ⟨⟨Hs, Hg0, Hg1, Hm0, Hm1, Ho0, Ho1⟩, Hsems⟩, HO⟩
  ihave Hi := (pointsTo_split_subset (q := q) (f := fi) (Finset.subset_univ (idxRow i).view.set)).1 $$ Hi
  icases Hi with ⟨Hi, Hi'⟩
  iapply (Transfers.wp_dmaLocal countersEmb 𝒱₀ (V d (cI i) (sI i)) none (src := idxRow i) (dst := lstV) (q := q) (fs := fi) (Sd := Finset.univ) (fd := fl0)
    (default : HIx 1) (lstV).view.dmaCredit rfl (View.dmaCredit_pos _ (by decide)) (Finset.subset_univ _)) $$ [Hi Hl Hs]
  · isplitl [Hi]; · iexact Hi
    isplitl [Hl]; · iexact Hl
    iexact Hs
  iintro Hf
  iapply (wait_wp d (cI i) (sI i) O W cc1_scoped0.sem (idxRow i) lstV ((View.wordExact_bits rfl).reshape _ _) (Memref.isWhole_whole _).wordExact rfl _ _ _) $$ [Hf HO]; · isplitl [Hf] <;> iassumption
  iintro ⟨⟨Hl, Hi⟩, Hs, HO⟩
  ihave Hl := (show (lstV.view.loc (V d (cI i) (sI i)) ↦{fullShare} (lstV.view.write (Elt F) fl0 ((idxRow i).view.read (Elt F) fi) Finset.univ) : sProp (MM F))
      ⊢ iprop(lstPts d (cI i) (sI i) (half fullShare 0) (fun j => fi (ix2 (⟨wI i, wI_lt i⟩ : Fin 32) (j 0))) Finset.univ
        ∗ lstPts d (cI i) (sI i) (half fullShare 1) (fun j => fi (ix2 (⟨wI i, wI_lt i⟩ : Fin 32) (j 0))) Finset.univ) by
      rw [list_landed]; exact Entails.of_eq (halves _ _ _)) $$ Hl
  icases Hl with ⟨Hl0, Hl1⟩
  ihave Hm := (Entails.of_eq (halves (F := F) _ q fm)) $$ Hm
  icases Hm with ⟨Hk0, Hk1⟩
  ihave Ht := (Entails.of_eq (halves (F := F) _ q ft)) $$ Ht
  icases Ht with ⟨Ht0, Ht1⟩
  ihave H7 := (slots_split (F := F) (ℓ := mV.view.loc (V d (cI i) (sI i))) (mSet 0) (mSet 1) mSet_disj mSet_cover f7) $$ H7
  icases H7 with ⟨H70, H71⟩
  ihave H8 := (slots_split (F := F) (ℓ := rV.view.loc (V d (cI i) (sI i))) (rSet 0) (rSet 1) rSet_disj rSet_cover f8) $$ H8
  icases H8 with ⟨H80, H81⟩
  ihave H9 := (slots_split (F := F) (ℓ := aV.view.loc (V d (cI i) (sI i))) (aSet 0) (aSet 1) aSet_disj aSet_cover f9) $$ H9
  icases H9 with ⟨H90, H91⟩
  iapply (run_seq d (cI i) (sI i) (issue_wp d (cI i) (sI i) (half q 0) (half q 0) (half fullShare 0) fm ft _ 0 Nat.zero_lt_two (fun j => hfi _)
    ⟨50 * wI i + (2 * 0 + 0), by unfold wI; omega⟩ ⟨2 * 0 + 0, by omega⟩ _ (k1_off2_inb i 0) _ inb_S4800_S96_0 ((k1_off2_eq i 0).trans (by congr 1; simp [wI]; omega)) (by simp)) _ _) $$ [H70 H80 Hk0 Ht0 Hl0 Hm0 Hg0]
  · unfold idle shares cells
    isplitl [H70]; · iexists _; iexact H70
    isplitl [H80]; · iexists _; iexact H80
    isplitl [Hk0 Ht0 Hl0]
    · isplitl [Hk0]; · iexact Hk0
      isplitl [Ht0]; · iexact Ht0
      iexact Hl0
    isplitl [Hm0] <;> iassumption
  iintro Hc0 %u
  iapply (run_seq d (cI i) (sI i) (issue_wp d (cI i) (sI i) (half q 1) (half q 1) (half fullShare 1) fm ft _ 1 Nat.one_lt_two (fun j => hfi _)
    ⟨50 * wI i + (2 * 0 + 1), by unfold wI; omega⟩ ⟨2 * 0 + 1, by omega⟩ _ (k1_off2_inb i 1) _ inb_S4800_S96_96 ((k1_off2_eq i 1).trans (by congr 1; simp [wI]; omega)) (by simp)) _ _) $$ [H71 H81 Hk1 Ht1 Hl1 Hm1 Hg1]
  · unfold idle shares cells
    isplitl [H71]; · iexists _; iexact H71
    isplitl [H81]; · iexists _; iexact H81
    isplitl [Hk1 Ht1 Hl1]
    · isplitl [Hk1]; · iexact Hk1
      isplitl [Ht1]; · iexact Ht1
      iexact Hl1
    isplitl [Hm1] <;> iassumption
  iintro Hc1 %u
  iapply (run_seq d (cI i) (sI i) (loop_wp d i O W fi fm ft fo _ (fun j => hfi _) rfl _ _ _ _ _ _ _ _ _ _ q q fullShare) _ _) $$ [Hc0 Hc1 H90 H91 Ho0 Ho1 Ho HO]
  · unfold Inv comeK goK still
    rw [dif_pos (by omega : 0 < 25), if_pos rfl, if_pos rfl, dif_pos (by omega : 0 < 25), outPts_none d _ _ _ _ (50 * wI i + (2 * 0 - 2)) (by omega)]
    isplitl [Hc0 Hc1]; · isplitl [Hc0] <;> iassumption
    isplitl [H90 H91 Ho0 Ho1]
    · isplitl [H90 Ho0]
      · isplitl [H90]; · iexists _; iexact H90
        iexact Ho0
      · isplitl [H91]; · iexists _; iexact H91
        iexact Ho1
    isplitl [Ho]; · iexact Ho
    isplitr; · iempintro
    iexact HO
  unfold Inv comeK goK
  rw [dif_neg (by omega : ¬25 < 25), if_neg (by omega : ¬25 = 0), if_neg (by omega : ¬25 = 0), dif_neg (by omega : ¬25 < 25)]
  iintro ⟨⟨Hc0, Hc1⟩, ⟨Hg0, Hg1⟩, He, Hd, HO⟩ %u
  iapply (run_seq d (cI i) (sI i) (waitOut_wp d (cI i) (sI i) O W fi fm ft 0 Nat.zero_lt_two _) _ _) $$ [Hg0 HO]; · isplitl [Hg0] <;> iassumption
  iintro ⟨Hs0, Hd0, HO⟩ %u
  iapply (run_ret d (cI i) (sI i) _ _)
  iapply (run_seq d (cI i) (sI i) (waitOut_wp d (cI i) (sI i) O W fi fm ft 1 Nat.one_lt_two _) _ _) $$ [Hg1 HO]; · isplitl [Hg1] <;> iassumption
  iintro ⟨Hs1, Hd1, HO⟩ %u
  iapply (run_done d (cI i) (sI i) _)
  unfold idle shares cells still
  icases Hc0 with ⟨⟨%g70, H70⟩, ⟨%g80, H80⟩, ⟨Hk0, Ht0, Hl0⟩, Hm0, Hg0⟩
  icases Hc1 with ⟨⟨%g71, H71⟩, ⟨%g81, H81⟩, ⟨Hk1, Ht1, Hl1⟩, Hm1, Hg1⟩
  icases Hs0 with ⟨⟨%g90, H90⟩, Ho0⟩
  icases Hs1 with ⟨⟨%g91, H91⟩, Ho1⟩
  isplitl [Hi Hi' Hk0 Hk1 Ht0 Ht1 Hd Hd0 Hd1]
  · isplitl [Hi Hi']
    · iapply (pointsTo_split_subset (q := q) (f := fi) (Finset.subset_univ (idxRow i).view.set)).2
      isplitl [Hi] <;> iassumption
    isplitl [Hk0 Hk1]
    · iapply (Entails.of_eq (halves (F := F) _ q fm).symm)
      isplitl [Hk0] <;> iassumption
    isplitl [Ht0 Ht1]
    · iapply (Entails.of_eq (halves (F := F) _ q ft).symm)
      isplitl [Ht0] <;> iassumption
    iapply (last_join d (cI i) (sI i) fi fm ft (wI i))
    isplitl [Hd]; · iexact Hd
    isplitl [Hd0]; · iexact Hd0
    iexact Hd1
  isplitl [Hl0 Hl1 H70 H71 H80 H81 H90 H91 Hbufs]
  · isplitr [Hbufs]; swap; · iexact Hbufs
    isplitl [Hl0 Hl1]
    · iexists _
      iapply (Entails.of_eq (halves (F := F) _ fullShare _).symm)
      isplitl [Hl0] <;> iassumption
    isplitl [H70 H71]
    · iapply (slots_join (F := F) (ℓ := mV.view.loc (V d (cI i) (sI i))) (mSet 0) (mSet 1) mSet_disj mSet_cover g70 g71)
      isplitl [H70] <;> iassumption
    isplitl [H80 H81]
    · iapply (slots_join (F := F) (ℓ := rV.view.loc (V d (cI i) (sI i))) (rSet 0) (rSet 1) rSet_disj rSet_cover g80 g81)
      isplitl [H80] <;> iassumption
    iapply (slots_join (F := F) (ℓ := aV.view.loc (V d (cI i) (sI i))) (aSet 0) (aSet 1) aSet_disj aSet_cover g90 g91)
    isplitl [H90] <;> iassumption
  isplitr [HO]; swap; · iexact HO
  isplitr [Hsems]; swap; · iexact Hsems
  isplitl [Hs]; · iexact Hs
  isplitl [Hg0]; · iexact Hg0
  isplitl [Hg1]; · iexact Hg1
  isplitl [Hm0]; · iexact Hm0
  isplitl [Hm1]; · iexact Hm1
  isplitl [Ho0] <;> iassumption

end

end Cert.KernelIdeal.SC

end
-- ==== Proof.KernelIdeal.Call.lean ====
/-
  The SparseCore call as the launch theorem sees it: how its operands are dealt to the 32 tiles and gathered again, what
  the handshakes carry, and each tile's obligation.
-/
module

public import proofs.«01_k».proof.Proof.KernelIdeal.Tile
public import Idealize.SL.BI.BigOpNat

@[expose] public section

noncomputable section

namespace Cert.KernelIdeal.SC

open Cert.KernelIdeal Cert.KernelIdeal.Gen Cert.KernelIdeal.Trip
open Idealize.ShloMosaic Idealize.ShloMosaic.ValueIdx
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

abbrev D : Defs nD τ sig (Elt F) (ΛP (F := F)) := Pipeline.defs pcfgs defs₀
abbrev 𝒱 : Variants := 𝒱₀.lift
abbrev v₀ : 𝒱.V := Sum.inl none
abbrev EH : Emb UH (MM F) := embL

/-- Two assertions that entail each other are equal. -/
theorem sep_ext {M : Type} [URA M] {A B : sProp M} (h : A ⊢ B) (h' : B ⊢ A) : A = B := BI.Entails.antisymm h h'

/-- Entailment in two steps. -/
theorem by_steps {M : Type} [URA M] {A B C : sProp M} (h : A ⊢ B) (h' : B ⊢ C) : A ⊢ C := BI.Entails.trans h h'

/-! ## Read shares -/

/-- What is left of the full share after `n` tiles have taken theirs. -/
def restShare : ℕ → PosShare TreeShare
  | 0 => fullShare
  | n + 1 => (restShare n).right

/-- The share of tile `w`: the left half of what the tiles before it left. -/
def tileShare (w : ℕ) : PosShare TreeShare := (restShare w).left

/-- A whole buffer is the first `n` tiles' shares of it and what is left. -/
theorem shares_split {ℓ : Loc nD τ sig} (I : Finset (Idx ℓ)) (f : Buf (Elt F) ℓ) :
    ∀ n : ℕ, (ℓ ↦[I]{fullShare} f : sProp (MM F)) = iprop((bigSep (Finset.range n) fun w => ℓ ↦[I]{tileShare w} f) ∗ ℓ ↦[I]{restShare n} f)
  | 0 => by
    rw [Finset.range_zero, bigSep_empty]
    exact (BI.equiv_iff.mp BI.emp_sep).symm
  | n + 1 => by
    have e : (ℓ ↦[I]{restShare n} f : sProp (MM F)) = iprop((ℓ ↦[I]{tileShare n} f) ∗ ℓ ↦[I]{restShare (n + 1)} f) :=
      BI.Entails.antisymm (pointsTo_share (PosShare.mem_left_op_right (restShare n))).1 (pointsTo_share (PosShare.mem_left_op_right (restShare n))).2
    rw [shares_split I f n, bigSep_range_succ, e]
    refine sep_ext ?_ ?_
    · iintro ⟨HB, HA, HR⟩
      isplitl [HA HB]
      · isplitl [HA] <;> iassumption
      · iexact HR
    · iintro ⟨⟨HA, HB⟩, HR⟩
      isplitl [HB]; · iexact HB
      isplitl [HA] <;> iassumption

/-- The first `50 n` blocks of result rows are the first `n` tiles' blocks. -/
theorem rows_split (d : Dev nD) (c : Fin τ.nSC) (s : Fin τ.nSub) (f : S25600x128.Idx → F .f32) :
    ∀ n : ℕ, outPts d c s (outRows 0 (50 * n)) f = bigSep (Finset.range n) fun w => outPts d c s (outRows (50 * w) (50 * w + 50)) f
  | 0 => by
    have e : outRows 0 (50 * 0) = ∅ := by
      ext i
      rw [mem_outRows]
      simp
    rw [e, Finset.range_zero, bigSep_empty]
    exact pointsTo_empty
  | n + 1 => by
    rw [outPts_split d c s f (lo := 0) (mid := 50 * n) (hi := 50 * (n + 1)) (by omega) (by omega), rows_split d c s f n, bigSep_range_succ,
      show 50 * (n + 1) = 50 * n + 50 by omega]
    refine sep_ext ?_ ?_ <;>
    · iintro ⟨HA, HB⟩
      isplitl [HB] <;> iassumption

theorem outRows_all : outRows 0 (50 * 32) = Finset.univ := by
  ext i
  have h : (i 0).val < 25600 := (i 0).isLt
  rw [mem_outRows]
  simp only [Finset.mem_univ, iff_true]
  omega

/-- The tiles' numbers, by SparseCore and by subcore. -/
theorem tiles_split {M : Type} [URA M] (Φ : ℕ → sProp M) :
    bigSep (Finset.range 32) Φ = bigSep (Finset.univ : Finset (Fin 2)) fun c => bigSep (Finset.univ : Finset (Fin 16)) fun i => Φ (2 * i.val + c.val) := by
  have e : Finset.range 32 = (Finset.univ : Finset (Fin 2 × Fin 16)).image fun p => 2 * p.2.val + p.1.val := by decide
  rw [e, BI.bigSep_image_of_injOn (f := fun p : Fin 2 × Fin 16 => 2 * p.2.val + p.1.val)
    (by intro a _ b _ h; have := a.1.isLt; have := b.1.isLt; ext <;> simp only at h <;> omega), bigSep_univ_prod]

section
variable (fi : Dev nD → S32x4800.Idx → BitVec 32) (fm : Dev nD → S1600x1536.Idx → F .f32) (ft : Dev nD → S100000x128.Idx → F .f32)
  (fo : Dev nD → S25600x128.Idx → F .f32)

/-- What tile `w` of SparseCore `c` holds of the call's operands, the result at contents `f`. -/
def tilePay (d : Dev nD) (c : Fin τ.nSC) (s : Fin τ.nSub) (w : ℕ) (f : S25600x128.Idx → F .f32) : sProp (MM F) :=
  tilePts d (tileShare w) (fi d) (fm d) (ft d) c s w f

instance tilePay_storable (d : Dev nD) (c : Fin τ.nSC) (s : Fin τ.nSub) (w : ℕ) (f : S25600x128.Idx → F .f32) :
    BI.Storable (upEmb : UEmb _ (MM F)) (tilePay fi fm ft d c s w f) := by
  unfold tilePay tilePts mskPts tabPts outPts
  infer_instance

/-- What the call's handshakes carry: each tile's operands there, and back with the tile's rows of the result computed. -/
def P : (K (F := F)).Pay (nD := nD) (Val := Elt F) (Name := ℕ) (U := UU) where
  st q d c := bigSep Finset.univ fun i : Fin ((K (F := F)).nSub q) => tilePay fi fm ft d ((K (F := F)).core q c) ((K (F := F)).sub q i) (2 * i.val + c.val) (fo d)
  dn q d c := bigSep Finset.univ fun i : Fin ((K (F := F)).nSub q) =>
    tilePay fi fm ft d ((K (F := F)).core q c) ((K (F := F)).sub q i) (2 * i.val + c.val) (target (fi d) (fm d) (ft d))
  go q d c i := tilePay fi fm ft d ((K (F := F)).core q c) ((K (F := F)).sub q i) (2 * i.val + c.val) (fo d)
  td q d c i := tilePay fi fm ft d ((K (F := F)).core q c) ((K (F := F)).sub q i) (2 * i.val + c.val) (target (fi d) (fm d) (ft d))
  x _ _ := iprop(emp)

instance P_storable : (P fi fm ft fo).IsStorable where
  st q d c := (inferInstance : BI.Storable (upEmb : UEmb _ (MM F)) (bigSep Finset.univ fun i : Fin ((K (F := F)).nSub q) =>
    tilePay fi fm ft d ((K (F := F)).core q c) ((K (F := F)).sub q i) (2 * i.val + c.val) (fo d)))
  dn q d c := (inferInstance : BI.Storable (upEmb : UEmb _ (MM F)) (bigSep Finset.univ fun i : Fin ((K (F := F)).nSub q) =>
    tilePay fi fm ft d ((K (F := F)).core q c) ((K (F := F)).sub q i) (2 * i.val + c.val) (target (fi d) (fm d) (ft d))))
  go q d c i := tilePay_storable fi fm ft d _ _ _ _
  td q d c i := tilePay_storable fi fm ft d _ _ _ _

/-- The coordinates of a tile. -/
def coords (c : Fin (grid1.bound 0)) (s : Fin (grid1.bound 1)) : grid1.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 1 ()
      = SparseCore.onTile hcore1 hsub1 (fun c s => cc1__sc_pool_body (coords c s) idxV (Memref.isWhole_whole _) mskV (Memref.isWhole_whole _) tabV (Memref.isWhole_whole _)
          outV (Memref.isWhole_whole _) lstV (Memref.isWhole_whole _) mV (Memref.isWhole_whole _) rV (Memref.isWhole_whole _) aV (Memref.isWhole_whole _)
          cc1_scratch4 cc1_scratch5 cc1_scratch6 cc1_scoped0) ⟨⟩ c s := rfl

/-- A tile's run from what its start hands it to what its end hands back. -/
theorem tile_wp (hfi : ∀ d j, (fi d j).toNat < 100000) (d : Dev nD) (i : grid1.Coords) (O : CellTallies nD τ sig (HIx 1)) (W : Waits sig (HIx 1)) (hO : ∀ g, O g none = 0) :
    iprop(levAts (K (F := F)).L (K (F := F)).lev ∗ emp ∗ tilePay fi fm ft d (cI i) (sI i) (wI i) (fo d)
        ∗ scopedBufs (V d (cI i) (sI i)) ∗ scopedSems0 (V d (cI i) (sI i)) ∗ owes (V d (cI i) (sI i)) O W)
      ⊢ Run d (cI i) (sI i) (cc1__sc_pool_body i idxV (Memref.isWhole_whole _) mskV (Memref.isWhole_whole _) tabV (Memref.isWhole_whole _)
          outV (Memref.isWhole_whole _) lstV (Memref.isWhole_whole _) mV (Memref.isWhole_whole _) rV (Memref.isWhole_whole _) aV (Memref.isWhole_whole _)
          cc1_scratch4 cc1_scratch5 cc1_scratch6 cc1_scoped0) fun _ =>
        iprop(tilePay fi fm ft d (cI i) (sI i) (wI i) (target (fi d) (fm d) (ft d))
          ∗ scopedBufs (V d (cI i) (sI i)) ∗ scopedSems0 (V d (cI i) (sI i))
          ∗ ∃ W', ⌜∀ p ∈ W', p ∈ W ∨ p.2 = none ∨ p.2 = some 0⌝ ∗ owes (V d (cI i) (sI i)) O W') := by
  rw [tileProg_eq]
  refine by_steps ?_ ((tileProg_wp d i O W (tileShare (wI i)) (fi d) (fm d) (ft d) (fo d) (hfi d)).trans (wp_mono frame _ _ fun _ => show _ ⊢ _ from ?_))
  · unfold tilePay Ow
    iintro ⟨#Hlv, -, Hp, Hb, Hs, HO⟩
    ihave Hmw := (show levAts (K (F := F)).L (K (F := F)).lev ⊢ MayWaits (V d (cI i) (sI i)) (default : HIx 1) O from
      (K (F := F)).mayWaits_none (thr := V d (cI i) (sI i)) hO) $$ Hlv
    isplitl [Hp]; · iexact Hp
    isplitl [Hb]; · iexact Hb
    isplitl [Hs]; · iexact Hs
    isplitl [Hmw]; · iexact Hmw
    iexists W
    isplitr
    · ipureintro
      exact fun p hp => .inl hp
    · iexact HO
  · unfold tilePay Ow
    iintro ⟨Hp, Hb, Hs, -, %W', %hW', HO⟩
    isplitl [Hp]; · iexact Hp
    isplitl [Hb]; · iexact Hb
    isplitl [Hs]; · iexact Hs
    iexists W'
    isplitr
    · ipureintro
      exact fun p hp => (hW' p hp).imp_right Or.inl
    · iexact HO

set_option maxRecDepth 16384 in
/-- Every tile's obligation. -/
theorem tileObl (hfi : ∀ d j, (fi d j).toNat < 100000) : (K (F := F)).TileObl (D (F := F)) 𝒱 (P fi fm ft fo) v₀ 0 := by
  intro d c i O W hO _ _
  simp only [show (P fi fm ft fo).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_tile]
  simp only [SparseCore.onTile, hci, and_self, ↓reduceDIte]
  exact tile_wp fi fm ft fo hfi d (coords ⟨_, hci.1⟩ ⟨_, hci.2⟩) O W hO

/-- A SparseCore's operands are its tiles' operands, and so are its results. -/
theorem vecSplit : (K (F := F)).VecSplit' (P fi fm ft fo) 0 := by
  intro d c
  show (bigSep Finset.univ fun i : Fin ((K (F := F)).nSub 0) => (P fi fm ft fo).go 0 d c i) ⊢ |={Set.univ}=> iprop(
      (bigSep Finset.univ fun i : Fin ((K (F := F)).nSub 0) => (P fi fm ft fo).go 0 d c i)
      ∗ ((bigSep Finset.univ fun i : Fin ((K (F := F)).nSub 0) => (P fi fm ft fo).td 0 d c i)
          -∗ (bigSep Finset.univ fun i : Fin ((K (F := F)).nSub 0) => (P fi fm ft fo).td 0 d c i)))
  iintro H
  imodintro
  isplitl [H]; · iexact H
  iintro H
  iexact H

/-- What is left of the operands while the tiles hold theirs. -/
def leftover (d : Dev nD) : sProp (MM F) :=
  iprop(((SparseCore.T d).loc main_v3 ↦{restShare 32} (fi d : Buf (Elt F) ((SparseCore.T d).loc main_v3))) ∗ ((SparseCore.T d).loc main_v16_4 ↦{restShare 32} (fm d : Buf (Elt F) ((SparseCore.T d).loc main_v16_4)))
    ∗ (SparseCore.T d).loc main_arg7 ↦{restShare 32} (ft d : Buf (Elt F) ((SparseCore.T d).loc main_arg7)))

/-- The operands whole, and the result at contents `f`, are what every tile holds and what is left. -/
theorem deal (d : Dev nD) (f : S25600x128.Idx → F .f32) :
    (iprop(((SparseCore.T d).loc main_v3 ↦{fullShare} (fi d : Buf (Elt F) ((SparseCore.T d).loc main_v3))) ∗ ((SparseCore.T d).loc main_v16_4 ↦{fullShare} (fm d : Buf (Elt F) ((SparseCore.T d).loc main_v16_4)))
        ∗ ((SparseCore.T d).loc main_arg7 ↦{fullShare} (ft d : Buf (Elt F) ((SparseCore.T d).loc main_arg7))) ∗ (SparseCore.T d).loc main_v17 ↦{fullShare} (f : Buf (Elt F) ((SparseCore.T d).loc main_v17))) : sProp (MM F))
      = iprop((bigSep (Finset.univ : Finset (Fin 2)) fun c => bigSep (Finset.univ : Finset (Fin 16)) fun i =>
          tilePay fi fm ft d ((K (F := F)).core 0 c) ((K (F := F)).sub 0 i) (2 * i.val + c.val) f) ∗ leftover fi fm ft d) := by
  have e : (bigSep (Finset.univ : Finset (Fin 2)) fun c => bigSep (Finset.univ : Finset (Fin 16)) fun i =>
      tilePay fi fm ft d ((K (F := F)).core 0 c) ((K (F := F)).sub 0 i) (2 * i.val + c.val) f)
      = bigSep (Finset.range 32) fun w => tilePay fi fm ft d (0 : Fin 2) (0 : Fin 16) w f :=
    (tiles_split fun w => tilePay fi fm ft d (0 : Fin 2) (0 : Fin 16) w f).symm
  have er : (iprop((SparseCore.T d).loc main_v17 ↦{fullShare} (f : Buf (Elt F) ((SparseCore.T d).loc main_v17))) : sProp (MM F))
      = bigSep (Finset.range 32) fun w => outPts d (0 : Fin 2) (0 : Fin 16) (outRows (50 * w) (50 * w + 50)) f := by
    rw [← rows_split d (0 : Fin 2) (0 : Fin 16) f 32, outRows_all]
  rw [e, er, shares_split (ℓ := (SparseCore.T d).loc main_v3) Finset.univ (fi d) 32, shares_split (ℓ := (SparseCore.T d).loc main_v16_4) Finset.univ (fm d) 32,
    shares_split (ℓ := (SparseCore.T d).loc main_arg7) Finset.univ (ft d) 32]
  unfold tilePay tilePts leftover
  rw [bigSep_sep', bigSep_sep', bigSep_sep']
  refine sep_ext ?_ ?_
  · iintro ⟨⟨Hi, Hi'⟩, ⟨Hm, Hm'⟩, ⟨Ht, Ht'⟩, Ho⟩
    isplitl [Hi Hm Ht Ho]
    · isplitl [Hi]; · iexact Hi
      isplitl [Hm]; · iexact Hm
      isplitl [Ht]; · iexact Ht
      iexact Ho
    · isplitl [Hi']; · iexact Hi'
      isplitl [Hm']; · iexact Hm'
      iexact Ht'
  · iintro ⟨⟨Hi, Hm, Ht, Ho⟩, Hi', Hm', Ht'⟩
    isplitl [Hi Hi']; · isplitl [Hi] <;> iassumption
    isplitl [Hm Hm']; · isplitl [Hm] <;> iassumption
    isplitl [Ht Ht']; · isplitl [Ht] <;> iassumption
    iexact Ho

end

end Cert.KernelIdeal.SC

end
-- ==== Proof.KernelIdeal.Prep.lean ====
/-
  The TensorCore kernel that prepares the mask and the recurrence's operands: what its body leaves in each result's buffer.
-/
module

public import proofs.«01_k».proof.Proof.KernelIdeal.Base
public import proofs.«01_k».proof.Proof.Gen.KernelIdeal.Skeleton
public import proofs.«01_k».proof.Proof.Gen.KernelIdeal.Launch
public import proofs.«01_k».proof.Proof.Gen.KernelIdeal.Points
public import Idealize.ShloMosaic.Lib.Exec
public import Idealize.ShloMosaic.Lib.WritesUnit
public import Idealize.ShloMosaic.Lib.VecWindow
public import Idealize.ShloMosaic.Lib.Pointwise

@[expose] public section

noncomputable section

namespace Cert.KernelIdeal.SC

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Memref `M`'s buffer on core `c`: its contents' type, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp (MM F) :=
  M.view.loc (c : Thread nD τ) ↦{fullShare} f

/-- A whole memref held at contents read as `X`: its buffer held whole at contents that read so, -/
theorem owns_open (c : Dev nD) {sp : Space} {S : Shape} {e : EltTy} (M : Memref sig .tc sp S e) (h : M.IsWhole) (X : S.Idx → Elt F e) :
    (owns (c : Thread nD τ) M fullShare X : sProp (MM F)) ⊢ iprop(∃ f : Bf (F := F) c M, ⌜M.view.read (Elt F) f = X⌝ ∗ pt c M f) := by
  unfold owns
  rw [h.set_eq_univ]

/-- and back. -/
theorem owns_close (c : Dev nD) {sp : Space} {S : Shape} {e : EltTy} (M : Memref sig .tc sp S e) (h : M.IsWhole) (X : S.Idx → Elt F e)
    (f : Bf (F := F) c M) (hf : M.view.read (Elt F) f = X) :
    pt c M f ⊢ (owns (c : Thread nD τ) M fullShare X : sProp (MM F)) := by
  unfold owns
  rw [h.set_eq_univ]
  iintro H
  iexists f
  isplitr; · ipureintro; exact hf
  iexact H

/-- The mask the kernel computes from the list lengths: the printed values, in order. -/
def maskOf (lens : S1600x16.Idx → F .f32) : S1600x1536.Idx → F .f32 :=
  k0_pay11 k0_pay9 (k0_pay10 lens) (constant S1600x1536 .f32 0x00000000#32)

/-- Two arrays of 128 rows, one over the other. -/
def over (a b : S128x512.Idx → F .bf16) : S256x512.Idx → F .bf16 := fun y =>
  if h : (y 0).val < 128 then a (ix2 ⟨(y 0).val, h⟩ (y 1)) else b (ix2 ⟨(y 0).val - 128, by have : (y 0).val < 256 := (y 0).isLt; omega⟩ (y 1))

/-- The prepared weights of one direction, the input's over the state's. -/
def weightsOf (wx wh : S128x512.Idx → F .f32) : S256x512.Idx → F .bf16 := over (k0_pay3 wx) (k0_pay3 wh)

/-- The prepared biases, the forward direction's over the backward one's. -/
def biasOf (a b : S1x512.Idx → F .f32) : S2x512.Idx → F .f32 := fun y =>
  if (y 0).val = 0 then k0_pay7 k0_pay1 a (ix2 0 (y 1)) else k0_pay7 k0_pay1 b (ix2 0 (y 1))

/-- A buffer whose upper and lower 128 rows were written reads as the one over the other. -/
theorem read_over (c : Dev nD) {M : Memref sig .tc .vmem S256x512 .bf16} (f : Bf (F := F) c M) (a b : S128x512.Idx → F .bf16) :
    M.view.read (Elt F) (M.view.writes (Elt F) f [⟨Rect.unit (s := S256x512) ![128, 0] S128x512.size inb_S256x512_S128x512_128_0, b⟩,
      ⟨Rect.unit (s := S256x512) ![0, 0] S128x512.size inb_S256x512_S128x512_0_0, a⟩]) = over a b := by
  funext y
  have hy : (y 0).val < 256 := (y 0).isLt
  unfold over
  by_cases h : (y 0).val < 128
  · rw [dif_pos h, View.read_writes_cons_unit_of_not_mem M.view f inb_S256x512_S128x512_128_0 _ _ y rfl 0 (Or.inl h)]
    exact View.read_writes_cons_unit_of_mem M.view f inb_S256x512_S128x512_0_0 a [] y (ix2 ⟨(y 0).val, h⟩ (y 1)) rfl
      (by intro x; fin_cases x <;> exact (Nat.zero_add _).symm)
  · rw [dif_neg h]
    exact View.read_writes_cons_unit_of_mem M.view f inb_S256x512_S128x512_128_0 b _ y (ix2 ⟨(y 0).val - 128, by omega⟩ (y 1)) rfl
      (by intro x; fin_cases x
          · show (y 0).val = 128 + ((y 0).val - 128); omega
          · exact (Nat.zero_add _).symm)

/-- The same of two single rows. -/
theorem read_rows (c : Dev nD) {M : Memref sig .tc .vmem S2x512 .f32} (f : Bf (F := F) c M) (a b : S1x512.Idx → F .f32) :
    M.view.read (Elt F) (M.view.writes (Elt F) f [⟨Rect.unit (s := S2x512) ![1, 0] S1x512.size inb_S2x512_S1x512_1_0, b⟩,
      ⟨Rect.unit (s := S2x512) ![0, 0] S1x512.size inb_S2x512_S1x512_0_0, a⟩])
      = fun y => if (y 0).val = 0 then a (ix2 0 (y 1)) else b (ix2 0 (y 1)) := by
  funext y
  have hy : (y 0).val < 2 := (y 0).isLt
  by_cases h : (y 0).val = 0
  · rw [if_pos h, View.read_writes_cons_unit_of_not_mem M.view f inb_S2x512_S1x512_1_0 _ _ y rfl 0 (Or.inl (by show (y 0).val < 1; omega))]
    exact View.read_writes_cons_unit_of_mem M.view f inb_S2x512_S1x512_0_0 a [] y (ix2 0 (y 1)) rfl
      (by intro x; fin_cases x
          · exact h
          · exact (Nat.zero_add _).symm)
  · rw [if_neg h]
    exact View.read_writes_cons_unit_of_mem M.view f inb_S2x512_S1x512_1_0 b _ y (ix2 0 (y 1)) rfl
      (by intro x; fin_cases x
          · show (y 0).val = 1 + 0; omega
          · exact (Nat.zero_add _).symm)

/-- The body's run: the inputs as they were, the results' buffers at the prepared table, weights and biases and at the
    mask of the lengths it was handed. -/
theorem prep_wp (c : Dev nD)
    (M0 : Memref sig .tc .vmem S512x128 .f32) (h0 : M0.IsWhole)
    (M1 : Memref sig .tc .vmem S128x512 .f32) (h1 : M1.IsWhole)
    (M2 : Memref sig .tc .vmem S1x512 .f32) (h2 : M2.IsWhole)
    (M3 : Memref sig .tc .vmem S128x512 .f32) (h3 : M3.IsWhole)
    (M4 : Memref sig .tc .vmem S1x512 .f32) (h4 : M4.IsWhole)
    (M5 : Memref sig .tc .vmem S128x512 .f32) (h5 : M5.IsWhole)
    (M6 : Memref sig .tc .vmem S128x512 .f32) (h6 : M6.IsWhole)
    (M7 : Memref sig .tc .vmem S1600x16 .f32) (h7 : M7.IsWhole)
    (M8 : Memref sig .tc .vmem S512x128 .bf16) (h8 : M8.IsWhole)
    (M9 : Memref sig .tc .vmem S256x512 .bf16) (h9 : M9.IsWhole)
    (M10 : Memref sig .tc .vmem S256x512 .bf16) (h10 : M10.IsWhole)
    (M11 : Memref sig .tc .vmem S2x512 .f32) (h11 : M11.IsWhole)
    (M12 : Memref sig .tc .vmem S1600x1536 .f32) (h12 : M12.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (Q : PUnit → sProp (MM F)) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
      ∗ (iprop(pt c M0 f0 ∗ pt c M1 f1 ∗ pt c M2 f2 ∗ pt c M3 f3 ∗ pt c M4 f4 ∗ pt c M5 f5 ∗ pt c M6 f6 ∗ pt c M7 f7 ∗ (∃ f, ⌜M8.view.read (Elt F) f = k0_pay2 (M0.view.read (Elt F) f0)⌝ ∗ pt c M8 f) ∗ (∃ f, ⌜M9.view.read (Elt F) f = weightsOf (M1.view.read (Elt F) f1) (M5.view.read (Elt F) f5)⌝ ∗ pt c M9 f) ∗ (∃ f, ⌜M10.view.read (Elt F) f = weightsOf (M3.view.read (Elt F) f3) (M6.view.read (Elt F) f6)⌝ ∗ pt c M10 f)
          ∗ (∃ f, ⌜M11.view.read (Elt F) f = biasOf (M2.view.read (Elt F) f2) (M4.view.read (Elt F) f4)⌝ ∗ pt c M11 f) ∗ ∃ f, ⌜M12.view.read (Elt F) f = maskOf (M7.view.read (Elt F) f7)⌝ ∗ pt c M12 f) -∗ Q ⟨⟩))
    ⊢ wp frame (wpE (defs₀ (F := F)) Variants.none c none) Set.univ (cc0__prep_body M0 h0 M1 h1 M2 h2 M3 h3 M4 h4 M5 h5 M6 h6 M7 h7 M8 h8 M9 h9 M10 h10 M11 h11 M12 h12) Q := by
  rw [cc0__prep_body_eq_skeleton]
  iintro ⟨H0, H1, H2, H3, H4, H5, H6, H7, H8, H9, H10, H11, H12, Hk⟩
  sl_exec_parts!
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; (· iexact H8)
    ipureintro
    unfold prep_wp.sl.H8_1
    funext y
    rw [View.read_writes_cons_unit_of_mem M8.view M8.view.junk inb_S512x128_S512x128_0_0 _ [] y y rfl (by intro a; fin_cases a <;> exact (Nat.zero_add _).symm)]
    rw [View.readAt_full M0.view f0 inb_S512x128_S512x128_0_0]
  isplitl [H9]
  · iexists _; isplitr; swap; (· iexact H9)
    ipureintro
    refine (read_over (F := F) c (M := M9) _ _ _).trans ?_
    rw [View.readAt_full M1.view f1 inb_S128x512_S128x512_0_0, View.readAt_full M5.view f5 inb_S128x512_S128x512_0_0]
    rfl
  isplitl [H10]
  · iexists _; isplitr; swap; (· iexact H10)
    ipureintro
    refine (read_over (F := F) c (M := M10) _ _ _).trans ?_
    unfold prep_wp.sl.r
    rw [View.readAt_full M3.view f3 inb_S128x512_S128x512_0_0, View.readAt_full M6.view f6 inb_S128x512_S128x512_0_0]
    rfl
  isplitl [H11]
  · iexists _; isplitr; swap; (· iexact H11)
    ipureintro
    refine (read_rows (F := F) c (M := M11) _ _ _).trans ?_
    rw [View.readAt_full M2.view f2 inb_S1x512_S1x512_0_0, View.readAt_full M4.view f4 inb_S1x512_S1x512_0_0]
    rfl
  iexists _; isplitr; swap; (· iexact H12)
  ipureintro
  unfold prep_wp.sl.H12_1
  funext y
  rw [View.read_writes_cons_unit_of_mem M12.view M12.view.junk inb_S1600x1536_S1600x1536_0_0 _ [] y y rfl (by intro a; fin_cases a <;> exact (Nat.zero_add _).symm)]
  unfold prep_wp.sl.r_2 prep_wp.sl.r_1
  rw [View.readAt_full M7.view f7 inb_S1600x16_S1600x16_0_0]
  rfl

end Cert.KernelIdeal.SC

end
-- ==== Proof.KernelIdeal.Region.lean ====
/-
  The TensorCore call that prepares the mask and the recurrence's operands, as a region of @main: entered with the windows' arrays at any contents and
  left with the results' arrays at the prepared values of the inputs' arrays.
-/
module

public import proofs.«01_k».proof.Proof.KernelIdeal.Call
public import proofs.«01_k».proof.Proof.KernelIdeal.Prep
public import Idealize.ShloMosaic.Lib.Pipeline.RegionArrays
public import Idealize.ShloMosaic.Lib.Pipeline.ArrRel
public import Idealize.ShloMosaic.Lib.Pipeline.ValueKit.Geometry

@[expose] public section

noncomputable section

namespace Cert.KernelIdeal.SC

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The staging cells' rounds, embedded in the proof's algebra. -/
def EP : Emb (UR sig nD τ) (MM F) := (Emb.inl : Emb (UR sig nD τ) (UR sig nD τ × Counters)).trans embR

instance EP_landsIn : (EP : Emb (UR sig nD τ) (MM F)).LandsIn (upEmb : UEmb _ (MM F)) := by unfold EP; infer_instance

/-- No call of the TensorCore has a prefetched table. -/
abbrev adm : (p : Fin 3) → (pcfgs (F := F) p).Adm := fun p => (cfgs p).toPCfg_adm

/-- The contents of a TensorCore's buffers, device by device. -/
abbrev Bufs (F : FTy → Type) : Type := (c : Dev nD) → (b : Ref sig .tc) → Buf (Elt F) ((c.tc : Thread nD τ).loc b)

variable (V : Bufs F)

/-- What the call's body may leave: in the results' buffers the prepared values, in every other buffer anything. -/
def leavesMask (c : Dev nD) : (w : Fin cfg0.W) → (X : (cfg0.win w).block.Idx → Elt F (cfg0.win w).elt) → Prop
  | ⟨8, _⟩ => fun X => X = k0_pay2 (V c main_arg8)
  | ⟨9, _⟩ => fun X => X = weightsOf (V c main_arg9) (V c main_arg10)
  | ⟨10, _⟩ => fun X => X = weightsOf (V c main_arg12) (V c main_arg13)
  | ⟨11, _⟩ => fun X => X = biasOf (V c main_v14) (V c main_v15)
  | ⟨12, _⟩ => fun X => X = maskOf (V c main_v8)
  | _ => fun _ => True

/-- The call's proof data: the arrays at the given contents on entry, the scoped buffers no window stages kept between its
    ends, and what the TensorCore owes the SparseCore call all along. (The other calls' entries are not read.) -/
def rdats (p : Fin 3) (c : Dev nD) : Pipeline.RDat τ (Elt F) (HIx 1) ℕ UU ℕ (Pipeline.pin (pcfgs (F := F)) adm p) c :=
  match p with
  | ⟨0, _⟩ =>
    { A := fun w => V c (Pipeline.arrRef spec0 w)
      after := fun w _ _ X => leavesMask V c w X
      Φ := fun _ => Pipeline.scopedRest spec0 c
      q := fun _ => fullShare
      owed := fun _ => (K (F := F)).Otc c 0
      recorded := fun _ => {p | (K (F := F)).lev (SparseCore.T c, p.1) p.2 ≤ 0} }
  | ⟨1, _⟩ =>
    { A := fun w => V c (Pipeline.arrRef spec2 w)
      after := fun _ _ _ _ => True
      Φ := fun _ => iprop(emp)
      q := fun _ => fullShare
      owed := fun _ => 0 }
  | ⟨2, _⟩ =>
    { A := fun w => V c (Pipeline.arrRef spec3 w)
      after := fun _ _ _ _ => True
      Φ := fun _ => iprop(emp)
      q := fun _ => fullShare
      owed := fun _ => 0 }

theorem share_eq (c : Dev nD) (w : Fin cfg0.W) : (rdats V 0 c).share w = fullShare := by
  unfold Pipeline.RDat.share; split <;> rfl

theorem at_origin (n k : ℕ) : 0 * n + k = k := by omega

/-! The inputs' staging buffers hold the inputs' arrays once fetched. -/
theorem fetched0 (c : Dev nD) (d) : (rdats V 0 c).fetched 0 t0_0 d = V c main_arg8 := by
  have e : (rdats V 0 c).fetched 0 t0_0 d = (win0_0.blk t0_0).view.read (Elt F) (V c main_arg8) := rfl
  rw [e]
  funext j
  show V c main_arg8 ((win0_0.blk t0_0).view.emb j) = V c main_arg8 j
  congr 1
  funext a
  exact Fin.ext ((ValueKit.view_emb_slice_whole_unit_val _ _ _ _ _ _).trans (at_origin _ _))
theorem fetched1 (c : Dev nD) (d) : (rdats V 0 c).fetched 1 t0_0 d = V c main_arg9 := by
  have e : (rdats V 0 c).fetched 1 t0_0 d = (win0_1.blk t0_0).view.read (Elt F) (V c main_arg9) := rfl
  rw [e]
  funext j
  show V c main_arg9 ((win0_1.blk t0_0).view.emb j) = V c main_arg9 j
  congr 1
  funext a
  exact Fin.ext ((ValueKit.view_emb_slice_whole_unit_val _ _ _ _ _ _).trans (at_origin _ _))
theorem fetched2 (c : Dev nD) (d) : (rdats V 0 c).fetched 2 t0_0 d = V c main_v14 := by
  have e : (rdats V 0 c).fetched 2 t0_0 d = (win0_2.blk t0_0).view.read (Elt F) (V c main_v14) := rfl
  rw [e]
  funext j
  show V c main_v14 ((win0_2.blk t0_0).view.emb j) = V c main_v14 j
  congr 1
  funext a
  exact Fin.ext ((ValueKit.view_emb_slice_whole_unit_val _ _ _ _ _ _).trans (at_origin _ _))
theorem fetched3 (c : Dev nD) (d) : (rdats V 0 c).fetched 3 t0_0 d = V c main_arg12 := by
  have e : (rdats V 0 c).fetched 3 t0_0 d = (win0_3.blk t0_0).view.read (Elt F) (V c main_arg12) := rfl
  rw [e]
  funext j
  show V c main_arg12 ((win0_3.blk t0_0).view.emb j) = V c main_arg12 j
  congr 1
  funext a
  exact Fin.ext ((ValueKit.view_emb_slice_whole_unit_val _ _ _ _ _ _).trans (at_origin _ _))
theorem fetched4 (c : Dev nD) (d) : (rdats V 0 c).fetched 4 t0_0 d = V c main_v15 := by
  have e : (rdats V 0 c).fetched 4 t0_0 d = (win0_4.blk t0_0).view.read (Elt F) (V c main_v15) := rfl
  rw [e]
  funext j
  show V c main_v15 ((win0_4.blk t0_0).view.emb j) = V c main_v15 j
  congr 1
  funext a
  exact Fin.ext ((ValueKit.view_emb_slice_whole_unit_val _ _ _ _ _ _).trans (at_origin _ _))
theorem fetched5 (c : Dev nD) (d) : (rdats V 0 c).fetched 5 t0_0 d = V c main_arg10 := by
  have e : (rdats V 0 c).fetched 5 t0_0 d = (win0_5.blk t0_0).view.read (Elt F) (V c main_arg10) := rfl
  rw [e]
  funext j
  show V c main_arg10 ((win0_5.blk t0_0).view.emb j) = V c main_arg10 j
  congr 1
  funext a
  exact Fin.ext ((ValueKit.view_emb_slice_whole_unit_val _ _ _ _ _ _).trans (at_origin _ _))
theorem fetched6 (c : Dev nD) (d) : (rdats V 0 c).fetched 6 t0_0 d = V c main_arg13 := by
  have e : (rdats V 0 c).fetched 6 t0_0 d = (win0_6.blk t0_0).view.read (Elt F) (V c main_arg13) := rfl
  rw [e]
  funext j
  show V c main_arg13 ((win0_6.blk t0_0).view.emb j) = V c main_arg13 j
  congr 1
  funext a
  exact Fin.ext ((ValueKit.view_emb_slice_whole_unit_val _ _ _ _ _ _).trans (at_origin _ _))
theorem fetched7 (c : Dev nD) (d) : (rdats V 0 c).fetched 7 t0_0 d = V c main_v8 := by
  have e : (rdats V 0 c).fetched 7 t0_0 d = (win0_7.blk t0_0).view.read (Elt F) (V c main_v8) := rfl
  rw [e]
  funext j
  show V c main_v8 ((win0_7.blk t0_0).view.emb j) = V c main_v8 j
  congr 1
  funext a
  exact Fin.ext ((ValueKit.view_emb_slice_whole_unit_val _ _ _ _ _ _).trans (at_origin _ _))

-- Thirteen windows' buffers through some forty proof-mode steps.
set_option maxHeartbeats 2000000 in
theorem body_obligation (c : Dev nD) : (rdats V 0 c).BodyObligation (defs₀ (F := F)) 𝒱₀ none Set.univ := fun t Y hY => by
  obtain rfl := fin_N0 t
  have m0 : Y 0 = V c main_arg8 := by
    obtain ⟨d, hd⟩ := ((rdats V 0 c).finds_of_fetch (w := 0) (t := t0_0) rfl _).mp (hY 0)
    rw [hd]; exact fetched0 V c d
  have m1 : Y 1 = V c main_arg9 := by
    obtain ⟨d, hd⟩ := ((rdats V 0 c).finds_of_fetch (w := 1) (t := t0_0) rfl _).mp (hY 1)
    rw [hd]; exact fetched1 V c d
  have m2 : Y 2 = V c main_v14 := by
    obtain ⟨d, hd⟩ := ((rdats V 0 c).finds_of_fetch (w := 2) (t := t0_0) rfl _).mp (hY 2)
    rw [hd]; exact fetched2 V c d
  have m3 : Y 3 = V c main_arg12 := by
    obtain ⟨d, hd⟩ := ((rdats V 0 c).finds_of_fetch (w := 3) (t := t0_0) rfl _).mp (hY 3)
    rw [hd]; exact fetched3 V c d
  have m4 : Y 4 = V c main_v15 := by
    obtain ⟨d, hd⟩ := ((rdats V 0 c).finds_of_fetch (w := 4) (t := t0_0) rfl _).mp (hY 4)
    rw [hd]; exact fetched4 V c d
  have m5 : Y 5 = V c main_arg10 := by
    obtain ⟨d, hd⟩ := ((rdats V 0 c).finds_of_fetch (w := 5) (t := t0_0) rfl _).mp (hY 5)
    rw [hd]; exact fetched5 V c d
  have m6 : Y 6 = V c main_arg13 := by
    obtain ⟨d, hd⟩ := ((rdats V 0 c).finds_of_fetch (w := 6) (t := t0_0) rfl _).mp (hY 6)
    rw [hd]; exact fetched6 V c d
  have m7 : Y 7 = V c main_v8 := by
    obtain ⟨d, hd⟩ := ((rdats V 0 c).finds_of_fetch (w := 7) (t := t0_0) rfl _).mp (hY 7)
    rw [hd]; exact fetched7 V c d
  rw [bigSep_W0, bigSep_W0]
  rw [show (rdats V 0 c).Φ t0_0.castSucc = Pipeline.scopedRest spec0 c from rfl, show (rdats V 0 c).Φ t0_0.succ = Pipeline.scopedRest spec0 c from rfl,
    show (rdats V 0 c).owesAt none t0_0.succ = (rdats V 0 c).owesAt none t0_0.castSucc from rfl]
  iintro ⟨Hsc, Howes, H0, H1, H2, H3, H4, H5, H6, H7, H8, H9, H10, H11, H12⟩
  ihave H0 := (owns_open c (stage0_0 0) (hstage0_0 0) (Y 0)) $$ H0; icases H0 with ⟨%f0, %hf0, H0⟩
  ihave H1 := (owns_open c (stage0_1 0) (hstage0_1 0) (Y 1)) $$ H1; icases H1 with ⟨%f1, %hf1, H1⟩
  ihave H2 := (owns_open c (stage0_2 0) (hstage0_2 0) (Y 2)) $$ H2; icases H2 with ⟨%f2, %hf2, H2⟩
  ihave H3 := (owns_open c (stage0_3 0) (hstage0_3 0) (Y 3)) $$ H3; icases H3 with ⟨%f3, %hf3, H3⟩
  ihave H4 := (owns_open c (stage0_4 0) (hstage0_4 0) (Y 4)) $$ H4; icases H4 with ⟨%f4, %hf4, H4⟩
  ihave H5 := (owns_open c (stage0_5 0) (hstage0_5 0) (Y 5)) $$ H5; icases H5 with ⟨%f5, %hf5, H5⟩
  ihave H6 := (owns_open c (stage0_6 0) (hstage0_6 0) (Y 6)) $$ H6; icases H6 with ⟨%f6, %hf6, H6⟩
  ihave H7 := (owns_open c (stage0_7 0) (hstage0_7 0) (Y 7)) $$ H7; icases H7 with ⟨%f7, %hf7, H7⟩
  ihave H8 := (owns_open c (stage0_8 0) (hstage0_8 0) (Y 8)) $$ H8; icases H8 with ⟨%f8, %hf8, H8⟩
  ihave H9 := (owns_open c (stage0_9 0) (hstage0_9 0) (Y 9)) $$ H9; icases H9 with ⟨%f9, %hf9, H9⟩
  ihave H10 := (owns_open c (stage0_10 0) (hstage0_10 0) (Y 10)) $$ H10; icases H10 with ⟨%f10, %hf10, H10⟩
  ihave H11 := (owns_open c (stage0_11 0) (hstage0_11 0) (Y 11)) $$ H11; icases H11 with ⟨%f11, %hf11, H11⟩
  ihave H12 := (owns_open c (stage0_12 0) (hstage0_12 0) (Y 12)) $$ H12; icases H12 with ⟨%f12, %hf12, H12⟩
  iapply (prep_wp (F := F) c (stage0_0 0) (hstage0_0 0) (stage0_1 0) (hstage0_1 0) (stage0_2 0) (hstage0_2 0) (stage0_3 0) (hstage0_3 0)
    (stage0_4 0) (hstage0_4 0) (stage0_5 0) (hstage0_5 0) (stage0_6 0) (hstage0_6 0) (stage0_7 0) (hstage0_7 0) (stage0_8 0) (hstage0_8 0)
    (stage0_9 0) (hstage0_9 0) (stage0_10 0) (hstage0_10 0) (stage0_11 0) (hstage0_11 0) (stage0_12 0) (hstage0_12 0)
    f0 f1 f2 f3 f4 f5 f6 f7 f8 f9 f10 f11 f12)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, ⟨%g8, %hg8, H8⟩, ⟨%g9, %hg9, H9⟩, ⟨%g10, %hg10, H10⟩, ⟨%g11, %hg11, H11⟩, ⟨%g12, %hg12, H12⟩⟩
  rw [hf0, m0] at hg8
  rw [hf1, hf5, m1, m5] at hg9
  rw [hf3, hf6, m3, m6] at hg10
  rw [hf2, hf4, m2, m4] at hg11
  rw [hf7, m7] at hg12
  isplitl [Hsc]; · iexact Hsc
  isplitl [Howes]; · iexact Howes
  isplitl [H0]; · iexists ((stage0_0 0).view.read (Elt F) f0); isplitr; (· ipureintro; trivial); iapply (owns_close c (stage0_0 0) (hstage0_0 0) _ f0 rfl); iexact H0
  isplitl [H1]; · iexists ((stage0_1 0).view.read (Elt F) f1); isplitr; (· ipureintro; trivial); iapply (owns_close c (stage0_1 0) (hstage0_1 0) _ f1 rfl); iexact H1
  isplitl [H2]; · iexists ((stage0_2 0).view.read (Elt F) f2); isplitr; (· ipureintro; trivial); iapply (owns_close c (stage0_2 0) (hstage0_2 0) _ f2 rfl); iexact H2
  isplitl [H3]; · iexists ((stage0_3 0).view.read (Elt F) f3); isplitr; (· ipureintro; trivial); iapply (owns_close c (stage0_3 0) (hstage0_3 0) _ f3 rfl); iexact H3
  isplitl [H4]; · iexists ((stage0_4 0).view.read (Elt F) f4); isplitr; (· ipureintro; trivial); iapply (owns_close c (stage0_4 0) (hstage0_4 0) _ f4 rfl); iexact H4
  isplitl [H5]; · iexists ((stage0_5 0).view.read (Elt F) f5); isplitr; (· ipureintro; trivial); iapply (owns_close c (stage0_5 0) (hstage0_5 0) _ f5 rfl); iexact H5
  isplitl [H6]; · iexists ((stage0_6 0).view.read (Elt F) f6); isplitr; (· ipureintro; trivial); iapply (owns_close c (stage0_6 0) (hstage0_6 0) _ f6 rfl); iexact H6
  isplitl [H7]; · iexists ((stage0_7 0).view.read (Elt F) f7); isplitr; (· ipureintro; trivial); iapply (owns_close c (stage0_7 0) (hstage0_7 0) _ f7 rfl); iexact H7
  isplitl [H8]; · iexists (k0_pay2 (V c main_arg8)); isplitr; (· ipureintro; exact rfl); iapply (owns_close c (stage0_8 0) (hstage0_8 0) _ g8 hg8); iexact H8
  isplitl [H9]; · iexists (weightsOf (V c main_arg9) (V c main_arg10)); isplitr; (· ipureintro; exact rfl); iapply (owns_close c (stage0_9 0) (hstage0_9 0) _ g9 hg9); iexact H9
  isplitl [H10]; · iexists (weightsOf (V c main_arg12) (V c main_arg13)); isplitr; (· ipureintro; exact rfl); iapply (owns_close c (stage0_10 0) (hstage0_10 0) _ g10 hg10); iexact H10
  isplitl [H11]; · iexists (biasOf (V c main_v14) (V c main_v15)); isplitr; (· ipureintro; exact rfl); iapply (owns_close c (stage0_11 0) (hstage0_11 0) _ g11 hg11); iexact H11
  iexists (maskOf (V c main_v8)); isplitr; (· ipureintro; exact rfl); iapply (owns_close c (stage0_12 0) (hstage0_12 0) _ g12 hg12); iexact H12

/-- A wait of the call's own is allowed while the TensorCore owes the SparseCore call. -/
theorem waits_ok (c : Dev nD) : (levAts (K (F := F)).L (K (F := F)).lev : sProp (MM F))
    ⊢ Pipeline.RDat.cellsWaits (Pipeline.pin (pcfgs (F := F)) adm) (rdats V) none 0 c :=
  Pipeline.RDat.cellsWaits_intro _ _ _ _ _ fun w s t => (K (F := F)).mayWait_none _ fun g => by
    rcases Nat.eq_zero_or_pos ((rdats V 0 c).owed t g none) with h | h
    · exact h
    · have := (K (F := F)).lev_of_Otc_pos h
      rw [SparseCore.Cfg.lev_none] at this
      omega

/-- What the TensorCore owes before the SparseCore calls from the `n`-th on, its recorded waits all at level 0 or of calls
    before. -/
def owing (n : ℕ) (c : Dev nD) : sProp (MM F) :=
  iprop(∃ W, ⌜(K (F := F)).WBelow (SparseCore.T c) W (8 * SparseCore.Cfg.Blocks.fst 1 1 n)⌝ ∗ owes (SparseCore.T c) ((K (F := F)).Otc c n) W)

/-- The call as a region: from every unscoped buffer at the given contents to the windows' arrays as it leaves them,
    the other buffers untouched. -/
def region : Pipeline.RDat.RegionSeg (pcfgs (F := F)) adm (rdats V) none defs₀ 𝒱₀ (K (F := F)).L (K (F := F)).lev 0 where
  win := winFacts0.to₀
  block_pos := block_pos0
  stage_whole := stage_whole0
  K := PEmpty
  osem := fun k => k.elim
  ho := Pipeline.OwnSemFacts.none spec0
  hbody := body_obligation V
  hwaits := waits_ok V
  pre c := iprop(unscopedBufs c (V c) ∗ owing 0 c)
  post c := iprop((rdats V 0 c).arraysAt cfg0.N ∗ Pipeline.unscopedRest spec0 c (V c) ∗ owing 0 c)
  X _ := iprop(emp)
  Y _ := iprop(emp)
  Z c := Pipeline.unscopedRest spec0 c (V c)
  hentry c := by
    have hs := Pipeline.RDat.arrays_of_unscopedBufs (pcfgs (F := F)) adm (rdats V) (p := 0) winFacts0 arr_whole0 c (share_eq V c) (V c) fun _ => rfl
    rw [Pipeline.ownSems0_none, Pipeline.prefHeld_of_none _ rfl]
    iintro ⟨⟨Hb, HO⟩, -, -⟩
    ihave Hb' := hs $$ Hb
    icases Hb' with ⟨Ha, Hr⟩
    imodintro
    isplitl [Ha]; · iexact Ha
    isplitr; · iempintro
    isplitl [HO]
    · unfold owing
      icases HO with ⟨%W, %hW, HO⟩
      iexists W
      isplitr; · ipureintro; exact fun p hp => Or.inl (hW p hp)
      iexact HO
    isplitr; · iempintro
    iexact Hr
  hin c := by
    show iprop(_ ∗ _ ∗ Pipeline.scopedRest spec0 c) ⊢ Pipeline.scopedRest spec0 c
    iintro ⟨-, -, H⟩
    iexact H
  hout c := by
    rw [Pipeline.ownSems0_none]
    show Pipeline.scopedRest spec0 c ⊢ iprop(_ ∗ _ ∗ Pipeline.scopedRest spec0 c)
    iintro H
    isplitr; · iempintro
    isplitr; · iempintro
    iexact H
  hexit c := by
    iintro ⟨Ha, HO, -, Hr⟩
    imodintro
    isplitl [Ha]; · iexact Ha
    isplitl [Hr]; · iexact Hr
    unfold owing
    icases HO with ⟨%W, %hW, HO⟩
    iexists W
    isplitr
    · ipureintro
      intro p hp
      rcases hW hp with h | ⟨w, s, h⟩
      · exact h
      · rw [h]; exact le_of_eq (SparseCore.Cfg.lev_none _ _)
    iexact HO

end Cert.KernelIdeal.SC
-- ==== Proof.KernelIdeal.Lstm.lean ====
/-
  The TensorCore kernel of the recurrence: what its body leaves in the block of final states.
-/
module

public import proofs.«01_k».proof.Proof.KernelIdeal.Prep
public import proofs.«01_k».proof.Proof.Gen.KernelIdeal.Skeleton
public import proofs.«01_k».proof.Proof.Gen.KernelIdeal.Launch
public import proofs.«01_k».proof.Proof.Gen.KernelIdeal.Points
public import Idealize.ShloMosaic.Lib.Exec
public import Idealize.ShloMosaic.Lib.Pointwise
public import Idealize.ShloMosaic.Lib.WritesUnit
public import Idealize.ShloMosaic.Lib.VecWindow
public import Idealize.ShloMosaic.Lib.Pipeline.ReadBack

@[expose] public section

noncomputable section

namespace Cert.KernelIdeal.SC

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The four gates' arguments of one step: the step's rows beside the states, times the weights, and the bias. -/
def gatesOf (w : FVec F S256x512 .bf16) (b : FVec F S1x512 .f32) (x : Vec F S512x128 .bf16) (h : FVec F S512x128 .f32) : FVec F S512x512 .f32 :=
  addf (matmul dot_S512x256_S256x512_S512x512_1_0_0_1_n_n none
    (concatenate S512x256 1 [⟨S512x128, x⟩, ⟨S512x128, truncf .bf16 h bitsLt_bf16_f32⟩] concatenates_S512x128_S512x128_S512x256_d1) w
    (constant S512x512 .f32 0x00000000#32)) (broadcastTo S512x512 b broadcasts_S1x512_S512x512)

/-- The new cell state from the gates' arguments and the old one: half of `(c + g) + (f·c + i·g)`, `i`, `f` and `g` the gates' tangents. -/
def cellOf (g : FVec F S512x512 .f32) (c : FVec F S512x128 .f32) : FVec F S512x128 .f32 :=
  mulf (broadcast S512x128 (Scalar.ofBits .f32 0x3F000000#32))
    (addf (addf c (tanh (extractStridedSlice S512x128 ![0, 256] g slices_S512x512_o0_256_S512x128)))
      (addf (mulf (tanh (extractStridedSlice S512x128 ![0, 128] g slices_S512x512_o0_128_S512x128)) c)
        (mulf (tanh (extractStridedSlice S512x128 ![0, 0] g slices_S512x512_o0_0_S512x128)) (tanh (extractStridedSlice S512x128 ![0, 256] g slices_S512x512_o0_256_S512x128)))))

/-- The new hidden state: half of `t + o·t`, `t` the new cell state's tangent. -/
def hiddenOf (g : FVec F S512x512 .f32) (c : FVec F S512x128 .f32) : FVec F S512x128 .f32 :=
  mulf (broadcast S512x128 (Scalar.ofBits .f32 0x3F000000#32))
    (addf (tanh (cellOf g c)) (mulf (tanh (extractStridedSlice S512x128 ![0, 384] g slices_S512x512_o0_384_S512x128)) (tanh (cellOf g c))))

/-- The rows longer than `p` take the new value, the others keep the old. -/
def keepOf (len : IVec S512x1 32) (p : BitVec 32) (new old : FVec F S512x128 .f32) : FVec F S512x128 .f32 :=
  select (broadcastTo S512x128 (shapeCast S512x1 (cmpi .sgt len (broadcast S512x1 p)) shapeCasts_S512x1_S512x1) broadcasts_S512x1_S512x128) new old

/-- One step of the recurrence, over the hidden and the cell states of 512 rows. -/
def stepOf (len : IVec S512x1 32) (w : FVec F S256x512 .bf16) (b : FVec F S1x512 .f32) (x : Vec F S512x128 .bf16) (p : BitVec 32)
    (s : FVec F S512x128 .f32 × FVec F S512x128 .f32) : FVec F S512x128 .f32 × FVec F S512x128 .f32 :=
  (keepOf len p (hiddenOf (gatesOf w b x s.1) s.2) s.1, keepOf len p (cellOf (gatesOf w b x s.1) s.2) s.2)

/-- The states after `t` steps, step `t` reading rows `x t` at place `p t`. -/
def statesOf (len : IVec S512x1 32) (w : FVec F S256x512 .bf16) (b : FVec F S1x512 .f32) (x : ℕ → Vec F S512x128 .bf16) (p : ℕ → BitVec 32) :
    ℕ → FVec F S512x128 .f32 × FVec F S512x128 .f32
  | 0 => (broadcast S512x128 (Scalar.ofBits .f32 0x00000000#32), broadcast S512x128 (Scalar.ofBits .f32 0x00000000#32))
  | t + 1 => stepOf len w b (x t) (p t) (statesOf len w b x p t)

/-- The rows a column of indices names, taken out of the table by a product with the indices' indicator. -/
def lookupOf (o : Fin 2 → ℕ) (h : S512x10.Slices o S512x1) (ix : IVec S512x10 32) (emb : FVec F S512x128 .bf16) : FVec F S512x128 .bf16 :=
  truncf .bf16 (matmul dot_S512x512_S512x128_S512x128_1_0_0_1_n_n none
    (truncf .bf16 (sitofp .f32 (extui 32 (cmpi .eq (broadcastTo S512x512 (extractStridedSlice S512x1 o ix h) broadcasts_S512x1_S512x512)
      (iota .tc S512x512 32 [1] iota_S512x512_d1_w32)) natLt_1_32)) bitsLt_bf16_f32) emb (constant S512x128 .f32 0x00000000#32)) bitsLt_bf16_f32

/-- The rows at each of the nine places. -/
def placeOf (ix : IVec S512x10 32) (emb : FVec F S512x128 .bf16) : ℕ → FVec F S512x128 .bf16
  | 0 => lookupOf ![0, 0] slices_S512x10_o0_0_S512x1 ix emb
  | 1 => lookupOf ![0, 1] slices_S512x10_o0_1_S512x1 ix emb
  | 2 => lookupOf ![0, 2] slices_S512x10_o0_2_S512x1 ix emb
  | 3 => lookupOf ![0, 3] slices_S512x10_o0_3_S512x1 ix emb
  | 4 => lookupOf ![0, 4] slices_S512x10_o0_4_S512x1 ix emb
  | 5 => lookupOf ![0, 5] slices_S512x10_o0_5_S512x1 ix emb
  | 6 => lookupOf ![0, 6] slices_S512x10_o0_6_S512x1 ix emb
  | 7 => lookupOf ![0, 7] slices_S512x10_o0_7_S512x1 ix emb
  | _ => lookupOf ![0, 8] slices_S512x10_o0_8_S512x1 ix emb

/-- The block of final states: the forward pass's beside the backward pass's. -/
def lstmOf (v0 : Vec F S10x512 .i32) (v5 : Vec F S512x128 .bf16) (wf wb : Vec F S256x512 .bf16) (bf bb : Vec F S1x512 .f32) : S512x256.Idx → F .bf16 :=
  truncf .bf16 (concatenate S512x256 1
    [⟨S512x128, (statesOf (k2_pay3 v0) wf bf (placeOf (k2_pay2 v0) v5) (fun t => BitVec.ofNat 32 t) 9).1⟩,
     ⟨S512x128, (statesOf (k2_pay3 v0) wb bb (fun t => placeOf (k2_pay2 v0) v5 (8 - t)) (fun t => BitVec.ofNat 32 (8 - t)) 9).1⟩]
    concatenates_S512x128_S512x128_S512x256_d1) bitsLt_bf16_f32

/-- A row of the two biases, loaded. -/
theorem bias_row (f : S2x512.Idx → F .f32) (r : Fin 2) (inb : ∀ a : Fin 2, ![r.val, 0] a + S1x512.size a ≤ S2x512.size a) :
    (fun j => f ((Rect.unit (s := S2x512) ![r.val, 0] S1x512.size inb).toLoadRect.idx j) : S1x512.Idx → F .f32) = fun j => f (ix2 r (j 1)) := by
  funext j
  refine congrArg f (funext fun a => Fin.ext ?_)
  have h0 : (j 0).val < 1 := (j 0).isLt
  match a with
  | ⟨0, _⟩ => show r.val + 1 * (j 0).val = r.val; omega
  | ⟨1, _⟩ => show 0 + 1 * (j 1).val = (j 1).val; omega

set_option maxHeartbeats 2000000 in
/-- The body's run: the inputs as they were, the result's buffer at the block of final states. -/
theorem lstm_wp (c : Dev nD) (i : grid2.Coords)
    (M1 : Memref sig .tc .vmem S10x512 .i32) (h1 : M1.IsWhole)
    (M2 : Memref sig .tc .vmem S512x128 .bf16) (h2 : M2.IsWhole)
    (M3 : Memref sig .tc .vmem S256x512 .bf16) (h3 : M3.IsWhole)
    (M4 : Memref sig .tc .vmem S256x512 .bf16) (h4 : M4.IsWhole)
    (M5 : Memref sig .tc .vmem S2x512 .f32) (h5 : M5.IsWhole)
    (M6 : Memref sig .tc .vmem S512x256 .bf16) (h6 : M6.IsWhole)
    (M7 : Memref sig .tc .vmem S4608x128 .bf16) (h7 : M7.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (Q : PUnit → sProp (MM F)) :
    iprop(pt c M1 f1 ∗ pt c M2 f2 ∗ pt c M3 f3 ∗ pt c M4 f4 ∗ pt c M5 f5 ∗ pt c M6 f6 ∗ pt c M7 f7
      ∗ (iprop(pt c M1 f1 ∗ pt c M2 f2 ∗ pt c M3 f3 ∗ pt c M4 f4 ∗ pt c M5 f5 ∗ (∃ f, ⌜M6.view.read (Elt F) f = lstmOf (M1.view.read (Elt F) f1) (M2.view.read (Elt F) f2) (M3.view.read (Elt F) f3) (M4.view.read (Elt F) f4)
          (fun j => M5.view.read (Elt F) f5 (ix2 (0 : Fin 2) (j 1))) (fun j => M5.view.read (Elt F) f5 (ix2 (1 : Fin 2) (j 1)))⌝ ∗ pt c M6 f) ∗ ∃ f, pt c M7 f) -∗ Q ⟨⟩))
    ⊢ wp frame (wpE (defs₀ (F := F)) Variants.none c none) Set.univ (cc2__lstm_body i M1 h1 M2 h2 M3 h3 M4 h4 M5 h5 M6 h6 M7 h7) Q := by
  rw [cc2__lstm_body_eq_skeleton]
  iintro ⟨H1, H2, H3, H4, H5, H6, H7, Hk⟩
  sl_exec_parts!
  sl_step
  iapply Hk
  isplitl [H1]; · iexact H1
  isplitl [H2]; · iexact H2
  isplitl [H3]; · iexact H3
  isplitl [H4]; · iexact H4
  isplitl [H5]; · iexact H5
  isplitr [H7]; swap; (· iexists _; iexact H7)
  iexists _; isplitr; swap; (· iexact H6)
  ipureintro
  have e2 : ∀ v : Vec F S512x128 .bf16, k2_pay4 v = v := fun v => shapeCast_self v _
  have e3 : ∀ v : Vec F S256x512 .bf16, k2_pay5 v = v := fun v => shapeCast_self v _
  have e4 : ∀ v : Vec F S256x512 .bf16, k2_pay6 v = v := fun v => shapeCast_self v _
  have e5 : ∀ v : Vec F S1x512 .f32, k2_pay7 v = v := fun v => shapeCast_self v _
  have e6 : ∀ v : Vec F S1x512 .f32, k2_pay8 v = v := fun v => shapeCast_self v _
  have hr : lstm_wp.sl.r c M1 f1 = k2_pay2 (M1.view.read (Elt F) f1) := by
    unfold lstm_wp.sl.r; rw [View.readAt_full M1.view f1 inb_S10x512_S10x512_0_0]
  have hr1 : lstm_wp.sl.r_1 c M1 f1 = k2_pay3 (M1.view.read (Elt F) f1) := by
    unfold lstm_wp.sl.r_1; rw [View.readAt_full M1.view f1 inb_S10x512_S10x512_0_0]
  have hr2 : lstm_wp.sl.r_2 c M2 f2 = M2.view.read (Elt F) f2 := by
    unfold lstm_wp.sl.r_2; rw [View.readAt_full M2.view f2 inb_S512x128_S512x128_0_0, e2]
  have hr3 : lstm_wp.sl.r_3 c M3 f3 = M3.view.read (Elt F) f3 := by
    unfold lstm_wp.sl.r_3; rw [View.readAt_full M3.view f3 inb_S256x512_S256x512_0_0, e3]
  have hr4 : lstm_wp.sl.r_4 c M4 f4 = M4.view.read (Elt F) f4 := by
    unfold lstm_wp.sl.r_4; rw [View.readAt_full M4.view f4 inb_S256x512_S256x512_0_0, e4]
  have hr5 : lstm_wp.sl.r_5 c M5 f5 = fun j => M5.view.read (Elt F) f5 (ix2 (0 : Fin 2) (j 1)) := by
    unfold lstm_wp.sl.r_5
    rw [e5]; exact bias_row (M5.view.read (Elt F) f5) 0 inb_S2x512_S1x512_0_0
  have hr6 : lstm_wp.sl.r_6 c M5 f5 = fun j => M5.view.read (Elt F) f5 (ix2 (1 : Fin 2) (j 1)) := by
    unfold lstm_wp.sl.r_6
    rw [e6]; exact bias_row (M5.view.read (Elt F) f5) 1 inb_S2x512_S1x512_1_0
  have hX : ∀ n, placeOf (lstm_wp.sl.r c M1 f1) (lstm_wp.sl.r_2 c M2 f2) n = placeOf (k2_pay2 (M1.view.read (Elt F) f1)) (M2.view.read (Elt F) f2) n := by rw [hr, hr2]; exact fun _ => rfl
  have x0 : lstm_wp.sl.v118 c M1 M2 M7 f1 f2 = placeOf (lstm_wp.sl.r c M1 f1) (lstm_wp.sl.r_2 c M2 f2) 0 := by
    unfold lstm_wp.sl.v118 lstm_wp.sl.H7_9 lstm_wp.sl.H7_5 lstm_wp.sl.H7_1
    rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide)]; exact (View.readCov_cons_toLoadRect _ _ _ _).trans (shapeCast_self _ _)
  have x1 : lstm_wp.sl.v186 c M1 M2 M7 f1 f2 = placeOf (lstm_wp.sl.r c M1 f1) (lstm_wp.sl.r_2 c M2 f2) 1 := by
    unfold lstm_wp.sl.v186 lstm_wp.sl.H7_9 lstm_wp.sl.H7_5
    rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide)]; exact (View.readCov_cons_toLoadRect _ _ _ _).trans (shapeCast_self _ _)
  have x2 : lstm_wp.sl.v254 c M1 M2 M7 f1 f2 = placeOf (lstm_wp.sl.r c M1 f1) (lstm_wp.sl.r_2 c M2 f2) 2 := by
    unfold lstm_wp.sl.v254 lstm_wp.sl.H7_9 lstm_wp.sl.H7_5
    rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide)]; exact (View.readCov_cons_toLoadRect _ _ _ _).trans (shapeCast_self _ _)
  have x3 : lstm_wp.sl.v322 c M1 M2 M7 f1 f2 = placeOf (lstm_wp.sl.r c M1 f1) (lstm_wp.sl.r_2 c M2 f2) 3 := by
    unfold lstm_wp.sl.v322 lstm_wp.sl.H7_9 lstm_wp.sl.H7_5
    rw [View.readCov_skip _ _ _ _ _ (by decide), View.readCov_skip _ _ _ _ _ (by decide), View.readCov_skip _ _ _ _ _ (by decide), View.readCov_skip _ _ _ _ _ (by decide), View.readCov_skip _ _ _ _ _ (by decide)]; exact (View.readCov_cons_toLoadRect _ _ _ _).trans (shapeCast_self _ _)
  have x4 : lstm_wp.sl.v390 c M1 M2 M7 f1 f2 = placeOf (lstm_wp.sl.r c M1 f1) (lstm_wp.sl.r_2 c M2 f2) 4 := by
    unfold lstm_wp.sl.v390 lstm_wp.sl.H7_9 lstm_wp.sl.H7_5
    rw [View.readCov_skip _ _ _ _ _ (by decide), View.readCov_skip _ _ _ _ _ (by decide), View.readCov_skip _ _ _ _ _ (by decide), View.readCov_skip _ _ _ _ _ (by decide)]; exact (View.readCov_cons_toLoadRect _ _ _ _).trans (shapeCast_self _ _)
  have x5 : lstm_wp.sl.v323 c M1 M2 M7 f1 f2 = placeOf (lstm_wp.sl.r c M1 f1) (lstm_wp.sl.r_2 c M2 f2) 5 := by
    unfold lstm_wp.sl.v323 lstm_wp.sl.H7_9
    rw [View.readCov_skip _ _ _ _ _ (by decide), View.readCov_skip _ _ _ _ _ (by decide), View.readCov_skip _ _ _ _ _ (by decide)]; exact (View.readCov_cons_toLoadRect _ _ _ _).trans (shapeCast_self _ _)
  have x6 : lstm_wp.sl.v255 c M1 M2 M7 f1 f2 = placeOf (lstm_wp.sl.r c M1 f1) (lstm_wp.sl.r_2 c M2 f2) 6 := by
    unfold lstm_wp.sl.v255 lstm_wp.sl.H7_9
    rw [View.readCov_skip _ _ _ _ _ (by decide), View.readCov_skip _ _ _ _ _ (by decide)]; exact (View.readCov_cons_toLoadRect _ _ _ _).trans (shapeCast_self _ _)
  have x7 : lstm_wp.sl.v187 c M1 M2 M7 f1 f2 = placeOf (lstm_wp.sl.r c M1 f1) (lstm_wp.sl.r_2 c M2 f2) 7 := by
    unfold lstm_wp.sl.v187 lstm_wp.sl.H7_9
    rw [View.readCov_skip _ _ _ _ _ (by decide)]; exact (View.readCov_cons_toLoadRect _ _ _ _).trans (shapeCast_self _ _)
  have x8 : lstm_wp.sl.v119 c M1 M2 M7 f1 f2 = placeOf (lstm_wp.sl.r c M1 f1) (lstm_wp.sl.r_2 c M2 f2) 8 := by
    unfold lstm_wp.sl.v119 lstm_wp.sl.H7_9
    exact (View.readCov_cons_toLoadRect _ _ _ _).trans (shapeCast_self _ _)
  generalize hX' : placeOf (lstm_wp.sl.r c M1 f1) (lstm_wp.sl.r_2 c M2 f2) = X at *
  obtain ⟨S, hS0, hSs, hSe⟩ : ∃ S : ℕ → FVec F S512x128 .f32 × FVec F S512x128 .f32, S 0 = (k2_pay9, k2_pay10)
      ∧ (∀ t, S (t + 1) = stepOf (lstm_wp.sl.r_1 c M1 f1) (lstm_wp.sl.r_3 c M3 f3) (lstm_wp.sl.r_5 c M5 f5) (X t) (BitVec.ofNat 32 t) (S t))
      ∧ statesOf (lstm_wp.sl.r_1 c M1 f1) (lstm_wp.sl.r_3 c M3 f3) (lstm_wp.sl.r_5 c M5 f5) X (fun t => BitVec.ofNat 32 t) = S :=
    ⟨_, rfl, fun _ => rfl, rfl⟩
  obtain ⟨T, hT0, hTs, hTe⟩ : ∃ T : ℕ → FVec F S512x128 .f32 × FVec F S512x128 .f32, T 0 = (k2_pay11, k2_pay12)
      ∧ (∀ t, T (t + 1) = stepOf (lstm_wp.sl.r_1 c M1 f1) (lstm_wp.sl.r_4 c M4 f4) (lstm_wp.sl.r_6 c M5 f5) (X (8 - t)) (BitVec.ofNat 32 (8 - t)) (T t))
      ∧ statesOf (lstm_wp.sl.r_1 c M1 f1) (lstm_wp.sl.r_4 c M4 f4) (lstm_wp.sl.r_6 c M5 f5) (fun t => X (8 - t)) (fun t => BitVec.ofNat 32 (8 - t)) = T :=
    ⟨_, rfl, fun _ => rfl, rfl⟩
  have fs1 : S 1 = stepOf (lstm_wp.sl.r_1 c M1 f1) (lstm_wp.sl.r_3 c M3 f3) (lstm_wp.sl.r_5 c M5 f5) (X 0) 0#32 (S 0) := hSs 0
  have fh1 : lstm_wp.sl.r_11 c M1 M2 M3 M5 M7 f1 f2 f3 f5 = (S 1).1 := by
    unfold lstm_wp.sl.r_11 lstm_wp.sl.r_9
    rw [x0, fs1, hS0]; rfl
  have fc1 : lstm_wp.sl.r_12 c M1 M2 M3 M5 M7 f1 f2 f3 f5 = (S 1).2 := by
    unfold lstm_wp.sl.r_12 lstm_wp.sl.r_9
    rw [x0, fs1, hS0]; rfl
  have bs1 : T 1 = stepOf (lstm_wp.sl.r_1 c M1 f1) (lstm_wp.sl.r_4 c M4 f4) (lstm_wp.sl.r_6 c M5 f5) (X 8) 8#32 (T 0) := hTs 0
  have bh1 : lstm_wp.sl.r_17 c M1 M2 M4 M5 M7 f1 f2 f4 f5 = (T 1).1 := by
    unfold lstm_wp.sl.r_17 lstm_wp.sl.r_16 lstm_wp.sl.r_14 lstm_wp.sl.r_10 lstm_wp.sl.r_13
    rw [x8, bs1, hT0]; rfl
  have bc1 : lstm_wp.sl.r_18 c M1 M2 M4 M5 M7 f1 f2 f4 f5 = (T 1).2 := by
    unfold lstm_wp.sl.r_18 lstm_wp.sl.r_15 lstm_wp.sl.r_10 lstm_wp.sl.r_13
    rw [x8, bs1, hT0]; rfl
  have m19 : lstm_wp.sl.r_19 c M1 M2 M4 M5 M7 f1 f2 f4 f5 = gatesOf (lstm_wp.sl.r_4 c M4 f4) (lstm_wp.sl.r_6 c M5 f5) (X 7) (T 1).1 := by
    rw [← bh1, ← x7]; unfold lstm_wp.sl.r_19 lstm_wp.sl.r_17; rfl
  have fs2 : S 2 = stepOf (lstm_wp.sl.r_1 c M1 f1) (lstm_wp.sl.r_3 c M3 f3) (lstm_wp.sl.r_5 c M5 f5) (X 1) 1#32 (S 1) := hSs 1
  have fh2 : lstm_wp.sl.r_20 c M1 M2 M3 M5 M7 f1 f2 f3 f5 = (S 2).1 := by
    unfold lstm_wp.sl.r_20
    rw [fh1, fc1, x1, fs2]; rfl
  have fc2 : lstm_wp.sl.r_21 c M1 M2 M3 M5 M7 f1 f2 f3 f5 = (S 2).2 := by
    unfold lstm_wp.sl.r_21
    rw [fh1, fc1, x1, fs2]; rfl
  have bs2 : T 2 = stepOf (lstm_wp.sl.r_1 c M1 f1) (lstm_wp.sl.r_4 c M4 f4) (lstm_wp.sl.r_6 c M5 f5) (X 7) 7#32 (T 1) := hTs 1
  have bh2 : lstm_wp.sl.r_22 c M1 M2 M4 M5 M7 f1 f2 f4 f5 = (T 2).1 := by
    unfold lstm_wp.sl.r_22
    rw [bh1, bc1, m19, bs2]; rfl
  have bc2 : lstm_wp.sl.r_23 c M1 M2 M4 M5 M7 f1 f2 f4 f5 = (T 2).2 := by
    unfold lstm_wp.sl.r_23
    rw [bc1, m19, bs2]; rfl
  have m24 : lstm_wp.sl.r_24 c M1 M2 M4 M5 M7 f1 f2 f4 f5 = gatesOf (lstm_wp.sl.r_4 c M4 f4) (lstm_wp.sl.r_6 c M5 f5) (X 6) (T 2).1 := by
    rw [← bh2, ← x6]; unfold lstm_wp.sl.r_24 lstm_wp.sl.r_22; rfl
  have fs3 : S 3 = stepOf (lstm_wp.sl.r_1 c M1 f1) (lstm_wp.sl.r_3 c M3 f3) (lstm_wp.sl.r_5 c M5 f5) (X 2) 2#32 (S 2) := hSs 2
  have fh3 : lstm_wp.sl.r_30 c M1 M2 M3 M5 M7 f1 f2 f3 f5 = (S 3).1 := by
    unfold lstm_wp.sl.r_30 lstm_wp.sl.r_29 lstm_wp.sl.r_28 lstm_wp.sl.r_27 lstm_wp.sl.r_26 lstm_wp.sl.r_25
    rw [fh2, fc2, x2, fs3]; rfl
  have fc3 : lstm_wp.sl.r_31 c M1 M2 M3 M5 M7 f1 f2 f3 f5 = (S 3).2 := by
    unfold lstm_wp.sl.r_31 lstm_wp.sl.r_28 lstm_wp.sl.r_27 lstm_wp.sl.r_26 lstm_wp.sl.r_25
    rw [fc2, fh2, x2, fs3]; rfl
  have m34 : lstm_wp.sl.r_34 c M1 M2 M3 M5 M7 f1 f2 f3 f5 = concatenate S512x256 1 [⟨S512x128, (X 3)⟩, ⟨S512x128, truncf .bf16 (S 3).1 bitsLt_bf16_f32⟩] concatenates_S512x128_S512x128_S512x256_d1 := by
    rw [← fh3, ← x3]; unfold lstm_wp.sl.r_34 lstm_wp.sl.r_30; rfl
  have bs3 : T 3 = stepOf (lstm_wp.sl.r_1 c M1 f1) (lstm_wp.sl.r_4 c M4 f4) (lstm_wp.sl.r_6 c M5 f5) (X 6) 6#32 (T 2) := hTs 2
  have bh3 : lstm_wp.sl.r_32 c M1 M2 M4 M5 M7 f1 f2 f4 f5 = (T 3).1 := by
    unfold lstm_wp.sl.r_32
    rw [bh2, bc2, m24, bs3]; rfl
  have bc3 : lstm_wp.sl.r_33 c M1 M2 M4 M5 M7 f1 f2 f4 f5 = (T 3).2 := by
    unfold lstm_wp.sl.r_33
    rw [bc2, m24, bs3]; rfl
  have m35 : lstm_wp.sl.r_35 c M1 M2 M4 M5 M7 f1 f2 f4 f5 = truncf .bf16 (T 3).1 bitsLt_bf16_f32 := by
    rw [← bh3]; unfold lstm_wp.sl.r_35 lstm_wp.sl.r_32; rfl
  have fs4 : S 4 = stepOf (lstm_wp.sl.r_1 c M1 f1) (lstm_wp.sl.r_3 c M3 f3) (lstm_wp.sl.r_5 c M5 f5) (X 3) 3#32 (S 3) := hSs 3
  have fh4 : lstm_wp.sl.r_36 c M1 M2 M3 M5 M7 f1 f2 f3 f5 = (S 4).1 := by
    unfold lstm_wp.sl.r_36
    rw [fh3, fc3, m34, fs4]; rfl
  have fc4 : lstm_wp.sl.r_37 c M1 M2 M3 M5 M7 f1 f2 f3 f5 = (S 4).2 := by
    unfold lstm_wp.sl.r_37
    rw [fc3, m34, fs4]; rfl
  have bs4 : T 4 = stepOf (lstm_wp.sl.r_1 c M1 f1) (lstm_wp.sl.r_4 c M4 f4) (lstm_wp.sl.r_6 c M5 f5) (X 5) 5#32 (T 3) := hTs 3
  have bh4 : lstm_wp.sl.r_42 c M1 M2 M4 M5 M7 f1 f2 f4 f5 = (T 4).1 := by
    unfold lstm_wp.sl.r_42 lstm_wp.sl.r_41 lstm_wp.sl.r_39 lstm_wp.sl.r_38
    rw [bh3, bc3, x5, m35, bs4]; rfl
  have bc4 : lstm_wp.sl.r_43 c M1 M2 M4 M5 M7 f1 f2 f4 f5 = (T 4).2 := by
    unfold lstm_wp.sl.r_43 lstm_wp.sl.r_40 lstm_wp.sl.r_38
    rw [bc3, x5, m35, bs4]; rfl
  have m44 : lstm_wp.sl.r_44 c M1 M2 M4 M5 M7 f1 f2 f4 f5 = gatesOf (lstm_wp.sl.r_4 c M4 f4) (lstm_wp.sl.r_6 c M5 f5) (X 4) (T 4).1 := by
    rw [← bh4, ← x4]; unfold lstm_wp.sl.r_44 lstm_wp.sl.r_42; rfl
  have fs5 : S 5 = stepOf (lstm_wp.sl.r_1 c M1 f1) (lstm_wp.sl.r_3 c M3 f3) (lstm_wp.sl.r_5 c M5 f5) (X 4) 4#32 (S 4) := hSs 4
  have fh5 : lstm_wp.sl.r_45 c M1 M2 M3 M5 M7 f1 f2 f3 f5 = (S 5).1 := by
    unfold lstm_wp.sl.r_45
    rw [fh4, fc4, x4, fs5]; rfl
  have fc5 : lstm_wp.sl.r_46 c M1 M2 M3 M5 M7 f1 f2 f3 f5 = (S 5).2 := by
    unfold lstm_wp.sl.r_46
    rw [fh4, fc4, x4, fs5]; rfl
  have bs5 : T 5 = stepOf (lstm_wp.sl.r_1 c M1 f1) (lstm_wp.sl.r_4 c M4 f4) (lstm_wp.sl.r_6 c M5 f5) (X 4) 4#32 (T 4) := hTs 4
  have bh5 : lstm_wp.sl.r_47 c M1 M2 M4 M5 M7 f1 f2 f4 f5 = (T 5).1 := by
    unfold lstm_wp.sl.r_47
    rw [bh4, bc4, m44, bs5]; rfl
  have bc5 : lstm_wp.sl.r_48 c M1 M2 M4 M5 M7 f1 f2 f4 f5 = (T 5).2 := by
    unfold lstm_wp.sl.r_48
    rw [bc4, m44, bs5]; rfl
  have m49 : lstm_wp.sl.r_49 c M1 M2 M4 M5 M7 f1 f2 f4 f5 = gatesOf (lstm_wp.sl.r_4 c M4 f4) (lstm_wp.sl.r_6 c M5 f5) (X 3) (T 5).1 := by
    rw [← bh5, ← x3]; unfold lstm_wp.sl.r_49 lstm_wp.sl.r_47; rfl
  have fs6 : S 6 = stepOf (lstm_wp.sl.r_1 c M1 f1) (lstm_wp.sl.r_3 c M3 f3) (lstm_wp.sl.r_5 c M5 f5) (X 5) 5#32 (S 5) := hSs 5
  have fh6 : lstm_wp.sl.r_55 c M1 M2 M3 M5 M7 f1 f2 f3 f5 = (S 6).1 := by
    unfold lstm_wp.sl.r_55 lstm_wp.sl.r_54 lstm_wp.sl.r_53 lstm_wp.sl.r_52 lstm_wp.sl.r_51 lstm_wp.sl.r_50
    rw [fh5, fc5, x5, fs6]; rfl
  have fc6 : lstm_wp.sl.r_56 c M1 M2 M3 M5 M7 f1 f2 f3 f5 = (S 6).2 := by
    unfold lstm_wp.sl.r_56 lstm_wp.sl.r_53 lstm_wp.sl.r_52 lstm_wp.sl.r_51 lstm_wp.sl.r_50
    rw [fc5, fh5, x5, fs6]; rfl
  have m59 : lstm_wp.sl.r_59 c M1 M2 M3 M5 M7 f1 f2 f3 f5 = concatenate S512x256 1 [⟨S512x128, (X 6)⟩, ⟨S512x128, truncf .bf16 (S 6).1 bitsLt_bf16_f32⟩] concatenates_S512x128_S512x128_S512x256_d1 := by
    rw [← fh6, ← x6]; unfold lstm_wp.sl.r_59 lstm_wp.sl.r_55; rfl
  have bs6 : T 6 = stepOf (lstm_wp.sl.r_1 c M1 f1) (lstm_wp.sl.r_4 c M4 f4) (lstm_wp.sl.r_6 c M5 f5) (X 3) 3#32 (T 5) := hTs 5
  have bh6 : lstm_wp.sl.r_57 c M1 M2 M4 M5 M7 f1 f2 f4 f5 = (T 6).1 := by
    unfold lstm_wp.sl.r_57
    rw [bh5, bc5, m49, bs6]; rfl
  have bc6 : lstm_wp.sl.r_58 c M1 M2 M4 M5 M7 f1 f2 f4 f5 = (T 6).2 := by
    unfold lstm_wp.sl.r_58
    rw [bc5, m49, bs6]; rfl
  have m60 : lstm_wp.sl.r_60 c M1 M2 M4 M5 M7 f1 f2 f4 f5 = truncf .bf16 (T 6).1 bitsLt_bf16_f32 := by
    rw [← bh6]; unfold lstm_wp.sl.r_60 lstm_wp.sl.r_57; rfl
  have fs7 : S 7 = stepOf (lstm_wp.sl.r_1 c M1 f1) (lstm_wp.sl.r_3 c M3 f3) (lstm_wp.sl.r_5 c M5 f5) (X 6) 6#32 (S 6) := hSs 6
  have fh7 : lstm_wp.sl.r_61 c M1 M2 M3 M5 M7 f1 f2 f3 f5 = (S 7).1 := by
    unfold lstm_wp.sl.r_61
    rw [fh6, fc6, m59, fs7]; rfl
  have fc7 : lstm_wp.sl.r_62 c M1 M2 M3 M5 M7 f1 f2 f3 f5 = (S 7).2 := by
    unfold lstm_wp.sl.r_62
    rw [fc6, m59, fs7]; rfl
  have bs7 : T 7 = stepOf (lstm_wp.sl.r_1 c M1 f1) (lstm_wp.sl.r_4 c M4 f4) (lstm_wp.sl.r_6 c M5 f5) (X 2) 2#32 (T 6) := hTs 6
  have bh7 : lstm_wp.sl.r_67 c M1 M2 M4 M5 M7 f1 f2 f4 f5 = (T 7).1 := by
    unfold lstm_wp.sl.r_67 lstm_wp.sl.r_66 lstm_wp.sl.r_64 lstm_wp.sl.r_63
    rw [bh6, bc6, x2, m60, bs7]; rfl
  have bc7 : lstm_wp.sl.r_68 c M1 M2 M4 M5 M7 f1 f2 f4 f5 = (T 7).2 := by
    unfold lstm_wp.sl.r_68 lstm_wp.sl.r_65 lstm_wp.sl.r_63
    rw [bc6, x2, m60, bs7]; rfl
  have m69 : lstm_wp.sl.r_69 c M1 M2 M4 M5 M7 f1 f2 f4 f5 = gatesOf (lstm_wp.sl.r_4 c M4 f4) (lstm_wp.sl.r_6 c M5 f5) (X 1) (T 7).1 := by
    rw [← bh7, ← x1]; unfold lstm_wp.sl.r_69 lstm_wp.sl.r_67; rfl
  have fs8 : S 8 = stepOf (lstm_wp.sl.r_1 c M1 f1) (lstm_wp.sl.r_3 c M3 f3) (lstm_wp.sl.r_5 c M5 f5) (X 7) 7#32 (S 7) := hSs 7
  have fh8 : lstm_wp.sl.r_70 c M1 M2 M3 M5 M7 f1 f2 f3 f5 = (S 8).1 := by
    unfold lstm_wp.sl.r_70
    rw [fh7, fc7, x7, fs8]; rfl
  have fc8 : lstm_wp.sl.r_71 c M1 M2 M3 M5 M7 f1 f2 f3 f5 = (S 8).2 := by
    unfold lstm_wp.sl.r_71
    rw [fh7, fc7, x7, fs8]; rfl
  have bs8 : T 8 = stepOf (lstm_wp.sl.r_1 c M1 f1) (lstm_wp.sl.r_4 c M4 f4) (lstm_wp.sl.r_6 c M5 f5) (X 1) 1#32 (T 7) := hTs 7
  have bh8 : lstm_wp.sl.r_72 c M1 M2 M4 M5 M7 f1 f2 f4 f5 = (T 8).1 := by
    unfold lstm_wp.sl.r_72
    rw [bh7, bc7, m69, bs8]; rfl
  have bc8 : lstm_wp.sl.r_73 c M1 M2 M4 M5 M7 f1 f2 f4 f5 = (T 8).2 := by
    unfold lstm_wp.sl.r_73
    rw [bc7, m69, bs8]; rfl
  have m74 : lstm_wp.sl.r_74 c M1 M2 M4 M5 M7 f1 f2 f4 f5 = gatesOf (lstm_wp.sl.r_4 c M4 f4) (lstm_wp.sl.r_6 c M5 f5) (X 0) (T 8).1 := by
    rw [← bh8, ← x0]; unfold lstm_wp.sl.r_74 lstm_wp.sl.r_72; rfl
  unfold lstm_wp.sl.H6_1
  funext y
  rw [View.read_writes_cons_unit_of_mem M6.view M6.view.junk inb_S512x256_S512x256_0_0 _ [] y y rfl (by intro a; fin_cases a <;> exact (Nat.zero_add _).symm)]
  have hy : lstm_wp.sl.r_80 c M1 M2 M3 M4 M5 M7 f1 f2 f3 f4 f5 = concatenate S512x256 1
      [⟨S512x128, (S 9).1⟩,
       ⟨S512x128, (T 9).1⟩]
      concatenates_S512x128_S512x128_S512x256_d1 := by
    unfold lstm_wp.sl.r_80 lstm_wp.sl.r_79 lstm_wp.sl.r_78 lstm_wp.sl.r_77 lstm_wp.sl.r_76 lstm_wp.sl.r_75
    rw [fh8, fc8, bh8, bc8, m74, x8, show S 9 = _ from hSs 8, show T 9 = _ from hTs 8]; rfl
  rw [hy, ← hSe, ← hTe, ← hX', hr, hr1, hr2, hr3, hr4, hr5, hr6]
  rfl

end Cert.KernelIdeal.SC

end
-- ==== Proof.KernelIdeal.LstmRegion.lean ====
/-
  The TensorCore call that runs the recurrence, as a region of @main after the SparseCore call: entered with its five
  operands' buffers and its result's at any contents, and left with the result at the final states, block by block.
-/
module

public import proofs.«01_k».proof.Proof.KernelIdeal.Region
public import proofs.«01_k».proof.Proof.KernelIdeal.Lstm
public import Idealize.ShloMosaic.Lib.Pipeline.FrameBody

@[expose] public section

noncomputable section

namespace Cert.KernelIdeal.SC

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
variable (V : Bufs F)

/-- Window `w`'s block of its array at point `t`. -/
abbrev lblk (c : Dev nD) (w : Fin 6) (t : Fin grid2.N) : ((win2 w).xblock (grid2.coords t)).Idx → Elt F (win2 w).elt :=
  ((win2 w).blk t).view.read (Elt F) (V c (Pipeline.arrRef spec2 w))

/-- What the body leaves in each window's buffer: the inputs' blocks, and the final states computed from them. -/
def lafter (c : Dev nD) (w : Fin 6) (t : Fin grid2.N) : (win2 w).block.Idx → Elt F (win2 w).elt :=
  match w with
  | ⟨0, _⟩ => lblk V c 0 t
  | ⟨1, _⟩ => lblk V c 1 t
  | ⟨2, _⟩ => lblk V c 2 t
  | ⟨3, _⟩ => lblk V c 3 t
  | ⟨4, _⟩ => lblk V c 4 t
  | ⟨5, _⟩ => lstmOf (lblk V c 0 t) (lblk V c 1 t) (lblk V c 2 t) (lblk V c 3 t) (fun j => (lblk V c 4 t : S2x512.Idx → F .f32) (ix2 (0 : Fin 2) (j 1))) (fun j => (lblk V c 4 t : S2x512.Idx → F .f32) (ix2 (1 : Fin 2) (j 1)))

/-- The call's proof data. (The other calls' entries are not read.) -/
def ldats (p : Fin 3) (c : Dev nD) : Pipeline.Dat τ (Elt F) (HIx 1) ℕ UU ℕ (Pipeline.pin (pcfgs (F := F)) adm p) c :=
  match p with
  | ⟨0, _⟩ =>
    { A := fun w => V c (Pipeline.arrRef spec0 w)
      after := Pipeline.Dat.unnamed
      Φ := fun _ => iprop(emp)
      q := fun _ => fullShare
      owed := fun _ => 0 }
  | ⟨1, _⟩ =>
    { A := fun w => V c (Pipeline.arrRef spec2 w)
      after := lafter V c
      Φ := fun _ => Pipeline.scopedRest spec2 c
      q := fun _ => fullShare
      owed := fun _ => (K (F := F)).Otc c 1
      recorded := fun _ => {p | (K (F := F)).lev (SparseCore.T c, p.1) p.2 ≤ 8 * SparseCore.Cfg.Blocks.fst 1 1 1} }
  | ⟨2, _⟩ =>
    { A := fun w => V c (Pipeline.arrRef spec3 w)
      after := Pipeline.Dat.unnamed
      Φ := fun _ => iprop(emp)
      q := fun _ => fullShare
      owed := fun _ => 0 }

theorem l_before0 (c : Dev nD) (t : Fin grid2.N) (d) : (ldats V 1 c).before 0 t d = lblk V c 0 t :=
  ((ldats V 1 c).before_in_eq_fetched 0 rfl (fun _ => rfl) (fun _ _ _ => rfl) (fun t => rfl) t d).trans rfl
theorem l_before1 (c : Dev nD) (t : Fin grid2.N) (d) : (ldats V 1 c).before 1 t d = lblk V c 1 t :=
  ((ldats V 1 c).before_in_eq_fetched 1 rfl (fun _ => rfl) (fun _ _ _ => rfl) (fun t => rfl) t d).trans rfl
theorem l_before2 (c : Dev nD) (t : Fin grid2.N) (d) : (ldats V 1 c).before 2 t d = lblk V c 2 t :=
  ((ldats V 1 c).before_in_eq_fetched 2 rfl (fun _ => rfl) (fun _ _ _ => rfl) (fun t => rfl) t d).trans rfl
theorem l_before3 (c : Dev nD) (t : Fin grid2.N) (d) : (ldats V 1 c).before 3 t d = lblk V c 3 t :=
  ((ldats V 1 c).before_in_eq_fetched 3 rfl (fun _ => rfl) (fun _ _ _ => rfl) (fun t => rfl) t d).trans rfl
theorem l_before4 (c : Dev nD) (t : Fin grid2.N) (d) : (ldats V 1 c).before 4 t d = lblk V c 4 t :=
  ((ldats V 1 c).before_in_eq_fetched 4 rfl (fun _ => rfl) (fun _ _ _ => rfl) (fun t => rfl) t d).trans rfl

-- Six windows' buffers through some thirty proof-mode steps.
set_option maxHeartbeats 2000000 in
theorem l_body_obligation (c : Dev nD) : Pipeline.BodyObligationLoose (ldats V 1 c) (defs₀ (F := F)) 𝒱₀ none Set.univ := fun t => by
  rw [bigSep_W2, bigSep_W2]
  show iprop(Pipeline.scopedRest spec2 c ∗ (ldats V 1 c).owesAt none t.castSucc
      ∗ (∃ d, owns c.tc (st2_0 t) fullShare ((ldats V 1 c).before 0 t d)) ∗ (∃ d, owns c.tc (st2_1 t) fullShare ((ldats V 1 c).before 1 t d)) ∗ (∃ d, owns c.tc (st2_2 t) fullShare ((ldats V 1 c).before 2 t d)) ∗ (∃ d, owns c.tc (st2_3 t) fullShare ((ldats V 1 c).before 3 t d)) ∗ (∃ d, owns c.tc (st2_4 t) fullShare ((ldats V 1 c).before 4 t d)) ∗ (∃ d, owns c.tc (st2_5 t) fullShare ((ldats V 1 c).before 5 t d)))
    ⊢ wp frame (wpE (defs₀ (F := F)) 𝒱₀ c none) Set.univ (cc2__lstm_body (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (Memref.whole cc2_scratch0) (Memref.isWhole_whole _))
      fun _ => iprop(Pipeline.scopedRest spec2 c ∗ (ldats V 1 c).owesAt none t.castSucc
      ∗ owns c.tc (st2_0 t) fullShare (lblk V c 0 t) ∗ owns c.tc (st2_1 t) fullShare (lblk V c 1 t) ∗ owns c.tc (st2_2 t) fullShare (lblk V c 2 t) ∗ owns c.tc (st2_3 t) fullShare (lblk V c 3 t) ∗ owns c.tc (st2_4 t) fullShare (lblk V c 4 t) ∗ owns c.tc (st2_5 t) fullShare (lstmOf (lblk V c 0 t) (lblk V c 1 t) (lblk V c 2 t) (lblk V c 3 t) (fun j => (lblk V c 4 t : S2x512.Idx → F .f32) (ix2 (0 : Fin 2) (j 1))) (fun j => (lblk V c 4 t : S2x512.Idx → F .f32) (ix2 (1 : Fin 2) (j 1)))))
  rw [scopedRest2_split]
  iintro ⟨⟨⟨%f6, H6⟩, Hsc⟩, Howes, ⟨%d0, H0⟩, ⟨%d1, H1⟩, ⟨%d2, H2⟩, ⟨%d3, H3⟩, ⟨%d4, H4⟩, ⟨%d5, H5⟩⟩
  ihave H0 := (owns_open c (st2_0 t) (stage_whole2 0 _) ((ldats V 1 c).before 0 t d0)) $$ H0; icases H0 with ⟨%f0, %hf0, H0⟩
  ihave H1 := (owns_open c (st2_1 t) (stage_whole2 1 _) ((ldats V 1 c).before 1 t d1)) $$ H1; icases H1 with ⟨%f1, %hf1, H1⟩
  ihave H2 := (owns_open c (st2_2 t) (stage_whole2 2 _) ((ldats V 1 c).before 2 t d2)) $$ H2; icases H2 with ⟨%f2, %hf2, H2⟩
  ihave H3 := (owns_open c (st2_3 t) (stage_whole2 3 _) ((ldats V 1 c).before 3 t d3)) $$ H3; icases H3 with ⟨%f3, %hf3, H3⟩
  ihave H4 := (owns_open c (st2_4 t) (stage_whole2 4 _) ((ldats V 1 c).before 4 t d4)) $$ H4; icases H4 with ⟨%f4, %hf4, H4⟩
  ihave H5 := (owns_open c (st2_5 t) (stage_whole2 5 _) ((ldats V 1 c).before 5 t d5)) $$ H5; icases H5 with ⟨%f5, %hf5, H5⟩
  rw [l_before0 V c] at hf0
  rw [l_before1 V c] at hf1
  rw [l_before2 V c] at hf2
  rw [l_before3 V c] at hf3
  rw [l_before4 V c] at hf4
  iapply (lstm_wp (F := F) c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (Memref.whole cc2_scratch0) (Memref.isWhole_whole _) f0 f1 f2 f3 f4 f5 f6)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, ⟨%g5, %hg5, H5⟩, ⟨%g6, H6⟩⟩
  rw [hf0, hf1, hf2, hf3, hf4] at hg5
  isplitl [H6 Hsc]
  · isplitl [H6]
    · iexists g6; iexact H6
    iexact Hsc
  isplitl [Howes]; · iexact Howes
  isplitl [H0]; · iapply (owns_close c (st2_0 t) (stage_whole2 0 _) (lblk V c 0 t) f0 hf0); iexact H0
  isplitl [H1]; · iapply (owns_close c (st2_1 t) (stage_whole2 1 _) (lblk V c 1 t) f1 hf1); iexact H1
  isplitl [H2]; · iapply (owns_close c (st2_2 t) (stage_whole2 2 _) (lblk V c 2 t) f2 hf2); iexact H2
  isplitl [H3]; · iapply (owns_close c (st2_3 t) (stage_whole2 3 _) (lblk V c 3 t) f3 hf3); iexact H3
  isplitl [H4]; · iapply (owns_close c (st2_4 t) (stage_whole2 4 _) (lblk V c 4 t) f4 hf4); iexact H4
  iapply (owns_close c (st2_5 t) (stage_whole2 5 _) _ g5 hg5); iexact H5

/-! ## The result's array -/

/-- An index of an array, its coordinates wrapped into range. -/
def wrap2 (n m : ℕ) (hn : 0 < n) (hm : 0 < m) (i j : ℕ) : (⟨2, ![n, m]⟩ : Shape).Idx := fun a => match a with
  | ⟨0, _⟩ => ⟨i % n, Nat.mod_lt _ hn⟩
  | ⟨1, _⟩ => ⟨j % m, Nat.mod_lt _ hm⟩

/-- The final states of every row: each of the 25 row blocks computed from its columns of the indices. -/
def recurrence (ix : S10x12800.Idx → BitVec 32) (emb : S512x128.Idx → F .bf16) (wf wb : S256x512.Idx → F .bf16) (bias : S2x512.Idx → F .f32) : S12800x256.Idx → F .bf16 := fun y =>
  lstmOf (F := F) (fun j => ix (wrap2 10 12800 (by omega) (by omega) ((j 0).val) (512 * ((y 0).val / 512) + (j 1).val))) emb wf wb
    (fun j => bias (ix2 (0 : Fin 2) (j 1))) (fun j => bias (ix2 (1 : Fin 2) (j 1)))
    (wrap2 512 256 (by omega) (by omega) ((y 0).val % 512) ((y 1).val))

theorem lidx0 : ∀ t : Fin grid2.N, win2_0.index t 0 = 0 ∧ win2_0.index t 1 = t.val := by decide +kernel
theorem lidx1 : ∀ t : Fin grid2.N, win2_1.index t 0 = 0 ∧ win2_1.index t 1 = 0 := by decide +kernel
theorem lidx2 : ∀ t : Fin grid2.N, win2_2.index t 0 = 0 ∧ win2_2.index t 1 = 0 := by decide +kernel
theorem lidx3 : ∀ t : Fin grid2.N, win2_3.index t 0 = 0 ∧ win2_3.index t 1 = 0 := by decide +kernel
theorem lidx4 : ∀ t : Fin grid2.N, win2_4.index t 0 = 0 ∧ win2_4.index t 1 = 0 := by decide +kernel
theorem lidx5 : ∀ t : Fin grid2.N, win2_5.index t 0 = t.val ∧ win2_5.index t 1 = 0 := by decide +kernel

theorem lemb0 (t : Fin grid2.N) (j : S10x512.Idx) : ((win2_0.blk t).view.emb j : S10x12800.Idx) = wrap2 10 12800 (by omega) (by omega) (j 0).val (512 * t.val + (j 1).val) := by
  obtain ⟨e0, e1⟩ := lidx0 t
  have ht : t.val < 25 := lt_of_lt_of_eq t.isLt N_2
  have h0 : (j 0).val < 10 := (j 0).isLt
  have h1 : (j 1).val < 512 := (j 1).isLt
  funext a; apply Fin.ext
  match a with
  | ⟨0, _⟩ => show win2_0.index t 0 * 10 + 1 * (j 0).val = (j 0).val % 10; rw [e0]; omega
  | ⟨1, _⟩ => show win2_0.index t 1 * 512 + 1 * (j 1).val = (512 * t.val + (j 1).val) % 12800; rw [e1]; omega
theorem lemb1 (t : Fin grid2.N) (j : S512x128.Idx) : ((win2_1.blk t).view.emb j : S512x128.Idx) = j := by
  obtain ⟨e0, e1⟩ := lidx1 t
  funext a; apply Fin.ext
  match a with
  | ⟨0, _⟩ => show win2_1.index t 0 * 512 + 1 * (j 0).val = (j 0).val; rw [e0]; omega
  | ⟨1, _⟩ => show win2_1.index t 1 * 128 + 1 * (j 1).val = (j 1).val; rw [e1]; omega
theorem lemb2 (t : Fin grid2.N) (j : S256x512.Idx) : ((win2_2.blk t).view.emb j : S256x512.Idx) = j := by
  obtain ⟨e0, e1⟩ := lidx2 t
  funext a; apply Fin.ext
  match a with
  | ⟨0, _⟩ => show win2_2.index t 0 * 256 + 1 * (j 0).val = (j 0).val; rw [e0]; omega
  | ⟨1, _⟩ => show win2_2.index t 1 * 512 + 1 * (j 1).val = (j 1).val; rw [e1]; omega
theorem lemb3 (t : Fin grid2.N) (j : S256x512.Idx) : ((win2_3.blk t).view.emb j : S256x512.Idx) = j := by
  obtain ⟨e0, e1⟩ := lidx3 t
  funext a; apply Fin.ext
  match a with
  | ⟨0, _⟩ => show win2_3.index t 0 * 256 + 1 * (j 0).val = (j 0).val; rw [e0]; omega
  | ⟨1, _⟩ => show win2_3.index t 1 * 512 + 1 * (j 1).val = (j 1).val; rw [e1]; omega
theorem lemb4 (t : Fin grid2.N) (j : S2x512.Idx) : ((win2_4.blk t).view.emb j : S2x512.Idx) = j := by
  obtain ⟨e0, e1⟩ := lidx4 t
  funext a; apply Fin.ext
  match a with
  | ⟨0, _⟩ => show win2_4.index t 0 * 2 + 1 * (j 0).val = (j 0).val; rw [e0]; omega
  | ⟨1, _⟩ => show win2_4.index t 1 * 512 + 1 * (j 1).val = (j 1).val; rw [e1]; omega
theorem lemb5 (t : Fin grid2.N) (j : S512x256.Idx) : ((win2_5.blk t).view.emb j : S12800x256.Idx) = wrap2 12800 256 (by omega) (by omega) (512 * t.val + (j 0).val) (j 1).val := by
  obtain ⟨e0, e1⟩ := lidx5 t
  have ht : t.val < 25 := lt_of_lt_of_eq t.isLt N_2
  have h0 : (j 0).val < 512 := (j 0).isLt
  have h1 : (j 1).val < 256 := (j 1).isLt
  funext a; apply Fin.ext
  match a with
  | ⟨0, _⟩ => show win2_5.index t 0 * 512 + 1 * (j 0).val = (512 * t.val + (j 0).val) % 12800; rw [e0]; omega
  | ⟨1, _⟩ => show win2_5.index t 1 * 256 + 1 * (j 1).val = (j 1).val % 256; rw [e1]; omega

/-- The block computed at a point is the final states' block there. -/
theorem l_point (c : Dev nD) (t : Fin grid2.N) (y : S512x256.Idx) :
    lstmOf (lblk V c 0 t) (lblk V c 1 t) (lblk V c 2 t) (lblk V c 3 t) (fun j => (lblk V c 4 t : S2x512.Idx → F .f32) (ix2 (0 : Fin 2) (j 1))) (fun j => (lblk V c 4 t : S2x512.Idx → F .f32) (ix2 (1 : Fin 2) (j 1))) y = recurrence (V c main_v12) (V c main_v16_0) (V c main_v16_1) (V c main_v16_2) (V c main_v16_3) ((win2_5.blk t).view.emb y) := by
  have ht : t.val < 25 := lt_of_lt_of_eq t.isLt N_2
  have h0 : (y 0).val < 512 := (y 0).isLt
  have h1 : (y 1).val < 256 := (y 1).isLt
  rw [lemb5 t y]
  unfold recurrence
  have eb : ((wrap2 12800 256 (by omega) (by omega) (512 * t.val + (y 0).val) (y 1).val : S12800x256.Idx) 0).val / 512 = t.val := by
    show (512 * t.val + (y 0).val) % 12800 / 512 = _; omega
  have er : (wrap2 512 256 (by omega) (by omega) (((wrap2 12800 256 (by omega) (by omega) (512 * t.val + (y 0).val) (y 1).val : S12800x256.Idx) 0).val % 512)
      ((wrap2 12800 256 (by omega) (by omega) (512 * t.val + (y 0).val) (y 1).val : S12800x256.Idx) 1).val : S512x256.Idx) = y := by
    funext a; apply Fin.ext
    match a with
    | ⟨0, _⟩ => show (512 * t.val + (y 0).val) % 12800 % 512 % 512 = (y 0).val; omega
    | ⟨1, _⟩ => show (y 1).val % 256 % 256 = (y 1).val; omega
  rw [er, eb]
  have i0 : lblk V c 0 t = fun j => (V c main_v12 : S10x12800.Idx → BitVec 32) (wrap2 10 12800 (by omega) (by omega) (j 0).val (512 * t.val + (j 1).val)) := funext fun j => congrArg (V c main_v12 : S10x12800.Idx → BitVec 32) (lemb0 t j)
  have i1 : lblk V c 1 t = (V c main_v16_0 : S512x128.Idx → F .bf16) := funext fun j => congrArg (V c main_v16_0 : S512x128.Idx → F .bf16) (lemb1 t j)
  have i2 : lblk V c 2 t = (V c main_v16_1 : S256x512.Idx → F .bf16) := funext fun j => congrArg (V c main_v16_1 : S256x512.Idx → F .bf16) (lemb2 t j)
  have i3 : lblk V c 3 t = (V c main_v16_2 : S256x512.Idx → F .bf16) := funext fun j => congrArg (V c main_v16_2 : S256x512.Idx → F .bf16) (lemb3 t j)
  have i4 : lblk V c 4 t = (V c main_v16_3 : S2x512.Idx → F .f32) := funext fun j => congrArg (V c main_v16_3 : S2x512.Idx → F .f32) (lemb4 t j)
  rw [i0, i1, i2, i3, i4]
  rfl

/-- The result's array after the call. -/
theorem l_out (c : Dev nD) : (ldats V 1 c).arrAt 5 grid2.N = recurrence (V c main_v12) (V c main_v16_0) (V c main_v16_1) (V c main_v16_2) (V c main_v16_3) :=
  (ldats V 1 c).arrAt_eq_of_covers 5 _ (show win2_5.Covers by decide +kernel) fun t hf y => l_point V c t y

/-! ## The region -/

theorem l_waits_ok (c : Dev nD) : (levAts (K (F := F)).L (K (F := F)).lev : sProp (MM F))
    ⊢ Pipeline.cellsWaits (Pipeline.pin (pcfgs (F := F)) adm) (ldats V) none 1 c :=
  Pipeline.cellsWaits_intro _ _ _ _ _ fun w s t => (K (F := F)).mayWait_none _ fun g => by
    rcases Nat.eq_zero_or_pos ((ldats V 1 c).owed t g none) with h | h
    · exact h
    · have := (K (F := F)).lev_of_Otc_pos h
      rw [SparseCore.Cfg.lev_none] at this
      omega

/-- The operands' buffers at the given contents. -/
def loperands (c : Dev nD) : sProp (MM F) :=
  iprop(((SparseCore.T c).loc main_v12 ↦{fullShare} V c main_v12) ∗ ((SparseCore.T c).loc main_v16_0 ↦{fullShare} V c main_v16_0) ∗ ((SparseCore.T c).loc main_v16_1 ↦{fullShare} V c main_v16_1) ∗ ((SparseCore.T c).loc main_v16_2 ↦{fullShare} V c main_v16_2) ∗ ((SparseCore.T c).loc main_v16_3 ↦{fullShare} V c main_v16_3))

theorem l_share (c : Dev nD) (w : Fin 6) : (ldats V 1 c).share w = fullShare := by
  unfold Pipeline.Dat.share; split <;> rfl

set_option maxHeartbeats 2000000 in
/-- The windows' arrays, the result's at `f`, are the operands' buffers and the result's. -/
theorem l_arrays (c : Dev nD) (A : (w : Fin 6) → Buf (Elt F) ((win2 w).arr.view.loc (c.tc : Thread nD τ)))
    (f : S12800x256.Idx → F .bf16) (hA : ∀ w, w ≠ 5 → A w = V c (Pipeline.arrRef spec2 w)) (hf : A 5 = f) :
    ((ldats V 1 c).arrays A : sProp (MM F)) = iprop(loperands V c ∗ (SparseCore.T c).loc main_v18 ↦{fullShare} (f : Buf (Elt F) ((SparseCore.T c).loc main_v18))) := by
  have e0 := hA 0 (by decide)
  have e1 := hA 1 (by decide)
  have e2 := hA 2 (by decide)
  have e3 := hA 3 (by decide)
  have e4 := hA 4 (by decide)
  have hb : ((ldats V 1 c).arrays A : sProp (MM F)) = bigSep (Finset.univ : Finset (Fin 6)) fun w =>
      (win2 w).arr.view.loc (c.tc : Thread nD τ) ↦[(win2 w).arr.view.set]{(ldats V 1 c).share w} A w := rfl
  rw [hb, bigSep_W2, e0, e1, e2, e3, e4, hf, l_share, l_share, l_share, l_share, l_share, l_share]
  rw [show (win2 0).arr.view.set = Finset.univ from View.set_whole _, show (win2 1).arr.view.set = Finset.univ from View.set_whole _, show (win2 2).arr.view.set = Finset.univ from View.set_whole _, show (win2 3).arr.view.set = Finset.univ from View.set_whole _, show (win2 4).arr.view.set = Finset.univ from View.set_whole _, show (win2 5).arr.view.set = Finset.univ from View.set_whole _]
  unfold loperands
  refine sep_ext ?_ ?_
  · iintro ⟨H0, H1, H2, H3, H4, H5⟩
    isplitr [H5]
    · isplitl [H0]; · iexact H0
      isplitl [H1]; · iexact H1
      isplitl [H2]; · iexact H2
      isplitl [H3]; · iexact H3
      iexact H4
    iexact H5
  · iintro ⟨⟨H0, H1, H2, H3, H4⟩, H5⟩
    isplitl [H0]; · iexact H0
    isplitl [H1]; · iexact H1
    isplitl [H2]; · iexact H2
    isplitl [H3]; · iexact H3
    isplitl [H4]; · iexact H4
    iexact H5

/-- The call as a region: the operands' buffers unchanged, the result's at the final states. -/
def lregion : Pipeline.RegionSeg (pcfgs (F := F)) adm (ldats V) none defs₀ 𝒱₀ (K (F := F)).L (K (F := F)).lev 1 where
  win := winFacts2.to₀
  block_pos := block_pos2
  stage_whole := stage_whole2
  K := PEmpty
  osem := fun k => k.elim
  ho := Pipeline.OwnSemFacts.none spec2
  hbody := l_body_obligation V
  hwaits := l_waits_ok V
  pre c := iprop(loperands V c ∗ ((SparseCore.T c).loc main_v18 ↦{fullShare} V c main_v18) ∗ owing 1 c)
  post c := iprop(loperands V c ∗ ((SparseCore.T c).loc main_v18 ↦{fullShare} (recurrence (V c main_v12) (V c main_v16_0) (V c main_v16_1) (V c main_v16_2) (V c main_v16_3) : Buf (Elt F) ((SparseCore.T c).loc main_v18))) ∗ owing 1 c)
  X _ := iprop(emp)
  Y _ := iprop(emp)
  Z c := iprop(emp)
  hentry c := by
    have hs := l_arrays V c ((ldats V 1 c).arrAt · 0) (V c main_v18) (fun w _ => rfl) rfl
    rw [Pipeline.ownSems0_none, Pipeline.prefHeld_of_none _ rfl]
    iintro ⟨⟨Ho, H5, HO⟩, -, -⟩
    imodintro
    isplitl [Ho H5]
    · iapply (Entails.of_eq hs.symm)
      isplitl [Ho]; · iexact Ho
      iexact H5
    isplitr; · iempintro
    isplitl [HO]
    · unfold owing
      icases HO with ⟨%W, %hW, HO⟩
      iexists W
      isplitr; · ipureintro; exact fun p hp => Or.inl (hW p hp)
      iexact HO
    isplitr; · iempintro
    iempintro
  hin c := by
    show iprop(_ ∗ _ ∗ Pipeline.scopedRest spec2 c) ⊢ Pipeline.scopedRest spec2 c
    iintro ⟨-, -, H⟩
    iexact H
  hout c := by
    rw [Pipeline.ownSems0_none]
    show Pipeline.scopedRest spec2 c ⊢ iprop(_ ∗ _ ∗ Pipeline.scopedRest spec2 c)
    iintro H
    isplitr; · iempintro
    isplitr; · iempintro
    iexact H
  hexit c := by
    have hs := l_arrays V c ((ldats V 1 c).arrAt · grid2.N) _
      (fun w hw => (ldats V 1 c).arrAt_in w (show (win2 w).isOut = false by revert w; decide) _) (l_out V c)
    iintro ⟨Ha, HO, -, -⟩
    ihave Ha := (Entails.of_eq hs) $$ Ha
    icases Ha with ⟨Ho, H5⟩
    imodintro
    isplitl [Ho]; · iexact Ho
    isplitl [H5]; · iexact H5
    unfold owing
    icases HO with ⟨%W, %hW, HO⟩
    iexists W
    isplitr
    · ipureintro
      intro p hp
      rcases hW hp with h | ⟨w, s, h⟩
      · exact h
      · rw [h]; exact le_trans (le_of_eq (SparseCore.Cfg.lev_none _ _)) (Nat.zero_le _)
    iexact HO

end Cert.KernelIdeal.SC
-- ==== Proof.KernelIdeal.Gemm.lean ====
/-
  The TensorCore kernel that multiplies: what its body leaves in the output block.
-/
module

public import proofs.«01_k».proof.Proof.KernelIdeal.Prep

@[expose] public section

noncomputable section

namespace Cert.KernelIdeal.SC

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The output block of a block of source rows `x`, of target rows `y`, of path states `h` and of mask values `v`, with the
    weights `w`: the printed value. -/
def gemmOf (x y : S512x128.Idx → F .f32) (h : S512x256.Idx → F .bf16) (v : S512x1.Idx → F .f32) (w : S512x512.Idx → F .bf16) : S512x512.Idx → F .f32 :=
  k3_pay1 w v x h y

/-- The body's run: the inputs as they were, the output's buffer at the block computed from them. -/
theorem gemm_wp (c : Dev nD) (i : grid3.Coords)
    (M1 : Memref sig .tc .vmem S512x128 .f32) (h1 : M1.IsWhole)
    (M2 : Memref sig .tc .vmem S512x128 .f32) (h2 : M2.IsWhole)
    (M3 : Memref sig .tc .vmem S512x256 .bf16) (h3 : M3.IsWhole)
    (M4 : Memref sig .tc .vmem S512x1 .f32) (h4 : M4.IsWhole)
    (M5 : Memref sig .tc .vmem S512x512 .bf16) (h5 : M5.IsWhole)
    (M6 : Memref sig .tc .vmem S512x512 .f32) (h6 : M6.IsWhole)
    (f1 : Bf (F := F) c M1) (f2 : Bf (F := F) c M2) (f3 : Bf (F := F) c M3) (f4 : Bf (F := F) c M4) (f5 : Bf (F := F) c M5) (f6 : Bf (F := F) c M6) (Q : PUnit → sProp (MM F)) :
    iprop(pt c M1 f1 ∗ pt c M2 f2 ∗ pt c M3 f3 ∗ pt c M4 f4 ∗ pt c M5 f5 ∗ pt c M6 f6
      ∗ (iprop(pt c M1 f1 ∗ pt c M2 f2 ∗ pt c M3 f3 ∗ pt c M4 f4 ∗ pt c M5 f5
          ∗ ∃ f, ⌜M6.view.read (Elt F) f = gemmOf (M1.view.read (Elt F) f1) (M2.view.read (Elt F) f2) (M3.view.read (Elt F) f3) (M4.view.read (Elt F) f4) (M5.view.read (Elt F) f5)⌝ ∗ pt c M6 f) -∗ Q ⟨⟩))
    ⊢ wp frame (wpE (defs₀ (F := F)) Variants.none c none) Set.univ (cc3__gemm_body i M1 h1 M2 h2 M3 h3 M4 h4 M5 h5 M6 h6) Q := by
  rw [cc3__gemm_body_eq_skeleton]
  unfold cc3__gemm_body_skel
  iintro ⟨H1, H2, H3, H4, H5, H6, Hk⟩
  sl_exec_parts!
  sl_step
  iapply Hk
  isplitl [H1]; · iexact H1
  isplitl [H2]; · iexact H2
  isplitl [H3]; · iexact H3
  isplitl [H4]; · iexact H4
  isplitl [H5]; · iexact H5
  iexists _; isplitr; swap; (· iexact H6)
  ipureintro
  unfold gemm_wp.sl.H6_1
  funext y
  rw [View.read_writes_cons_unit_of_mem M6.view M6.view.junk inb_S512x512_S512x512_0_0 _ [] y y rfl (by intro a; fin_cases a <;> exact (Nat.zero_add _).symm)]
  rw [View.readAt_full M1.view f1 inb_S512x128_S512x128_0_0, View.readAt_full M2.view f2 inb_S512x128_S512x128_0_0,
    View.readAt_full M3.view f3 inb_S512x256_S512x256_0_0, View.readAt_full M4.view f4 inb_S512x1_S512x1_0_0,
    View.readAt_full M5.view f5 inb_S512x512_S512x512_0_0]
  rfl

end Cert.KernelIdeal.SC

end
-- ==== Proof.KernelIdeal.GemmRegion.lean ====
/-
  The TensorCore call that multiplies, as a region of @main after the SparseCore call: entered with its five operands' buffers
  and its result's at any contents, and left with the result at the product, block by block.
-/
module

public import proofs.«01_k».proof.Proof.KernelIdeal.LstmRegion
public import proofs.«01_k».proof.Proof.KernelIdeal.Gemm
public import Idealize.ShloMosaic.Lib.Pipeline.FrameBody

@[expose] public section

noncomputable section

namespace Cert.KernelIdeal.SC

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
variable (V : Bufs F)

/-- Window `w`'s block of its array at point `t`. -/
abbrev gblk (c : Dev nD) (w : Fin 6) (t : Fin grid3.N) : ((win3 w).xblock (grid3.coords t)).Idx → Elt F (win3 w).elt :=
  ((win3 w).blk t).view.read (Elt F) (V c (Pipeline.arrRef spec3 w))

/-- What the body leaves in each window's buffer: the inputs' blocks, and the block computed from them. -/
def gafter (c : Dev nD) (w : Fin 6) (t : Fin grid3.N) : (win3 w).block.Idx → Elt F (win3 w).elt :=
  match w with
  | ⟨0, _⟩ => gblk V c 0 t
  | ⟨1, _⟩ => gblk V c 1 t
  | ⟨2, _⟩ => gblk V c 2 t
  | ⟨3, _⟩ => gblk V c 3 t
  | ⟨4, _⟩ => gblk V c 4 t
  | ⟨5, _⟩ => gemmOf (gblk V c 0 t) (gblk V c 1 t) (gblk V c 2 t) (gblk V c 3 t) (gblk V c 4 t)

/-- The share each window takes of its array: the pooled rows' two windows a half each. -/
def gshare (w : Fin 6) : PosShare TreeShare :=
  match w with
  | ⟨0, _⟩ => fullShare.left
  | ⟨1, _⟩ => fullShare.right
  | _ => fullShare

/-- The call's proof data. (The other calls' entries are not read.) -/
def gdats (p : Fin 3) (c : Dev nD) : Pipeline.Dat τ (Elt F) (HIx 1) ℕ UU ℕ (Pipeline.pin (pcfgs (F := F)) adm p) c :=
  match p with
  | ⟨0, _⟩ =>
    { A := fun w => V c (Pipeline.arrRef spec0 w)
      after := Pipeline.Dat.unnamed
      Φ := fun _ => iprop(emp)
      q := fun _ => fullShare
      owed := fun _ => 0 }
  | ⟨1, _⟩ =>
    { A := fun w => V c (Pipeline.arrRef spec2 w)
      after := Pipeline.Dat.unnamed
      Φ := fun _ => iprop(emp)
      q := fun _ => fullShare
      owed := fun _ => 0 }
  | ⟨2, _⟩ =>
    { A := fun w => V c (Pipeline.arrRef spec3 w)
      after := gafter V c
      Φ := fun _ => Pipeline.scopedRest spec3 c
      q := gshare
      owed := fun _ => (K (F := F)).Otc c 1
      recorded := fun _ => {p | (K (F := F)).lev (SparseCore.T c, p.1) p.2 ≤ 8 * SparseCore.Cfg.Blocks.fst 1 1 1} }

theorem g_before0 (c : Dev nD) (t : Fin grid3.N) (d) : (gdats V 2 c).before 0 t d = gblk V c 0 t :=
  ((gdats V 2 c).before_in_eq_fetched 0 rfl (fun _ => rfl) (fun _ _ _ => rfl) (fun t => rfl) t d).trans rfl
theorem g_before1 (c : Dev nD) (t : Fin grid3.N) (d) : (gdats V 2 c).before 1 t d = gblk V c 1 t :=
  ((gdats V 2 c).before_in_eq_fetched 1 rfl (fun _ => rfl) (fun _ _ _ => rfl) (fun t => rfl) t d).trans rfl
theorem g_before2 (c : Dev nD) (t : Fin grid3.N) (d) : (gdats V 2 c).before 2 t d = gblk V c 2 t :=
  ((gdats V 2 c).before_in_eq_fetched 2 rfl (fun _ => rfl) (fun _ _ _ => rfl) (fun t => rfl) t d).trans rfl
theorem g_before3 (c : Dev nD) (t : Fin grid3.N) (d) : (gdats V 2 c).before 3 t d = gblk V c 3 t :=
  ((gdats V 2 c).before_in_eq_fetched 3 rfl (fun _ => rfl) (fun _ _ _ => rfl) (fun t => rfl) t d).trans rfl
theorem g_before4 (c : Dev nD) (t : Fin grid3.N) (d) : (gdats V 2 c).before 4 t d = gblk V c 4 t :=
  ((gdats V 2 c).before_in_eq_fetched 4 rfl (fun _ => rfl) (fun _ _ _ => rfl) (fun t => rfl) t d).trans rfl

-- Six windows' buffers through some thirty proof-mode steps.
set_option maxHeartbeats 2000000 in
theorem g_body_obligation (c : Dev nD) : Pipeline.BodyObligationLoose (gdats V 2 c) (defs₀ (F := F)) 𝒱₀ none Set.univ := fun t => by
  rw [bigSep_W3, bigSep_W3]
  show iprop(Pipeline.scopedRest spec3 c ∗ (gdats V 2 c).owesAt none t.castSucc
      ∗ (∃ d, owns c.tc (st3_0 t) fullShare ((gdats V 2 c).before 0 t d)) ∗ (∃ d, owns c.tc (st3_1 t) fullShare ((gdats V 2 c).before 1 t d)) ∗ (∃ d, owns c.tc (st3_2 t) fullShare ((gdats V 2 c).before 2 t d)) ∗ (∃ d, owns c.tc (st3_3 t) fullShare ((gdats V 2 c).before 3 t d)) ∗ (∃ d, owns c.tc (st3_4 t) fullShare ((gdats V 2 c).before 4 t d)) ∗ (∃ d, owns c.tc (st3_5 t) fullShare ((gdats V 2 c).before 5 t d)))
    ⊢ wp frame (wpE (defs₀ (F := F)) 𝒱₀ c none) Set.univ (cc3__gemm_body (grid3.coords t) (st3_0 t) (hstage3_0 ((cfg3.slots t 0).cast nbuf3_0)) (st3_1 t) (hstage3_1 ((cfg3.slots t 1).cast nbuf3_1)) (st3_2 t) (hstage3_2 ((cfg3.slots t 2).cast nbuf3_2)) (st3_3 t) (hstage3_3 ((cfg3.slots t 3).cast nbuf3_3)) (st3_4 t) (hstage3_4 ((cfg3.slots t 4).cast nbuf3_4)) (st3_5 t) (hstage3_5 ((cfg3.slots t 5).cast nbuf3_5)))
      fun _ => iprop(Pipeline.scopedRest spec3 c ∗ (gdats V 2 c).owesAt none t.castSucc
      ∗ owns c.tc (st3_0 t) fullShare (gblk V c 0 t) ∗ owns c.tc (st3_1 t) fullShare (gblk V c 1 t) ∗ owns c.tc (st3_2 t) fullShare (gblk V c 2 t) ∗ owns c.tc (st3_3 t) fullShare (gblk V c 3 t) ∗ owns c.tc (st3_4 t) fullShare (gblk V c 4 t) ∗ owns c.tc (st3_5 t) fullShare (gemmOf (gblk V c 0 t) (gblk V c 1 t) (gblk V c 2 t) (gblk V c 3 t) (gblk V c 4 t)))
  iintro ⟨Hsc, Howes, ⟨%d0, H0⟩, ⟨%d1, H1⟩, ⟨%d2, H2⟩, ⟨%d3, H3⟩, ⟨%d4, H4⟩, ⟨%d5, H5⟩⟩
  ihave H0 := (owns_open c (st3_0 t) (stage_whole3 0 _) ((gdats V 2 c).before 0 t d0)) $$ H0; icases H0 with ⟨%f0, %hf0, H0⟩
  ihave H1 := (owns_open c (st3_1 t) (stage_whole3 1 _) ((gdats V 2 c).before 1 t d1)) $$ H1; icases H1 with ⟨%f1, %hf1, H1⟩
  ihave H2 := (owns_open c (st3_2 t) (stage_whole3 2 _) ((gdats V 2 c).before 2 t d2)) $$ H2; icases H2 with ⟨%f2, %hf2, H2⟩
  ihave H3 := (owns_open c (st3_3 t) (stage_whole3 3 _) ((gdats V 2 c).before 3 t d3)) $$ H3; icases H3 with ⟨%f3, %hf3, H3⟩
  ihave H4 := (owns_open c (st3_4 t) (stage_whole3 4 _) ((gdats V 2 c).before 4 t d4)) $$ H4; icases H4 with ⟨%f4, %hf4, H4⟩
  ihave H5 := (owns_open c (st3_5 t) (stage_whole3 5 _) ((gdats V 2 c).before 5 t d5)) $$ H5; icases H5 with ⟨%f5, %hf5, H5⟩
  rw [g_before0 V c] at hf0
  rw [g_before1 V c] at hf1
  rw [g_before2 V c] at hf2
  rw [g_before3 V c] at hf3
  rw [g_before4 V c] at hf4
  iapply (gemm_wp (F := F) c (grid3.coords t) (st3_0 t) (hstage3_0 ((cfg3.slots t 0).cast nbuf3_0)) (st3_1 t) (hstage3_1 ((cfg3.slots t 1).cast nbuf3_1))
    (st3_2 t) (hstage3_2 ((cfg3.slots t 2).cast nbuf3_2)) (st3_3 t) (hstage3_3 ((cfg3.slots t 3).cast nbuf3_3))
    (st3_4 t) (hstage3_4 ((cfg3.slots t 4).cast nbuf3_4)) (st3_5 t) (hstage3_5 ((cfg3.slots t 5).cast nbuf3_5)) f0 f1 f2 f3 f4 f5)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, ⟨%g5, %hg5, H5⟩⟩
  rw [hf0, hf1, hf2, hf3, hf4] at hg5
  isplitl [Hsc]; · iexact Hsc
  isplitl [Howes]; · iexact Howes
  isplitl [H0]; · iapply (owns_close c (st3_0 t) (stage_whole3 0 _) (gblk V c 0 t) f0 hf0); iexact H0
  isplitl [H1]; · iapply (owns_close c (st3_1 t) (stage_whole3 1 _) (gblk V c 1 t) f1 hf1); iexact H1
  isplitl [H2]; · iapply (owns_close c (st3_2 t) (stage_whole3 2 _) (gblk V c 2 t) f2 hf2); iexact H2
  isplitl [H3]; · iapply (owns_close c (st3_3 t) (stage_whole3 3 _) (gblk V c 3 t) f3 hf3); iexact H3
  isplitl [H4]; · iapply (owns_close c (st3_4 t) (stage_whole3 4 _) (gblk V c 4 t) f4 hf4); iexact H4
  iapply (owns_close c (st3_5 t) (stage_whole3 5 _) (gemmOf (gblk V c 0 t) (gblk V c 1 t) (gblk V c 2 t) (gblk V c 3 t) (gblk V c 4 t)) g5 hg5); iexact H5

/-! ## The result's array -/

/-- The product's array: each of the 25 row blocks computed from its blocks of the operands. -/
def product (x : S25600x128.Idx → F .f32) (h : S12800x256.Idx → F .bf16) (v : S12800x1.Idx → F .f32) (w : S512x512.Idx → F .bf16) : S12800x512.Idx → F .f32 := fun y =>
  gemmOf (fun j => x (wrap2 25600 128 (by omega) (by omega) (512 * ((y 0).val / 512) + (j 0).val) (j 1).val))
    (fun j => x (wrap2 25600 128 (by omega) (by omega) (512 * ((y 0).val / 512 + 25) + (j 0).val) (j 1).val))
    (fun j => h (wrap2 12800 256 (by omega) (by omega) (512 * ((y 0).val / 512) + (j 0).val) (j 1).val))
    (fun j => v (wrap2 12800 1 (by omega) (by omega) (512 * ((y 0).val / 512) + (j 0).val) (j 1).val)) w
    (wrap2 512 512 (by omega) (by omega) ((y 0).val % 512) (y 1).val)

theorem gidx0 : ∀ t : Fin grid3.N, win3_0.index t 0 = t.val ∧ win3_0.index t 1 = 0 := by decide +kernel
theorem gidx1 : ∀ t : Fin grid3.N, win3_1.index t 0 = t.val + 25 ∧ win3_1.index t 1 = 0 := by decide +kernel
theorem gidx2 : ∀ t : Fin grid3.N, win3_2.index t 0 = t.val ∧ win3_2.index t 1 = 0 := by decide +kernel
theorem gidx3 : ∀ t : Fin grid3.N, win3_3.index t 0 = t.val ∧ win3_3.index t 1 = 0 := by decide +kernel
theorem gidx4 : ∀ t : Fin grid3.N, win3_4.index t 0 = 0 ∧ win3_4.index t 1 = 0 := by decide +kernel
theorem gidx5 : ∀ t : Fin grid3.N, win3_5.index t 0 = t.val ∧ win3_5.index t 1 = 0 := by decide +kernel

theorem gemb0 (t : Fin grid3.N) (j : S512x128.Idx) : ((win3_0.blk t).view.emb j : S25600x128.Idx) = wrap2 25600 128 (by omega) (by omega) (512 * t.val + (j 0).val) (j 1).val := by
  obtain ⟨e0, e1⟩ := gidx0 t
  have ht : t.val < 25 := lt_of_lt_of_eq t.isLt N_3
  have h0 : (j 0).val < 512 := (j 0).isLt
  have h1 : (j 1).val < 128 := (j 1).isLt
  funext a; apply Fin.ext
  match a with
  | ⟨0, _⟩ => show win3_0.index t 0 * 512 + 1 * (j 0).val = (512 * t.val + (j 0).val) % 25600; rw [e0]; omega
  | ⟨1, _⟩ => show win3_0.index t 1 * 128 + 1 * (j 1).val = (j 1).val % 128; rw [e1]; omega
theorem gemb1 (t : Fin grid3.N) (j : S512x128.Idx) : ((win3_1.blk t).view.emb j : S25600x128.Idx) = wrap2 25600 128 (by omega) (by omega) (512 * (t.val + 25) + (j 0).val) (j 1).val := by
  obtain ⟨e0, e1⟩ := gidx1 t
  have ht : t.val < 25 := lt_of_lt_of_eq t.isLt N_3
  have h0 : (j 0).val < 512 := (j 0).isLt
  have h1 : (j 1).val < 128 := (j 1).isLt
  funext a; apply Fin.ext
  match a with
  | ⟨0, _⟩ => show win3_1.index t 0 * 512 + 1 * (j 0).val = (512 * (t.val + 25) + (j 0).val) % 25600; rw [e0]; omega
  | ⟨1, _⟩ => show win3_1.index t 1 * 128 + 1 * (j 1).val = (j 1).val % 128; rw [e1]; omega
theorem gemb2 (t : Fin grid3.N) (j : S512x256.Idx) : ((win3_2.blk t).view.emb j : S12800x256.Idx) = wrap2 12800 256 (by omega) (by omega) (512 * t.val + (j 0).val) (j 1).val := by
  obtain ⟨e0, e1⟩ := gidx2 t
  have ht : t.val < 25 := lt_of_lt_of_eq t.isLt N_3
  have h0 : (j 0).val < 512 := (j 0).isLt
  have h1 : (j 1).val < 256 := (j 1).isLt
  funext a; apply Fin.ext
  match a with
  | ⟨0, _⟩ => show win3_2.index t 0 * 512 + 1 * (j 0).val = (512 * t.val + (j 0).val) % 12800; rw [e0]; omega
  | ⟨1, _⟩ => show win3_2.index t 1 * 256 + 1 * (j 1).val = (j 1).val % 256; rw [e1]; omega
theorem gemb3 (t : Fin grid3.N) (j : S512x1.Idx) : ((win3_3.blk t).view.emb j : S12800x1.Idx) = wrap2 12800 1 (by omega) (by omega) (512 * t.val + (j 0).val) (j 1).val := by
  obtain ⟨e0, e1⟩ := gidx3 t
  have ht : t.val < 25 := lt_of_lt_of_eq t.isLt N_3
  have h0 : (j 0).val < 512 := (j 0).isLt
  have h1 : (j 1).val < 1 := (j 1).isLt
  funext a; apply Fin.ext
  match a with
  | ⟨0, _⟩ => show win3_3.index t 0 * 512 + 1 * (j 0).val = (512 * t.val + (j 0).val) % 12800; rw [e0]; omega
  | ⟨1, _⟩ => show win3_3.index t 1 * 1 + 1 * (j 1).val = (j 1).val % 1; rw [e1]; omega
theorem gemb4 (t : Fin grid3.N) (j : S512x512.Idx) : ((win3_4.blk t).view.emb j : S512x512.Idx) = j := by
  obtain ⟨e0, e1⟩ := gidx4 t
  funext a; apply Fin.ext
  match a with
  | ⟨0, _⟩ => show win3_4.index t 0 * 512 + 1 * (j 0).val = (j 0).val; rw [e0]; omega
  | ⟨1, _⟩ => show win3_4.index t 1 * 512 + 1 * (j 1).val = (j 1).val; rw [e1]; omega
theorem gemb5 (t : Fin grid3.N) (j : S512x512.Idx) : ((win3_5.blk t).view.emb j : S12800x512.Idx) = wrap2 12800 512 (by omega) (by omega) (512 * t.val + (j 0).val) (j 1).val := by
  obtain ⟨e0, e1⟩ := gidx5 t
  have ht : t.val < 25 := lt_of_lt_of_eq t.isLt N_3
  have h0 : (j 0).val < 512 := (j 0).isLt
  have h1 : (j 1).val < 512 := (j 1).isLt
  funext a; apply Fin.ext
  match a with
  | ⟨0, _⟩ => show win3_5.index t 0 * 512 + 1 * (j 0).val = (512 * t.val + (j 0).val) % 12800; rw [e0]; omega
  | ⟨1, _⟩ => show win3_5.index t 1 * 512 + 1 * (j 1).val = (j 1).val % 512; rw [e1]; omega

/-- The block computed at a point is the product's block there. -/
theorem g_point (c : Dev nD) (t : Fin grid3.N) (y : S512x512.Idx) :
    gemmOf (gblk V c 0 t) (gblk V c 1 t) (gblk V c 2 t) (gblk V c 3 t) (gblk V c 4 t) y
      = product (V c main_v17) (V c main_v18) (V c main_v19) (V c main_v13) ((win3_5.blk t).view.emb y) := by
  have ht : t.val < 25 := lt_of_lt_of_eq t.isLt N_3
  have h0 : (y 0).val < 512 := (y 0).isLt
  have h1 : (y 1).val < 512 := (y 1).isLt
  have e := gemb5 t y
  rw [e]
  unfold product
  have eb : ((wrap2 12800 512 (by omega) (by omega) (512 * t.val + (y 0).val) (y 1).val : S12800x512.Idx) 0).val / 512 = t.val := by
    show (512 * t.val + (y 0).val) % 12800 / 512 = _; omega
  have er : (wrap2 512 512 (by omega) (by omega) (((wrap2 12800 512 (by omega) (by omega) (512 * t.val + (y 0).val) (y 1).val : S12800x512.Idx) 0).val % 512)
      ((wrap2 12800 512 (by omega) (by omega) (512 * t.val + (y 0).val) (y 1).val : S12800x512.Idx) 1).val : S512x512.Idx) = y := by
    funext a; apply Fin.ext
    match a with
    | ⟨0, _⟩ => show (512 * t.val + (y 0).val) % 12800 % 512 % 512 = (y 0).val; omega
    | ⟨1, _⟩ => show (y 1).val % 512 % 512 = (y 1).val; omega
  rw [er, eb]
  have i0 : gblk V c 0 t = fun j => (V c main_v17 : S25600x128.Idx → F .f32) (wrap2 25600 128 (by omega) (by omega) (512 * t.val + (j 0).val) (j 1).val) := funext fun j => congrArg (V c main_v17 : S25600x128.Idx → F .f32) (gemb0 t j)
  have i1 : gblk V c 1 t = fun j => (V c main_v17 : S25600x128.Idx → F .f32) (wrap2 25600 128 (by omega) (by omega) (512 * (t.val + 25) + (j 0).val) (j 1).val) := funext fun j => congrArg (V c main_v17 : S25600x128.Idx → F .f32) (gemb1 t j)
  have i2 : gblk V c 2 t = fun j => (V c main_v18 : S12800x256.Idx → F .bf16) (wrap2 12800 256 (by omega) (by omega) (512 * t.val + (j 0).val) (j 1).val) := funext fun j => congrArg (V c main_v18 : S12800x256.Idx → F .bf16) (gemb2 t j)
  have i3 : gblk V c 3 t = fun j => (V c main_v19 : S12800x1.Idx → F .f32) (wrap2 12800 1 (by omega) (by omega) (512 * t.val + (j 0).val) (j 1).val) := funext fun j => congrArg (V c main_v19 : S12800x1.Idx → F .f32) (gemb3 t j)
  have i4 : gblk V c 4 t = (V c main_v13 : S512x512.Idx → F .bf16) := funext fun j => congrArg (V c main_v13 : S512x512.Idx → F .bf16) (gemb4 t j)
  rw [i0, i1, i2, i3, i4]
  rfl

/-- The result's array after the call. -/
theorem g_out (c : Dev nD) : (gdats V 2 c).arrAt 5 grid3.N = product (V c main_v17) (V c main_v18) (V c main_v19) (V c main_v13) :=
  (gdats V 2 c).arrAt_eq_of_covers 5 _ (show win3_5.Covers by decide +kernel) fun t hf y => g_point V c t y

/-! ## The region -/

theorem g_waits_ok (c : Dev nD) : (levAts (K (F := F)).L (K (F := F)).lev : sProp (MM F))
    ⊢ Pipeline.cellsWaits (Pipeline.pin (pcfgs (F := F)) adm) (gdats V) none 2 c :=
  Pipeline.cellsWaits_intro _ _ _ _ _ fun w s t => (K (F := F)).mayWait_none _ fun g => by
    rcases Nat.eq_zero_or_pos ((gdats V 2 c).owed t g none) with h | h
    · exact h
    · have := (K (F := F)).lev_of_Otc_pos h
      rw [SparseCore.Cfg.lev_none] at this
      omega

/-- The operands' buffers at the given contents. -/
def operands (c : Dev nD) : sProp (MM F) :=
  iprop(((SparseCore.T c).loc main_v17 ↦{fullShare} V c main_v17) ∗ ((SparseCore.T c).loc main_v18 ↦{fullShare} V c main_v18)
    ∗ ((SparseCore.T c).loc main_v19 ↦{fullShare} V c main_v19) ∗ (SparseCore.T c).loc main_v13 ↦{fullShare} V c main_v13)

set_option maxHeartbeats 2000000 in
/-- The windows' arrays, the result's at `f`, are the operands' buffers and the result's. -/
theorem g_arrays (c : Dev nD) (A : (w : Fin 6) → Buf (Elt F) ((win3 w).arr.view.loc (c.tc : Thread nD τ)))
    (f : S12800x512.Idx → F .f32) (hA : ∀ w, w ≠ 5 → A w = V c (Pipeline.arrRef spec3 w)) (hf : A 5 = f) :
    ((gdats V 2 c).arrays A : sProp (MM F)) = iprop(operands V c ∗ (SparseCore.T c).loc main_v20 ↦{fullShare} (f : Buf (Elt F) ((SparseCore.T c).loc main_v20))) := by
  have hs : (((SparseCore.T c).loc main_v17 ↦{fullShare} V c main_v17) : sProp (MM F))
      = iprop(((SparseCore.T c).loc main_v17 ↦{fullShare.left} V c main_v17) ∗ (SparseCore.T c).loc main_v17 ↦{fullShare.right} V c main_v17) :=
    BI.Entails.antisymm (pointsTo_share (PosShare.mem_left_op_right fullShare)).1 (pointsTo_share (PosShare.mem_left_op_right fullShare)).2
  have e0 := hA 0 (by decide)
  have e1 := hA 1 (by decide)
  have e2 := hA 2 (by decide)
  have e3 := hA 3 (by decide)
  have e4 := hA 4 (by decide)
  have hb : ((gdats V 2 c).arrays A : sProp (MM F)) = bigSep (Finset.univ : Finset (Fin 6)) fun w =>
      (win3 w).arr.view.loc (c.tc : Thread nD τ) ↦[(win3 w).arr.view.set]{(gdats V 2 c).share w} A w := rfl
  rw [hb, bigSep_W3, e0, e1, e2, e3, e4, hf]
  rw [show (win3 0).arr.view.set = Finset.univ from View.set_whole _,
    show (win3 2).arr.view.set = Finset.univ from View.set_whole _, show (win3 3).arr.view.set = Finset.univ from View.set_whole _,
    show (win3 4).arr.view.set = Finset.univ from View.set_whole _, show (win3 5).arr.view.set = Finset.univ from View.set_whole _]
  unfold operands
  rw [hs]
  refine sep_ext ?_ ?_
  · iintro ⟨H0, H1, H2, H3, H4, H5⟩
    isplitr [H5]
    · isplitl [H0 H1]
      · isplitl [H0]; · iexact H0
        iexact H1
      isplitl [H2]; · iexact H2
      isplitl [H3]; · iexact H3
      iexact H4
    iexact H5
  · iintro ⟨⟨⟨H0, H1⟩, H2, H3, H4⟩, H5⟩
    isplitl [H0]; · iexact H0
    isplitl [H1]; · iexact H1
    isplitl [H2]; · iexact H2
    isplitl [H3]; · iexact H3
    isplitl [H4]; · iexact H4
    iexact H5

/-- The call as a region: the operands' buffers unchanged, the result's at the product. -/
def gregion : Pipeline.RegionSeg (pcfgs (F := F)) adm (gdats V) none defs₀ 𝒱₀ (K (F := F)).L (K (F := F)).lev 2 where
  win := winFacts₀3
  block_pos := block_pos3
  stage_whole := stage_whole3
  K := PEmpty
  osem := fun k => k.elim
  ho := Pipeline.OwnSemFacts.none spec3
  hbody := g_body_obligation V
  hwaits := g_waits_ok V
  pre c := iprop(operands V c ∗ ((SparseCore.T c).loc main_v20 ↦{fullShare} V c main_v20) ∗ owing 1 c)
  post c := iprop(operands V c ∗ ((SparseCore.T c).loc main_v20 ↦{fullShare} (product (V c main_v17) (V c main_v18) (V c main_v19) (V c main_v13) : Buf (Elt F) ((SparseCore.T c).loc main_v20))) ∗ owing 1 c)
  X _ := iprop(emp)
  Y _ := iprop(emp)
  Z c := iprop(emp)
  hentry c := by
    have hs := g_arrays V c ((gdats V 2 c).arrAt · 0) (V c main_v20) (fun w _ => rfl) rfl
    rw [Pipeline.ownSems0_none, Pipeline.prefHeld_of_none _ rfl]
    iintro ⟨⟨Ho, H5, HO⟩, -, -⟩
    imodintro
    isplitl [Ho H5]
    · iapply (Entails.of_eq hs.symm)
      isplitl [Ho]; · iexact Ho
      iexact H5
    isplitr; · iempintro
    isplitl [HO]
    · unfold owing
      icases HO with ⟨%W, %hW, HO⟩
      iexists W
      isplitr; · ipureintro; exact fun p hp => Or.inl (hW p hp)
      iexact HO
    isplitr; · iempintro
    iempintro
  hin c := by
    show iprop(_ ∗ _ ∗ Pipeline.scopedRest spec3 c) ⊢ Pipeline.scopedRest spec3 c
    iintro ⟨-, -, H⟩
    iexact H
  hout c := by
    rw [Pipeline.ownSems0_none]
    show Pipeline.scopedRest spec3 c ⊢ iprop(_ ∗ _ ∗ Pipeline.scopedRest spec3 c)
    iintro H
    isplitr; · iempintro
    isplitr; · iempintro
    iexact H
  hexit c := by
    have hs := g_arrays V c ((gdats V 2 c).arrAt · grid3.N) _
      (fun w hw => (gdats V 2 c).arrAt_in w (show (win3 w).isOut = false by revert w; decide) _) (g_out V c)
    iintro ⟨Ha, HO, -, -⟩
    ihave Ha := (Entails.of_eq hs) $$ Ha
    icases Ha with ⟨Ho, H5⟩
    imodintro
    isplitl [Ho]; · iexact Ho
    isplitl [H5]; · iexact H5
    unfold owing
    icases HO with ⟨%W, %hW, HO⟩
    iexists W
    isplitr
    · ipureintro
      intro p hp
      rcases hW hp with h | ⟨w, s, h⟩
      · exact h
      · rw [h]; exact le_trans (le_of_eq (SparseCore.Cfg.lev_none _ _)) (Nat.zero_le _)
    iexact HO

end Cert.KernelIdeal.SC
-- ==== Proof.KernelIdeal.Run.lean ====
/-
  @main on the TensorCore, and the whole program's run: the host's reshapes, the call that prepares the mask and the
  recurrence's operands, the SparseCore call, the recurrence's call, the call that multiplies. Every execution ends with the arguments untouched and the result at the product.
-/
module

public import proofs.«01_k».proof.Proof.KernelIdeal.GemmRegion
public import Idealize.ShloMosaic.Lib.SparseCore.Quiescent
public import Idealize.ShloMosaic.Lib.StableHlo.Run
public import Idealize.ShloMosaic.Lib.Pointwise.SelectCore

@[expose] public section

noncomputable section

namespace Cert.KernelIdeal.SC

open Cert.KernelIdeal Cert.KernelIdeal.Gen
open Idealize.ShloMosaic Idealize.ShloMosaic.TcCoe
open Idealize.ShloMosaic.SparseCore.Cfg (HIx)
open Idealize.ShloMosaic.StableHlo (seq after held wp_seq launchContents)
open Idealize.SL Idealize.SL.RA Idealize.SL.BI
open scoped Idealize.SL.BI
open Idealize.SL.BI.BIBase Idealize.SL.BI.Laws Idealize.SL.ProofMode Idealize.SL.Sem
open Idealize.ShloMosaic.Rounds (initOf)
open Idealize.ShloMosaic.Pipeline (ucRefs)

variable {F : FTy → Type} [FloatOps F]

/-- The embedding indices, source rows before target rows, as the SparseCore reads them. -/
def idxOf (s t : S64x200x6.Idx → BitVec 32) : S32x4800.Idx → BitVec 32 :=
  shapeCast S32x4800 (concatenate S25600x6 0 [⟨S12800x6, shapeCast S12800x6 s shapeCasts_S64x200x6_S12800x6⟩,
    ⟨S12800x6, shapeCast S12800x6 t shapeCasts_S64x200x6_S12800x6⟩] concatenates_S12800x6_S12800x6_S25600x6_d0) shapeCasts_S25600x6_S32x4800

/-- The lengths, source rows before target rows, as floats. -/
def lensOf (s t : S64x200.Idx → BitVec 32) : S1600x16.Idx → F .f32 :=
  shapeCast S1600x16 (sitofp .f32 (concatenate S25600 0 [⟨S12800, shapeCast S12800 s shapeCasts_S64x200_S12800⟩,
    ⟨S12800, shapeCast S12800 t shapeCasts_S64x200_S12800⟩] concatenates_S12800_S12800_S25600_d0)) shapeCasts_S25600_S1600x16

/-- The node indices, one row a place, and the node lengths as a last row, as the recurrence reads them. -/
def ixOf (n : S64x200x9.Idx → BitVec 32) (l : S64x200.Idx → BitVec 32) : S10x12800.Idx → BitVec 32 :=
  concatenate S10x12800 0 [⟨S9x12800, transpose S9x12800 [1, 0] (shapeCast S12800x9 n shapeCasts_S64x200x9_S12800x9) transposes_S12800x9_S9x12800_1_0⟩,
    ⟨S1x12800, shapeCast S1x12800 l shapeCasts_S64x200_S1x12800⟩] concatenates_S9x12800_S1x12800_S10x12800_d0

/-- Every index of both arrays names a row of the table. -/
def InRange (s t : S64x200x6.Idx → BitVec 32) : Prop := (∀ j, (s j).toNat < 100000) ∧ ∀ j, (t j).toNat < 100000

theorem idxOf_lt {s t : S64x200x6.Idx → BitVec 32} (h : InRange s t) (j : S32x4800.Idx) : (idxOf s t j).toNat < 100000 := by
  unfold idxOf shapeCast
  refine concatenate_forall (P := fun v : BitVec 32 => v.toNat < 100000) _ _ _ _ ?_ _
  intro p hp i
  rcases List.mem_pair.mp hp with rfl | rfl
  · exact h.1 _
  · exact h.2 _

/-! ## The host's operations before the calls -/

abbrev ops : List (HloOp τ sig (Elt F)) :=
  [
    StableHlo.reshape main_arg0 main_v0 (rfl : (.i32 : EltTy) = .i32) shapeCasts_S64x200x6_S12800x6,
    StableHlo.reshape main_arg2 main_v1 (rfl : (.i32 : EltTy) = .i32) shapeCasts_S64x200x6_S12800x6,
    StableHlo.binary main_v0 main_v1 main_v2 ((fun a b => concatenate S25600x6 0 [⟨S12800x6, a⟩, ⟨S12800x6, b⟩] concatenates_S12800x6_S12800x6_S25600x6_d0) : (⟨S12800x6, .i32⟩ : BufTy).Contents (Elt F) → (⟨S12800x6, .i32⟩ : BufTy).Contents (Elt F) → (⟨S25600x6, .i32⟩ : BufTy).Contents (Elt F)),
    StableHlo.reshape main_v2 main_v3 (rfl : (.i32 : EltTy) = .i32) shapeCasts_S25600x6_S32x4800,
    StableHlo.reshape main_arg3 main_v4 (rfl : (.i32 : EltTy) = .i32) shapeCasts_S64x200_S12800,
    StableHlo.reshape main_arg5 main_v5 (rfl : (.i32 : EltTy) = .i32) shapeCasts_S64x200_S12800,
    StableHlo.binary main_v4 main_v5 main_v6 ((fun a b => concatenate S25600 0 [⟨S12800, a⟩, ⟨S12800, b⟩] concatenates_S12800_S12800_S25600_d0) : (⟨S12800, .i32⟩ : BufTy).Contents (Elt F) → (⟨S12800, .i32⟩ : BufTy).Contents (Elt F) → (⟨S25600, .i32⟩ : BufTy).Contents (Elt F)),
    StableHlo.unary main_v6 main_v7 (sitofp .f32 : (⟨S25600, .i32⟩ : BufTy).Contents (Elt F) → (⟨S25600, .f32⟩ : BufTy).Contents (Elt F)),
    StableHlo.reshape main_v7 main_v8 (rfl : (.f32 : EltTy) = .f32) shapeCasts_S25600_S1600x16,
    StableHlo.reshape main_arg1 main_v9 (rfl : (.i32 : EltTy) = .i32) shapeCasts_S64x200x9_S12800x9,
    StableHlo.unary main_v9 main_v10 ((transpose S9x12800 [1, 0] · transposes_S12800x9_S9x12800_1_0) : (⟨S12800x9, .i32⟩ : BufTy).Contents (Elt F) → (⟨S9x12800, .i32⟩ : BufTy).Contents (Elt F)),
    StableHlo.reshape main_arg4 main_v11 (rfl : (.i32 : EltTy) = .i32) shapeCasts_S64x200_S1x12800,
    StableHlo.binary main_v10 main_v11 main_v12 ((fun a b => concatenate S10x12800 0 [⟨S9x12800, a⟩, ⟨S1x12800, b⟩] concatenates_S9x12800_S1x12800_S10x12800_d0) : (⟨S9x12800, .i32⟩ : BufTy).Contents (Elt F) → (⟨S1x12800, .i32⟩ : BufTy).Contents (Elt F) → (⟨S10x12800, .i32⟩ : BufTy).Contents (Elt F)),
    StableHlo.unary main_arg15 main_v13 ((truncf .bf16 · bitsLt_bf16_f32) : (⟨S512x512, .f32⟩ : BufTy).Contents (Elt F) → (⟨S512x512, .bf16⟩ : BufTy).Contents (Elt F)),
    StableHlo.reshape main_arg11 main_v14 (rfl : (.f32 : EltTy) = .f32) shapeCasts_S512_S1x512,
    StableHlo.reshape main_arg14 main_v15 (rfl : (.f32 : EltTy) = .f32) shapeCasts_S512_S1x512 ]

/-- The reshape of the mask before the call that multiplies. -/
abbrev ops₁ : List (HloOp τ sig (Elt F)) := [StableHlo.reshape main_arg6 main_v19 (rfl : (.f32 : EltTy) = .f32) shapeCasts_S64x200_S12800x1]
/-- The reshape of the result after it. -/
abbrev ops₂ : List (HloOp τ sig (Elt F)) := [StableHlo.reshape main_v20 main_v21 (rfl : (.f32 : EltTy) = .f32) shapeCasts_S12800x512_S64x200x512]

theorem main_eq (d : Dev nD) : main (F := F) d = seq ops >>= fun _ =>
    (Prog.lift (.customCall (SparseCore.inner (Pipeline.entry 0)) ()) >>= fun _ => sc.run d 0 >>= fun _ =>
      Prog.lift (.customCall (SparseCore.inner (Pipeline.entry 1)) ()) >>= fun _ => seq ops₁ >>= fun _ =>
      Prog.lift (.customCall (SparseCore.inner (Pipeline.entry 2)) ()) >>= fun _ => seq ops₂ >>= fun _ => pure ⟨⟩) := by
  simp only [main, seq, bind_assoc, pure_bind]

theorem ops_sub : ∀ op ∈ (ops : List (HloOp τ sig (Elt F))), op.bufs ⊆ ucRefs τ sig := fun op h =>
  Pipeline.sub_ucRefs op (by
    have hall : (ops : List (HloOp τ sig (Elt F))).Forall fun op => op.bufs ⊆ StableHlo.tcRefs τ sig :=
      ⟨StableHlo.reshape_bufs_sub .., StableHlo.reshape_bufs_sub .., StableHlo.binary_bufs_sub .., StableHlo.reshape_bufs_sub .., StableHlo.reshape_bufs_sub .., StableHlo.reshape_bufs_sub .., StableHlo.binary_bufs_sub .., StableHlo.unary_bufs_sub .., StableHlo.reshape_bufs_sub .., StableHlo.reshape_bufs_sub .., StableHlo.unary_bufs_sub .., StableHlo.reshape_bufs_sub .., StableHlo.binary_bufs_sub .., StableHlo.unary_bufs_sub .., StableHlo.reshape_bufs_sub .., StableHlo.reshape_bufs_sub ..⟩
    exact (List.forall_iff_forall_mem.mp hall) op h)

theorem ops_fresh : ∀ op ∈ (ops : List (HloOp τ sig (Elt F))), op.fresh = ∅ := fun op h => by
  have hall : (ops : List (HloOp τ sig (Elt F))).Forall fun op => op.fresh = ∅ := ⟨rfl, rfl, rfl, rfl, rfl, rfl, rfl, rfl, rfl, rfl, rfl, rfl, rfl, rfl, rfl, rfl⟩
  exact (List.forall_iff_forall_mem.mp hall) op h

variable (m : (ℓ : Loc nD τ sig) → Buf (Elt F) ℓ)

/-- What each device's buffers hold once the host's operations have run. -/
def V : Bufs F := fun c b => after ops (launchContents m c) (Proc.devRef .tc b)

/-- An argument on a device. -/
abbrev arg (c : Dev nD) (b : Ref sig .tc) : Buf (Elt F) ((SparseCore.T c : Thread nD τ).loc b) := m ((SparseCore.T c : Thread nD τ).loc b)

/-- The recurrence's operands on a device: the indices, the table, the weights of both directions and the biases. -/
abbrev fx (c : Dev nD) : S10x12800.Idx → BitVec 32 := ixOf (arg m c main_arg1) (arg m c main_arg4)
abbrev fe (c : Dev nD) : S512x128.Idx → F .bf16 := k0_pay2 (arg m c main_arg8)
abbrev ff (c : Dev nD) : S256x512.Idx → F .bf16 := weightsOf (arg m c main_arg9) (arg m c main_arg10)
abbrev fb (c : Dev nD) : S256x512.Idx → F .bf16 := weightsOf (arg m c main_arg12) (arg m c main_arg13)
abbrev fc (c : Dev nD) : S2x512.Idx → F .f32 := biasOf (shapeCast S1x512 (arg m c main_arg11 : S512.Idx → F .f32) shapeCasts_S512_S1x512)
  (shapeCast S1x512 (arg m c main_arg14 : S512.Idx → F .f32) shapeCasts_S512_S1x512)
abbrev fi (c : Dev nD) : S32x4800.Idx → BitVec 32 := idxOf (arg m c main_arg0) (arg m c main_arg2)
abbrev fm (c : Dev nD) : S1600x1536.Idx → F .f32 := maskOf (lensOf (arg m c main_arg3) (arg m c main_arg5))
abbrev ft (c : Dev nD) : S100000x128.Idx → F .f32 := arg m c main_arg7
abbrev fo (c : Dev nD) : S25600x128.Idx → F .f32 := arg m c main_v17

theorem V_idx (c : Dev nD) : V m c main_v3 = fi m c := by
  unfold V; simp only [StableHlo.after_cons, StableHlo.after_nil]; rfl
theorem V_lens (c : Dev nD) : V m c main_v8 = lensOf (F := F) (arg m c main_arg3) (arg m c main_arg5) := by
  unfold V; simp only [StableHlo.after_cons, StableHlo.after_nil]; rfl
theorem V_ix (c : Dev nD) : V m c main_v12 = ixOf (arg m c main_arg1) (arg m c main_arg4) := by
  unfold V; simp only [StableHlo.after_cons, StableHlo.after_nil]; rfl
theorem V_weights (c : Dev nD) : V m c main_v13 = truncf (F := F) .bf16 (arg m c main_arg15 : S512x512.Idx → F .f32) bitsLt_bf16_f32 := by
  unfold V; simp only [StableHlo.after_cons, StableHlo.after_nil]; rfl
theorem V_v14 (c : Dev nD) : V m c main_v14 = shapeCast S1x512 (arg m c main_arg11 : S512.Idx → F .f32) shapeCasts_S512_S1x512 := by
  unfold V; simp only [StableHlo.after_cons, StableHlo.after_nil]; rfl
theorem V_v15 (c : Dev nD) : V m c main_v15 = shapeCast S1x512 (arg m c main_arg14 : S512.Idx → F .f32) shapeCasts_S512_S1x512 := by
  unfold V; simp only [StableHlo.after_cons, StableHlo.after_nil]; rfl
theorem V_arg0 (c : Dev nD) : V m c main_arg0 = arg m c main_arg0 := by
  unfold V; simp only [StableHlo.after_cons, StableHlo.after_nil]; rfl
theorem V_arg1 (c : Dev nD) : V m c main_arg1 = arg m c main_arg1 := by
  unfold V; simp only [StableHlo.after_cons, StableHlo.after_nil]; rfl
theorem V_arg2 (c : Dev nD) : V m c main_arg2 = arg m c main_arg2 := by
  unfold V; simp only [StableHlo.after_cons, StableHlo.after_nil]; rfl
theorem V_arg3 (c : Dev nD) : V m c main_arg3 = arg m c main_arg3 := by
  unfold V; simp only [StableHlo.after_cons, StableHlo.after_nil]; rfl
theorem V_arg4 (c : Dev nD) : V m c main_arg4 = arg m c main_arg4 := by
  unfold V; simp only [StableHlo.after_cons, StableHlo.after_nil]; rfl
theorem V_arg5 (c : Dev nD) : V m c main_arg5 = arg m c main_arg5 := by
  unfold V; simp only [StableHlo.after_cons, StableHlo.after_nil]; rfl
theorem V_arg6 (c : Dev nD) : V m c main_arg6 = arg m c main_arg6 := by
  unfold V; simp only [StableHlo.after_cons, StableHlo.after_nil]; rfl
theorem V_arg7 (c : Dev nD) : V m c main_arg7 = arg m c main_arg7 := by
  unfold V; simp only [StableHlo.after_cons, StableHlo.after_nil]; rfl
theorem V_arg8 (c : Dev nD) : V m c main_arg8 = arg m c main_arg8 := by
  unfold V; simp only [StableHlo.after_cons, StableHlo.after_nil]; rfl
theorem V_arg9 (c : Dev nD) : V m c main_arg9 = arg m c main_arg9 := by
  unfold V; simp only [StableHlo.after_cons, StableHlo.after_nil]; rfl
theorem V_arg10 (c : Dev nD) : V m c main_arg10 = arg m c main_arg10 := by
  unfold V; simp only [StableHlo.after_cons, StableHlo.after_nil]; rfl
theorem V_arg11 (c : Dev nD) : V m c main_arg11 = arg m c main_arg11 := by
  unfold V; simp only [StableHlo.after_cons, StableHlo.after_nil]; rfl
theorem V_arg12 (c : Dev nD) : V m c main_arg12 = arg m c main_arg12 := by
  unfold V; simp only [StableHlo.after_cons, StableHlo.after_nil]; rfl
theorem V_arg13 (c : Dev nD) : V m c main_arg13 = arg m c main_arg13 := by
  unfold V; simp only [StableHlo.after_cons, StableHlo.after_nil]; rfl
theorem V_arg14 (c : Dev nD) : V m c main_arg14 = arg m c main_arg14 := by
  unfold V; simp only [StableHlo.after_cons, StableHlo.after_nil]; rfl
theorem V_arg15 (c : Dev nD) : V m c main_arg15 = arg m c main_arg15 := by
  unfold V; simp only [StableHlo.after_cons, StableHlo.after_nil]; rfl
theorem V_v17 (c : Dev nD) : V m c main_v17 = arg m c main_v17 := by
  unfold V; simp only [StableHlo.after_cons, StableHlo.after_nil]; rfl
theorem V_v18 (c : Dev nD) : V m c main_v18 = arg m c main_v18 := by
  unfold V; simp only [StableHlo.after_cons, StableHlo.after_nil]; rfl
theorem V_v19 (c : Dev nD) : V m c main_v19 = arg m c main_v19 := by
  unfold V; simp only [StableHlo.after_cons, StableHlo.after_nil]; rfl
theorem V_v20 (c : Dev nD) : V m c main_v20 = arg m c main_v20 := by
  unfold V; simp only [StableHlo.after_cons, StableHlo.after_nil]; rfl
theorem V_v21 (c : Dev nD) : V m c main_v21 = arg m c main_v21 := by
  unfold V; simp only [StableHlo.after_cons, StableHlo.after_nil]; rfl

/-! ## The prepared mask's call -/

/-- What the staging cells' rounds of a TensorCore call, and of all three, start from on a device. -/
abbrev Gp (p : Fin 3) (c : Dev nD) : sProp (MM F) := iprop(Pipeline.cellsGhost (Pipeline.pin (pcfgs (F := F)) adm) EP p c ∗ Pipeline.toksInit (Pipeline.pin (pcfgs (F := F)) adm) EP p c)
abbrev G (c : Dev nD) : sProp (MM F) := iprop(Gp 0 c ∗ Gp 1 c ∗ Gp 2 c)

/-- The call that prepares the mask, in the TensorCore kernels' own signature. -/
def prepProg : Prog (TpuEff nD τ sig (Elt F) (ΛP (F := F)) .tc) PUnit := .op (.customCall (Pipeline.entry 0) ()) .ret

theorem prep_call (c : Dev nD) (W : Bufs F) (Φ : PUnit → sProp (MM F)) :
    iprop(levAts (K (F := F)).L (K (F := F)).lev ∗ boundary (SparseCore.T c) ∗ unscopedBufs c (W c) ∗ owing 0 c ∗ Gp 0 c
        ∗ ((boundary (SparseCore.T c) ∗ (rdats W 0 c).arraysAt cfg0.N ∗ Pipeline.unscopedRest spec0 c (W c) ∗ owing 0 c) -∗ Φ ⟨⟩))
      ⊢ wp frame (wpE ((K (F := F)).defs D) 𝒱 (SparseCore.T c) none) Set.univ
          (Prog.lift (.customCall (SparseCore.inner (Pipeline.entry 0)) ())) Φ := by
  have hl := (K (F := F)).wp_liftProg D 𝒱 (SparseCore.T c) Set.univ none (prepProg (F := F)) Φ
  have hr := Pipeline.RDat.RegionSeg.wp (pcfgs (F := F)) adm (rdats W) none cellOf_inj EP defs₀ 𝒱₀ (K (F := F)).L (K (F := F)).lev
    (region W) c none (fun _ h => nomatch h) .ret Φ
  rw [show (region W).pre c = iprop(unscopedBufs c (W c) ∗ owing 0 c) from rfl,
    show (region W).post c = iprop((rdats W 0 c).arraysAt cfg0.N ∗ Pipeline.unscopedRest spec0 c (W c) ∗ owing 0 c) from rfl] at hr
  refine by_steps ?_ hl
  refine by_steps ?_ hr
  iintro ⟨Hl, Hb, Hu, HO, ⟨Hg, Ht⟩, Hk⟩
  isplitl [Hk]
  · iintro H
    rw [wp_ret]
    imodintro
    iapply Hk; iexact H
  isplitl [Hb]; · iexact Hb
  isplitl [Hu HO]
  · isplitl [Hu]; · iexact Hu
    iexact HO
  isplitl [Hl]; · iexact Hl
  isplitl [Hg]; · iexact Hg
  iexact Ht

/-! The results' arrays after the call. -/

theorem arr_8 (W : Bufs F) (c : Dev nD) (f) (h : (rdats W 0 c).ArrAt 8 cfg0.N f) : f = k0_pay2 (W c main_arg8) := by
  obtain ⟨X, ⟨Y, -, hX⟩, hf⟩ := Pipeline.RDat.ArrAt.emb_eq_of_wholeAt h (t₀ := t0_0) (show (win0 8).WholeAt t0_0 by decide)
  have hX' : X = k0_pay2 (W c main_arg8) := hX
  subst hX'
  exact funext fun j => hf j
theorem arr_9 (W : Bufs F) (c : Dev nD) (f) (h : (rdats W 0 c).ArrAt 9 cfg0.N f) : f = weightsOf (W c main_arg9) (W c main_arg10) := by
  obtain ⟨X, ⟨Y, -, hX⟩, hf⟩ := Pipeline.RDat.ArrAt.emb_eq_of_wholeAt h (t₀ := t0_0) (show (win0 9).WholeAt t0_0 by decide)
  have hX' : X = weightsOf (W c main_arg9) (W c main_arg10) := hX
  subst hX'
  exact funext fun j => hf j
theorem arr_10 (W : Bufs F) (c : Dev nD) (f) (h : (rdats W 0 c).ArrAt 10 cfg0.N f) : f = weightsOf (W c main_arg12) (W c main_arg13) := by
  obtain ⟨X, ⟨Y, -, hX⟩, hf⟩ := Pipeline.RDat.ArrAt.emb_eq_of_wholeAt h (t₀ := t0_0) (show (win0 10).WholeAt t0_0 by decide)
  have hX' : X = weightsOf (W c main_arg12) (W c main_arg13) := hX
  subst hX'
  exact funext fun j => hf j
theorem arr_11 (W : Bufs F) (c : Dev nD) (f) (h : (rdats W 0 c).ArrAt 11 cfg0.N f) : f = biasOf (W c main_v14) (W c main_v15) := by
  obtain ⟨X, ⟨Y, -, hX⟩, hf⟩ := Pipeline.RDat.ArrAt.emb_eq_of_wholeAt h (t₀ := t0_0) (show (win0 11).WholeAt t0_0 by decide)
  have hX' : X = biasOf (W c main_v14) (W c main_v15) := hX
  subst hX'
  exact funext fun j => hf j
theorem arr_12 (W : Bufs F) (c : Dev nD) (f) (h : (rdats W 0 c).ArrAt 12 cfg0.N f) : f = maskOf (W c main_v8) := by
  obtain ⟨X, ⟨Y, -, hX⟩, hf⟩ := Pipeline.RDat.ArrAt.emb_eq_of_wholeAt h (t₀ := t0_0) (show (win0 12).WholeAt t0_0 by decide)
  have hX' : X = maskOf (W c main_v8) := hX
  subst hX'
  exact funext fun j => hf j

/-- What a window's array holds after the call. -/
def winAfter (W : Bufs F) (c : Dev nD) (w : Fin 13) : sProp (MM F) :=
  iprop(∃ f, ⌜(rdats W 0 c).ArrAt w cfg0.N f⌝ ∗ (win0 w).arr.view.loc (c.tc : Thread nD τ) ↦[(win0 w).arr.view.set]{(rdats W 0 c).share w} f)

theorem arraysAt_eq (W : Bufs F) (c : Dev nD) : ((rdats W 0 c).arraysAt cfg0.N : sProp (MM F)) = bigSep Finset.univ (winAfter W c) :=
  bigSep_congr fun w _ => rfl

/-- An input window's array after the call is as it was. -/
theorem in_arr (W : Bufs F) (c : Dev nD) (w : Fin 13) (hw : (win0 w).isOut = false) :
    winAfter W c w
      ⊢ (((win0 w).arr.view.loc (c.tc : Thread nD τ) ↦[(win0 w).arr.view.set]{fullShare} W c (Pipeline.arrRef spec0 w)) : sProp (MM F)) := by
  unfold winAfter
  rw [share_eq]
  iintro ⟨%f, %h, H⟩
  rw [Pipeline.RDat.ArrAt_in (rdats W 0 c) w hw] at h
  have h' : f = W c (Pipeline.arrRef spec0 w) := h
  rw [h']
  iexact H

theorem out_8 (W : Bufs F) (c : Dev nD) :
    winAfter W c 8 ⊢ (((SparseCore.T c).loc main_v16_0 ↦{fullShare} (k0_pay2 (W c main_arg8) : Buf (Elt F) ((SparseCore.T c).loc main_v16_0))) : sProp (MM F)) := by
  unfold winAfter
  rw [share_eq]
  iintro ⟨%f, %h, H⟩
  have h' := arr_8 W c f h
  rw [h', show (win0 8).arr.view.set = Finset.univ from View.set_whole _]
  iexact H
theorem out_9 (W : Bufs F) (c : Dev nD) :
    winAfter W c 9 ⊢ (((SparseCore.T c).loc main_v16_1 ↦{fullShare} (weightsOf (W c main_arg9) (W c main_arg10) : Buf (Elt F) ((SparseCore.T c).loc main_v16_1))) : sProp (MM F)) := by
  unfold winAfter
  rw [share_eq]
  iintro ⟨%f, %h, H⟩
  have h' := arr_9 W c f h
  rw [h', show (win0 9).arr.view.set = Finset.univ from View.set_whole _]
  iexact H
theorem out_10 (W : Bufs F) (c : Dev nD) :
    winAfter W c 10 ⊢ (((SparseCore.T c).loc main_v16_2 ↦{fullShare} (weightsOf (W c main_arg12) (W c main_arg13) : Buf (Elt F) ((SparseCore.T c).loc main_v16_2))) : sProp (MM F)) := by
  unfold winAfter
  rw [share_eq]
  iintro ⟨%f, %h, H⟩
  have h' := arr_10 W c f h
  rw [h', show (win0 10).arr.view.set = Finset.univ from View.set_whole _]
  iexact H
theorem out_11 (W : Bufs F) (c : Dev nD) :
    winAfter W c 11 ⊢ (((SparseCore.T c).loc main_v16_3 ↦{fullShare} (biasOf (W c main_v14) (W c main_v15) : Buf (Elt F) ((SparseCore.T c).loc main_v16_3))) : sProp (MM F)) := by
  unfold winAfter
  rw [share_eq]
  iintro ⟨%f, %h, H⟩
  have h' := arr_11 W c f h
  rw [h', show (win0 11).arr.view.set = Finset.univ from View.set_whole _]
  iexact H
theorem out_12 (W : Bufs F) (c : Dev nD) :
    winAfter W c 12 ⊢ (((SparseCore.T c).loc main_v16_4 ↦{fullShare} (maskOf (W c main_v8) : Buf (Elt F) ((SparseCore.T c).loc main_v16_4))) : sProp (MM F)) := by
  unfold winAfter
  rw [share_eq]
  iintro ⟨%f, %h, H⟩
  have h' := arr_12 W c f h
  rw [h', show (win0 12).arr.view.set = Finset.univ from View.set_whole _]
  iexact H

/-- The windows' arrays after the call: the arguments as they were, the results computed. -/
theorem arrays_after (W : Bufs F) (c : Dev nD) :
    ((rdats W 0 c).arraysAt cfg0.N : sProp (MM F)) ⊢ iprop(((SparseCore.T c).loc main_arg8 ↦{fullShare} W c main_arg8) ∗ ((SparseCore.T c).loc main_arg9 ↦{fullShare} W c main_arg9) ∗ ((SparseCore.T c).loc main_arg10 ↦{fullShare} W c main_arg10) ∗ ((SparseCore.T c).loc main_arg12 ↦{fullShare} W c main_arg12) ∗ ((SparseCore.T c).loc main_arg13 ↦{fullShare} W c main_arg13)
      ∗ ((SparseCore.T c).loc main_v16_0 ↦{fullShare} (k0_pay2 (W c main_arg8) : Buf (Elt F) ((SparseCore.T c).loc main_v16_0))) ∗ ((SparseCore.T c).loc main_v16_1 ↦{fullShare} (weightsOf (W c main_arg9) (W c main_arg10) : Buf (Elt F) ((SparseCore.T c).loc main_v16_1))) ∗ ((SparseCore.T c).loc main_v16_2 ↦{fullShare} (weightsOf (W c main_arg12) (W c main_arg13) : Buf (Elt F) ((SparseCore.T c).loc main_v16_2))) ∗ ((SparseCore.T c).loc main_v16_3 ↦{fullShare} (biasOf (W c main_v14) (W c main_v15) : Buf (Elt F) ((SparseCore.T c).loc main_v16_3))) ∗ ((SparseCore.T c).loc main_v16_4 ↦{fullShare} (maskOf (W c main_v8) : Buf (Elt F) ((SparseCore.T c).loc main_v16_4)))) := by
  have i0 : winAfter W c 0 ⊢ ((SparseCore.T c).loc main_arg8 ↦{fullShare} W c main_arg8) := by
    have h := in_arr W c 0 rfl
    rw [show (win0 0).arr.view.set = Finset.univ from View.set_whole _] at h
    exact h
  have i1 : winAfter W c 1 ⊢ ((SparseCore.T c).loc main_arg9 ↦{fullShare} W c main_arg9) := by
    have h := in_arr W c 1 rfl
    rw [show (win0 1).arr.view.set = Finset.univ from View.set_whole _] at h
    exact h
  have i5 : winAfter W c 5 ⊢ ((SparseCore.T c).loc main_arg10 ↦{fullShare} W c main_arg10) := by
    have h := in_arr W c 5 rfl
    rw [show (win0 5).arr.view.set = Finset.univ from View.set_whole _] at h
    exact h
  have i3 : winAfter W c 3 ⊢ ((SparseCore.T c).loc main_arg12 ↦{fullShare} W c main_arg12) := by
    have h := in_arr W c 3 rfl
    rw [show (win0 3).arr.view.set = Finset.univ from View.set_whole _] at h
    exact h
  have i6 : winAfter W c 6 ⊢ ((SparseCore.T c).loc main_arg13 ↦{fullShare} W c main_arg13) := by
    have h := in_arr W c 6 rfl
    rw [show (win0 6).arr.view.set = Finset.univ from View.set_whole _] at h
    exact h
  have i8 := out_8 W c
  have i9 := out_9 W c
  have i10 := out_10 W c
  have i11 := out_11 W c
  have i12 := out_12 W c
  rw [arraysAt_eq, bigSep_W0]
  iintro ⟨H0, H1, -, H3, -, H5, H6, -, H8, H9, H10, H11, H12⟩
  isplitl [H0]; · iapply i0; iexact H0
  isplitl [H1]; · iapply i1; iexact H1
  isplitl [H5]; · iapply i5; iexact H5
  isplitl [H3]; · iapply i3; iexact H3
  isplitl [H6]; · iapply i6; iexact H6
  isplitl [H8]; · iapply i8; iexact H8
  isplitl [H9]; · iapply i9; iexact H9
  isplitl [H10]; · iapply i10; iexact H10
  isplitl [H11]; · iapply i11; iexact H11
  iapply i12; iexact H12

/-! ## The recurrence's call -/

/-- The recurrence's call, in the TensorCore kernels' own signature. -/
def lstmProg : Prog (TpuEff nD τ sig (Elt F) (ΛP (F := F)) .tc) PUnit := .op (.customCall (Pipeline.entry 1) ()) .ret

theorem lstm_call (c : Dev nD) (W : Bufs F) (Φ : PUnit → sProp (MM F)) :
    iprop(levAts (K (F := F)).L (K (F := F)).lev ∗ boundary (SparseCore.T c)
        ∗ (loperands W c ∗ ((SparseCore.T c).loc main_v18 ↦{fullShare} W c main_v18) ∗ owing 1 c) ∗ Gp 1 c
        ∗ ((boundary (SparseCore.T c) ∗ loperands W c
            ∗ ((SparseCore.T c).loc main_v18 ↦{fullShare} (recurrence (W c main_v12) (W c main_v16_0) (W c main_v16_1) (W c main_v16_2) (W c main_v16_3) : Buf (Elt F) ((SparseCore.T c).loc main_v18)))
            ∗ owing 1 c) -∗ Φ ⟨⟩))
      ⊢ wp frame (wpE ((K (F := F)).defs D) 𝒱 (SparseCore.T c) none) Set.univ
          (Prog.lift (.customCall (SparseCore.inner (Pipeline.entry 1)) ())) Φ := by
  have hl := (K (F := F)).wp_liftProg D 𝒱 (SparseCore.T c) Set.univ none (lstmProg (F := F)) Φ
  have hr := Pipeline.RegionSeg.wp (pcfgs (F := F)) adm (ldats W) none cellOf_inj EP defs₀ 𝒱₀ (K (F := F)).L (K (F := F)).lev
    (lregion W) c none (fun _ h => nomatch h) .ret Φ
  rw [show (lregion W).pre c = iprop(loperands W c ∗ ((SparseCore.T c).loc main_v18 ↦{fullShare} W c main_v18) ∗ owing 1 c) from rfl,
    show (lregion W).post c = iprop(loperands W c ∗ ((SparseCore.T c).loc main_v18 ↦{fullShare} (recurrence (W c main_v12) (W c main_v16_0) (W c main_v16_1) (W c main_v16_2) (W c main_v16_3) : Buf (Elt F) ((SparseCore.T c).loc main_v18))) ∗ owing 1 c) from rfl] at hr
  refine by_steps ?_ hl
  refine by_steps ?_ hr
  iintro ⟨Hl, Hb, Hp, ⟨Hg, Ht⟩, Hk⟩
  isplitl [Hk]
  · iintro H
    rw [wp_ret]
    imodintro
    iapply Hk; iexact H
  isplitl [Hb]; · iexact Hb
  isplitl [Hp]; · iexact Hp
  isplitl [Hl]; · iexact Hl
  isplitl [Hg]; · iexact Hg
  iexact Ht

/-! ## The call that multiplies -/

/-- The call that multiplies, in the TensorCore kernels' own signature. -/
def gemmProg : Prog (TpuEff nD τ sig (Elt F) (ΛP (F := F)) .tc) PUnit := .op (.customCall (Pipeline.entry 2) ()) .ret

theorem gemm_call (c : Dev nD) (W : Bufs F) (Φ : PUnit → sProp (MM F)) :
    iprop(levAts (K (F := F)).L (K (F := F)).lev ∗ boundary (SparseCore.T c)
        ∗ (operands W c ∗ ((SparseCore.T c).loc main_v20 ↦{fullShare} W c main_v20) ∗ owing 1 c) ∗ Gp 2 c
        ∗ ((boundary (SparseCore.T c) ∗ operands W c
            ∗ ((SparseCore.T c).loc main_v20 ↦{fullShare} (product (W c main_v17) (W c main_v18) (W c main_v19) (W c main_v13) : Buf (Elt F) ((SparseCore.T c).loc main_v20)))
            ∗ owing 1 c) -∗ Φ ⟨⟩))
      ⊢ wp frame (wpE ((K (F := F)).defs D) 𝒱 (SparseCore.T c) none) Set.univ
          (Prog.lift (.customCall (SparseCore.inner (Pipeline.entry 2)) ())) Φ := by
  have hl := (K (F := F)).wp_liftProg D 𝒱 (SparseCore.T c) Set.univ none (gemmProg (F := F)) Φ
  have hr := Pipeline.RegionSeg.wp (pcfgs (F := F)) adm (gdats W) none cellOf_inj EP defs₀ 𝒱₀ (K (F := F)).L (K (F := F)).lev
    (gregion W) c none (fun _ h => nomatch h) .ret Φ
  rw [show (gregion W).pre c = iprop(operands W c ∗ ((SparseCore.T c).loc main_v20 ↦{fullShare} W c main_v20) ∗ owing 1 c) from rfl,
    show (gregion W).post c = iprop(operands W c ∗ ((SparseCore.T c).loc main_v20 ↦{fullShare} (product (W c main_v17) (W c main_v18) (W c main_v19) (W c main_v13) : Buf (Elt F) ((SparseCore.T c).loc main_v20))) ∗ owing 1 c) from rfl] at hr
  refine by_steps ?_ hl
  refine by_steps ?_ hr
  iintro ⟨Hl, Hb, Hp, ⟨Hg, Ht⟩, Hk⟩
  isplitl [Hk]
  · iintro H
    rw [wp_ret]
    imodintro
    iapply Hk; iexact H
  isplitl [Hb]; · iexact Hb
  isplitl [Hp]; · iexact Hp
  isplitl [Hl]; · iexact Hl
  isplitl [Hg]; · iexact Hg
  iexact Ht

/-! ## The host's reshapes between and after the calls -/

/-- Two buffers held at a valuation are the two buffers at its values. -/
theorem held_two (d : Dev nD) (a b : Ref sig .tc) (h : (Proc.devRef .tc a : DevRef τ sig) ≠ Proc.devRef .tc b) (U : Valuation τ sig (Elt F)) :
    (held (SparseCore.T d) {Proc.devRef .tc a, Proc.devRef .tc b} U : sProp (MM F))
      = iprop(((SparseCore.T d).loc a ↦{fullShare} U (Proc.devRef .tc a)) ∗ (SparseCore.T d).loc b ↦{fullShare} U (Proc.devRef .tc b)) := by
  unfold held
  rw [bigSep_insert (by simpa using h), bigSep_singleton]
  rfl

/-- Contents with one buffer replaced. -/
abbrev setBuf (U : Valuation τ sig (Elt F)) (b : Ref sig .tc) (f : (Proc.devRef .tc b : DevRef τ sig).ty.Contents (Elt F)) : Valuation τ sig (Elt F) :=
  Function.update U (Proc.devRef .tc b) f

/-- The contents before the recurrence: its operands and the SparseCore's rows computed. -/
def UL (c : Dev nD) : Valuation τ sig (Elt F) :=
  setBuf (setBuf (setBuf (setBuf (setBuf (after ops (launchContents m c)) main_v17 (target (fi m c) (fm m c) (ft m c)))
    main_v16_0 (fe m c)) main_v16_1 (ff m c)) main_v16_2 (fb m c)) main_v16_3 (fc m c)
/-- The same, at the TensorCore's references. -/
def WL : Bufs F := fun c b => UL m c (Proc.devRef .tc b)
/-- The final states. -/
def recOf (c : Dev nD) : S12800x256.Idx → F .bf16 := recurrence (fx m c) (fe m c) (ff m c) (fb m c) (fc m c)
/-- The contents before the reshape of the mask: the final states computed. -/
def U₁ (c : Dev nD) : Valuation τ sig (Elt F) := setBuf (UL m c) main_v18 (recOf m c)
/-- And after it. -/
def U₂ (c : Dev nD) : Valuation τ sig (Elt F) := after ops₁ (U₁ m c)
/-- The same, at the TensorCore's references. -/
def V₂ : Bufs F := fun c b => U₂ m c (Proc.devRef .tc b)

/-- The mask, a column. -/
abbrev fv (c : Dev nD) : S12800x1.Idx → F .f32 := shapeCast S12800x1 (arg m c main_arg6 : S64x200.Idx → F .f32) shapeCasts_S64x200_S12800x1
/-- The weights, rounded. -/
abbrev fw (c : Dev nD) : S512x512.Idx → F .bf16 := truncf (F := F) .bf16 (arg m c main_arg15 : S512x512.Idx → F .f32) bitsLt_bf16_f32
/-- The product's array. -/
def prodOf (c : Dev nD) : S12800x512.Idx → F .f32 := product (target (fi m c) (fm m c) (ft m c)) (recOf m c) (fv m c) (fw m c)
/-- The result. -/
def outOf (c : Dev nD) : S64x200x512.Idx → F .f32 := shapeCast S64x200x512 (prodOf m c) shapeCasts_S12800x512_S64x200x512
/-- The contents before the reshape of the result. -/
def U₃ (c : Dev nD) : Valuation τ sig (Elt F) := setBuf (U₂ m c) main_v20 (prodOf m c)

theorem setBuf_ne (U : Valuation τ sig (Elt F)) (b a : Ref sig .tc) (f) (h : (Proc.devRef .tc a : DevRef τ sig) ≠ Proc.devRef .tc b) :
    setBuf U b f (Proc.devRef .tc a) = U (Proc.devRef .tc a) := Function.update_of_ne h _ _

theorem UL_of (c : Dev nD) (b : Ref sig .tc) (h0 : (Proc.devRef .tc b : DevRef τ sig) ≠ Proc.devRef .tc main_v17) (h1 : (Proc.devRef .tc b : DevRef τ sig) ≠ Proc.devRef .tc main_v16_0)
    (h2 : (Proc.devRef .tc b : DevRef τ sig) ≠ Proc.devRef .tc main_v16_1) (h3 : (Proc.devRef .tc b : DevRef τ sig) ≠ Proc.devRef .tc main_v16_2)
    (h4 : (Proc.devRef .tc b : DevRef τ sig) ≠ Proc.devRef .tc main_v16_3) : UL m c (Proc.devRef .tc b) = V m c b :=
  (setBuf_ne _ _ _ _ h4).trans ((setBuf_ne _ _ _ _ h3).trans ((setBuf_ne _ _ _ _ h2).trans ((setBuf_ne _ _ _ _ h1).trans (setBuf_ne _ _ _ _ h0))))
theorem U₁_of (c : Dev nD) (b : Ref sig .tc) (h : (Proc.devRef .tc b : DevRef τ sig) ≠ Proc.devRef .tc main_v18) : U₁ m c (Proc.devRef .tc b) = UL m c (Proc.devRef .tc b) :=
  setBuf_ne _ _ _ _ h
theorem WL_v12 (c : Dev nD) : WL m c main_v12 = fx m c := (UL_of m c main_v12 (by decide) (by decide) (by decide) (by decide) (by decide)).trans (V_ix m c)
theorem WL_v18 (c : Dev nD) : WL m c main_v18 = arg m c main_v18 := (UL_of m c main_v18 (by decide) (by decide) (by decide) (by decide) (by decide)).trans (V_v18 m c)
theorem WL_v16_3 (c : Dev nD) : WL m c main_v16_3 = fc m c := by unfold WL UL; exact Function.update_self (Proc.devRef .tc main_v16_3) _ _
theorem WL_v16_2 (c : Dev nD) : WL m c main_v16_2 = fb m c := by unfold WL UL; exact (setBuf_ne _ _ _ _ (by decide)).trans (Function.update_self (Proc.devRef .tc main_v16_2) _ _)
theorem WL_v16_1 (c : Dev nD) : WL m c main_v16_1 = ff m c := by unfold WL UL; exact (setBuf_ne _ _ _ _ (by decide)).trans ((setBuf_ne _ _ _ _ (by decide)).trans (Function.update_self (Proc.devRef .tc main_v16_1) _ _))
theorem WL_v16_0 (c : Dev nD) : WL m c main_v16_0 = fe m c := by unfold WL UL; exact (setBuf_ne _ _ _ _ (by decide)).trans ((setBuf_ne _ _ _ _ (by decide)).trans ((setBuf_ne _ _ _ _ (by decide)).trans (Function.update_self (Proc.devRef .tc main_v16_0) _ _)))
theorem UL_v17 (c : Dev nD) : UL m c (Proc.devRef .tc main_v17) = target (fi m c) (fm m c) (ft m c) := by unfold UL; exact (setBuf_ne _ _ _ _ (by decide)).trans ((setBuf_ne _ _ _ _ (by decide)).trans ((setBuf_ne _ _ _ _ (by decide)).trans ((setBuf_ne _ _ _ _ (by decide)).trans (Function.update_self (Proc.devRef .tc main_v17) _ _))))
theorem U₁_arg4 (c : Dev nD) : U₁ m c (Proc.devRef .tc main_arg6) = arg m c main_arg6 := (U₁_of m c main_arg6 (by decide)).trans ((UL_of m c main_arg6 (by decide) (by decide) (by decide) (by decide) (by decide)).trans (V_arg6 m c))
theorem U₁_v14 (c : Dev nD) : U₁ m c (Proc.devRef .tc main_v19) = arg m c main_v19 := (U₁_of m c main_v19 (by decide)).trans ((UL_of m c main_v19 (by decide) (by decide) (by decide) (by decide) (by decide)).trans (V_v19 m c))
theorem U₂_of (c : Dev nD) (b : Ref sig .tc) (h : (Proc.devRef .tc b : DevRef τ sig) ≠ Proc.devRef .tc main_v19) :
    U₂ m c (Proc.devRef .tc b) = U₁ m c (Proc.devRef .tc b) := by
  unfold U₂; exact StableHlo.after_of_forall_not_mem _ _ fun op ho => by rw [List.mem_singleton.mp ho, StableHlo.reshape_writes]; simpa using h
theorem U₂_v14 (c : Dev nD) : U₂ m c (Proc.devRef .tc main_v19) = fv m c := by
  have h : U₂ m c (Proc.devRef .tc main_v19) = shapeCast S12800x1 (U₁ m c (Proc.devRef .tc main_arg6) : S64x200.Idx → F .f32) shapeCasts_S64x200_S12800x1 := by
    unfold U₂; rw [StableHlo.after_cons, StableHlo.after_nil]; rfl
  rw [h, U₁_arg4]
theorem V₂_v17 (c : Dev nD) : V₂ m c main_v17 = target (fi m c) (fm m c) (ft m c) := (U₂_of m c main_v17 (by decide)).trans ((U₁_of m c main_v17 (by decide)).trans (UL_v17 m c))
theorem V₂_v19 (c : Dev nD) : V₂ m c main_v19 = fv m c := U₂_v14 m c
theorem V₂_v18 (c : Dev nD) : V₂ m c main_v18 = recOf m c :=
  (U₂_of m c main_v18 (by decide)).trans (by unfold U₁; exact Function.update_self (Proc.devRef .tc main_v18) _ _)
theorem V₂_v13 (c : Dev nD) : V₂ m c main_v13 = fw m c := (U₂_of m c main_v13 (by decide)).trans ((U₁_of m c main_v13 (by decide)).trans ((UL_of m c main_v13 (by decide) (by decide) (by decide) (by decide) (by decide)).trans (V_weights m c)))
theorem V₂_v20 (c : Dev nD) : V₂ m c main_v20 = arg m c main_v20 := (U₂_of m c main_v20 (by decide)).trans ((U₁_of m c main_v20 (by decide)).trans ((UL_of m c main_v20 (by decide) (by decide) (by decide) (by decide) (by decide)).trans (V_v20 m c)))
theorem U₃_v15 (c : Dev nD) : U₃ m c (Proc.devRef .tc main_v20) = prodOf m c := by unfold U₃; exact Function.update_self (Proc.devRef .tc main_v20) _ _
theorem U₃_v16 (c : Dev nD) : U₃ m c (Proc.devRef .tc main_v21) = arg m c main_v21 :=
  (setBuf_ne _ _ _ _ (by decide)).trans ((U₂_of m c main_v21 (by decide)).trans ((U₁_of m c main_v21 (by decide)).trans ((UL_of m c main_v21 (by decide) (by decide) (by decide) (by decide) (by decide)).trans (V_v21 m c))))
theorem after₂_v16 (c : Dev nD) : after ops₂ (U₃ m c) (Proc.devRef .tc main_v21) = outOf m c := by
  have h : after ops₂ (U₃ m c) (Proc.devRef .tc main_v21) = shapeCast S64x200x512 (U₃ m c (Proc.devRef .tc main_v20) : S12800x512.Idx → F .f32) shapeCasts_S12800x512_S64x200x512 := by
    rw [StableHlo.after_cons, StableHlo.after_nil]; rfl
  rw [h, U₃_v15]; rfl
theorem after₁_arg4 (c : Dev nD) : U₂ m c (Proc.devRef .tc main_arg6) = arg m c main_arg6 := (U₂_of m c main_arg6 (by decide)).trans (U₁_arg4 m c)

/-! ## @main -/

/-- The arguments whole at what they held at launch, and the result at the product. -/
abbrev FIN (c : Dev nD) : sProp (MM F) :=
  iprop(((SparseCore.T c).loc main_arg0 ↦{fullShare} arg m c main_arg0) ∗ ((SparseCore.T c).loc main_arg1 ↦{fullShare} arg m c main_arg1) ∗ ((SparseCore.T c).loc main_arg2 ↦{fullShare} arg m c main_arg2) ∗ ((SparseCore.T c).loc main_arg3 ↦{fullShare} arg m c main_arg3) ∗ ((SparseCore.T c).loc main_arg4 ↦{fullShare} arg m c main_arg4) ∗ ((SparseCore.T c).loc main_arg5 ↦{fullShare} arg m c main_arg5) ∗ ((SparseCore.T c).loc main_arg6 ↦{fullShare} arg m c main_arg6) ∗ ((SparseCore.T c).loc main_arg7 ↦{fullShare} arg m c main_arg7) ∗ ((SparseCore.T c).loc main_arg8 ↦{fullShare} arg m c main_arg8) ∗ ((SparseCore.T c).loc main_arg9 ↦{fullShare} arg m c main_arg9) ∗ ((SparseCore.T c).loc main_arg10 ↦{fullShare} arg m c main_arg10) ∗ ((SparseCore.T c).loc main_arg11 ↦{fullShare} arg m c main_arg11) ∗ ((SparseCore.T c).loc main_arg12 ↦{fullShare} arg m c main_arg12) ∗ ((SparseCore.T c).loc main_arg13 ↦{fullShare} arg m c main_arg13) ∗ ((SparseCore.T c).loc main_arg14 ↦{fullShare} arg m c main_arg14) ∗ ((SparseCore.T c).loc main_arg15 ↦{fullShare} arg m c main_arg15) ∗
    (SparseCore.T c).loc main_v21 ↦{fullShare} (outOf m c : Buf (Elt F) ((SparseCore.T c).loc main_v21)))

/-- What the TensorCore owes before the `n`-th SparseCore call, taken out of its state and put back. -/
theorem tcSt_owing (d : Dev nD) (n : ℕ) : ((K (F := F)).tcSt EH d n : sProp (MM F)) ⊢ iprop(owing n d ∗ (owing n d -∗ (K (F := F)).tcSt EH d n)) := by
  unfold SparseCore.Cfg.tcSt owing
  iintro ⟨HO, Hr⟩
  isplitl [HO]; · iexact HO
  iintro HO
  isplitl [HO]; · iexact HO
  iexact Hr

/-- The buffers the first call does not touch, listed. -/
theorem rest_eq (c : Dev nD) (W : (b : Ref sig .tc) → Buf (Elt F) ((c : Thread nD τ).loc b)) :
    (Pipeline.unscopedRest (Ix := HIx 1) (Name := ℕ) (U := UU) (Lvl := ℕ) spec0 c W : sProp (MM F))
      = iprop((((SparseCore.T c).loc main_arg0) ↦{fullShare} W main_arg0) ∗ (((SparseCore.T c).loc main_arg1) ↦{fullShare} W main_arg1) ∗ (((SparseCore.T c).loc main_arg2) ↦{fullShare} W main_arg2) ∗ (((SparseCore.T c).loc main_arg3) ↦{fullShare} W main_arg3) ∗ (((SparseCore.T c).loc main_arg4) ↦{fullShare} W main_arg4) ∗ (((SparseCore.T c).loc main_arg5) ↦{fullShare} W main_arg5) ∗ (((SparseCore.T c).loc main_arg6) ↦{fullShare} W main_arg6) ∗ (((SparseCore.T c).loc main_arg7) ↦{fullShare} W main_arg7) ∗ (((SparseCore.T c).loc main_arg11) ↦{fullShare} W main_arg11) ∗ (((SparseCore.T c).loc main_arg14) ↦{fullShare} W main_arg14) ∗ (((SparseCore.T c).loc main_arg15) ↦{fullShare} W main_arg15) ∗ (((SparseCore.T c).loc main_v0) ↦{fullShare} W main_v0) ∗ (((SparseCore.T c).loc main_v1) ↦{fullShare} W main_v1) ∗ (((SparseCore.T c).loc main_v2) ↦{fullShare} W main_v2) ∗ (((SparseCore.T c).loc main_v3) ↦{fullShare} W main_v3) ∗ (((SparseCore.T c).loc main_v4) ↦{fullShare} W main_v4) ∗ (((SparseCore.T c).loc main_v5) ↦{fullShare} W main_v5) ∗ (((SparseCore.T c).loc main_v6) ↦{fullShare} W main_v6) ∗ (((SparseCore.T c).loc main_v7) ↦{fullShare} W main_v7) ∗ (((SparseCore.T c).loc main_v9) ↦{fullShare} W main_v9) ∗ (((SparseCore.T c).loc main_v10) ↦{fullShare} W main_v10) ∗ (((SparseCore.T c).loc main_v11) ↦{fullShare} W main_v11) ∗ (((SparseCore.T c).loc main_v12) ↦{fullShare} W main_v12) ∗ (((SparseCore.T c).loc main_v13) ↦{fullShare} W main_v13) ∗ (((SparseCore.T c).loc main_v17) ↦{fullShare} W main_v17) ∗ (((SparseCore.T c).loc main_v18) ↦{fullShare} W main_v18) ∗ (((SparseCore.T c).loc main_v19) ↦{fullShare} W main_v19) ∗ (((SparseCore.T c).loc main_v20) ↦{fullShare} W main_v20) ∗ (((SparseCore.T c).loc main_v21) ↦{fullShare} W main_v21)) :=
  Pipeline.unscopedRest_eq_of_list spec0 c W [main_arg0, main_arg1, main_arg2, main_arg3, main_arg4, main_arg5, main_arg6, main_arg7, main_arg11, main_arg14, main_arg15, main_v0, main_v1, main_v2, main_v3, main_v4, main_v5, main_v6, main_v7, main_v9, main_v10, main_v11, main_v12, main_v13, main_v17, main_v18, main_v19, main_v20, main_v21] (by decide) (by decide)

-- The arguments' sixteen buffers ride through some hundred and fifty proof-mode steps.
set_option maxHeartbeats 2000000 in
/-- @main on a device's TensorCore. -/
theorem hmain (g : Dev nD → PrngReg) (κ : GSem nD τ sig → ℕ) (d : Dev nD) :
    iprop((K (F := F)).ctx EH (P (fi m) (fm m) (ft m) (fo m)) κ ∗ (K (F := F)).tcSt EH d 0 ∗ (K (F := F)).tcRes m g d ∗ G d)
      ⊢ wp frame (wpE ((K (F := F)).defs D) 𝒱 (SparseCore.T d) none) Set.univ (main d)
          fun _ => iprop((K (F := F)).tcSt EH d 1 ∗ FIN m d ∗ (K (F := F)).tcEnd d) := by
  have hu : (unscopedBufs d (fun b => m ((SparseCore.T d : Thread nD τ).loc b)) : sProp (MM F)) = held (SparseCore.T d) (ucRefs τ sig) (launchContents m d) :=
    Pipeline.unscopedBufs_held d (launchContents m d)
  have hv : (held (SparseCore.T d) (ucRefs τ sig) (after ops (launchContents m d)) : sProp (MM F)) = unscopedBufs d (V m d) :=
    (Pipeline.unscopedBufs_held d (after ops (launchContents m d))).symm
  have hrest := rest_eq (F := F) d (V m d)
  have harr := arrays_after (V m) d
  have hdeal := deal (fi m) (fm m) (ft m) d
  simp only [V_arg0, V_arg1, V_arg2, V_arg3, V_arg4, V_arg5, V_arg6, V_arg7, V_arg11, V_arg14, V_arg15, V_idx, V_ix, V_weights, V_v17, V_v18, V_v19, V_v20, V_v21] at hrest
  rw [V_arg8, V_arg9, V_arg10, V_arg12, V_arg13, V_v14, V_v15, V_lens] at harr
  have hlev : (K (F := F)).ctx EH (P (fi m) (fm m) (ft m) (fo m)) κ ⊢ levAts (K (F := F)).L (K (F := F)).lev := by
    unfold SparseCore.Cfg.ctx
    iintro ⟨H, -⟩
    iexact H
  have hst := tcSt_owing (F := F) d 0
  have hst1' : ((K (F := F)).tcSt EH d ((0 : Fin 1).val + 1) : sProp (MM F)) ⊢ iprop(owing 1 d ∗ (owing 1 d -∗ (K (F := F)).tcSt EH d 1)) := tcSt_owing (F := F) d 1
  have e₁ := held_two (F := F) d main_arg6 main_v19 (by decide) (U₁ m d)
  have e₁' := held_two (F := F) d main_arg6 main_v19 (by decide) (after ops₁ (U₁ m d))
  have e₂ := held_two (F := F) d main_v20 main_v21 (by decide) (U₃ m d)
  have e₂' := held_two (F := F) d main_v20 main_v21 (by decide) (after ops₂ (U₃ m d))
  rw [U₁_arg4, U₁_v14] at e₁
  rw [show after ops₁ (U₁ m d) (Proc.devRef .tc main_arg6) = arg m d main_arg6 from after₁_arg4 m d,
    show after ops₁ (U₁ m d) (Proc.devRef .tc main_v19) = fv m d from U₂_v14 m d] at e₁'
  rw [U₃_v15, U₃_v16] at e₂
  rw [after₂_v16] at e₂'
  have hg := gemm_call (F := F) d (V₂ m)
  unfold operands at hg
  rw [V₂_v17, V₂_v18, V₂_v19, V₂_v13, V₂_v20] at hg
  have hl := lstm_call (F := F) d (WL m)
  unfold loperands at hl
  rw [WL_v12, WL_v16_0, WL_v16_1, WL_v16_2, WL_v16_3, WL_v18] at hl
  have hs₁ : ∀ op ∈ (ops₁ : List (HloOp τ sig (Elt F))), op.bufs ⊆ {Proc.devRef .tc main_arg6, Proc.devRef .tc main_v19} := fun op h => by
    rw [List.mem_singleton.mp h]; exact subset_rfl
  have hs₂ : ∀ op ∈ (ops₂ : List (HloOp τ sig (Elt F))), op.bufs ⊆ {Proc.devRef .tc main_v20, Proc.devRef .tc main_v21} := fun op h => by
    rw [List.mem_singleton.mp h]; exact subset_rfl
  have hf₁ : ∀ op ∈ (ops₁ : List (HloOp τ sig (Elt F))), op.fresh = ∅ := fun op h => by rw [List.mem_singleton.mp h]; rfl
  have hf₂ : ∀ op ∈ (ops₂ : List (HloOp τ sig (Elt F))), op.fresh = ∅ := fun op h => by rw [List.mem_singleton.mp h]; rfl
  have hsplit : (iprop(((SparseCore.T d).loc main_v3 ↦{fullShare} (fi m d : Buf (Elt F) ((SparseCore.T d).loc main_v3))) ∗ ((SparseCore.T d).loc main_v16_4 ↦{fullShare} (fm m d : Buf (Elt F) ((SparseCore.T d).loc main_v16_4)))
        ∗ ((SparseCore.T d).loc main_arg7 ↦{fullShare} (ft m d : Buf (Elt F) ((SparseCore.T d).loc main_arg7))) ∗ (SparseCore.T d).loc main_v17 ↦{fullShare} (fo m d : Buf (Elt F) ((SparseCore.T d).loc main_v17))) : sProp (MM F))
      ⊢ iprop((bigSep Finset.univ fun c : Fin ((K (F := F)).nCore 0) => (P (fi m) (fm m) (ft m) (fo m)).st 0 d c) ∗ leftover (fi m) (fm m) (ft m) d) :=
    Entails.of_eq (hdeal (fo m d))
  have hjoin : iprop((bigSep Finset.univ fun c : Fin ((K (F := F)).nCore 0) => (P (fi m) (fm m) (ft m) (fo m)).dn 0 d c) ∗ leftover (fi m) (fm m) (ft m) d)
      ⊢ (iprop(((SparseCore.T d).loc main_v3 ↦{fullShare} (fi m d : Buf (Elt F) ((SparseCore.T d).loc main_v3))) ∗ ((SparseCore.T d).loc main_v16_4 ↦{fullShare} (fm m d : Buf (Elt F) ((SparseCore.T d).loc main_v16_4)))
        ∗ ((SparseCore.T d).loc main_arg7 ↦{fullShare} (ft m d : Buf (Elt F) ((SparseCore.T d).loc main_arg7))) ∗ (SparseCore.T d).loc main_v17 ↦{fullShare} (target (fi m d) (fm m d) (ft m d) : Buf (Elt F) ((SparseCore.T d).loc main_v17))) : sProp (MM F)) :=
    Entails.of_eq (hdeal _).symm
  unfold SparseCore.Cfg.tcRes SparseCore.Cfg.tcEnd
  rw [main_eq, hu]
  iintro ⟨#Hctx, Hst, ⟨Hb, Hu, Hts, -⟩, ⟨HG, HG1, HG2⟩⟩
  iapply (wp_seq 𝒱 none Set.univ d (ucRefs τ sig) _ ops ops_sub ops_fresh _) $$ [Hb Hu]
  · isplitl [Hb]; · iexact Hb
    iexact Hu
  iintro ⟨Hb, Hu⟩
  ihave Hu' := (Entails.of_eq hv) $$ Hu
  ihave Hst' := hst $$ Hst
  icases Hst' with ⟨HO, Hst⟩
  rw [wp_bind]
  iapply (prep_call d (V m))
  isplitr; · iapply hlev; iexact Hctx
  isplitl [Hb]; · iexact Hb
  isplitl [Hu']; · iexact Hu'
  isplitl [HO]; · iexact HO
  isplitl [HG]; · iexact HG
  iintro ⟨Hb, Ha, Hr, HO⟩
  ihave Hst' := Hst $$ HO
  ihave Ha' := harr $$ Ha
  ihave Hr' := (Entails.of_eq hrest) $$ Hr
  icases Ha' with ⟨H8, H9, H10, H12, H13, He, Hwf, Hwb, Hbi, Hm⟩
  icases Hr' with ⟨H0, H1, H2, H3, H4, H5, H6, H7, H11, H14, H15, -, -, -, Hi, -, -, -, -, -, -, -, Hx, Hw, Ho, Hh, Hv, Hp, Hz⟩
  ihave Hd := hsplit $$ [Hi Hm H7 Ho]
  · isplitl [Hi]; · iexact Hi
    isplitl [Hm]; · iexact Hm
    isplitl [H7]; · iexact H7
    iexact Ho
  icases Hd with ⟨Hd, Hl⟩
  rw [wp_bind]
  iapply ((K (F := F)).wp_run (D (F := F)) 𝒱 (EH := EH) (P := P (fi m) (fm m) (ft m) (fo m)) κ d 0)
  isplitr; · iexact Hctx
  isplitl [Hst']; · iexact Hst'
  isplitl [Hd]; · iexact Hd
  iintro ⟨Hst, Hd⟩
  ihave Hj := hjoin $$ [Hd Hl]
  · isplitl [Hd]; · iexact Hd
    iexact Hl
  icases Hj with ⟨-, -, H7, Ho⟩
  ihave Hst' := hst1' $$ Hst
  icases Hst' with ⟨HO, Hst⟩
  rw [wp_bind]
  iapply hl
  isplitr; · iapply hlev; iexact Hctx
  isplitl [Hb]; · iexact Hb
  isplitl [Hx He Hwf Hwb Hbi Hh HO]
  · isplitl [Hx He Hwf Hwb Hbi]
    · isplitl [Hx]; · iexact Hx
      isplitl [He]; · iexact He
      isplitl [Hwf]; · iexact Hwf
      isplitl [Hwb]; · iexact Hwb
      iexact Hbi
    isplitl [Hh]; · iexact Hh
    iexact HO
  isplitl [HG1]; · iexact HG1
  iintro ⟨Hb, -, Hh, HO⟩
  iapply (wp_seq 𝒱 none Set.univ d {Proc.devRef .tc main_arg6, Proc.devRef .tc main_v19} _ ops₁ hs₁ hf₁ (U₁ m d)) $$ [Hb H6 Hv]
  · isplitl [Hb]; · iexact Hb
    iapply (Entails.of_eq e₁.symm)
    isplitl [H6]; · iexact H6
    iexact Hv
  iintro ⟨Hb, Hu⟩
  ihave Hu' := (Entails.of_eq e₁') $$ Hu
  icases Hu' with ⟨H6, Hv⟩
  rw [wp_bind]
  iapply hg
  isplitr; · iapply hlev; iexact Hctx
  isplitl [Hb]; · iexact Hb
  isplitl [Ho Hh Hv Hw Hp HO]
  · isplitl [Ho Hh Hv Hw]
    · isplitl [Ho]; · iexact Ho
      isplitl [Hh]; · iexact Hh
      isplitl [Hv]; · iexact Hv
      iexact Hw
    isplitl [Hp]; · iexact Hp
    iexact HO
  isplitl [HG2]; · iexact HG2
  iintro ⟨Hb, -, Hp, HO⟩
  ihave Hst' := Hst $$ HO
  iapply (wp_seq 𝒱 none Set.univ d {Proc.devRef .tc main_v20, Proc.devRef .tc main_v21} _ ops₂ hs₂ hf₂ (U₃ m d)) $$ [Hb Hp Hz]
  · isplitl [Hb]; · iexact Hb
    iapply (Entails.of_eq e₂.symm)
    isplitl [Hp]; · iexact Hp
    iexact Hz
  iintro ⟨Hb, Hu⟩
  ihave Hu' := (Entails.of_eq e₂') $$ Hu
  icases Hu' with ⟨-, Hz⟩
  rw [wp_pure]
  imodintro
  isplitl [Hst']; · iexact Hst'
  isplitr [Hb Hts]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact Hz
  isplitl [Hb]; · iexact Hb
  iexact Hts

end Cert.KernelIdeal.SC
-- ==== Proof.KernelIdeal.Launch.lean ====
/-
  The kernel program's run: from any memory with in-range indices and zero counters, every execution ends with the
  arguments untouched, the result at the product, and every counter at zero.
-/
module

public import proofs.«01_k».proof.Proof.KernelIdeal.Run
public import proofs.«01_k».proof.Defs
public import proofs.«01_k».proof.Proof.Gen.Pre_in_range

@[expose] public section

noncomputable section

namespace Cert.KernelIdeal.SC

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds (initOf)

variable {F : FTy → Type} [FloatOps F]

/-! ## The launch's ghost state -/

/-- The handshake cells' rounds, and the staging cells' of the three TensorCore calls. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

variable (m : (ℓ : Loc nD τ sig) → Buf (Elt F) ℓ)

theorem sep_triples_eq (A B C A' B' C' : sProp (MM F)) : iprop((A ∗ B ∗ C) ∗ A' ∗ B' ∗ C') = iprop((A ∗ A') ∗ (B ∗ B') ∗ C ∗ C') := by
  refine sep_ext ?_ ?_
  · iintro ⟨⟨HA, HB, HC⟩, HA', HB', HC'⟩
    isplitl [HA HA']
    · isplitl [HA]; · iexact HA
      iexact HA'
    isplitl [HB HB']
    · isplitl [HB]; · iexact HB
      iexact HB'
    isplitl [HC]; · iexact HC
    iexact HC'
  · iintro ⟨⟨HA, HA'⟩, ⟨HB, HB'⟩, HC, HC'⟩
    isplitl [HA HB HC]
    · isplitl [HA]; · iexact HA
      isplitl [HB]; · iexact HB
      iexact HC
    isplitl [HA']; · iexact HA'
    isplitl [HB']; · iexact HB'
    iexact HC'

theorem hu₀ : (ownU (u₀ (F := F)) : sProp (MM F))
    ⊢ |={Set.univ}=> iprop(BI.own (EH (initOf (K (F := F)).hsCells (K (F := F)).hsToks)) ∗ (bigSep Finset.univ fun c : Dev nD => G c)
        ∗ bigSep Finset.univ fun thr : Thread nD τ => bigSep Finset.univ fun q : Fin 1 => (P (fi m) (fm m) (ft m) (fo m)).x q thr) := by
  have hx : (bigSep Finset.univ fun thr : Thread nD τ => bigSep Finset.univ fun q : Fin 1 => (P (fi m) (fm m) (ft m) (fo m)).x q thr)
      = (iprop(emp) : sProp (MM F)) := by
    rw [show (bigSep Finset.univ fun thr : Thread nD τ => bigSep Finset.univ fun q : Fin 1 => (P (fi m) (fm m) (ft m) (fo m)).x q thr)
        = bigSep Finset.univ fun _ => (iprop(emp) : sProp (MM F)) from bigSep_congr fun _ _ => bigSep_univ_of_subsingleton (0 : Fin 1)]
    exact bigSep_emp_const _
  have hf := Pipeline.fund_ghost (Pipeline.pin (pcfgs (F := F)) adm) (EP (F := F)) cellOf_inj
  have three (Φ : Fin 3 → sProp (MM F)) : bigSep Finset.univ Φ = iprop(Φ 0 ∗ Φ 1 ∗ Φ 2) :=
    bigSep_univ_eq_bigSepL [(0 : Fin 3), 1, 2] (by decide) (by decide) Φ
  have hc : (bigSep Finset.univ fun c : Dev nD => bigSep Finset.univ fun p : Fin 3 => Pipeline.cellsGhost (Pipeline.pin (pcfgs (F := F)) adm) EP p c)
      = (bigSep Finset.univ fun c : Dev nD => iprop(Pipeline.cellsGhost (Pipeline.pin (pcfgs (F := F)) adm) EP 0 c ∗ Pipeline.cellsGhost (Pipeline.pin (pcfgs (F := F)) adm) EP 1 c ∗ Pipeline.cellsGhost (Pipeline.pin (pcfgs (F := F)) adm) EP 2 c) : sProp (MM F)) :=
    bigSep_congr fun c _ => three _
  have ht : (bigSep Finset.univ fun c : Dev nD => bigSep Finset.univ fun p : Fin 3 => Pipeline.toksInit (Pipeline.pin (pcfgs (F := F)) adm) EP p c)
      = (bigSep Finset.univ fun c : Dev nD => iprop(Pipeline.toksInit (Pipeline.pin (pcfgs (F := F)) adm) EP 0 c ∗ Pipeline.toksInit (Pipeline.pin (pcfgs (F := F)) adm) EP 1 c ∗ Pipeline.toksInit (Pipeline.pin (pcfgs (F := F)) adm) EP 2 c) : sProp (MM F)) :=
    bigSep_congr fun c _ => three _
  rw [hc, ht] at hf
  have hG : iprop((bigSep Finset.univ fun c : Dev nD => iprop(Pipeline.cellsGhost (Pipeline.pin (pcfgs (F := F)) adm) EP 0 c ∗ Pipeline.cellsGhost (Pipeline.pin (pcfgs (F := F)) adm) EP 1 c ∗ Pipeline.cellsGhost (Pipeline.pin (pcfgs (F := F)) adm) EP 2 c))
      ∗ bigSep Finset.univ fun c : Dev nD => iprop(Pipeline.toksInit (Pipeline.pin (pcfgs (F := F)) adm) EP 0 c ∗ Pipeline.toksInit (Pipeline.pin (pcfgs (F := F)) adm) EP 1 c ∗ Pipeline.toksInit (Pipeline.pin (pcfgs (F := F)) adm) EP 2 c))
      = (bigSep Finset.univ fun c : Dev nD => G (F := F) c) :=
    (bigSep_sep' _ _ _).symm.trans (bigSep_congr fun c _ => sep_triples_eq _ _ _ _ _ _)
  have hp : _ ⊢ iprop(BI.own (EP (F := F) (initOf (Pipeline.cells (Pipeline.pin (pcfgs (F := F)) adm) cellOf_inj)
      (Pipeline.launchToks (Pipeline.pin (pcfgs (F := F)) adm) cellOf_inj))) ∗ _) := own_pair_emb (embR : Emb (UR sig nD τ × Counters) (MM F))
    (initOf (Pipeline.cells (Pipeline.pin (pcfgs (F := F)) adm) cellOf_inj) (Pipeline.launchToks (Pipeline.pin (pcfgs (F := F)) adm) cellOf_inj)) (1 : Counters)
  rw [hx, ← hG]
  unfold u₀
  iintro Hu
  ihave H := (ownU_pair (initOf (K (F := F)).hsCells (K (F := F)).hsToks)
    (initOf (Pipeline.cells (Pipeline.pin (pcfgs (F := F)) adm) cellOf_inj) (Pipeline.launchToks (Pipeline.pin (pcfgs (F := F)) adm) cellOf_inj), (1 : Counters))) $$ Hu
  icases H with ⟨HH, HR⟩
  ihave H := hp $$ HR
  icases H with ⟨HP, -⟩
  ihave HP' := hf $$ HP
  imod HP'
  imodintro
  isplitl [HH]; · iexact HH
  isplitl [HP']; · iexact HP'
  iempintro

/-! ## The final memory -/

/-- A buffer held whole beside the state is what the state's memory holds there. -/
theorem keep {s' : Phys nD τ sig (Elt F)} {ℓ : Loc nD τ sig} {f : Buf (Elt F) ℓ} {R : sProp (MM F)} {p : Prop}
    (h : iprop(R ∗ SI s') ⊢ (⌜p⌝ : sProp (MM F))) :
    iprop(((ℓ ↦{fullShare} f) ∗ R) ∗ SI s') ⊢ (⌜s'.mem.mem ℓ = f ∧ p⌝ : sProp (MM F)) := by
  iintro ⟨⟨Hf, HR⟩, HSI⟩
  ihave H := (persistent_entails_right (SI_pointsTo_agree (st := s') (ℓ := ℓ) (I := Finset.univ) (q := fullShare) (f := f))) $$ [HSI Hf]
  · isplitl [HSI]; · iexact HSI
    iexact Hf
  icases H with ⟨%h1, HSI, -⟩
  ihave H := h $$ [HR HSI]
  · isplitl [HR]; · iexact HR
    iexact HSI
  icases H with %h2
  ipureintro
  exact ⟨funext fun i => h1 i (Finset.mem_univ i), h2⟩

theorem keep_last {s' : Phys nD τ sig (Elt F)} {ℓ : Loc nD τ sig} {f : Buf (Elt F) ℓ} :
    iprop((ℓ ↦{fullShare} f) ∗ SI s') ⊢ (⌜s'.mem.mem ℓ = f⌝ : sProp (MM F)) := by
  iintro ⟨Hf, HSI⟩
  ihave H := (SI_pointsTo_agree (st := s') (ℓ := ℓ) (I := Finset.univ) (q := fullShare) (f := f)) $$ [HSI Hf]
  · isplitl [HSI]; · iexact HSI
    iexact Hf
  icases H with %h1
  ipureintro
  exact funext fun i => h1 i (Finset.mem_univ i)

/-- What a device's memory holds at the end: the arguments as at launch, the result at the product. -/
def Done (M : (ℓ : Loc nD τ sig) → Buf (Elt F) ℓ) (c : Dev nD) : Prop :=
  M ((SparseCore.T c).loc main_arg0) = m ((SparseCore.T c).loc main_arg0) ∧ M ((SparseCore.T c).loc main_arg1) = m ((SparseCore.T c).loc main_arg1) ∧ M ((SparseCore.T c).loc main_arg2) = m ((SparseCore.T c).loc main_arg2) ∧ M ((SparseCore.T c).loc main_arg3) = m ((SparseCore.T c).loc main_arg3) ∧ M ((SparseCore.T c).loc main_arg4) = m ((SparseCore.T c).loc main_arg4) ∧ M ((SparseCore.T c).loc main_arg5) = m ((SparseCore.T c).loc main_arg5) ∧ M ((SparseCore.T c).loc main_arg6) = m ((SparseCore.T c).loc main_arg6) ∧ M ((SparseCore.T c).loc main_arg7) = m ((SparseCore.T c).loc main_arg7) ∧ M ((SparseCore.T c).loc main_arg8) = m ((SparseCore.T c).loc main_arg8) ∧ M ((SparseCore.T c).loc main_arg9) = m ((SparseCore.T c).loc main_arg9) ∧ M ((SparseCore.T c).loc main_arg10) = m ((SparseCore.T c).loc main_arg10) ∧ M ((SparseCore.T c).loc main_arg11) = m ((SparseCore.T c).loc main_arg11) ∧ M ((SparseCore.T c).loc main_arg12) = m ((SparseCore.T c).loc main_arg12) ∧ M ((SparseCore.T c).loc main_arg13) = m ((SparseCore.T c).loc main_arg13) ∧ M ((SparseCore.T c).loc main_arg14) = m ((SparseCore.T c).loc main_arg14) ∧ M ((SparseCore.T c).loc main_arg15) = m ((SparseCore.T c).loc main_arg15) ∧
    M ((SparseCore.T c).loc main_v21) = outOf m c

theorem hfin (d : Dev nD) (s' : Phys nD τ sig (Elt F)) : iprop(FIN m d ∗ SI s') ⊢ (⌜Done m s'.mem.mem d⌝ : sProp (MM F)) :=
  keep (keep (keep (keep (keep (keep (keep (keep (keep (keep (keep (keep (keep (keep (keep (keep keep_last)))))))))))))))

/-- On every device the indices name rows of the table. -/
def PreOK : Prop := ∀ c : Dev nD, InRange (arg m c main_arg0) (arg m c main_arg2)

theorem run_main (g : Dev nD → PrngReg) (hpre : PreOK m) :
    θ_run (Cert.KernelIdeal.defs (F := F)) (Cert.KernelIdeal.threads (F := F)) ⟨m, fun _ => 0, g⟩ fun r => (∀ c, Done m r.2.mem c) ∧ r.2.sem = fun _ => 0 :=
  SparseCore.Cfg.θ_run_sc_quiescent (K := K (F := F)) (D := D (F := F)) (𝒱 := 𝒱) (EH := EH) (P := P (fi m) (fm m) (ft m) (fo m)) (A := ∅) facts v₀
    (fun q hq => match q with | 0 => nomatch hq)
    (fun q _ => match q with | 0 => tileObl (fi m) (fm m) (ft m) (fo m) fun d j => idxOf_lt (hpre d) j)
    (fun q _ => match q with | 0 => SparseCore.Cfg.VecSplit.of_plain (vecSplit (fi m) (fm m) (ft m) (fo m)))
    m g main G (FIN m) (u₀ (F := F)) (sep_elim_left.trans (hu₀ m)) (hmain m g) (fun d s' => Done m s'.mem.mem d) (hfin m) _ (fun _ h hz => ⟨h, hz⟩)

end Cert.KernelIdeal.SC
-- ==== Proof.KernelIdeal.Frame.lean ====
/-
  The program's frame: under the precondition every execution ends, with the arguments unchanged and every counter zero.
-/
module

public import proofs.«01_k».proof.Proof.KernelIdeal.Launch
public import proofs.«01_k».proof.Defs
public import proofs.«01_k».proof.Proof.Gen.Pre_in_range
public import Idealize.ShloMosaic.Lib.ReduceAll
public import Idealize.ShloMosaic.Lib.WordCmp

@[expose] public section

noncomputable section

namespace Cert.KernelIdeal.SC

open Cert.KernelIdeal Cert.KernelIdeal.Gen
open Idealize.ShloMosaic Idealize.ShloMosaic.TcCoe Idealize.SL.Sem

/-- A bit that is the conjunction of two is one only when both are. -/
theorem both_one {p q : BitVec 1} (e : IntOp.andi p q = 1#1) : p = 1#1 ∧ q = 1#1 := by
  revert p q; decide

/-- A word that is at least 0 and below 100000, both read signed, is below 100000; and the like for the other bounds. -/
theorem word_lt (v : BitVec 32) (e : IntOp.andi (IntOp.cmpi .sge v 0#32) (IntOp.cmpi .slt v 100000#32) = 1#1) : v.toNat < 100000 := by
  obtain ⟨h0, h1⟩ := both_one e
  have h0 := IntOp.cmpi_sge.1 h0
  have h1 := IntOp.cmpi_slt.1 h1
  rw [BitVec.toInt_eq_toNat_cond, BitVec.toInt_eq_toNat_cond] at h0 h1
  simp only [BitVec.toNat_ofNat, Nat.reducePow, Nat.reduceMod] at h0 h1
  omega

theorem word_lt_512 (v : BitVec 32) (e : IntOp.andi (IntOp.cmpi .sge v 0#32) (IntOp.cmpi .slt v 512#32) = 1#1) : v.toNat < 512 := by
  obtain ⟨h0, h1⟩ := both_one e
  have h0 := IntOp.cmpi_sge.1 h0
  have h1 := IntOp.cmpi_slt.1 h1
  rw [BitVec.toInt_eq_toNat_cond, BitVec.toInt_eq_toNat_cond] at h0 h1
  simp only [BitVec.toNat_ofNat, Nat.reducePow, Nat.reduceMod] at h0 h1
  omega

theorem word_le_9 (v : BitVec 32) (e : IntOp.andi (IntOp.cmpi .sge v 0#32) (IntOp.cmpi .sle v 9#32) = 1#1) : v.toNat ≤ 9 := by
  obtain ⟨h0, h1⟩ := both_one e
  have h0 := IntOp.cmpi_sge.1 h0
  have h1 := IntOp.cmpi_sle.1 h1
  rw [BitVec.toInt_eq_toNat_cond, BitVec.toInt_eq_toNat_cond] at h0 h1
  simp only [BitVec.toNat_ofNat, Nat.reducePow, Nat.reduceMod] at h0 h1
  omega

/-- What the precondition says of the index arguments and the node lengths. -/
theorem ranges_of_pre (m : (ℓ : Loc nD τ sig) → Buf (Elt Ideal) ℓ) (h : Cert.Pre_KernelIdeal m) (c : Dev nD) :
    InRange (arg m c main_arg0) (arg m c main_arg2)
      ∧ (∀ j, ((arg m c main_arg1 : S64x200x9.Idx → BitVec 32) j).toNat < 512) ∧ ∀ j, ((arg m c main_arg4 : S64x200.Idx → BitVec 32) j).toNat ≤ 9 := by
  haveI : Subsingleton Cert.Pre_in_range.S_.Idx := ⟨fun a b => funext fun k => k.elim0⟩
  obtain ⟨e, e3⟩ := both_one (congrFun (h c) (fun a => a.elim0))
  obtain ⟨e, e2⟩ := both_one e
  obtain ⟨e0, e1⟩ := both_one e
  exact ⟨⟨fun j => word_lt _ (Host.reduce_andi_all _ _ _ _ _ e0 j), fun j => word_lt _ (Host.reduce_andi_all _ _ _ _ _ e1 j)⟩,
    fun j => word_lt_512 _ (Host.reduce_andi_all _ _ _ _ _ e2 j), fun j => word_le_9 _ (Host.reduce_andi_all _ _ _ _ _ e3 j)⟩

/-- The precondition gives what the run asks of the indices. -/
theorem ok_of_pre (m : (ℓ : Loc nD τ sig) → Buf (Elt Ideal) ℓ) (h : Cert.Pre_KernelIdeal m) : PreOK (F := Ideal) m := fun c => (ranges_of_pre m h c).1

/-- `Cert.quiescent_KernelIdeal`. -/
theorem frame : Cert.quiescent_KernelIdeal := fun m g hpre =>
  (θ_run Cert.KernelIdeal.defs _ _).mono (fun _ h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1, (h.1 c).2.2.2.2.2.2.2.2.2.2.1, (h.1 c).2.2.2.2.2.2.2.2.2.2.2.1, (h.1 c).2.2.2.2.2.2.2.2.2.2.2.2.1, (h.1 c).2.2.2.2.2.2.2.2.2.2.2.2.2.1, (h.1 c).2.2.2.2.2.2.2.2.2.2.2.2.2.2.1, (h.1 c).2.2.2.2.2.2.2.2.2.2.2.2.2.2.2.1⟩, h.2⟩)
    (run_main (F := Ideal) m g (ok_of_pre m hpre))

end Cert.KernelIdeal.SC

end
-- ==== Proof.Kernel.Frame.lean ====
/-
  The program's frame: under the precondition every execution ends, with the arguments unchanged and every counter zero.
-/
module

public import proofs.«01_k».proof.Proof.Kernel.Same
public import proofs.«01_k».proof.Proof.KernelIdeal.Frame
public import proofs.«01_k».proof.Defs
public import proofs.«01_k».proof.Proof.Gen.Pre_in_range
public import Idealize.ShloMosaic.Lib.ReduceAll
public import Idealize.ShloMosaic.Lib.WordCmp

@[expose] public section

noncomputable section

namespace Cert.Kernel.SC

open Cert.Kernel Cert.Kernel.Gen
open Cert.KernelIdeal.SC (InRange PreOK Done both_one word_lt)
open Idealize.ShloMosaic Idealize.ShloMosaic.TcCoe Idealize.SL.Sem

/-- The contents the program starts from, on a device's TensorCore. -/
abbrev arg (m : (ℓ : Loc nD τ sig) → Buf (Elt Bits) ℓ) (c : Dev nD) (b : Ref sig .tc) : Buf (Elt Bits) ((c.tc : Thread nD τ).loc b) := m ((c.tc : Thread nD τ).loc b)

/-- What the precondition says of the token indices. -/
theorem ranges_of_pre (m : (ℓ : Loc nD τ sig) → Buf (Elt Bits) ℓ) (h : Cert.Pre_Kernel m) (c : Dev nD) :
    InRange (arg m c main_arg0) (arg m c main_arg2) := by
  haveI : Subsingleton Cert.Pre_in_range.S_.Idx := ⟨fun a b => funext fun k => k.elim0⟩
  obtain ⟨e, -⟩ := both_one (congrFun (h c) (fun a => a.elim0))
  obtain ⟨e, -⟩ := both_one e
  obtain ⟨e0, e1⟩ := both_one e
  exact ⟨fun j => word_lt _ (Host.reduce_andi_all _ _ _ _ _ e0 j), fun j => word_lt _ (Host.reduce_andi_all _ _ _ _ _ e1 j)⟩

set_option maxRecDepth 4000 in
set_option maxHeartbeats 4000000 in
/-- The run, from the ideal program's. -/
theorem run_main (m : (ℓ : Loc nD τ sig) → Buf (Elt Bits) ℓ) (g : Dev nD → PrngReg) (h : PreOK (F := Bits) m) :
    θ_run (Cert.Kernel.defs (F := Bits)) (Cert.Kernel.threads (F := Bits)) ⟨m, fun _ => 0, g⟩
      fun r => (∀ c, Done (F := Bits) m r.2.mem c) ∧ r.2.sem = fun _ => 0 := by
  rw [defs_same, threads_same]
  exact Cert.KernelIdeal.SC.run_main (F := Bits) m g h

/-- `Cert.quiescent_Kernel`. -/
theorem frame : Cert.quiescent_Kernel := fun m g hpre =>
  (θ_run Cert.Kernel.defs _ _).mono (fun _ h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1, (h.1 c).2.2.2.2.2.2.2.2.2.2.1, (h.1 c).2.2.2.2.2.2.2.2.2.2.2.1, (h.1 c).2.2.2.2.2.2.2.2.2.2.2.2.1, (h.1 c).2.2.2.2.2.2.2.2.2.2.2.2.2.1, (h.1 c).2.2.2.2.2.2.2.2.2.2.2.2.2.2.1, (h.1 c).2.2.2.2.2.2.2.2.2.2.2.2.2.2.2.1⟩, h.2⟩)
    (run_main m g (ranges_of_pre m hpre))

end Cert.Kernel.SC

end
-- ==== Proof.Reference.Ops.lean ====
/-
  The reference's operations: the three lines of @main, around its two loops over the places of a path, and each loop's
  condition and body; and what they compute. A loop runs the recurrence over nine places: a place's rows times the input
  weights, the hidden states times the recurrent weights, and the bias, split into four gates.
-/
module

public import proofs.«01_k».proof.Defs
public import proofs.«01_k».proof.Proof.Gen.ReferenceIdeal
public import proofs.«01_k».proof.Proof.Gen.Pre_in_range
public import Idealize.ShloMosaic.Lib.StableHlo.Run
public import Idealize.ShloMosaic.Lib.StableHlo.RunClose
public import Idealize.ShloMosaic.Lib.Quiescent

@[expose] public section

noncomputable section

namespace Cert.ReferenceIdeal.Rows

open Idealize.ShloMosaic Idealize.ShloMosaic.TcCoe Idealize.ShloMosaic.StableHlo Idealize.SL.Sem
open Cert.ReferenceIdeal Cert.ReferenceIdeal.Gen

variable {F : FTy → Type} [FloatOps F]

/-- The contents of an array of a shape and an element type. -/
abbrev B (F : FTy → Type) (s : Shape) (e : EltTy) := (⟨s, e⟩ : BufTy).Contents (Elt F)

/-! ## What the operations compute -/

/-- The gather's start indices: a negative index counts from the end of the table. -/
def starts (idx : S64x200x6.Idx → BitVec 32) : S64x200x6x1.Idx → BitVec 32 :=
  broadcastInDim S64x200x6x1 ![0, 1, 2] bcast_S64x200x6_S64x200x6x1_0_1_2
    (select (cmpi .slt idx (broadcastInDim S64x200x6 ![] bcast_S_S64x200x6 (constantI S_ 32 0#32)))
      (addi idx (broadcastInDim S64x200x6 ![] bcast_S_S64x200x6 (constantI S_ 32 100000#32))) idx)

/-- One where the position in the row lies below the row's length, zero elsewhere. -/
def below (len : S64x200.Idx → BitVec 32) : S64x200x6.Idx → F .f32 :=
  uitofp .f32 (cmpi .slt
    (broadcastInDim S64x200x6 ![0, 1, 2] bcast_S1x1x6_S64x200x6_0_1_2 (broadcastInDim S1x1x6 ![2] bcast_S6_S1x1x6_2 (iotaInDim S6 32 0)))
    (broadcastInDim S64x200x6 ![0, 1, 2] bcast_S64x200x1_S64x200x6_0_1_2 (broadcastInDim S64x200x1 ![0, 1] bcast_S64x200_S64x200x1_0_1 len)))

/-- The six table rows of every row, weighted and summed. -/
def agg (table : S100000x128.Idx → F .f32) (idx : S64x200x6.Idx → BitVec 32) (len : S64x200.Idx → BitVec 32) : S64x200x128.Idx → F .f32 :=
  Host.reduceAdd (mulf (Host.gather gather_S100000x128_S64x200x6x1_S64x200x6x128_3_0_n_n_0_3_1128 table (starts idx))
      (broadcastInDim S64x200x6x128 ![0, 1, 2, 3] bcast_S64x200x6x1_S64x200x6x128_0_1_2_3
        (broadcastInDim S64x200x6x1 ![0, 1, 2] bcast_S64x200x6_S64x200x6x1_0_1_2 (below len))))
    (constant S_ .f32 0x00000000#32) reducesTo_S64x200x6x128_S64x200x128_d2 h_S_

/-- The nodes' table rows along each path. -/
def paths (emb : S512x128.Idx → F .f32) (idx : S64x200x9.Idx → BitVec 32) : S12800x9x128.Idx → F .f32 :=
  shapeCast S12800x9x128 (Host.gather gather_S512x128_S64x200x9x1_S64x200x9x128_3_0_n_n_0_3_1128 emb
    (broadcastInDim S64x200x9x1 ![0, 1, 2] bcast_S64x200x9_S64x200x9x1_0_1_2
      (select (cmpi .slt idx (broadcastInDim S64x200x9 ![] bcast_S_S64x200x9 (constantI S_ 32 0#32)))
        (addi idx (broadcastInDim S64x200x9 ![] bcast_S_S64x200x9 (constantI S_ 32 512#32))) idx))) shapeCasts_S64x200x9x128_S12800x9x128

/-- The place each place of a path is mirrored to: the path's length less one less the place, held to the path. -/
def mirror (len : S12800.Idx → BitVec 32) : S12800x9x1.Idx → BitVec 32 :=
  broadcastInDim S12800x9x1 ![0, 1] bcast_S12800x9_S12800x9x1_0_1
    (minsi (broadcastInDim S12800x9 ![] bcast_S_S12800x9 (constantI S_ 32 8#32))
      (maxsi (broadcastInDim S12800x9 ![] bcast_S_S12800x9 (constantI S_ 32 0#32))
        (subi (broadcastInDim S12800x9 ![0, 1] bcast_S12800x1_S12800x9_0_1
            (subi (broadcastInDim S12800x1 ![0] bcast_S12800_S12800x1_0 len) (broadcastInDim S12800x1 ![] bcast_S_S12800x1 (constantI S_ 32 1#32))))
          (broadcastInDim S12800x9 ![0, 1] bcast_S1x9_S12800x9_0_1 (broadcastInDim S1x9 ![1] bcast_S9_S1x9_1 (iotaInDim S9 32 0))))))

/-- A place counted from the path's end where it is negative. -/
def wrapped (ix : S12800x9x1.Idx → BitVec 32) : S12800x9x1.Idx → BitVec 32 :=
  select (cmpi .slt ix (broadcastInDim S12800x9x1 ![] bcast_S_S12800x9x1 (constantI S_ 32 0#32)))
    (addi ix (broadcastInDim S12800x9x1 ![] bcast_S_S12800x9x1 (constantI S_ 32 9#32))) ix

/-- The rows of each path at the given places, where those lie on the path. -/
def taken (x : S12800x9x128.Idx → F .f32) (ix : S12800x9x1.Idx → BitVec 32) : S12800x9x128.Idx → F .f32 :=
  select (broadcastInDim S12800x9x128 ![0, 1] bcast_S12800x9_S12800x9x128_0_1
      (Host.reduce IntOp.andi (andi (cmpi .sge (wrapped ix) (broadcastInDim S12800x9x1 ![] bcast_S_S12800x9x1 (constantI S_ 32 0#32)))
        (cmpi .sle (wrapped ix) (broadcastInDim S12800x9x1 ![0, 1, 2] bcast_S1x1x1_S12800x9x1_0_1_2
          (broadcastInDim S1x1x1 ![2] bcast_S1_S1x1x1_2 (constantI S1 32 8#32))))) (constantI S_ 1 1#1) reducesTo_S12800x9x1_S12800x9_d2 h_S_))
    (Host.gather gather_S12800x9x128_S12800x9x1_S12800x9x128_2_1_0_0_1_2_11128 x (wrapped ix))
    (broadcastInDim S12800x9x128 ![] bcast_S_S12800x9x128 (constant S_ .f32 0x7FC00000#32))

/-- Every path's row at a place, the place given by a counter. -/
def rowsOf (xs : S9x12800x128.Idx → F .f32) (i : S_.Idx → BitVec 32) : S12800x128.Idx → F .f32 :=
  shapeCast S12800x128 (Host.dynamicSlice S1x12800x128 xs (fun k => ((![i, constantI S_ 32 0#32, constantI S_ 32 0#32] : Fin 3 → S_.Idx → BitVec 32) k (Shape.Idx.first h_S_)).toInt)
    sliceFits_S9x12800x128_S1x12800x128) shapeCasts_S1x12800x128_S12800x128

/-- The place at a counter. -/
def placeAt (ts : S9.Idx → BitVec 32) (i : S_.Idx → BitVec 32) : S_.Idx → BitVec 32 :=
  shapeCast S_ (Host.dynamicSlice S1 ts (fun k => ((![i] : Fin 1 → S_.Idx → BitVec 32) k (Shape.Idx.first h_S_)).toInt) sliceFits_S9_S1) shapeCasts_S1_S_

/-- The gates' arguments. -/
def preact (x h : S12800x128.Idx → F .f32) (wx wh : S128x512.Idx → F .f32) (b : S512.Idx → F .f32) : S12800x512.Idx → F .f32 :=
  addf (addf (Host.dotGeneral dot_S12800x128_S128x512_S12800x512_1_0_0_1_n_n none x wx) (Host.dotGeneral dot_S12800x128_S128x512_S12800x512_1_0_0_1_n_n none h wh))
    (broadcastInDim S12800x512 ![0, 1] bcast_S1x512_S12800x512_0_1 (broadcastInDim S1x512 ![1] bcast_S512_S1x512_1 b))

/-- One over one plus the exponential of the negated argument. -/
def sigm (z : S12800x128.Idx → F .f32) : S12800x128.Idx → F .f32 :=
  Host.divf (broadcastInDim S12800x128 ![] bcast_S_S12800x128 (constant S_ .f32 0x3F800000#32))
    (addf (broadcastInDim S12800x128 ![] bcast_S_S12800x128 (constant S_ .f32 0x3F800000#32)) (Host.exp (Host.negf z)))

/-- The new cell states. -/
def cellRef (g : S12800x512.Idx → F .f32) (c : S12800x128.Idx → F .f32) : S12800x128.Idx → F .f32 :=
  addf (mulf (sigm (extractStridedSlice S12800x128 ![0, 128] g slices_S12800x512_S12800x128_0_128)) c)
    (mulf (sigm (extractStridedSlice S12800x128 ![0, 0] g slices_S12800x512_S12800x128_0_0)) (Host.tanh (extractStridedSlice S12800x128 ![0, 256] g slices_S12800x512_S12800x128_0_256)))

/-- The new hidden states. -/
def hiddenRef (g : S12800x512.Idx → F .f32) (c : S12800x128.Idx → F .f32) : S12800x128.Idx → F .f32 :=
  mulf (sigm (extractStridedSlice S12800x128 ![0, 384] g slices_S12800x512_S12800x128_0_384)) (Host.tanh (cellRef g c))

/-- The new states of the paths longer than the place, the old of the others. -/
def keepRef (len : S12800.Idx → BitVec 32) (t : S_.Idx → BitVec 32) (new old : S12800x128.Idx → F .f32) : S12800x128.Idx → F .f32 :=
  select (broadcastInDim S12800x128 ![0, 1] bcast_S12800x1_S12800x128_0_1 (broadcastInDim S12800x1 ![0] bcast_S12800_S12800x1_0
    (cmpi .slt (broadcastInDim S12800 ![] bcast_S_S12800 t) len))) new old

/-- States of zero. -/
def zeros : S12800x128.Idx → F .f32 := broadcastInDim S12800x128 ![] bcast_S_S12800x128 (constant S_ .f32 0x00000000#32)

/-- The hidden and the cell states after the first places. -/
def statesRef (xs : S9x12800x128.Idx → F .f32) (wx wh : S128x512.Idx → F .f32) (b : S512.Idx → F .f32) (len : S12800.Idx → BitVec 32) :
    ℕ → (S12800x128.Idx → F .f32) × (S12800x128.Idx → F .f32)
  | 0 => (zeros, zeros)
  | k + 1 =>
    let s := statesRef xs wx wh b len k
    let g := preact (rowsOf xs fun _ => BitVec.ofNat 32 k) s.1 wx wh b
    let t := placeAt (iotaInDim S9 32 0) fun _ => BitVec.ofNat 32 k
    (keepRef len t (hiddenRef g s.2) s.1, keepRef len t (cellRef g s.2) s.2)

/-- The final states of both directions, side by side. -/
def finals (emb : S512x128.Idx → F .f32) (idx : S64x200x9.Idx → BitVec 32) (len : S64x200.Idx → BitVec 32)
    (wxf whf : S128x512.Idx → F .f32) (bf : S512.Idx → F .f32) (wxb whb : S128x512.Idx → F .f32) (bb : S512.Idx → F .f32) : S12800x256.Idx → F .f32 :=
  concatenate S12800x256 1
    [⟨S12800x128, (statesRef (transpose S9x12800x128 [1, 0, 2] (paths emb idx) transposes_S12800x9x128_S9x12800x128_1_0_2) wxf whf bf
        (shapeCast S12800 len shapeCasts_S64x200_S12800) 9).1⟩,
     ⟨S12800x128, (statesRef (transpose S9x12800x128 [1, 0, 2] (taken (paths emb idx) (mirror (shapeCast S12800 len shapeCasts_S64x200_S12800))) transposes_S12800x9x128_S9x12800x128_1_0_2) wxb whb bb
        (shapeCast S12800 len shapeCasts_S64x200_S12800) 9).1⟩] concatenates_S12800x128_S12800x128_S12800x256_d1

/-- The states, masked. -/
def node (h : S12800x256.Idx → F .f32) (v : S64x200.Idx → F .f32) : S64x200x256.Idx → F .f32 :=
  mulf (shapeCast S64x200x256 h shapeCasts_S12800x256_S64x200x256)
    (broadcastInDim S64x200x256 ![0, 1, 2] bcast_S64x200x1_S64x200x256_0_1_2 (broadcastInDim S64x200x1 ![0, 1] bcast_S64x200_S64x200x1_0_1 v))

/-- The result from a row's source sum, states and target sum. -/
def result (s t : S64x200x128.Idx → F .f32) (h : S12800x256.Idx → F .f32) (v : S64x200.Idx → F .f32) (w : S512x512.Idx → F .f32) : S64x200x512.Idx → F .f32 :=
  Host.tanh (Host.dotGeneral dot_S64x200x512_S512x512_S64x200x512_2_0_01_1_n_n none
    (concatenate S64x200x512 2 [⟨S64x200x128, s⟩, ⟨S64x200x256, node h v⟩, ⟨S64x200x128, t⟩]
      concatenates_S64x200x128_S64x200x256_S64x200x128_S64x200x512_d2) w)

/-! ## The operations -/

/-- The operations before the first loop. -/
abbrev line0 : List (HloOp τ sig (Elt F)) :=
  [ nullary main_c (constantI S_ 32 0#32),
    unary main_c main_v0 (broadcastInDim S64x200x6 ![] bcast_S_S64x200x6 : B F S_ .i32 → B F S64x200x6 .i32),
    binary main_arg0 main_v0 main_v1 (cmpi .slt : B F S64x200x6 .i32 → B F S64x200x6 .i32 → B F S64x200x6 .i1),
    nullary main_c_0 (constantI S_ 32 100000#32),
    unary main_c_0 main_v2 (broadcastInDim S64x200x6 ![] bcast_S_S64x200x6 : B F S_ .i32 → B F S64x200x6 .i32),
    binary main_arg0 main_v2 main_v3 (addi : B F S64x200x6 .i32 → B F S64x200x6 .i32 → B F S64x200x6 .i32),
    ternary main_v1 main_v3 main_arg0 main_v4 (select : B F S64x200x6 .i1 → B F S64x200x6 .i32 → B F S64x200x6 .i32 → B F S64x200x6 .i32),
    unary main_v4 main_v5 (broadcastInDim S64x200x6x1 ![0, 1, 2] bcast_S64x200x6_S64x200x6x1_0_1_2 : B F S64x200x6 .i32 → B F S64x200x6x1 .i32),
    binary main_arg7 main_v5 main_v6 ((fun x i => Host.gather gather_S100000x128_S64x200x6x1_S64x200x6x128_3_0_n_n_0_3_1128 x i) : B F S100000x128 .f32 → B F S64x200x6x1 .i32 → B F S64x200x6x128 .f32),
    nullary main_c_1 (constantI S_ 32 0#32),
    unary main_c_1 main_v7 (broadcastInDim S64x200x6 ![] bcast_S_S64x200x6 : B F S_ .i32 → B F S64x200x6 .i32),
    binary main_arg2 main_v7 main_v8 (cmpi .slt : B F S64x200x6 .i32 → B F S64x200x6 .i32 → B F S64x200x6 .i1),
    nullary main_c_2 (constantI S_ 32 100000#32),
    unary main_c_2 main_v9 (broadcastInDim S64x200x6 ![] bcast_S_S64x200x6 : B F S_ .i32 → B F S64x200x6 .i32),
    binary main_arg2 main_v9 main_v10 (addi : B F S64x200x6 .i32 → B F S64x200x6 .i32 → B F S64x200x6 .i32),
    ternary main_v8 main_v10 main_arg2 main_v11 (select : B F S64x200x6 .i1 → B F S64x200x6 .i32 → B F S64x200x6 .i32 → B F S64x200x6 .i32),
    unary main_v11 main_v12 (broadcastInDim S64x200x6x1 ![0, 1, 2] bcast_S64x200x6_S64x200x6x1_0_1_2 : B F S64x200x6 .i32 → B F S64x200x6x1 .i32),
    binary main_arg7 main_v12 main_v13 ((fun x i => Host.gather gather_S100000x128_S64x200x6x1_S64x200x6x128_3_0_n_n_0_3_1128 x i) : B F S100000x128 .f32 → B F S64x200x6x1 .i32 → B F S64x200x6x128 .f32),
    nullary main_c_3 (constantI S_ 32 0#32),
    unary main_c_3 main_v14 (broadcastInDim S64x200x9 ![] bcast_S_S64x200x9 : B F S_ .i32 → B F S64x200x9 .i32),
    binary main_arg1 main_v14 main_v15 (cmpi .slt : B F S64x200x9 .i32 → B F S64x200x9 .i32 → B F S64x200x9 .i1),
    nullary main_c_4 (constantI S_ 32 512#32),
    unary main_c_4 main_v16 (broadcastInDim S64x200x9 ![] bcast_S_S64x200x9 : B F S_ .i32 → B F S64x200x9 .i32),
    binary main_arg1 main_v16 main_v17 (addi : B F S64x200x9 .i32 → B F S64x200x9 .i32 → B F S64x200x9 .i32),
    ternary main_v15 main_v17 main_arg1 main_v18 (select : B F S64x200x9 .i1 → B F S64x200x9 .i32 → B F S64x200x9 .i32 → B F S64x200x9 .i32),
    unary main_v18 main_v19 (broadcastInDim S64x200x9x1 ![0, 1, 2] bcast_S64x200x9_S64x200x9x1_0_1_2 : B F S64x200x9 .i32 → B F S64x200x9x1 .i32),
    binary main_arg8 main_v19 main_v20 ((fun x i => Host.gather gather_S512x128_S64x200x9x1_S64x200x9x128_3_0_n_n_0_3_1128 x i) : B F S512x128 .f32 → B F S64x200x9x1 .i32 → B F S64x200x9x128 .f32),
    nullary main_v21 (iotaInDim S6 32 0),
    unary main_v21 main_v22 (broadcastInDim S1x1x6 ![2] bcast_S6_S1x1x6_2 : B F S6 .i32 → B F S1x1x6 .i32),
    unary main_arg3 main_v23 (broadcastInDim S64x200x1 ![0, 1] bcast_S64x200_S64x200x1_0_1 : B F S64x200 .i32 → B F S64x200x1 .i32),
    unary main_v22 main_v24 (broadcastInDim S64x200x6 ![0, 1, 2] bcast_S1x1x6_S64x200x6_0_1_2 : B F S1x1x6 .i32 → B F S64x200x6 .i32),
    unary main_v23 main_v25 (broadcastInDim S64x200x6 ![0, 1, 2] bcast_S64x200x1_S64x200x6_0_1_2 : B F S64x200x1 .i32 → B F S64x200x6 .i32),
    binary main_v24 main_v25 main_v26 (cmpi .slt : B F S64x200x6 .i32 → B F S64x200x6 .i32 → B F S64x200x6 .i1),
    unary main_v26 main_v27 (uitofp .f32 : B F S64x200x6 .i1 → B F S64x200x6 .f32),
    unary main_v27 main_v28 (broadcastInDim S64x200x6x1 ![0, 1, 2] bcast_S64x200x6_S64x200x6x1_0_1_2 : B F S64x200x6 .f32 → B F S64x200x6x1 .f32),
    unary main_v21 main_v29 (broadcastInDim S1x1x6 ![2] bcast_S6_S1x1x6_2 : B F S6 .i32 → B F S1x1x6 .i32),
    unary main_arg5 main_v30 (broadcastInDim S64x200x1 ![0, 1] bcast_S64x200_S64x200x1_0_1 : B F S64x200 .i32 → B F S64x200x1 .i32),
    unary main_v29 main_v31 (broadcastInDim S64x200x6 ![0, 1, 2] bcast_S1x1x6_S64x200x6_0_1_2 : B F S1x1x6 .i32 → B F S64x200x6 .i32),
    unary main_v30 main_v32 (broadcastInDim S64x200x6 ![0, 1, 2] bcast_S64x200x1_S64x200x6_0_1_2 : B F S64x200x1 .i32 → B F S64x200x6 .i32),
    binary main_v31 main_v32 main_v33 (cmpi .slt : B F S64x200x6 .i32 → B F S64x200x6 .i32 → B F S64x200x6 .i1),
    unary main_v33 main_v34 (uitofp .f32 : B F S64x200x6 .i1 → B F S64x200x6 .f32),
    unary main_v34 main_v35 (broadcastInDim S64x200x6x1 ![0, 1, 2] bcast_S64x200x6_S64x200x6x1_0_1_2 : B F S64x200x6 .f32 → B F S64x200x6x1 .f32),
    unary main_v28 main_v36 (broadcastInDim S64x200x6x128 ![0, 1, 2, 3] bcast_S64x200x6x1_S64x200x6x128_0_1_2_3 : B F S64x200x6x1 .f32 → B F S64x200x6x128 .f32),
    binary main_v6 main_v36 main_v37 (mulf : B F S64x200x6x128 .f32 → B F S64x200x6x128 .f32 → B F S64x200x6x128 .f32),
    nullary main_cst (constant S_ .f32 0x00000000#32),
    binary main_v37 main_cst main_v38 ((fun x v => Host.reduceAdd x v reducesTo_S64x200x6x128_S64x200x128_d2 h_S_) : B F S64x200x6x128 .f32 → B F S_ .f32 → B F S64x200x128 .f32),
    unary main_v35 main_v39 (broadcastInDim S64x200x6x128 ![0, 1, 2, 3] bcast_S64x200x6x1_S64x200x6x128_0_1_2_3 : B F S64x200x6x1 .f32 → B F S64x200x6x128 .f32),
    binary main_v13 main_v39 main_v40 (mulf : B F S64x200x6x128 .f32 → B F S64x200x6x128 .f32 → B F S64x200x6x128 .f32),
    nullary main_cst_5 (constant S_ .f32 0x00000000#32),
    binary main_v40 main_cst_5 main_v41 ((fun x v => Host.reduceAdd x v reducesTo_S64x200x6x128_S64x200x128_d2 h_S_) : B F S64x200x6x128 .f32 → B F S_ .f32 → B F S64x200x128 .f32),
    reshape main_v20 main_v42 (rfl : (.f32 : EltTy) = .f32) shapeCasts_S64x200x9x128_S12800x9x128,
    reshape main_arg4 main_v43 (rfl : (.i32 : EltTy) = .i32) shapeCasts_S64x200_S12800,
    nullary main_cst_6 (constant S_ .f32 0x00000000#32),
    unary main_cst_6 main_v44 (broadcastInDim S12800x128 ![] bcast_S_S12800x128 : B F S_ .f32 → B F S12800x128 .f32),
    nullary main_cst_7 (constant S_ .f32 0x00000000#32),
    unary main_cst_7 main_v45 (broadcastInDim S12800x128 ![] bcast_S_S12800x128 : B F S_ .f32 → B F S12800x128 .f32),
    unary main_v42 main_v46 ((transpose S9x12800x128 [1, 0, 2] · transposes_S12800x9x128_S9x12800x128_1_0_2) : B F S12800x9x128 .f32 → B F S9x12800x128 .f32),
    nullary main_v47 (iotaInDim S9 32 0),
    nullary main_c_8 (constantI S_ 32 0#32),
    unary main_v46 main_v48_0 id,
    unary main_v47 main_v48_1 id,
    unary main_arg9 main_v48_2 id,
    unary main_arg10 main_v48_3 id,
    unary main_arg11 main_v48_4 id,
    unary main_v43 main_v48_5 id,
    unary main_c_8 main_v48_6 id,
    unary main_v44 main_v48_7 id,
    unary main_v45 main_v48_8 id ]

/-- The operations between the loops. -/
abbrev line1 : List (HloOp τ sig (Elt F)) :=
  [ unary main_v43 main_v49 (broadcastInDim S12800x1 ![0] bcast_S12800_S12800x1_0 : B F S12800 .i32 → B F S12800x1 .i32),
    nullary main_c_9 (constantI S_ 32 1#32),
    unary main_c_9 main_v50 (broadcastInDim S12800x1 ![] bcast_S_S12800x1 : B F S_ .i32 → B F S12800x1 .i32),
    binary main_v49 main_v50 main_v51 (subi : B F S12800x1 .i32 → B F S12800x1 .i32 → B F S12800x1 .i32),
    nullary main_v52 (iotaInDim S9 32 0),
    unary main_v52 main_v53 (broadcastInDim S1x9 ![1] bcast_S9_S1x9_1 : B F S9 .i32 → B F S1x9 .i32),
    unary main_v51 main_v54 (broadcastInDim S12800x9 ![0, 1] bcast_S12800x1_S12800x9_0_1 : B F S12800x1 .i32 → B F S12800x9 .i32),
    unary main_v53 main_v55 (broadcastInDim S12800x9 ![0, 1] bcast_S1x9_S12800x9_0_1 : B F S1x9 .i32 → B F S12800x9 .i32),
    binary main_v54 main_v55 main_v56 (subi : B F S12800x9 .i32 → B F S12800x9 .i32 → B F S12800x9 .i32),
    nullary main_c_10 (constantI S_ 32 0#32),
    nullary main_c_11 (constantI S_ 32 8#32),
    unary main_c_10 main_call4_v0 id,
    unary main_call4_v0 main_call4_v1 (broadcastInDim S12800x9 ![] bcast_S_S12800x9 : B F S_ .i32 → B F S12800x9 .i32),
    binary main_call4_v1 main_v56 main_call4_v2 (maxsi : B F S12800x9 .i32 → B F S12800x9 .i32 → B F S12800x9 .i32),
    unary main_c_11 main_call4_v3 id,
    unary main_call4_v3 main_call4_v4 (broadcastInDim S12800x9 ![] bcast_S_S12800x9 : B F S_ .i32 → B F S12800x9 .i32),
    binary main_call4_v4 main_call4_v2 main_v57 (minsi : B F S12800x9 .i32 → B F S12800x9 .i32 → B F S12800x9 .i32),
    unary main_v57 main_v58 (broadcastInDim S12800x9x1 ![0, 1] bcast_S12800x9_S12800x9x1_0_1 : B F S12800x9 .i32 → B F S12800x9x1 .i32),
    nullary main_call5_c (constantI S_ 32 0#32),
    unary main_call5_c main_call5_v0 (broadcastInDim S12800x9x1 ![] bcast_S_S12800x9x1 : B F S_ .i32 → B F S12800x9x1 .i32),
    binary main_v58 main_call5_v0 main_call5_v1 (cmpi .slt : B F S12800x9x1 .i32 → B F S12800x9x1 .i32 → B F S12800x9x1 .i1),
    nullary main_call5_c_0 (constantI S_ 32 9#32),
    unary main_call5_c_0 main_call5_v2 (broadcastInDim S12800x9x1 ![] bcast_S_S12800x9x1 : B F S_ .i32 → B F S12800x9x1 .i32),
    binary main_v58 main_call5_v2 main_call5_v3 (addi : B F S12800x9x1 .i32 → B F S12800x9x1 .i32 → B F S12800x9x1 .i32),
    ternary main_call5_v1 main_call5_v3 main_v58 main_call5_v4 (select : B F S12800x9x1 .i1 → B F S12800x9x1 .i32 → B F S12800x9x1 .i32 → B F S12800x9x1 .i32),
    nullary main_call5_c_1 (constantI S1 32 8#32),
    nullary main_call5_c_2 (constantI S_ 32 0#32),
    unary main_call5_c_2 main_call5_v5 (broadcastInDim S12800x9x1 ![] bcast_S_S12800x9x1 : B F S_ .i32 → B F S12800x9x1 .i32),
    binary main_call5_v4 main_call5_v5 main_call5_v6 (cmpi .sge : B F S12800x9x1 .i32 → B F S12800x9x1 .i32 → B F S12800x9x1 .i1),
    unary main_call5_c_1 main_call5_v7 (broadcastInDim S1x1x1 ![2] bcast_S1_S1x1x1_2 : B F S1 .i32 → B F S1x1x1 .i32),
    unary main_call5_v7 main_call5_v8 (broadcastInDim S12800x9x1 ![0, 1, 2] bcast_S1x1x1_S12800x9x1_0_1_2 : B F S1x1x1 .i32 → B F S12800x9x1 .i32),
    binary main_call5_v4 main_call5_v8 main_call5_v9 (cmpi .sle : B F S12800x9x1 .i32 → B F S12800x9x1 .i32 → B F S12800x9x1 .i1),
    binary main_call5_v6 main_call5_v9 main_call5_v10 (andi : B F S12800x9x1 .i1 → B F S12800x9x1 .i1 → B F S12800x9x1 .i1),
    nullary main_call5_c_3 (constantI S_ 1 1#1),
    TRef.binary (.of main_call5_v10 : TRef sig ⟨S12800x9x1, .i1⟩) (.of main_call5_c_3 : TRef sig ⟨S_, .i1⟩) (.of main_call5_v11 : TRef sig ⟨S12800x9, .i1⟩) (fun x v => Host.reduce IntOp.andi x v reducesTo_S12800x9x1_S12800x9_d2 h_S_),
    TRef.binary (.of main_v42 : TRef sig ⟨S12800x9x128, .f32⟩) (.of main_call5_v4 : TRef sig ⟨S12800x9x1, .i32⟩) (.of main_call5_v12 : TRef sig ⟨S12800x9x128, .f32⟩) (fun x i => Host.gather gather_S12800x9x128_S12800x9x1_S12800x9x128_2_1_0_0_1_2_11128 x i),
    unary main_call5_v11 main_call5_v13 (broadcastInDim S12800x9x128 ![0, 1] bcast_S12800x9_S12800x9x128_0_1 : B F S12800x9 .i1 → B F S12800x9x128 .i1),
    nullary main_call5_cst (constant S_ .f32 0x7FC00000#32),
    unary main_call5_cst main_call5_v14 (broadcastInDim S12800x9x128 ![] bcast_S_S12800x9x128 : B F S_ .f32 → B F S12800x9x128 .f32),
    ternary main_call5_v13 main_call5_v12 main_call5_v14 main_v59 (select : B F S12800x9x128 .i1 → B F S12800x9x128 .f32 → B F S12800x9x128 .f32 → B F S12800x9x128 .f32),
    nullary main_cst_12 (constant S_ .f32 0x00000000#32),
    unary main_cst_12 main_v60 (broadcastInDim S12800x128 ![] bcast_S_S12800x128 : B F S_ .f32 → B F S12800x128 .f32),
    nullary main_cst_13 (constant S_ .f32 0x00000000#32),
    unary main_cst_13 main_v61 (broadcastInDim S12800x128 ![] bcast_S_S12800x128 : B F S_ .f32 → B F S12800x128 .f32),
    unary main_v59 main_v62 ((transpose S9x12800x128 [1, 0, 2] · transposes_S12800x9x128_S9x12800x128_1_0_2) : B F S12800x9x128 .f32 → B F S9x12800x128 .f32),
    nullary main_v63 (iotaInDim S9 32 0),
    nullary main_c_14 (constantI S_ 32 0#32),
    unary main_v62 main_v64_0 id,
    unary main_v63 main_v64_1 id,
    unary main_arg12 main_v64_2 id,
    unary main_arg13 main_v64_3 id,
    unary main_arg14 main_v64_4 id,
    unary main_v43 main_v64_5 id,
    unary main_c_14 main_v64_6 id,
    unary main_v60 main_v64_7 id,
    unary main_v61 main_v64_8 id ]

/-- The operations after the second loop. -/
abbrev line2 : List (HloOp τ sig (Elt F)) :=
  [ binary main_v48_7 main_v64_7 main_v65 ((fun a b => concatenate S12800x256 1 [⟨S12800x128, a⟩, ⟨S12800x128, b⟩] concatenates_S12800x128_S12800x128_S12800x256_d1) : B F S12800x128 .f32 → B F S12800x128 .f32 → B F S12800x256 .f32),
    reshape main_v65 main_v66 (rfl : (.f32 : EltTy) = .f32) shapeCasts_S12800x256_S64x200x256,
    unary main_arg6 main_v67 (broadcastInDim S64x200x1 ![0, 1] bcast_S64x200_S64x200x1_0_1 : B F S64x200 .f32 → B F S64x200x1 .f32),
    unary main_v67 main_v68 (broadcastInDim S64x200x256 ![0, 1, 2] bcast_S64x200x1_S64x200x256_0_1_2 : B F S64x200x1 .f32 → B F S64x200x256 .f32),
    binary main_v66 main_v68 main_v69 (mulf : B F S64x200x256 .f32 → B F S64x200x256 .f32 → B F S64x200x256 .f32),
    nary ![main_v38, main_v69, main_v41] main_v70 (fun u => (concatenate S64x200x512 2 [⟨S64x200x128, (u 0 : B F S64x200x128 .f32)⟩, ⟨S64x200x256, (u 1 : B F S64x200x256 .f32)⟩, ⟨S64x200x128, (u 2 : B F S64x200x128 .f32)⟩] concatenates_S64x200x128_S64x200x256_S64x200x128_S64x200x512_d2 : B F S64x200x512 .f32)),
    binary main_v70 main_arg15 main_v71 ((fun l r => Host.dotGeneral dot_S64x200x512_S512x512_S64x200x512_2_0_01_1_n_n none l r) : B F S64x200x512 .f32 → B F S512x512 .f32 → B F S64x200x512 .f32),
    unary main_v71 main_v72 (Host.tanh : B F S64x200x512 .f32 → B F S64x200x512 .f32) ]

/-- The first loop's condition. -/
abbrev cond0 : List (HloOp τ sig (Elt F)) :=
  [ nullary main_while0c_c_23 (constantI S_ 32 9#32),
    binary main_v48_6 main_while0c_c_23 main_while0c_v73 (cmpi .slt : B F S_ .i32 → B F S_ .i32 → B F S_ .i1) ]

/-- The second loop's condition. -/
abbrev cond1 : List (HloOp τ sig (Elt F)) :=
  [ nullary main_while1c_c_23 (constantI S_ 32 9#32),
    binary main_v64_6 main_while1c_c_23 main_while1c_v73 (cmpi .slt : B F S_ .i32 → B F S_ .i32 → B F S_ .i1) ]

/-- The first loop's body. -/
abbrev body0 : List (HloOp τ sig (Elt F)) :=
  [ nullary main_while0b_call0_c (constantI S_ 32 0#32),
    nullary main_while0b_call0_c_0 (constantI S_ 32 0#32),
    TRef.unaryIndexed (.of main_v48_0 : TRef sig ⟨S9x12800x128, .f32⟩) (![.of main_v48_6, .of main_while0b_call0_c, .of main_while0b_call0_c_0] : Fin 3 → TRef sig ⟨S_, .i32⟩) (.of main_while0b_call0_v0 : TRef sig ⟨S1x12800x128, .f32⟩) (fun x i => Host.dynamicSlice S1x12800x128 x (fun k => (i k (Shape.Idx.first h_S_)).toInt) sliceFits_S9x12800x128_S1x12800x128),
    reshape main_while0b_call0_v0 main_while0b_v73 (rfl : (.f32 : EltTy) = .f32) shapeCasts_S1x12800x128_S12800x128,
    TRef.unaryIndexed (.of main_v48_1 : TRef sig ⟨S9, .i32⟩) (![.of main_v48_6] : Fin 1 → TRef sig ⟨S_, .i32⟩) (.of main_while0b_call1_v0 : TRef sig ⟨S1, .i32⟩) (fun x i => Host.dynamicSlice S1 x (fun k => (i k (Shape.Idx.first h_S_)).toInt) sliceFits_S9_S1),
    reshape main_while0b_call1_v0 main_while0b_v74 (rfl : (.i32 : EltTy) = .i32) shapeCasts_S1_S_,
    binary main_while0b_v73 main_v48_2 main_while0b_v75 ((fun l r => Host.dotGeneral dot_S12800x128_S128x512_S12800x512_1_0_0_1_n_n none l r) : B F S12800x128 .f32 → B F S128x512 .f32 → B F S12800x512 .f32),
    binary main_v48_7 main_v48_3 main_while0b_v76 ((fun l r => Host.dotGeneral dot_S12800x128_S128x512_S12800x512_1_0_0_1_n_n none l r) : B F S12800x128 .f32 → B F S128x512 .f32 → B F S12800x512 .f32),
    binary main_while0b_v75 main_while0b_v76 main_while0b_v77 (addf : B F S12800x512 .f32 → B F S12800x512 .f32 → B F S12800x512 .f32),
    unary main_v48_4 main_while0b_v78 (broadcastInDim S1x512 ![1] bcast_S512_S1x512_1 : B F S512 .f32 → B F S1x512 .f32),
    unary main_while0b_v78 main_while0b_v79 (broadcastInDim S12800x512 ![0, 1] bcast_S1x512_S12800x512_0_1 : B F S1x512 .f32 → B F S12800x512 .f32),
    binary main_while0b_v77 main_while0b_v79 main_while0b_v80 (addf : B F S12800x512 .f32 → B F S12800x512 .f32 → B F S12800x512 .f32),
    unary main_while0b_v80 main_while0b_v81 ((extractStridedSlice S12800x128 ![0, 0] · slices_S12800x512_S12800x128_0_0) : B F S12800x512 .f32 → B F S12800x128 .f32),
    unary main_while0b_v80 main_while0b_v82 ((extractStridedSlice S12800x128 ![0, 128] · slices_S12800x512_S12800x128_0_128) : B F S12800x512 .f32 → B F S12800x128 .f32),
    unary main_while0b_v80 main_while0b_v83 ((extractStridedSlice S12800x128 ![0, 256] · slices_S12800x512_S12800x128_0_256) : B F S12800x512 .f32 → B F S12800x128 .f32),
    unary main_while0b_v80 main_while0b_v84 ((extractStridedSlice S12800x128 ![0, 384] · slices_S12800x512_S12800x128_0_384) : B F S12800x512 .f32 → B F S12800x128 .f32),
    unary main_while0b_v81 main_while0b_v85 (Host.negf : B F S12800x128 .f32 → B F S12800x128 .f32),
    unary main_while0b_v85 main_while0b_v86 (Host.exp : B F S12800x128 .f32 → B F S12800x128 .f32),
    nullary main_while0b_cst_23 (constant S_ .f32 0x3F800000#32),
    unary main_while0b_cst_23 main_while0b_v87 (broadcastInDim S12800x128 ![] bcast_S_S12800x128 : B F S_ .f32 → B F S12800x128 .f32),
    binary main_while0b_v87 main_while0b_v86 main_while0b_v88 (addf : B F S12800x128 .f32 → B F S12800x128 .f32 → B F S12800x128 .f32),
    nullary main_while0b_cst_24 (constant S_ .f32 0x3F800000#32),
    unary main_while0b_cst_24 main_while0b_v89 (broadcastInDim S12800x128 ![] bcast_S_S12800x128 : B F S_ .f32 → B F S12800x128 .f32),
    binary main_while0b_v89 main_while0b_v88 main_while0b_v90 (Host.divf : B F S12800x128 .f32 → B F S12800x128 .f32 → B F S12800x128 .f32),
    unary main_while0b_v82 main_while0b_v91 (Host.negf : B F S12800x128 .f32 → B F S12800x128 .f32),
    unary main_while0b_v91 main_while0b_v92 (Host.exp : B F S12800x128 .f32 → B F S12800x128 .f32),
    nullary main_while0b_cst_25 (constant S_ .f32 0x3F800000#32),
    unary main_while0b_cst_25 main_while0b_v93 (broadcastInDim S12800x128 ![] bcast_S_S12800x128 : B F S_ .f32 → B F S12800x128 .f32),
    binary main_while0b_v93 main_while0b_v92 main_while0b_v94 (addf : B F S12800x128 .f32 → B F S12800x128 .f32 → B F S12800x128 .f32),
    nullary main_while0b_cst_26 (constant S_ .f32 0x3F800000#32),
    unary main_while0b_cst_26 main_while0b_v95 (broadcastInDim S12800x128 ![] bcast_S_S12800x128 : B F S_ .f32 → B F S12800x128 .f32),
    binary main_while0b_v95 main_while0b_v94 main_while0b_v96 (Host.divf : B F S12800x128 .f32 → B F S12800x128 .f32 → B F S12800x128 .f32),
    unary main_while0b_v83 main_while0b_v97 (Host.tanh : B F S12800x128 .f32 → B F S12800x128 .f32),
    unary main_while0b_v84 main_while0b_v98 (Host.negf : B F S12800x128 .f32 → B F S12800x128 .f32),
    unary main_while0b_v98 main_while0b_v99 (Host.exp : B F S12800x128 .f32 → B F S12800x128 .f32),
    nullary main_while0b_cst_27 (constant S_ .f32 0x3F800000#32),
    unary main_while0b_cst_27 main_while0b_v100 (broadcastInDim S12800x128 ![] bcast_S_S12800x128 : B F S_ .f32 → B F S12800x128 .f32),
    binary main_while0b_v100 main_while0b_v99 main_while0b_v101 (addf : B F S12800x128 .f32 → B F S12800x128 .f32 → B F S12800x128 .f32),
    nullary main_while0b_cst_28 (constant S_ .f32 0x3F800000#32),
    unary main_while0b_cst_28 main_while0b_v102 (broadcastInDim S12800x128 ![] bcast_S_S12800x128 : B F S_ .f32 → B F S12800x128 .f32),
    binary main_while0b_v102 main_while0b_v101 main_while0b_v103 (Host.divf : B F S12800x128 .f32 → B F S12800x128 .f32 → B F S12800x128 .f32),
    binary main_while0b_v96 main_v48_8 main_while0b_v104 (mulf : B F S12800x128 .f32 → B F S12800x128 .f32 → B F S12800x128 .f32),
    binary main_while0b_v90 main_while0b_v97 main_while0b_v105 (mulf : B F S12800x128 .f32 → B F S12800x128 .f32 → B F S12800x128 .f32),
    binary main_while0b_v104 main_while0b_v105 main_while0b_v106 (addf : B F S12800x128 .f32 → B F S12800x128 .f32 → B F S12800x128 .f32),
    unary main_while0b_v106 main_while0b_v107 (Host.tanh : B F S12800x128 .f32 → B F S12800x128 .f32),
    binary main_while0b_v103 main_while0b_v107 main_while0b_v108 (mulf : B F S12800x128 .f32 → B F S12800x128 .f32 → B F S12800x128 .f32),
    unary main_while0b_v74 main_while0b_v109 (broadcastInDim S12800 ![] bcast_S_S12800 : B F S_ .i32 → B F S12800 .i32),
    binary main_while0b_v109 main_v48_5 main_while0b_v110 (cmpi .slt : B F S12800 .i32 → B F S12800 .i32 → B F S12800 .i1),
    unary main_while0b_v110 main_while0b_v111 (broadcastInDim S12800x1 ![0] bcast_S12800_S12800x1_0 : B F S12800 .i1 → B F S12800x1 .i1),
    unary main_while0b_v111 main_while0b_call2_v0 (broadcastInDim S12800x128 ![0, 1] bcast_S12800x1_S12800x128_0_1 : B F S12800x1 .i1 → B F S12800x128 .i1),
    ternary main_while0b_call2_v0 main_while0b_v108 main_v48_7 main_while0b_v112 (select : B F S12800x128 .i1 → B F S12800x128 .f32 → B F S12800x128 .f32 → B F S12800x128 .f32),
    unary main_while0b_v111 main_while0b_call3_v0 (broadcastInDim S12800x128 ![0, 1] bcast_S12800x1_S12800x128_0_1 : B F S12800x1 .i1 → B F S12800x128 .i1),
    ternary main_while0b_call3_v0 main_while0b_v106 main_v48_8 main_while0b_v113 (select : B F S12800x128 .i1 → B F S12800x128 .f32 → B F S12800x128 .f32 → B F S12800x128 .f32),
    nullary main_while0b_c_29 (constantI S_ 32 1#32),
    binary main_v48_6 main_while0b_c_29 main_while0b_v114 (addi : B F S_ .i32 → B F S_ .i32 → B F S_ .i32),
    unary main_while0b_v114 main_v48_6 id,
    unary main_while0b_v112 main_v48_7 id,
    unary main_while0b_v113 main_v48_8 id ]

/-- The second loop's body. -/
abbrev body1 : List (HloOp τ sig (Elt F)) :=
  [ nullary main_while1b_call6_c (constantI S_ 32 0#32),
    nullary main_while1b_call6_c_0 (constantI S_ 32 0#32),
    TRef.unaryIndexed (.of main_v64_0 : TRef sig ⟨S9x12800x128, .f32⟩) (![.of main_v64_6, .of main_while1b_call6_c, .of main_while1b_call6_c_0] : Fin 3 → TRef sig ⟨S_, .i32⟩) (.of main_while1b_call6_v0 : TRef sig ⟨S1x12800x128, .f32⟩) (fun x i => Host.dynamicSlice S1x12800x128 x (fun k => (i k (Shape.Idx.first h_S_)).toInt) sliceFits_S9x12800x128_S1x12800x128),
    reshape main_while1b_call6_v0 main_while1b_v73 (rfl : (.f32 : EltTy) = .f32) shapeCasts_S1x12800x128_S12800x128,
    TRef.unaryIndexed (.of main_v64_1 : TRef sig ⟨S9, .i32⟩) (![.of main_v64_6] : Fin 1 → TRef sig ⟨S_, .i32⟩) (.of main_while1b_call7_v0 : TRef sig ⟨S1, .i32⟩) (fun x i => Host.dynamicSlice S1 x (fun k => (i k (Shape.Idx.first h_S_)).toInt) sliceFits_S9_S1),
    reshape main_while1b_call7_v0 main_while1b_v74 (rfl : (.i32 : EltTy) = .i32) shapeCasts_S1_S_,
    binary main_while1b_v73 main_v64_2 main_while1b_v75 ((fun l r => Host.dotGeneral dot_S12800x128_S128x512_S12800x512_1_0_0_1_n_n none l r) : B F S12800x128 .f32 → B F S128x512 .f32 → B F S12800x512 .f32),
    binary main_v64_7 main_v64_3 main_while1b_v76 ((fun l r => Host.dotGeneral dot_S12800x128_S128x512_S12800x512_1_0_0_1_n_n none l r) : B F S12800x128 .f32 → B F S128x512 .f32 → B F S12800x512 .f32),
    binary main_while1b_v75 main_while1b_v76 main_while1b_v77 (addf : B F S12800x512 .f32 → B F S12800x512 .f32 → B F S12800x512 .f32),
    unary main_v64_4 main_while1b_v78 (broadcastInDim S1x512 ![1] bcast_S512_S1x512_1 : B F S512 .f32 → B F S1x512 .f32),
    unary main_while1b_v78 main_while1b_v79 (broadcastInDim S12800x512 ![0, 1] bcast_S1x512_S12800x512_0_1 : B F S1x512 .f32 → B F S12800x512 .f32),
    binary main_while1b_v77 main_while1b_v79 main_while1b_v80 (addf : B F S12800x512 .f32 → B F S12800x512 .f32 → B F S12800x512 .f32),
    unary main_while1b_v80 main_while1b_v81 ((extractStridedSlice S12800x128 ![0, 0] · slices_S12800x512_S12800x128_0_0) : B F S12800x512 .f32 → B F S12800x128 .f32),
    unary main_while1b_v80 main_while1b_v82 ((extractStridedSlice S12800x128 ![0, 128] · slices_S12800x512_S12800x128_0_128) : B F S12800x512 .f32 → B F S12800x128 .f32),
    unary main_while1b_v80 main_while1b_v83 ((extractStridedSlice S12800x128 ![0, 256] · slices_S12800x512_S12800x128_0_256) : B F S12800x512 .f32 → B F S12800x128 .f32),
    unary main_while1b_v80 main_while1b_v84 ((extractStridedSlice S12800x128 ![0, 384] · slices_S12800x512_S12800x128_0_384) : B F S12800x512 .f32 → B F S12800x128 .f32),
    unary main_while1b_v81 main_while1b_v85 (Host.negf : B F S12800x128 .f32 → B F S12800x128 .f32),
    unary main_while1b_v85 main_while1b_v86 (Host.exp : B F S12800x128 .f32 → B F S12800x128 .f32),
    nullary main_while1b_cst_23 (constant S_ .f32 0x3F800000#32),
    unary main_while1b_cst_23 main_while1b_v87 (broadcastInDim S12800x128 ![] bcast_S_S12800x128 : B F S_ .f32 → B F S12800x128 .f32),
    binary main_while1b_v87 main_while1b_v86 main_while1b_v88 (addf : B F S12800x128 .f32 → B F S12800x128 .f32 → B F S12800x128 .f32),
    nullary main_while1b_cst_24 (constant S_ .f32 0x3F800000#32),
    unary main_while1b_cst_24 main_while1b_v89 (broadcastInDim S12800x128 ![] bcast_S_S12800x128 : B F S_ .f32 → B F S12800x128 .f32),
    binary main_while1b_v89 main_while1b_v88 main_while1b_v90 (Host.divf : B F S12800x128 .f32 → B F S12800x128 .f32 → B F S12800x128 .f32),
    unary main_while1b_v82 main_while1b_v91 (Host.negf : B F S12800x128 .f32 → B F S12800x128 .f32),
    unary main_while1b_v91 main_while1b_v92 (Host.exp : B F S12800x128 .f32 → B F S12800x128 .f32),
    nullary main_while1b_cst_25 (constant S_ .f32 0x3F800000#32),
    unary main_while1b_cst_25 main_while1b_v93 (broadcastInDim S12800x128 ![] bcast_S_S12800x128 : B F S_ .f32 → B F S12800x128 .f32),
    binary main_while1b_v93 main_while1b_v92 main_while1b_v94 (addf : B F S12800x128 .f32 → B F S12800x128 .f32 → B F S12800x128 .f32),
    nullary main_while1b_cst_26 (constant S_ .f32 0x3F800000#32),
    unary main_while1b_cst_26 main_while1b_v95 (broadcastInDim S12800x128 ![] bcast_S_S12800x128 : B F S_ .f32 → B F S12800x128 .f32),
    binary main_while1b_v95 main_while1b_v94 main_while1b_v96 (Host.divf : B F S12800x128 .f32 → B F S12800x128 .f32 → B F S12800x128 .f32),
    unary main_while1b_v83 main_while1b_v97 (Host.tanh : B F S12800x128 .f32 → B F S12800x128 .f32),
    unary main_while1b_v84 main_while1b_v98 (Host.negf : B F S12800x128 .f32 → B F S12800x128 .f32),
    unary main_while1b_v98 main_while1b_v99 (Host.exp : B F S12800x128 .f32 → B F S12800x128 .f32),
    nullary main_while1b_cst_27 (constant S_ .f32 0x3F800000#32),
    unary main_while1b_cst_27 main_while1b_v100 (broadcastInDim S12800x128 ![] bcast_S_S12800x128 : B F S_ .f32 → B F S12800x128 .f32),
    binary main_while1b_v100 main_while1b_v99 main_while1b_v101 (addf : B F S12800x128 .f32 → B F S12800x128 .f32 → B F S12800x128 .f32),
    nullary main_while1b_cst_28 (constant S_ .f32 0x3F800000#32),
    unary main_while1b_cst_28 main_while1b_v102 (broadcastInDim S12800x128 ![] bcast_S_S12800x128 : B F S_ .f32 → B F S12800x128 .f32),
    binary main_while1b_v102 main_while1b_v101 main_while1b_v103 (Host.divf : B F S12800x128 .f32 → B F S12800x128 .f32 → B F S12800x128 .f32),
    binary main_while1b_v96 main_v64_8 main_while1b_v104 (mulf : B F S12800x128 .f32 → B F S12800x128 .f32 → B F S12800x128 .f32),
    binary main_while1b_v90 main_while1b_v97 main_while1b_v105 (mulf : B F S12800x128 .f32 → B F S12800x128 .f32 → B F S12800x128 .f32),
    binary main_while1b_v104 main_while1b_v105 main_while1b_v106 (addf : B F S12800x128 .f32 → B F S12800x128 .f32 → B F S12800x128 .f32),
    unary main_while1b_v106 main_while1b_v107 (Host.tanh : B F S12800x128 .f32 → B F S12800x128 .f32),
    binary main_while1b_v103 main_while1b_v107 main_while1b_v108 (mulf : B F S12800x128 .f32 → B F S12800x128 .f32 → B F S12800x128 .f32),
    unary main_while1b_v74 main_while1b_v109 (broadcastInDim S12800 ![] bcast_S_S12800 : B F S_ .i32 → B F S12800 .i32),
    binary main_while1b_v109 main_v64_5 main_while1b_v110 (cmpi .slt : B F S12800 .i32 → B F S12800 .i32 → B F S12800 .i1),
    unary main_while1b_v110 main_while1b_v111 (broadcastInDim S12800x1 ![0] bcast_S12800_S12800x1_0 : B F S12800 .i1 → B F S12800x1 .i1),
    unary main_while1b_v111 main_while1b_call8_v0 (broadcastInDim S12800x128 ![0, 1] bcast_S12800x1_S12800x128_0_1 : B F S12800x1 .i1 → B F S12800x128 .i1),
    ternary main_while1b_call8_v0 main_while1b_v108 main_v64_7 main_while1b_v112 (select : B F S12800x128 .i1 → B F S12800x128 .f32 → B F S12800x128 .f32 → B F S12800x128 .f32),
    unary main_while1b_v111 main_while1b_call9_v0 (broadcastInDim S12800x128 ![0, 1] bcast_S12800x1_S12800x128_0_1 : B F S12800x1 .i1 → B F S12800x128 .i1),
    ternary main_while1b_call9_v0 main_while1b_v106 main_v64_8 main_while1b_v113 (select : B F S12800x128 .i1 → B F S12800x128 .f32 → B F S12800x128 .f32 → B F S12800x128 .f32),
    nullary main_while1b_c_29 (constantI S_ 32 1#32),
    binary main_v64_6 main_while1b_c_29 main_while1b_v114 (addi : B F S_ .i32 → B F S_ .i32 → B F S_ .i32),
    unary main_while1b_v114 main_v64_6 id,
    unary main_while1b_v112 main_v64_7 id,
    unary main_while1b_v113 main_v64_8 id ]

/-- What the operations before the first loop write. -/
abbrev lineOut0 : List (Ref sig .tc) :=
  [main_c, main_v0, main_v1, main_c_0, main_v2, main_v3, main_v4, main_v5, main_v6, main_c_1, main_v7, main_v8, main_c_2, main_v9, main_v10, main_v11,
   main_v12, main_v13, main_c_3, main_v14, main_v15, main_c_4, main_v16, main_v17, main_v18, main_v19, main_v20, main_v21, main_v22, main_v23, main_v24,
   main_v25, main_v26, main_v27, main_v28, main_v29, main_v30, main_v31, main_v32, main_v33, main_v34, main_v35, main_v36, main_v37, main_cst, main_v38,
   main_v39, main_v40, main_cst_5, main_v41, main_v42, main_v43, main_cst_6, main_v44, main_cst_7, main_v45, main_v46, main_v47, main_c_8, main_v48_0,
   main_v48_1, main_v48_2, main_v48_3, main_v48_4, main_v48_5, main_v48_6, main_v48_7, main_v48_8]

/-- What the operations between the loops write. -/
abbrev lineOut1 : List (Ref sig .tc) :=
  [main_v49, main_c_9, main_v50, main_v51, main_v52, main_v53, main_v54, main_v55, main_v56, main_c_10, main_c_11, main_call4_v0, main_call4_v1,
   main_call4_v2, main_call4_v3, main_call4_v4, main_v57, main_v58, main_call5_c, main_call5_v0, main_call5_v1, main_call5_c_0, main_call5_v2,
   main_call5_v3, main_call5_v4, main_call5_c_1, main_call5_c_2, main_call5_v5, main_call5_v6, main_call5_v7, main_call5_v8, main_call5_v9, main_call5_v10,
   main_call5_c_3, main_call5_v11, main_call5_v12, main_call5_v13, main_call5_cst, main_call5_v14, main_v59, main_cst_12, main_v60, main_cst_13, main_v61,
   main_v62, main_v63, main_c_14, main_v64_0, main_v64_1, main_v64_2, main_v64_3, main_v64_4, main_v64_5, main_v64_6, main_v64_7, main_v64_8]

/-- What the operations after the second loop write. -/
abbrev lineOut2 : List (Ref sig .tc) :=
  [main_v65, main_v66, main_v67, main_v68, main_v69, main_v70, main_v71, main_v72]

/-- What the first loop's condition writes. -/
abbrev condOut0 : List (Ref sig .tc) :=
  [main_while0c_c_23, main_while0c_v73]

/-- What the first loop's body writes. -/
abbrev bodyOut0 : List (Ref sig .tc) :=
  [main_while0b_call0_c, main_while0b_call0_c_0, main_while0b_call0_v0, main_while0b_v73, main_while0b_call1_v0, main_while0b_v74, main_while0b_v75,
   main_while0b_v76, main_while0b_v77, main_while0b_v78, main_while0b_v79, main_while0b_v80, main_while0b_v81, main_while0b_v82, main_while0b_v83,
   main_while0b_v84, main_while0b_v85, main_while0b_v86, main_while0b_cst_23, main_while0b_v87, main_while0b_v88, main_while0b_cst_24, main_while0b_v89,
   main_while0b_v90, main_while0b_v91, main_while0b_v92, main_while0b_cst_25, main_while0b_v93, main_while0b_v94, main_while0b_cst_26, main_while0b_v95,
   main_while0b_v96, main_while0b_v97, main_while0b_v98, main_while0b_v99, main_while0b_cst_27, main_while0b_v100, main_while0b_v101, main_while0b_cst_28,
   main_while0b_v102, main_while0b_v103, main_while0b_v104, main_while0b_v105, main_while0b_v106, main_while0b_v107, main_while0b_v108, main_while0b_v109,
   main_while0b_v110, main_while0b_v111, main_while0b_call2_v0, main_while0b_v112, main_while0b_call3_v0, main_while0b_v113, main_while0b_c_29,
   main_while0b_v114, main_v48_6, main_v48_7, main_v48_8]

/-- What the second loop's condition writes. -/
abbrev condOut1 : List (Ref sig .tc) :=
  [main_while1c_c_23, main_while1c_v73]

/-- What the second loop's body writes. -/
abbrev bodyOut1 : List (Ref sig .tc) :=
  [main_while1b_call6_c, main_while1b_call6_c_0, main_while1b_call6_v0, main_while1b_v73, main_while1b_call7_v0, main_while1b_v74, main_while1b_v75,
   main_while1b_v76, main_while1b_v77, main_while1b_v78, main_while1b_v79, main_while1b_v80, main_while1b_v81, main_while1b_v82, main_while1b_v83,
   main_while1b_v84, main_while1b_v85, main_while1b_v86, main_while1b_cst_23, main_while1b_v87, main_while1b_v88, main_while1b_cst_24, main_while1b_v89,
   main_while1b_v90, main_while1b_v91, main_while1b_v92, main_while1b_cst_25, main_while1b_v93, main_while1b_v94, main_while1b_cst_26, main_while1b_v95,
   main_while1b_v96, main_while1b_v97, main_while1b_v98, main_while1b_v99, main_while1b_cst_27, main_while1b_v100, main_while1b_v101, main_while1b_cst_28,
   main_while1b_v102, main_while1b_v103, main_while1b_v104, main_while1b_v105, main_while1b_v106, main_while1b_v107, main_while1b_v108, main_while1b_v109,
   main_while1b_v110, main_while1b_v111, main_while1b_call8_v0, main_while1b_v112, main_while1b_call9_v0, main_while1b_v113, main_while1b_c_29,
   main_while1b_v114, main_v64_6, main_v64_7, main_v64_8]

/-! ## What they leave -/

theorem line0_keep (V : Valuation τ sig (Elt F)) {r : Ref sig .tc} (h : r ∉ lineOut0) : after line0 V (r : DevRef τ sig) = V (r : DevRef τ sig) :=
  after_of_writes_sub line0 V (forall_writes_sub_of_map rfl) h
theorem line1_keep (V : Valuation τ sig (Elt F)) {r : Ref sig .tc} (h : r ∉ lineOut1) : after line1 V (r : DevRef τ sig) = V (r : DevRef τ sig) :=
  after_of_writes_sub line1 V (forall_writes_sub_of_map rfl) h
theorem line2_keep (V : Valuation τ sig (Elt F)) {r : Ref sig .tc} (h : r ∉ lineOut2) : after line2 V (r : DevRef τ sig) = V (r : DevRef τ sig) :=
  after_of_writes_sub line2 V (forall_writes_sub_of_map rfl) h
theorem cond0_keep (V : Valuation τ sig (Elt F)) {r : Ref sig .tc} (h : r ∉ condOut0) : after cond0 V (r : DevRef τ sig) = V (r : DevRef τ sig) :=
  after_of_writes_sub cond0 V (forall_writes_sub_of_map rfl) h
theorem cond1_keep (V : Valuation τ sig (Elt F)) {r : Ref sig .tc} (h : r ∉ condOut1) : after cond1 V (r : DevRef τ sig) = V (r : DevRef τ sig) :=
  after_of_writes_sub cond1 V (forall_writes_sub_of_map rfl) h
theorem body0_keep (V : Valuation τ sig (Elt F)) {r : Ref sig .tc} (h : r ∉ bodyOut0) : after body0 V (r : DevRef τ sig) = V (r : DevRef τ sig) :=
  after_of_writes_sub body0 V (forall_writes_sub_of_map rfl) h
theorem body1_keep (V : Valuation τ sig (Elt F)) {r : Ref sig .tc} (h : r ∉ bodyOut1) : after body1 V (r : DevRef τ sig) = V (r : DevRef τ sig) :=
  after_of_writes_sub body1 V (forall_writes_sub_of_map rfl) h

theorem body0_count (V : Valuation τ sig (Elt F)) :
    after body0 V (main_v48_6 : DevRef τ sig) = addi (V (main_v48_6 : DevRef τ sig) : B F S_ .i32) (constantI S_ 32 1#32) := by
  after_results_simp_entrywise
  rfl
theorem body0_hidden (V : Valuation τ sig (Elt F)) : after body0 V (main_v48_7 : DevRef τ sig)
    = keepRef (V (main_v48_5 : DevRef τ sig)) (placeAt (V (main_v48_1 : DevRef τ sig)) (V (main_v48_6 : DevRef τ sig))) (hiddenRef (preact (rowsOf (V (main_v48_0 : DevRef τ sig)) (V (main_v48_6 : DevRef τ sig))) (V (main_v48_7 : DevRef τ sig)) (V (main_v48_2 : DevRef τ sig)) (V (main_v48_3 : DevRef τ sig)) (V (main_v48_4 : DevRef τ sig))) (V (main_v48_8 : DevRef τ sig))) (V (main_v48_7 : DevRef τ sig)) := by
  after_results_simp_entrywise
  rfl
theorem body0_cell (V : Valuation τ sig (Elt F)) : after body0 V (main_v48_8 : DevRef τ sig)
    = keepRef (V (main_v48_5 : DevRef τ sig)) (placeAt (V (main_v48_1 : DevRef τ sig)) (V (main_v48_6 : DevRef τ sig))) (cellRef (preact (rowsOf (V (main_v48_0 : DevRef τ sig)) (V (main_v48_6 : DevRef τ sig))) (V (main_v48_7 : DevRef τ sig)) (V (main_v48_2 : DevRef τ sig)) (V (main_v48_3 : DevRef τ sig)) (V (main_v48_4 : DevRef τ sig))) (V (main_v48_8 : DevRef τ sig))) (V (main_v48_8 : DevRef τ sig)) := by
  after_results_simp_entrywise
  rfl

theorem body1_count (V : Valuation τ sig (Elt F)) :
    after body1 V (main_v64_6 : DevRef τ sig) = addi (V (main_v64_6 : DevRef τ sig) : B F S_ .i32) (constantI S_ 32 1#32) := by
  after_results_simp_entrywise
  rfl
theorem body1_hidden (V : Valuation τ sig (Elt F)) : after body1 V (main_v64_7 : DevRef τ sig)
    = keepRef (V (main_v64_5 : DevRef τ sig)) (placeAt (V (main_v64_1 : DevRef τ sig)) (V (main_v64_6 : DevRef τ sig))) (hiddenRef (preact (rowsOf (V (main_v64_0 : DevRef τ sig)) (V (main_v64_6 : DevRef τ sig))) (V (main_v64_7 : DevRef τ sig)) (V (main_v64_2 : DevRef τ sig)) (V (main_v64_3 : DevRef τ sig)) (V (main_v64_4 : DevRef τ sig))) (V (main_v64_8 : DevRef τ sig))) (V (main_v64_7 : DevRef τ sig)) := by
  after_results_simp_entrywise
  rfl
theorem body1_cell (V : Valuation τ sig (Elt F)) : after body1 V (main_v64_8 : DevRef τ sig)
    = keepRef (V (main_v64_5 : DevRef τ sig)) (placeAt (V (main_v64_1 : DevRef τ sig)) (V (main_v64_6 : DevRef τ sig))) (cellRef (preact (rowsOf (V (main_v64_0 : DevRef τ sig)) (V (main_v64_6 : DevRef τ sig))) (V (main_v64_7 : DevRef τ sig)) (V (main_v64_2 : DevRef τ sig)) (V (main_v64_3 : DevRef τ sig)) (V (main_v64_4 : DevRef τ sig))) (V (main_v64_8 : DevRef τ sig))) (V (main_v64_8 : DevRef τ sig)) := by
  after_results_simp_entrywise
  rfl
theorem line0_v38 (V : Valuation τ sig (Elt F)) : after line0 V (main_v38 : DevRef τ sig) = agg (V (main_arg7 : DevRef τ sig)) (V (main_arg0 : DevRef τ sig)) (V (main_arg3 : DevRef τ sig)) := by
  after_results_simp
  rfl
theorem line0_v41 (V : Valuation τ sig (Elt F)) : after line0 V (main_v41 : DevRef τ sig) = agg (V (main_arg7 : DevRef τ sig)) (V (main_arg2 : DevRef τ sig)) (V (main_arg5 : DevRef τ sig)) := by
  after_results_simp
  rfl
theorem line0_v42 (V : Valuation τ sig (Elt F)) : after line0 V (main_v42 : DevRef τ sig) = paths (V (main_arg8 : DevRef τ sig)) (V (main_arg1 : DevRef τ sig)) := by
  after_results_simp
  rfl
theorem line0_v43 (V : Valuation τ sig (Elt F)) : after line0 V (main_v43 : DevRef τ sig) = (shapeCast S12800 ((V (main_arg4 : DevRef τ sig)) : B F S64x200 .i32) shapeCasts_S64x200_S12800 : B F S12800 .i32) := by
  after_results_simp
  rfl
theorem line0_v48_0 (V : Valuation τ sig (Elt F)) : after line0 V (main_v48_0 : DevRef τ sig) = transpose S9x12800x128 [1, 0, 2] (paths (V (main_arg8 : DevRef τ sig)) (V (main_arg1 : DevRef τ sig))) transposes_S12800x9x128_S9x12800x128_1_0_2 := by
  after_results_simp
  rfl
theorem line0_v48_1 (V : Valuation τ sig (Elt F)) : after line0 V (main_v48_1 : DevRef τ sig) = (iotaInDim S9 32 0 : B F S9 .i32) := by
  after_results_simp
  rfl
theorem line0_v48_2 (V : Valuation τ sig (Elt F)) : after line0 V (main_v48_2 : DevRef τ sig) = (V (main_arg9 : DevRef τ sig)) := by
  after_results_simp
  rfl
theorem line0_v48_3 (V : Valuation τ sig (Elt F)) : after line0 V (main_v48_3 : DevRef τ sig) = (V (main_arg10 : DevRef τ sig)) := by
  after_results_simp
  rfl
theorem line0_v48_4 (V : Valuation τ sig (Elt F)) : after line0 V (main_v48_4 : DevRef τ sig) = (V (main_arg11 : DevRef τ sig)) := by
  after_results_simp
  rfl
theorem line0_v48_5 (V : Valuation τ sig (Elt F)) : after line0 V (main_v48_5 : DevRef τ sig) = (shapeCast S12800 ((V (main_arg4 : DevRef τ sig)) : B F S64x200 .i32) shapeCasts_S64x200_S12800 : B F S12800 .i32) := by
  after_results_simp
  rfl
theorem line0_v48_6 (V : Valuation τ sig (Elt F)) : after line0 V (main_v48_6 : DevRef τ sig) = (constantI S_ 32 0#32 : B F S_ .i32) := by
  after_results_simp
  rfl
theorem line0_v48_7 (V : Valuation τ sig (Elt F)) : after line0 V (main_v48_7 : DevRef τ sig) = zeros := by
  after_results_simp
  rfl
theorem line0_v48_8 (V : Valuation τ sig (Elt F)) : after line0 V (main_v48_8 : DevRef τ sig) = zeros := by
  after_results_simp
  rfl
set_option maxRecDepth 16384 in
theorem line1_v64_0 (V : Valuation τ sig (Elt F)) : after line1 V (main_v64_0 : DevRef τ sig) = transpose S9x12800x128 [1, 0, 2] (taken (V (main_v42 : DevRef τ sig)) (mirror (V (main_v43 : DevRef τ sig)))) transposes_S12800x9x128_S9x12800x128_1_0_2 := by
  after_results_simp_entrywise
  simp only [taken, wrapped, mirror, id, TRef.ofBuf, TRef.toBuf, cast_eq]
theorem line1_v64_1 (V : Valuation τ sig (Elt F)) : after line1 V (main_v64_1 : DevRef τ sig) = (iotaInDim S9 32 0 : B F S9 .i32) := by
  after_results_simp
  rfl
theorem line1_v64_2 (V : Valuation τ sig (Elt F)) : after line1 V (main_v64_2 : DevRef τ sig) = (V (main_arg12 : DevRef τ sig)) := by
  after_results_simp
  rfl
theorem line1_v64_3 (V : Valuation τ sig (Elt F)) : after line1 V (main_v64_3 : DevRef τ sig) = (V (main_arg13 : DevRef τ sig)) := by
  after_results_simp
  rfl
theorem line1_v64_4 (V : Valuation τ sig (Elt F)) : after line1 V (main_v64_4 : DevRef τ sig) = (V (main_arg14 : DevRef τ sig)) := by
  after_results_simp
  rfl
theorem line1_v64_5 (V : Valuation τ sig (Elt F)) : after line1 V (main_v64_5 : DevRef τ sig) = (V (main_v43 : DevRef τ sig)) := by
  after_results_simp
  rfl
theorem line1_v64_6 (V : Valuation τ sig (Elt F)) : after line1 V (main_v64_6 : DevRef τ sig) = (constantI S_ 32 0#32 : B F S_ .i32) := by
  after_results_simp
  rfl
theorem line1_v64_7 (V : Valuation τ sig (Elt F)) : after line1 V (main_v64_7 : DevRef τ sig) = zeros := by
  after_results_simp
  rfl
theorem line1_v64_8 (V : Valuation τ sig (Elt F)) : after line1 V (main_v64_8 : DevRef τ sig) = zeros := by
  after_results_simp
  rfl
theorem line2_v72 (V : Valuation τ sig (Elt F)) : after line2 V (main_v72 : DevRef τ sig)
    = result (V (main_v38 : DevRef τ sig)) (V (main_v41 : DevRef τ sig)) (concatenate S12800x256 1 [⟨S12800x128, (V (main_v48_7 : DevRef τ sig))⟩, ⟨S12800x128, (V (main_v64_7 : DevRef τ sig))⟩] concatenates_S12800x128_S12800x128_S12800x256_d1)
        (V (main_arg6 : DevRef τ sig)) (V (main_arg15 : DevRef τ sig)) := by
  after_results_simp
  rfl

end Cert.ReferenceIdeal.Rows

end
-- ==== Proof.Reference.Run.lean ====
/-
  The reference's run: its lines of operations and the two loops of nine turns leave every buffer at what the operations
  compute from the launch memory, turn after turn.
-/
module

public import proofs.«01_k».proof.Proof.Reference.Ops
public import Idealize.ShloMosaic.Lib.HostLoop.Rules

@[expose] public section

noncomputable section

namespace Cert.ReferenceIdeal.Rows

open Idealize.ShloMosaic Idealize.ShloMosaic.TcCoe Idealize.ShloMosaic.StableHlo Idealize.ShloMosaic.HostLoop
open Idealize.SL
open Idealize.SL.BI (sProp bigSep)
open Idealize.SL.BI.BIBase Idealize.SL.BI.Laws Idealize.SL.Sem Idealize.SL.ProofMode Idealize.SL.RA
open scoped Idealize.SL.BI
open Cert.ReferenceIdeal Cert.ReferenceIdeal.Gen

variable {F : FTy → Type} [FloatOps F]

/-- The resources of the reference's run. -/
abbrev MU (F : FTy → Type) : Type := MT nD τ sig Unit (Elt F) ℕ (Option PUnit) Unit
/-- The operations of the program. -/
abbrev Ops (F : FTy → Type) [FloatOps F] := TpuEff nD τ sig (Elt F) (HostLoop.Sig (Pipeline.Sig Λ₀ (Fin 0) fun p => (pcfgs (F := F) p).Adm) 2) .tc

/-! ## The program as its lines and loops -/

theorem part0_eq (c : Dev nD) : main_part0 (F := F) c = seq (line0.take 60) := by
  simp only [main_part0, List.take_succ_cons, List.take_zero, seq, bind_assoc, pure_bind]
  rfl
set_option maxRecDepth 8192 in
theorem part1_eq (c : Dev nD) : main_part1 (F := F) c
    = seq (line0.drop 60) >>= fun _ => HostLoop.enter (0 : Fin 2) >>= fun _ => seq line1 >>= fun _ => HostLoop.enter (1 : Fin 2) >>= fun _ => seq line2 := by
  simp only [main_part1, fn_clip.body, fn_take_along_axis.body, List.drop_succ_cons, List.drop_zero, seq, bind_assoc, pure_bind]
  rfl
theorem main_lines (c : Dev nD) : main (F := F) c
    = seq line0 >>= fun _ => HostLoop.enter (0 : Fin 2) >>= fun _ => seq line1 >>= fun _ => HostLoop.enter (1 : Fin 2) >>= fun _ => seq line2 := by
  rw [show (seq line0 : Prog (Ops F) PUnit) = seq (line0.take 60 ++ line0.drop 60) from congrArg seq (List.take_append_drop 60 line0).symm, seq_append, bind_assoc,
    ← part0_eq c, ← part1_eq c]
  rfl
theorem main_eq (c : Dev nD) : main (F := F) c
    = seq line0 >>= fun _ => .op (.call (loop (0 : Fin 2)) ()) fun _ => seq line1 >>= fun _ => .op (.call (loop (1 : Fin 2)) ()) fun _ => seq line2 >>= fun u => pure u := by
  rw [main_lines, bind_pure]
  rfl
theorem body0_eq : main_while0_body (F := F) = seq body0 >>= fun u => pure u := by
  simp only [main_while0_body, fn_dynamic_index_in_dim.body, fn_dynamic_index_in_dim_0.body, fn_where.body, seq, bind_assoc, pure_bind]
  rfl
theorem body1_eq : main_while1_body (F := F) = seq body1 >>= fun u => pure u := by
  simp only [main_while1_body, fn_dynamic_index_in_dim.body, fn_dynamic_index_in_dim_0.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem line0_sub : ∀ op ∈ (line0 : List (HloOp τ sig (Elt F))), op.bufs ⊆ tcRefs τ sig := List.forall_iff_forall_mem.1 <| by
  simp only [List.forall_cons, List.Forall, TRef.unaryIndexed, TRef.nullary, TRef.unary, TRef.binary, TRef.ternary, TRef.reshape, nullary_bufs_sub, unary_bufs_sub, binary_bufs_sub, ternary_bufs_sub, nary_bufs_sub, reshape_bufs_sub, unaryIndexed_bufs_sub, and_self]
theorem line0_fresh : ∀ op ∈ (line0 : List (HloOp τ sig (Elt F))), op.fresh = ∅ := List.forall_iff_forall_mem.1 (forall_fresh_of_map rfl)
theorem line1_sub : ∀ op ∈ (line1 : List (HloOp τ sig (Elt F))), op.bufs ⊆ tcRefs τ sig := List.forall_iff_forall_mem.1 <| by
  simp only [List.forall_cons, List.Forall, TRef.unaryIndexed, TRef.nullary, TRef.unary, TRef.binary, TRef.ternary, TRef.reshape, nullary_bufs_sub, unary_bufs_sub, binary_bufs_sub, ternary_bufs_sub, nary_bufs_sub, reshape_bufs_sub, unaryIndexed_bufs_sub, and_self]
theorem line1_fresh : ∀ op ∈ (line1 : List (HloOp τ sig (Elt F))), op.fresh = ∅ := List.forall_iff_forall_mem.1 (forall_fresh_of_map rfl)
theorem line2_sub : ∀ op ∈ (line2 : List (HloOp τ sig (Elt F))), op.bufs ⊆ tcRefs τ sig := List.forall_iff_forall_mem.1 <| by
  simp only [List.forall_cons, List.Forall, TRef.unaryIndexed, TRef.nullary, TRef.unary, TRef.binary, TRef.ternary, TRef.reshape, nullary_bufs_sub, unary_bufs_sub, binary_bufs_sub, ternary_bufs_sub, nary_bufs_sub, reshape_bufs_sub, unaryIndexed_bufs_sub, and_self]
theorem line2_fresh : ∀ op ∈ (line2 : List (HloOp τ sig (Elt F))), op.fresh = ∅ := List.forall_iff_forall_mem.1 (forall_fresh_of_map rfl)
theorem body0_sub : ∀ op ∈ (body0 : List (HloOp τ sig (Elt F))), op.bufs ⊆ tcRefs τ sig := List.forall_iff_forall_mem.1 <| by
  simp only [List.forall_cons, List.Forall, TRef.unaryIndexed, TRef.nullary, TRef.unary, TRef.binary, TRef.ternary, TRef.reshape, nullary_bufs_sub, unary_bufs_sub, binary_bufs_sub, ternary_bufs_sub, nary_bufs_sub, reshape_bufs_sub, unaryIndexed_bufs_sub, and_self]
theorem body0_fresh : ∀ op ∈ (body0 : List (HloOp τ sig (Elt F))), op.fresh = ∅ := List.forall_iff_forall_mem.1 (forall_fresh_of_map rfl)
theorem body1_sub : ∀ op ∈ (body1 : List (HloOp τ sig (Elt F))), op.bufs ⊆ tcRefs τ sig := List.forall_iff_forall_mem.1 <| by
  simp only [List.forall_cons, List.Forall, TRef.unaryIndexed, TRef.nullary, TRef.unary, TRef.binary, TRef.ternary, TRef.reshape, nullary_bufs_sub, unary_bufs_sub, binary_bufs_sub, ternary_bufs_sub, nary_bufs_sub, reshape_bufs_sub, unaryIndexed_bufs_sub, and_self]
theorem body1_fresh : ∀ op ∈ (body1 : List (HloOp τ sig (Elt F))), op.fresh = ∅ := List.forall_iff_forall_mem.1 (forall_fresh_of_map rfl)

/-! ## A loop's turns -/

/-- The contents before each turn's condition. -/
def turns (cnd bdy : List (HloOp τ sig (Elt F))) (V : Valuation τ sig (Elt F)) : ℕ → Valuation τ sig (Elt F)
  | 0 => V
  | k + 1 => after bdy (after cnd (turns cnd bdy V k))

theorem turns_keep {cnd bdy : List (HloOp τ sig (Elt F))} {r : Ref sig .tc}
    (hc : ∀ V, after cnd V (r : DevRef τ sig) = V (r : DevRef τ sig)) (hb : ∀ V, after bdy V (r : DevRef τ sig) = V (r : DevRef τ sig))
    (V : Valuation τ sig (Elt F)) : ∀ k, turns cnd bdy V k (r : DevRef τ sig) = V (r : DevRef τ sig)
  | 0 => rfl
  | k + 1 => by rw [turns, hb, hc, turns_keep hc hb V k]

theorem count_lt : ∀ k : ℕ, k ≤ 9 → (IntOp.cmpi .slt (BitVec.ofNat 32 k) 9#32 = 1#1 ↔ k < 9)
  | 0, _ => by decide
  | 1, _ => by decide
  | 2, _ => by decide
  | 3, _ => by decide
  | 4, _ => by decide
  | 5, _ => by decide
  | 6, _ => by decide
  | 7, _ => by decide
  | 8, _ => by decide
  | 9, _ => by decide
  | _ + 10, h => absurd h (by omega)

/-- A loop of nine turns runs its body nine times and its condition ten. -/
theorem loop_wp {l : Fin 2} {cP : Prog (Ops F) (Elt F .i1)} {cnd bdy : List (HloOp τ sig (Elt F))} (d : Dev nD)
    (hstep : defs (F := F) .tc (loop l) () = step l cP (seq bdy >>= fun u => pure u))
    (hs : ∀ op ∈ bdy, op.bufs ⊆ tcRefs τ sig) (hf : ∀ op ∈ bdy, op.fresh = ∅) (V : Valuation τ sig (Elt F))
    (hcond : ∀ k ≤ 9, ∀ bd', iprop(boundary (d.tc : Thread nD τ) ∗ (held (d.tc : Thread nD τ) (tcRefs τ sig) (turns cnd bdy V k) : sProp (MU F)))
      ⊢ wp frame (wpE defs Variants.nat (d.tc : Thread nD τ) bd') Set.univ cP (fun v => iprop(⌜v = 1#1 ↔ k < 9⌝ ∗
        boundary (d.tc : Thread nD τ) ∗ held (d.tc : Thread nD τ) (tcRefs τ sig) (after cnd (turns cnd bdy V k)))))
    {k : PUnit → Prog (Ops F) PUnit} {Q : PUnit → sProp (MU F)} :
    iprop((boundary (d.tc : Thread nD τ) ∗ held (d.tc : Thread nD τ) (tcRefs τ sig) V)
        ∗ ((boundary (d.tc : Thread nD τ) ∗ held (d.tc : Thread nD τ) (tcRefs τ sig) (after cnd (turns cnd bdy V 9)))
          -∗ wp frame (wpE defs Variants.nat (d.tc : Thread nD τ) none) Set.univ (k ⟨⟩) Q))
      ⊢ wp frame (wpE defs Variants.nat (d.tc : Thread nD τ) none) Set.univ (.op (.call (loop l) ()) k) Q :=
  wp_while Variants.nat (d.tc : Thread nD τ) none Set.univ (defs := defs) (l := l) hstep 9
    (fun k => iprop(boundary (d.tc : Thread nD τ) ∗ held (d.tc : Thread nD τ) (tcRefs τ sig) (turns cnd bdy V k)))
    (fun k => iprop(boundary (d.tc : Thread nD τ) ∗ held (d.tc : Thread nD τ) (tcRefs τ sig) (after cnd (turns cnd bdy V k))))
    (fun k => 9 - k) hcond
    (fun k _ => by
      iintro H
      iapply (wp_seq Variants.nat _ Set.univ d (tcRefs τ sig) (fun u => Pure.pure u) bdy hs hf (after cnd (turns cnd bdy V k))) $$ H
      iintro H
      rw [wp_pure]; imodintro
      rw [turns]; iexact H)
    (fun k hk => by show 9 - (k + 1) < 9 - k; omega) (fun u hu => by cases hu)

theorem turns0_count {V : Valuation τ sig (Elt F)} (h : V (main_v48_6 : DevRef τ sig) = (constantI S_ 32 0#32 : B F S_ .i32)) :
    ∀ k, turns cond0 body0 V k (main_v48_6 : DevRef τ sig) = fun _ => (BitVec.ofNat 32 k : BitVec 32)
  | 0 => h
  | k + 1 => by
    rw [turns, body0_count, cond0_keep _ (by decide), turns0_count h k]
    funext i
    show BitVec.ofNat 32 k + 1#32 = BitVec.ofNat 32 (k + 1)
    rw [BitVec.ofNat_add]

set_option backward.isDefEq.respectTransparency.types false in
theorem cond0_spec {V : Valuation τ sig (Elt F)} (h : V (main_v48_6 : DevRef τ sig) = (constantI S_ 32 0#32 : B F S_ .i32)) (d : Dev nD) (bd : Option Variants.nat.V) (k : ℕ) (hk : k ≤ 9) :
    iprop(boundary (d.tc : Thread nD τ) ∗ (held (d.tc : Thread nD τ) (tcRefs τ sig) (turns cond0 body0 V k) : sProp (MU F)))
      ⊢ wp frame (wpE defs Variants.nat (d.tc : Thread nD τ) bd) Set.univ main_while0_cond (fun v => iprop(⌜v = 1#1 ↔ k < 9⌝ ∗
        boundary (d.tc : Thread nD τ) ∗ held (d.tc : Thread nD τ) (tcRefs τ sig) (after cond0 (turns cond0 body0 V k)))) := by
  show _ ⊢ wp frame (wpE defs Variants.nat (d.tc : Thread nD τ) bd) Set.univ
    (hlo rfl (nullary main_while0c_c_23 (constantI S_ 32 9#32)) fun _ => hlo rfl (binary main_v48_6 main_while0c_c_23 main_while0c_v73 (cmpi .slt : B F S_ .i32 → B F S_ .i32 → B F S_ .i1)) (elt main_while0c_v73)) _
  iintro H
  iapply (wp_hlo_within Variants.nat (d.tc : Thread nD τ) bd Set.univ (nullary_bufs_sub _ _ _)) $$ H
  iintro H
  iapply (wp_hlo_within Variants.nat (d.tc : Thread nD τ) bd Set.univ (binary_bufs_sub _ _ _ _ _ _ _)) $$ H
  iintro H
  rw [elt_apply, wp_ret]
  imodintro
  isplitr
  · ipureintro
    have hI : (nullary main_while0c_c_23 (constantI S_ 32 9#32) : HloOp τ sig (Elt F)).result (turns cond0 body0 V k) main_v48_6 = fun _ => (BitVec.ofNat 32 k : BitVec 32) := by
      rw [nullary_result_ne _ _ _ _ (by decide), turns0_count h]
    have hC : (nullary main_while0c_c_23 (constantI S_ 32 9#32) : HloOp τ sig (Elt F)).result (turns cond0 body0 V k) main_while0c_c_23 = fun _ => 9#32 := by
      rw [nullary_result]; rfl
    generalize HloOp.result (nullary main_while0c_c_23 (constantI S_ 32 9#32)) (turns cond0 body0 V k) = W at hI hC ⊢
    show IntOp.cmpi .slt ((W (main_v48_6 : DevRef τ sig) : B F S_ .i32) idx0) ((W (main_while0c_c_23 : DevRef τ sig) : B F S_ .i32) idx0) = 1#1 ↔ k < 9
    rw [hI, hC]
    exact count_lt k hk
  · rw [after_cons, after_cons, after_nil]
    iexact H

/-- The states the first loop carries. -/
theorem turns0_states {V : Valuation τ sig (Elt F)} (h6 : V (main_v48_6 : DevRef τ sig) = (constantI S_ 32 0#32 : B F S_ .i32))
    (h1 : V (main_v48_1 : DevRef τ sig) = (iotaInDim S9 32 0 : B F S9 .i32)) (h7 : V (main_v48_7 : DevRef τ sig) = (zeros : B F S12800x128 .f32)) (h8 : V (main_v48_8 : DevRef τ sig) = (zeros : B F S12800x128 .f32)) :
    ∀ k, turns cond0 body0 V k (main_v48_7 : DevRef τ sig) = (statesRef (V (main_v48_0 : DevRef τ sig)) (V (main_v48_2 : DevRef τ sig)) (V (main_v48_3 : DevRef τ sig)) (V (main_v48_4 : DevRef τ sig)) (V (main_v48_5 : DevRef τ sig)) k).1
      ∧ turns cond0 body0 V k (main_v48_8 : DevRef τ sig) = (statesRef (V (main_v48_0 : DevRef τ sig)) (V (main_v48_2 : DevRef τ sig)) (V (main_v48_3 : DevRef τ sig)) (V (main_v48_4 : DevRef τ sig)) (V (main_v48_5 : DevRef τ sig)) k).2
  | 0 => ⟨h7, h8⟩
  | k + 1 => by
    obtain ⟨e7, e8⟩ := turns0_states h6 h1 h7 h8 k
    have e6 := turns0_count h6 k
    have keep : ∀ {r : Ref sig .tc}, r ∉ condOut0 → r ∉ bodyOut0 → turns cond0 body0 V k (r : DevRef τ sig) = V (r : DevRef τ sig) :=
      fun hc hb => turns_keep (fun _ => cond0_keep _ hc) (fun _ => body0_keep _ hb) V k
    rw [turns, body0_hidden, body0_cell]
    simp only [cond0_keep (turns cond0 body0 V k) (r := main_v48_0) (by decide), cond0_keep (turns cond0 body0 V k) (r := main_v48_1) (by decide), cond0_keep (turns cond0 body0 V k) (r := main_v48_2) (by decide),
      cond0_keep (turns cond0 body0 V k) (r := main_v48_3) (by decide), cond0_keep (turns cond0 body0 V k) (r := main_v48_4) (by decide), cond0_keep (turns cond0 body0 V k) (r := main_v48_5) (by decide),
      cond0_keep (turns cond0 body0 V k) (r := main_v48_6) (by decide), cond0_keep (turns cond0 body0 V k) (r := main_v48_7) (by decide), cond0_keep (turns cond0 body0 V k) (r := main_v48_8) (by decide)]
    rw [e6, e7, e8, keep (r := main_v48_0) (by decide) (by decide), keep (r := main_v48_1) (by decide) (by decide), keep (r := main_v48_2) (by decide) (by decide),
      keep (r := main_v48_3) (by decide) (by decide), keep (r := main_v48_4) (by decide) (by decide), keep (r := main_v48_5) (by decide) (by decide), h1]
    exact ⟨rfl, rfl⟩

theorem turns1_count {V : Valuation τ sig (Elt F)} (h : V (main_v64_6 : DevRef τ sig) = (constantI S_ 32 0#32 : B F S_ .i32)) :
    ∀ k, turns cond1 body1 V k (main_v64_6 : DevRef τ sig) = fun _ => (BitVec.ofNat 32 k : BitVec 32)
  | 0 => h
  | k + 1 => by
    rw [turns, body1_count, cond1_keep _ (by decide), turns1_count h k]
    funext i
    show BitVec.ofNat 32 k + 1#32 = BitVec.ofNat 32 (k + 1)
    rw [BitVec.ofNat_add]

set_option backward.isDefEq.respectTransparency.types false in
theorem cond1_spec {V : Valuation τ sig (Elt F)} (h : V (main_v64_6 : DevRef τ sig) = (constantI S_ 32 0#32 : B F S_ .i32)) (d : Dev nD) (bd : Option Variants.nat.V) (k : ℕ) (hk : k ≤ 9) :
    iprop(boundary (d.tc : Thread nD τ) ∗ (held (d.tc : Thread nD τ) (tcRefs τ sig) (turns cond1 body1 V k) : sProp (MU F)))
      ⊢ wp frame (wpE defs Variants.nat (d.tc : Thread nD τ) bd) Set.univ main_while1_cond (fun v => iprop(⌜v = 1#1 ↔ k < 9⌝ ∗
        boundary (d.tc : Thread nD τ) ∗ held (d.tc : Thread nD τ) (tcRefs τ sig) (after cond1 (turns cond1 body1 V k)))) := by
  show _ ⊢ wp frame (wpE defs Variants.nat (d.tc : Thread nD τ) bd) Set.univ
    (hlo rfl (nullary main_while1c_c_23 (constantI S_ 32 9#32)) fun _ => hlo rfl (binary main_v64_6 main_while1c_c_23 main_while1c_v73 (cmpi .slt : B F S_ .i32 → B F S_ .i32 → B F S_ .i1)) (elt main_while1c_v73)) _
  iintro H
  iapply (wp_hlo_within Variants.nat (d.tc : Thread nD τ) bd Set.univ (nullary_bufs_sub _ _ _)) $$ H
  iintro H
  iapply (wp_hlo_within Variants.nat (d.tc : Thread nD τ) bd Set.univ (binary_bufs_sub _ _ _ _ _ _ _)) $$ H
  iintro H
  rw [elt_apply, wp_ret]
  imodintro
  isplitr
  · ipureintro
    have hI : (nullary main_while1c_c_23 (constantI S_ 32 9#32) : HloOp τ sig (Elt F)).result (turns cond1 body1 V k) main_v64_6 = fun _ => (BitVec.ofNat 32 k : BitVec 32) := by
      rw [nullary_result_ne _ _ _ _ (by decide), turns1_count h]
    have hC : (nullary main_while1c_c_23 (constantI S_ 32 9#32) : HloOp τ sig (Elt F)).result (turns cond1 body1 V k) main_while1c_c_23 = fun _ => 9#32 := by
      rw [nullary_result]; rfl
    generalize HloOp.result (nullary main_while1c_c_23 (constantI S_ 32 9#32)) (turns cond1 body1 V k) = W at hI hC ⊢
    show IntOp.cmpi .slt ((W (main_v64_6 : DevRef τ sig) : B F S_ .i32) idx0) ((W (main_while1c_c_23 : DevRef τ sig) : B F S_ .i32) idx0) = 1#1 ↔ k < 9
    rw [hI, hC]
    exact count_lt k hk
  · rw [after_cons, after_cons, after_nil]
    iexact H

/-- The states the second loop carries. -/
theorem turns1_states {V : Valuation τ sig (Elt F)} (h6 : V (main_v64_6 : DevRef τ sig) = (constantI S_ 32 0#32 : B F S_ .i32))
    (h1 : V (main_v64_1 : DevRef τ sig) = (iotaInDim S9 32 0 : B F S9 .i32)) (h7 : V (main_v64_7 : DevRef τ sig) = (zeros : B F S12800x128 .f32)) (h8 : V (main_v64_8 : DevRef τ sig) = (zeros : B F S12800x128 .f32)) :
    ∀ k, turns cond1 body1 V k (main_v64_7 : DevRef τ sig) = (statesRef (V (main_v64_0 : DevRef τ sig)) (V (main_v64_2 : DevRef τ sig)) (V (main_v64_3 : DevRef τ sig)) (V (main_v64_4 : DevRef τ sig)) (V (main_v64_5 : DevRef τ sig)) k).1
      ∧ turns cond1 body1 V k (main_v64_8 : DevRef τ sig) = (statesRef (V (main_v64_0 : DevRef τ sig)) (V (main_v64_2 : DevRef τ sig)) (V (main_v64_3 : DevRef τ sig)) (V (main_v64_4 : DevRef τ sig)) (V (main_v64_5 : DevRef τ sig)) k).2
  | 0 => ⟨h7, h8⟩
  | k + 1 => by
    obtain ⟨e7, e8⟩ := turns1_states h6 h1 h7 h8 k
    have e6 := turns1_count h6 k
    have keep : ∀ {r : Ref sig .tc}, r ∉ condOut1 → r ∉ bodyOut1 → turns cond1 body1 V k (r : DevRef τ sig) = V (r : DevRef τ sig) :=
      fun hc hb => turns_keep (fun _ => cond1_keep _ hc) (fun _ => body1_keep _ hb) V k
    rw [turns, body1_hidden, body1_cell]
    simp only [cond1_keep (turns cond1 body1 V k) (r := main_v64_0) (by decide), cond1_keep (turns cond1 body1 V k) (r := main_v64_1) (by decide), cond1_keep (turns cond1 body1 V k) (r := main_v64_2) (by decide),
      cond1_keep (turns cond1 body1 V k) (r := main_v64_3) (by decide), cond1_keep (turns cond1 body1 V k) (r := main_v64_4) (by decide), cond1_keep (turns cond1 body1 V k) (r := main_v64_5) (by decide),
      cond1_keep (turns cond1 body1 V k) (r := main_v64_6) (by decide), cond1_keep (turns cond1 body1 V k) (r := main_v64_7) (by decide), cond1_keep (turns cond1 body1 V k) (r := main_v64_8) (by decide)]
    rw [e6, e7, e8, keep (r := main_v64_0) (by decide) (by decide), keep (r := main_v64_1) (by decide) (by decide), keep (r := main_v64_2) (by decide) (by decide),
      keep (r := main_v64_3) (by decide) (by decide), keep (r := main_v64_4) (by decide) (by decide), keep (r := main_v64_5) (by decide) (by decide), h1]
    exact ⟨rfl, rfl⟩

/-! ## The run -/

/-- The contents after the first loop. -/
def mid (V : Valuation τ sig (Elt F)) : Valuation τ sig (Elt F) := after cond0 (turns cond0 body0 (after line0 V) 9)
/-- The contents after the second loop. -/
def late (V : Valuation τ sig (Elt F)) : Valuation τ sig (Elt F) := after cond1 (turns cond1 body1 (after line1 (mid V)) 9)

theorem mid_keep (V : Valuation τ sig (Elt F)) {r : Ref sig .tc} (hc : r ∉ condOut0) (hb : r ∉ bodyOut0) :
    mid V (r : DevRef τ sig) = after line0 V (r : DevRef τ sig) := by
  rw [mid, cond0_keep _ hc]
  exact turns_keep (fun _ => cond0_keep _ hc) (fun _ => body0_keep _ hb) _ 9
theorem late_keep (V : Valuation τ sig (Elt F)) {r : Ref sig .tc} (hc : r ∉ condOut1) (hb : r ∉ bodyOut1) :
    late V (r : DevRef τ sig) = after line1 (mid V) (r : DevRef τ sig) := by
  rw [late, cond1_keep _ hc]
  exact turns_keep (fun _ => cond1_keep _ hc) (fun _ => body1_keep _ hb) _ 9

/-- What a core ends holding. -/
def ends (m : (ℓ : Loc nD τ sig) → Buf (Elt F) ℓ) (d : Dev nD) : sProp (MU F) :=
  held (d.tc : Thread nD τ) (tcRefs τ sig) (after line2 (late (launchContents m d)))

theorem core_run (m : (ℓ : Loc nD τ sig) → Buf (Elt F) ℓ) (ρ : Dev nD → PrngReg) (d : Dev nD) :
    iprop((bigSep Finset.univ fun b : Ref sig .tc =>
            ((d.tc : Thread nD τ).loc b ↦{fullShare} (⟨m, fun _ => 0, ρ⟩ : MemSt nD τ sig (Elt F)).mem ((d.tc : Thread nD τ).loc b)))
        ∗ owes (d.tc : Thread nD τ) 0 ∅ ∗ prngReg d (ρ d) ∗ opIdle (d.tc : Thread nD τ))
      ⊢ wp frame (wpE defs Variants.nat (d.tc : Thread nD τ) none) Set.univ (main d)
          (fun _ => post (liftTc (ends m) BI.emp) (d.tc : Thread nD τ) : PUnit → sProp (MU F)) := by
  have hheld : (bigSep Finset.univ fun b : Ref sig .tc =>
        ((d.tc : Thread nD τ).loc b ↦{fullShare} (⟨m, fun _ => 0, ρ⟩ : MemSt nD τ sig (Elt F)).mem ((d.tc : Thread nD τ).loc b) : sProp (MU F)))
      = held (d.tc : Thread nD τ) (tcRefs τ sig) (launchContents m d) := by
    unfold held tcRefs; rw [BI.bigSep_map]; rfl
  have hb : (opIdle (d.tc : Thread nD τ) : sProp (MU F)) ⊢ boundary (d.tc : Thread nD τ) :=
    boundary_of_opIdle (d.tc : Thread nD τ) (by rw [scopedRefs_tc, scopedRefs_eq, Finset.map_empty])
      (by rw [show (d.tc : Thread nD τ) = (d, .tc) from rfl, scopedCells_tc, scopedSems_eq, Finset.map_empty])
  rw [hheld, main_eq]
  iintro ⟨Hbufs, HO, -, Hidle⟩
  ihave Hb := hb $$ Hidle
  iapply (wp_seq Variants.nat none Set.univ d (tcRefs τ sig) _ line0 line0_sub line0_fresh (launchContents m d)) $$ [Hb Hbufs]
  · isplitl [Hb]; · iexact Hb
    iexact Hbufs
  iintro H
  iapply (loop_wp d (l := 0) (congrArg (step (0 : Fin 2) main_while0_cond) body0_eq) body0_sub body0_fresh (after line0 (launchContents m d))
    (fun k hk bd => cond0_spec (line0_v48_6 _) d bd k hk))
  isplitl [H]; · iexact H
  iintro H
  iapply (wp_seq Variants.nat none Set.univ d (tcRefs τ sig) _ line1 line1_sub line1_fresh (mid (launchContents m d))) $$ [H]
  · iexact H
  iintro H
  iapply (loop_wp d (l := 1) (congrArg (step (1 : Fin 2) main_while1_cond) body1_eq) body1_sub body1_fresh (after line1 (mid (launchContents m d)))
    (fun k hk bd => cond1_spec (line1_v64_6 _) d bd k hk))
  isplitl [H]; · iexact H
  iintro H
  iapply (wp_seq Variants.nat none Set.univ d (tcRefs τ sig) (fun u => Pure.pure u) line2 line2_sub line2_fresh (late (launchContents m d))) $$ [H]
  · iexact H
  iintro ⟨-, H⟩
  rw [wp_pure]; imodintro
  unfold post ends; simp only [liftTc_tc]
  isplitl [H]; · iexact H
  iexists ∅; iexact HO

theorem ends_read (m : (ℓ : Loc nD τ sig) → Buf (Elt F) ℓ) (d : Dev nD) (s' : Phys nD τ sig (Elt F)) :
    iprop(ends m d ∗ SI s')
      ⊢ (⌜∀ b : Ref sig .tc, s'.mem.mem ((d.tc : Thread nD τ).loc b) = after line2 (late (launchContents m d)) (b : DevRef τ sig)⌝ : sProp (MU F)) := by
  unfold ends held
  iintro ⟨H, HSI⟩
  ihave %h := (SI_pointsTo_bufs_agree (qs := fun _ => fullShare) (tcRefs τ sig)) $$ [HSI H]
  · isplitl [HSI]; · iexact HSI
    iexact H
  ipureintro
  exact fun b => h _ (devRef_mem_tcRefs b)

theorem run_main (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after line2 (late (launchContents m d)) (b : DevRef τ sig) :=
  adequate_tpu defs _ _ _ (reflect_intro_silent_tc (Ix := Unit) (Name := ℕ) (U := Option PUnit) (Lvl := Unit)
    Variants.nat (fun _ => le_rfl) none (ends m)
    (fun d mem => ∀ b : Ref sig .tc, mem.mem ((d.tc : Thread nD τ).loc b) = after line2 (late (launchContents m d)) (b : DevRef τ sig))
    (core_run m ρ) (ends_read m) (fun _ h d => h d))

/-! ## What it leaves -/

/-- A buffer nothing writes ends as it was. -/
theorem all_keep (V : Valuation τ sig (Elt F)) {r : Ref sig .tc} (h : r ∉ lineOut0 ++ condOut0 ++ bodyOut0 ++ lineOut1 ++ condOut1 ++ bodyOut1) :
    late V (r : DevRef τ sig) = V (r : DevRef τ sig) := by
  simp only [List.mem_append, not_or] at h
  obtain ⟨⟨⟨⟨⟨h0, h1⟩, h2⟩, h3⟩, h4⟩, h5⟩ := h
  rw [late_keep V h4 h5, line1_keep _ h3, mid_keep V h1 h2, line0_keep _ h0]

/-- The result. -/
theorem out_eq (V : Valuation τ sig (Elt F)) : after line2 (late V) (main_v72 : DevRef τ sig)
    = result (agg (V (main_arg7 : DevRef τ sig)) (V (main_arg0 : DevRef τ sig)) (V (main_arg3 : DevRef τ sig)))
        (agg (V (main_arg7 : DevRef τ sig)) (V (main_arg2 : DevRef τ sig)) (V (main_arg5 : DevRef τ sig)))
        (finals (V (main_arg8 : DevRef τ sig)) (V (main_arg1 : DevRef τ sig)) (V (main_arg4 : DevRef τ sig))
          (V (main_arg9 : DevRef τ sig)) (V (main_arg10 : DevRef τ sig)) (V (main_arg11 : DevRef τ sig))
          (V (main_arg12 : DevRef τ sig)) (V (main_arg13 : DevRef τ sig)) (V (main_arg14 : DevRef τ sig)))
        (V (main_arg6 : DevRef τ sig)) (V (main_arg15 : DevRef τ sig)) := by
  have m0 : ∀ {r : Ref sig .tc}, r ∉ lineOut0 → r ∉ condOut0 → r ∉ bodyOut0 → mid V (r : DevRef τ sig) = V (r : DevRef τ sig) :=
    fun h h' h'' => (mid_keep V h' h'').trans (line0_keep V h)
  have f48 : late V (main_v48_7 : DevRef τ sig) = _ :=
    (late_keep V (by decide) (by decide)).trans <| (line1_keep _ (by decide)).trans <|
      (cond0_keep _ (by decide)).trans (turns0_states (line0_v48_6 V) (line0_v48_1 V) (line0_v48_7 V) (line0_v48_8 V) 9).1
  have f64 : late V (main_v64_7 : DevRef τ sig) = _ :=
    (cond1_keep _ (by decide)).trans (turns1_states (line1_v64_6 (mid V)) (line1_v64_1 (mid V)) (line1_v64_7 (mid V)) (line1_v64_8 (mid V)) 9).1
  rw [line2_v72, f48, f64, all_keep V (r := main_arg6) (by decide), all_keep V (r := main_arg15) (by decide),
    late_keep V (r := main_v38) (by decide) (by decide), line1_keep _ (r := main_v38) (by decide), mid_keep V (r := main_v38) (by decide) (by decide), line0_v38,
    late_keep V (r := main_v41) (by decide) (by decide), line1_keep _ (r := main_v41) (by decide), mid_keep V (r := main_v41) (by decide) (by decide), line0_v41,
    line1_v64_0, line1_v64_2, line1_v64_3, line1_v64_4, line1_v64_5,
    mid_keep V (r := main_v42) (by decide) (by decide), line0_v42, mid_keep V (r := main_v43) (by decide) (by decide), line0_v43,
    m0 (r := main_arg12) (by decide) (by decide) (by decide), m0 (r := main_arg13) (by decide) (by decide) (by decide), m0 (r := main_arg14) (by decide) (by decide) (by decide),
    line0_v48_0, line0_v48_2, line0_v48_3, line0_v48_4, line0_v48_5]
  rfl

/-- The arguments after the run are as before it. -/
theorem args_eq (m : (ℓ : Loc nD τ sig) → Buf (Elt F) ℓ) (M : (ℓ : Loc nD τ sig) → Buf (Elt F) ℓ) (c : Dev nD)
    (h : ∀ b : Ref sig .tc, M ((c.tc : Thread nD τ).loc b) = after line2 (late (launchContents m c)) (b : DevRef τ sig)) :
    M ((c.tc : Thread nD τ).loc main_arg0) = m ((c.tc : Thread nD τ).loc main_arg0) ∧
    M ((c.tc : Thread nD τ).loc main_arg1) = m ((c.tc : Thread nD τ).loc main_arg1) ∧
    M ((c.tc : Thread nD τ).loc main_arg2) = m ((c.tc : Thread nD τ).loc main_arg2) ∧
    M ((c.tc : Thread nD τ).loc main_arg3) = m ((c.tc : Thread nD τ).loc main_arg3) ∧
    M ((c.tc : Thread nD τ).loc main_arg4) = m ((c.tc : Thread nD τ).loc main_arg4) ∧
    M ((c.tc : Thread nD τ).loc main_arg5) = m ((c.tc : Thread nD τ).loc main_arg5) ∧
    M ((c.tc : Thread nD τ).loc main_arg6) = m ((c.tc : Thread nD τ).loc main_arg6) ∧
    M ((c.tc : Thread nD τ).loc main_arg7) = m ((c.tc : Thread nD τ).loc main_arg7) ∧
    M ((c.tc : Thread nD τ).loc main_arg8) = m ((c.tc : Thread nD τ).loc main_arg8) ∧
    M ((c.tc : Thread nD τ).loc main_arg9) = m ((c.tc : Thread nD τ).loc main_arg9) ∧
    M ((c.tc : Thread nD τ).loc main_arg10) = m ((c.tc : Thread nD τ).loc main_arg10) ∧
    M ((c.tc : Thread nD τ).loc main_arg11) = m ((c.tc : Thread nD τ).loc main_arg11) ∧
    M ((c.tc : Thread nD τ).loc main_arg12) = m ((c.tc : Thread nD τ).loc main_arg12) ∧
    M ((c.tc : Thread nD τ).loc main_arg13) = m ((c.tc : Thread nD τ).loc main_arg13) ∧
    M ((c.tc : Thread nD τ).loc main_arg14) = m ((c.tc : Thread nD τ).loc main_arg14) ∧
    M ((c.tc : Thread nD τ).loc main_arg15) = m ((c.tc : Thread nD τ).loc main_arg15) := by
  have k : ∀ {r : Ref sig .tc}, r ∉ lineOut2 → r ∉ lineOut0 ++ condOut0 ++ bodyOut0 ++ lineOut1 ++ condOut1 ++ bodyOut1 →
      M ((c.tc : Thread nD τ).loc r) = m ((c.tc : Thread nD τ).loc r) :=
    fun {r} h2 h' => (h r).trans ((line2_keep _ h2).trans (all_keep _ h'))
  refine ⟨?_, ?_, ?_, ?_, ?_, ?_, ?_, ?_, ?_, ?_, ?_, ?_, ?_, ?_, ?_, ?_⟩ <;> exact k (by decide) (by decide)

/-- `Cert.quiescent_ReferenceIdeal`: no operation writes an argument, and the program has no semaphore. -/
theorem frame : Cert.quiescent_ReferenceIdeal := fun m g _ =>
  (θ_run defs _ _).mono (fun r h => ⟨fun c => args_eq m r.2.mem c (h c), Idealize.ShloMosaic.sem_eq_zero_of_no_sems (by decide) r.2⟩) (run_main m g)

/-- `Cert.quiescent_ReferenceIdeal_pre_in_range`. -/
theorem frame_pre : Cert.quiescent_ReferenceIdeal_pre_in_range := fun m g _ => frame m g trivial

end Cert.ReferenceIdeal.Rows

end
-- ==== Proof.Recur.lean ====
/-
  The recurrence of one row, as the reference states it, and the arithmetic by which the kernel's step is the reference's:
  the kernel scales three of the four gates' arguments by a half beforehand and takes tangents, where the reference takes
  the logistic function.
-/
module

public import proofs.«01_k».proof.Proof.KernelIdeal.LstmRegion
public import Idealize.ShloMosaic.Lib.Pointwise

@[expose] public section

noncomputable section

namespace Cert.Equal

open Cert.KernelIdeal Cert.KernelIdeal.Gen
open Idealize.ShloMosaic

/-! ## Scalars -/

/-- One half. -/
abbrev half : EReal := ((1 / 2 : ℝ) : EReal)

theorem ofBits_half : Ideal.ofBits .f32 0x3F000000#32 = half := by
  simp [Ideal.ofBits, Ideal.ieee, half, -EReal.coe_mul]; norm_num

/-- A half distributes over a sum, whatever its terms. -/
theorem half_add (x y : EReal) : half * (x + y) = half * x + half * y :=
  EReal.left_distrib_of_nonneg_of_ne_top (by show (0 : EReal) ≤ ((1 / 2 : ℝ) : EReal); exact_mod_cast (by norm_num : (0 : ℝ) ≤ 1 / 2)) (EReal.coe_ne_top _) x y

/-- A tangent is a real. -/
theorem tanh_real (x : EReal) : ∃ r : ℝ, Ideal.tanh x = r := by
  induction x with
  | bot => exact ⟨-1, by simp⟩
  | top => exact ⟨1, by simp⟩
  | coe r => exact ⟨Real.tanh r, rfl⟩

/-- The logistic function is half of one plus the tangent of half the argument. -/
theorem logistic_tanh (x : EReal) : Ideal.logistic x = half * (1 + Ideal.tanh (half * x)) := by
  induction x with
  | bot =>
    rw [EReal.coe_mul_bot_of_pos (by norm_num), Ideal.tanh_bot, Ideal.logistic_bot]
    show (0 : EReal) = ((1 / 2 : ℝ) : EReal) * (((1 : ℝ) : EReal) + (((-1 : ℝ)) : EReal))
    rw [← EReal.coe_add, ← EReal.coe_mul]; norm_num
  | top =>
    rw [EReal.coe_mul_top_of_pos (by norm_num), Ideal.tanh_top, Ideal.logistic_top]
    show ((1 : ℝ) : EReal) = ((1 / 2 : ℝ) : EReal) * (((1 : ℝ) : EReal) + ((1 : ℝ) : EReal))
    rw [← EReal.coe_add, ← EReal.coe_mul]; norm_num
  | coe r =>
    rw [Ideal.logistic_coe, ← EReal.coe_mul, Ideal.tanh_coe]
    show _ = ((1 / 2 : ℝ) : EReal) * (((1 : ℝ) : EReal) + _)
    rw [← EReal.coe_add, ← EReal.coe_mul, EReal.coe_eq_coe_iff, Real.tanh_eq_sinh_div_cosh, Real.sinh_eq, Real.cosh_eq]
    have h : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    have p := Real.exp_pos (1 / 2 * r)
    have q := Real.exp_pos (-(1 / 2 * r))
    rw [h]
    set a := Real.exp (1 / 2 * r)
    set b := Real.exp (-(1 / 2 * r))
    have hs : (a + b) / 2 ≠ 0 := by positivity
    have hq : 1 + b * b ≠ 0 := by positivity
    field_simp
    ring_nf
    nlinarith [h2]

/-- The kernel's cell state is the reference's, the old one a real. -/
theorem cell_eq (i f g : EReal) (c : ℝ) :
    half * (((c : EReal) + Ideal.tanh g) + (Ideal.tanh (half * f) * c + Ideal.tanh (half * i) * Ideal.tanh g))
      = Ideal.logistic f * c + Ideal.logistic i * Ideal.tanh g := by
  rw [logistic_tanh, logistic_tanh]
  obtain ⟨a, ha⟩ := tanh_real (half * f)
  obtain ⟨b, hb⟩ := tanh_real (half * i)
  obtain ⟨t, ht⟩ := tanh_real g
  rw [ha, hb, ht, show (1 : EReal) = ((1 : ℝ) : EReal) from rfl]
  simp only [half, ← EReal.coe_add, ← EReal.coe_mul, EReal.coe_eq_coe_iff]
  ring

/-- A cell state is a real. -/
theorem cell_real (i f g : EReal) (c : ℝ) : ∃ r : ℝ, Ideal.logistic f * c + Ideal.logistic i * Ideal.tanh g = r := by
  rw [logistic_tanh, logistic_tanh]
  obtain ⟨a, ha⟩ := tanh_real (half * f)
  obtain ⟨b, hb⟩ := tanh_real (half * i)
  obtain ⟨t, ht⟩ := tanh_real g
  rw [ha, hb, ht, show (1 : EReal) = ((1 : ℝ) : EReal) from rfl]
  simp only [half, ← EReal.coe_add, ← EReal.coe_mul]
  exact ⟨_, rfl⟩

/-- The kernel's hidden state is the reference's. -/
theorem hidden_eq (o x : EReal) : half * (Ideal.tanh x + Ideal.tanh (half * o) * Ideal.tanh x) = Ideal.logistic o * Ideal.tanh x := by
  rw [logistic_tanh]
  obtain ⟨a, ha⟩ := tanh_real (half * o)
  obtain ⟨t, ht⟩ := tanh_real x
  rw [ha, ht, show (1 : EReal) = ((1 : ℝ) : EReal) from rfl]
  simp only [half, ← EReal.coe_add, ← EReal.coe_mul, EReal.coe_eq_coe_iff]
  ring

/-! ## One row's recurrence -/

/-- A row of lanes. -/
abbrev Lanes := Fin 128 → EReal

/-- A gate's argument: the row times the input weights' column, the hidden state times the recurrent weights' column, the bias. -/
def gate (wx wh : S128x512.Idx → EReal) (b : Fin 512 → EReal) (x h : Lanes) (q : Fin 512) : EReal :=
  (∑ k, x k * wx (ix2 k q)) + (∑ k, h k * wh (ix2 k q)) + b q

/-- The new cell state from the gates' arguments. -/
def cellRow (z : Fin 512 → EReal) (c : Lanes) : Lanes := fun e =>
  Ideal.logistic (z ⟨128 + e.val, by omega⟩) * c e + Ideal.logistic (z ⟨e.val, by omega⟩) * Ideal.tanh (z ⟨256 + e.val, by omega⟩)

/-- The new hidden state. -/
def hiddenRow (z : Fin 512 → EReal) (c : Lanes) : Lanes := fun e => Ideal.logistic (z ⟨384 + e.val, by omega⟩) * Ideal.tanh (cellRow z c e)

/-- The hidden and the cell state after the first turns, a turn taken where `keep` says so. -/
def runRow (z : Lanes → Lanes → Fin 512 → EReal) (keep : ℕ → Prop) [DecidablePred keep] (x : ℕ → Lanes) : ℕ → Lanes × Lanes
  | 0 => (fun _ => 0, fun _ => 0)
  | k + 1 =>
    let s := runRow z keep x k
    if keep k then (hiddenRow (z (x k) s.1) s.2, cellRow (z (x k) s.1) s.2) else s

variable (z : Lanes → Lanes → Fin 512 → EReal) (keep keep' : ℕ → Prop) [DecidablePred keep] [DecidablePred keep'] (x x' : ℕ → Lanes)

/-- The cell states of a row are reals. -/
theorem runRow_real (k : ℕ) (e : Fin 128) : ∃ r : ℝ, (runRow z keep x k).2 e = r := by
  induction k with
  | zero => exact ⟨0, rfl⟩
  | succ k ih =>
    obtain ⟨r, hr⟩ := ih
    rw [runRow]
    by_cases h : keep k
    · simp only [if_pos h]
      show ∃ s : ℝ, _ * (runRow z keep x k).2 e + _ = (s : EReal)
      rw [hr]
      exact cell_real _ _ _ r
    · simp only [if_neg h]
      exact ⟨r, hr⟩

/-- Turns that are not taken leave the state. -/
theorem runRow_skip (k d : ℕ) (h : ∀ i, k ≤ i → i < k + d → ¬ keep i) : runRow z keep x (k + d) = runRow z keep x k := by
  induction d with
  | zero => rfl
  | succ d ih =>
    rw [show k + (d + 1) = (k + d) + 1 from rfl, runRow]
    simp only [if_neg (h (k + d) (by omega) (by omega))]
    exact ih fun i h1 h2 => h i h1 (by omega)

/-- Two runs that take the same turns over the same rows, the one some turns after the other, go the same way. -/
theorem runRow_shift (a n : ℕ) (h0 : runRow z keep x a = runRow z keep' x' 0) (hk : ∀ i, i < n → (keep (a + i) ↔ keep' i)) (hx : ∀ i, i < n → x (a + i) = x' i) :
    runRow z keep x (a + n) = runRow z keep' x' n := by
  induction n with
  | zero => exact h0
  | succ n ih =>
    have e := ih (fun i hi => hk i (by omega)) (fun i hi => hx i (by omega))
    rw [show a + (n + 1) = (a + n) + 1 from rfl, runRow, runRow, e, hx n (by omega)]
    by_cases h : keep' n
    · simp only [if_pos h, if_pos ((hk n (by omega)).mpr h)]
    · simp only [if_neg h, if_neg (fun g => h ((hk n (by omega)).mp g))]

/-- Two runs over the same rows go the same way. -/
theorem runRow_congr (n : ℕ) (hx : ∀ i, i < n → x i = x' i) : runRow z keep x n = runRow z keep x' n := by
  induction n with
  | zero => rfl
  | succ n ih => rw [runRow, runRow, ih fun i hi => hx i (by omega), hx n (by omega)]

/-- Nine turns from the last place down to the first, each taken where its place lies on the path, are the turns over the
    path's places in the order mirrored within the path. -/
theorem runRow_back (L : ℕ) (hL : L ≤ 9) (hx : ∀ t, t < L → x' t = x (L - 1 - t)) :
    runRow z (fun t => 8 - t < L) (fun t => x (8 - t)) 9 = runRow z (fun t => t < L) x' 9 := by
  have e1 : runRow z (fun t => t < L) x' 9 = runRow z (fun t => t < L) x' L := by
    have := runRow_skip z (fun t => t < L) x' L (9 - L) (fun i h1 _ => by omega)
    rwa [show L + (9 - L) = 9 by omega] at this
  rw [e1]
  have e2 := runRow_shift z (fun t => 8 - t < L) (fun t => t < L) (fun t => x (8 - t)) x' (9 - L) L
    (by
      have := runRow_skip z (fun t => 8 - t < L) (fun t => x (8 - t)) 0 (9 - L) (fun i _ h2 => by omega)
      rw [Nat.zero_add] at this
      exact this)
    (fun i hi => by constructor <;> intro _ <;> omega)
    (fun i hi => by rw [hx i hi]; exact congrArg x (by omega))
  rwa [show 9 - L + L = 9 by omega] at e2

end Cert.Equal

end
-- ==== Proof.Reference.Value.lean ====
/-
  The reference's result at an element: the tanh of a product's entry, whose row is a source sum, a masked state and a target
  sum. A sum at an element is six table rows' entries, each weighted by one where its position lies below the row's length and
  by zero elsewhere. A row's states are those of its own recurrence, over the nodes' table rows along its path: in the path's
  order, and mirrored within the path.
-/
module

public import proofs.«01_k».proof.Proof.Reference.Run
public import proofs.«01_k».proof.Proof.Recur
public import Idealize.ShloMosaic.Lib.Pointwise

@[expose] public section

noncomputable section

namespace Cert.ReferenceIdeal.Rows

open Idealize.ShloMosaic Cert.Equal
open Cert.ReferenceIdeal Cert.ReferenceIdeal.Gen

/-- The gather at an element: the table's row at the start index, read signed and held to the table. -/
theorem gather_at {α : Type} (x : S100000x128.Idx → α) (idx : IVec S64x200x6x1 32) (b : Fin 64) (l : Fin 200) (k : Fin 6) (e : Fin 128) :
    Host.gather gather_S100000x128_S64x200x6x1_S64x200x6x128_3_0_n_n_0_3_1128 x idx (ix4 b l k e)
      = x (ix2 (⟨min (idx (ix4 b l k 0)).toInt.toNat 99999, by omega⟩ : Fin 100000) e) := by
  let G := gather_S100000x128_S64x200x6x1_S64x200x6x128_3_0_n_n_0_3_1128
  unfold Host.gather
  congr 1
  funext a
  refine Fin.ext ?_
  show G.start (ix4 b l k e) idx a + G.batchCoord (ix4 b l k e) a + G.offCoord (ix4 b l k e) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ G.startIndexMap from List.mem_singleton.mpr rfl)]
    have hsi : G.siIdx (ix4 b l k e) ⟨List.idxOf (0 : Fin 2) G.startIndexMap, List.idxOf_lt_length_iff.2 (List.mem_singleton.mpr rfl)⟩
        = ix4 b l k 0 := by
      funext c; refine Fin.ext ?_
      match c with
      | ⟨0, _⟩ => rfl
      | ⟨1, _⟩ => rfl
      | ⟨2, _⟩ => rfl
      | ⟨3, _⟩ => rfl
    rw [hsi]
    rfl
  · unfold GatherDims.start
    rw [dif_neg (show (1 : Fin 2) ∉ G.startIndexMap by decide)]
    simp only [Nat.zero_add]
    unfold GatherDims.offCoord
    rw [dif_pos (show (1 : Fin 2) ∈ G.sKept by decide)]
    rfl

/-- The word an index below the table's length selects is the index itself. -/
theorem start_word (w : BitVec 32) (h : w.toNat < 100000) :
    min (Scalar.select (IntOp.cmpi .slt w 0#32) (IntOp.addi w 100000#32) w).toInt.toNat 99999 = w.toNat := by
  have h0 : ¬ w.toInt < (0#32 : BitVec 32).toInt := by
    rw [BitVec.toInt_eq_toNat_cond]; simp; omega
  have hc : IntOp.cmpi .slt w 0#32 = 0#1 := by
    rcases BitVec.eq_zero_or_eq_one (IntOp.cmpi .slt w 0#32) with e | e
    · exact e
    · exact absurd (IntOp.cmpi_slt.1 e) h0
  rw [hc, ValueIdx.select_zero, BitVec.toInt_eq_toNat_cond]
  simp; omega

/-- The weight of a position in a row of a length. -/
def weight (k : Fin 6) (len : BitVec 32) : Ideal .f32 := FloatOps.uitofp .f32 (IntOp.cmpi .slt (BitVec.ofNat 32 k.val) len)

/-- A row's weighted sum at an element, its indices naming rows of the table. -/
theorem agg_at (table : S100000x128.Idx → Ideal .f32) (idx : S64x200x6.Idx → BitVec 32) (len : S64x200.Idx → BitVec 32)
    (hidx : ∀ j, (idx j).toNat < 100000) (b : Fin 64) (l : Fin 200) (e : Fin 128) :
    agg (F := Ideal) table idx len (ix3 b l e)
      = ∑ k : Fin 6, table (ix2 (⟨(idx (ix3 b l k)).toNat, hidx _⟩ : Fin 100000) e) * weight k (len (ix2 b l)) := by
  pointwise [agg, starts, below, gather_at]
  refine Finset.sum_congr rfl fun k _ => ?_
  simp only [start_word _ (hidx _)]
  rfl

/-- The masked states at an element. -/
theorem node_at (h : S12800x256.Idx → Ideal .f32) (v : S64x200.Idx → Ideal .f32) (b : Fin 64) (l : Fin 200) (k : Fin 256) :
    node (F := Ideal) h v (ix3 b l k) = h (ix2 (⟨b.val * 200 + l.val, by omega⟩ : Fin 12800) k) * v (ix2 b l) := by
  pointwise [node]

/-- A row's elements. -/
theorem rows_at (s t : S64x200x128.Idx → Ideal .f32) (n : S64x200x256.Idx → Ideal .f32) (b : Fin 64) (l : Fin 200) (k : Fin 512) :
    concatenate S64x200x512 2 [⟨S64x200x128, s⟩, ⟨S64x200x256, n⟩, ⟨S64x200x128, t⟩]
        concatenates_S64x200x128_S64x200x256_S64x200x128_S64x200x512_d2 (ix3 b l k)
      = if h1 : k.val < 128 then s (ix3 b l ⟨k.val, h1⟩)
        else if h2 : k.val - 128 < 256 then n (ix3 b l ⟨k.val - 128, by omega⟩)
        else t (ix3 b l ⟨k.val - 128 - 256, by omega⟩) := by
  pointwise

/-- The result at an element. -/
theorem result_at (s t : S64x200x128.Idx → Ideal .f32) (h : S12800x256.Idx → Ideal .f32) (v : S64x200.Idx → Ideal .f32)
    (w : S512x512.Idx → Ideal .f32) (b : Fin 64) (l : Fin 200) (n : Fin 512) :
    result (F := Ideal) s t h v w (ix3 b l n) = Ideal.tanh (∑ k : Fin 512, (if h1 : k.val < 128 then s (ix3 b l ⟨k.val, h1⟩)
        else if h2 : k.val - 128 < 256 then node h v (ix3 b l ⟨k.val - 128, by omega⟩)
        else t (ix3 b l ⟨k.val - 128 - 256, by omega⟩)) * w (ix2 k n)) := by
  simp only [← rows_at]
  pointwise [result]

/-! ## The paths -/

/-- The nodes' gather at an element. -/
theorem node_gather_at {α : Type} (x : S512x128.Idx → α) (idx : IVec S64x200x9x1 32) (b : Fin 64) (l : Fin 200) (k : Fin 9) (e : Fin 128) :
    Host.gather gather_S512x128_S64x200x9x1_S64x200x9x128_3_0_n_n_0_3_1128 x idx (ix4 b l k e)
      = x (ix2 (⟨min (idx (ix4 b l k 0)).toInt.toNat 511, by omega⟩ : Fin 512) e) := by
  let G := gather_S512x128_S64x200x9x1_S64x200x9x128_3_0_n_n_0_3_1128
  unfold Host.gather
  congr 1
  funext a
  refine Fin.ext ?_
  show G.start (ix4 b l k e) idx a + G.batchCoord (ix4 b l k e) a + G.offCoord (ix4 b l k e) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ G.startIndexMap from List.mem_singleton.mpr rfl)]
    have hsi : G.siIdx (ix4 b l k e) ⟨List.idxOf (0 : Fin 2) G.startIndexMap, List.idxOf_lt_length_iff.2 (List.mem_singleton.mpr rfl)⟩
        = ix4 b l k 0 := by
      funext c; refine Fin.ext ?_
      match c with
      | ⟨0, _⟩ => rfl
      | ⟨1, _⟩ => rfl
      | ⟨2, _⟩ => rfl
      | ⟨3, _⟩ => rfl
    rw [hsi]
    rfl
  · unfold GatherDims.start
    rw [dif_neg (show (1 : Fin 2) ∉ G.startIndexMap by decide)]
    simp only [Nat.zero_add]
    unfold GatherDims.offCoord
    rw [dif_pos (show (1 : Fin 2) ∈ G.sKept by decide)]
    rfl

/-- The word a node's index selects is the index itself. -/
theorem node_word (w : BitVec 32) (h : w.toNat < 512) :
    min (Scalar.select (IntOp.cmpi .slt w 0#32) (IntOp.addi w 512#32) w).toInt.toNat 511 = w.toNat := by
  have h0 : ¬ w.toInt < (0#32 : BitVec 32).toInt := by
    rw [BitVec.toInt_eq_toNat_cond]; simp; omega
  have hc : IntOp.cmpi .slt w 0#32 = 0#1 := by
    rcases BitVec.eq_zero_or_eq_one (IntOp.cmpi .slt w 0#32) with e | e
    · exact e
    · exact absurd (IntOp.cmpi_slt.1 e) h0
  rw [hc, ValueIdx.select_zero, BitVec.toInt_eq_toNat_cond]
  simp; omega

/-- A path's row at a place. -/
theorem paths_at (emb : S512x128.Idx → Ideal .f32) (idx : S64x200x9.Idx → BitVec 32) (hidx : ∀ j, (idx j).toNat < 512) (r : Fin 12800) (t : Fin 9) (e : Fin 128) :
    paths (F := Ideal) emb idx (ix3 r t e)
      = emb (ix2 (⟨(idx (ix3 (⟨r.val / 200, by omega⟩ : Fin 64) (⟨r.val % 200, by omega⟩ : Fin 200) t)).toNat, hidx _⟩ : Fin 512) e) := by
  pointwise [paths, node_gather_at]
  simp only [node_word _ (hidx _)]

/-- The gather along the paths at an element. -/
theorem path_gather_at {α : Type} (x : S12800x9x128.Idx → α) (idx : IVec S12800x9x1 32) (r : Fin 12800) (t : Fin 9) (e : Fin 128) :
    Host.gather gather_S12800x9x128_S12800x9x1_S12800x9x128_2_1_0_0_1_2_11128 x idx (ix3 r t e)
      = x (ix3 r (⟨min (idx (ix3 r t 0)).toInt.toNat 8, by omega⟩ : Fin 9) e) := by
  let G := gather_S12800x9x128_S12800x9x1_S12800x9x128_2_1_0_0_1_2_11128
  unfold Host.gather
  congr 1
  funext a
  refine Fin.ext ?_
  show G.start (ix3 r t e) idx a + G.batchCoord (ix3 r t e) a + G.offCoord (ix3 r t e) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start GatherDims.offCoord GatherDims.batchCoord
    rw [dif_neg (show (0 : Fin 3) ∉ G.startIndexMap by decide), dif_neg (show (0 : Fin 3) ∉ G.sKept by decide),
      dif_pos (show (0 : Fin 3) ∈ G.operandBatchingDims by decide)]
    simp only [Nat.zero_add, Nat.add_zero]
    rfl
  · rw [GatherDims.batchCoord_eq_zero _ _ _ (show (1 : Fin 3) ∉ G.operandBatchingDims by decide)]
    unfold GatherDims.start GatherDims.offCoord
    rw [dif_pos (show (1 : Fin 3) ∈ G.startIndexMap from List.mem_singleton.mpr rfl), dif_neg (show (1 : Fin 3) ∉ G.sKept by decide)]
    have hsi : G.siIdx (ix3 r t e) ⟨List.idxOf (1 : Fin 3) G.startIndexMap, List.idxOf_lt_length_iff.2 (List.mem_singleton.mpr rfl)⟩
        = ix3 r t 0 := by
      funext c; refine Fin.ext ?_
      match c with
      | ⟨0, _⟩ => rfl
      | ⟨1, _⟩ => rfl
      | ⟨2, _⟩ => rfl
    simp only [Nat.add_zero]
    rw [hsi]
    rfl
  · rw [GatherDims.batchCoord_eq_zero _ _ _ (show (2 : Fin 3) ∉ G.operandBatchingDims by decide)]
    unfold GatherDims.start GatherDims.offCoord
    rw [dif_neg (show (2 : Fin 3) ∉ G.startIndexMap by decide), dif_pos (show (2 : Fin 3) ∈ G.sKept by decide)]
    simp only [Nat.zero_add, Nat.add_zero]
    rfl

/-- A path's row at a place given by a word that lies on the path. -/
theorem taken_at (x : S12800x9x128.Idx → Ideal .f32) (ix : S12800x9x1.Idx → BitVec 32) (r : Fin 12800) (t p : Fin 9) (e : Fin 128)
    (h : wrapped ix (ix3 r t 0) = BitVec.ofNat 32 p.val) : taken (F := Ideal) x ix (ix3 r t e) = x (ix3 r p e) := by
  have hp : ∀ p : Fin 9, IntOp.andi (IntOp.andi (IntOp.cmpi .sge (BitVec.ofNat 32 p.val) 0#32) (IntOp.cmpi .sle (BitVec.ofNat 32 p.val) 8#32)) 1#1 = 1#1
      ∧ min (BitVec.ofNat 32 p.val).toInt.toNat 8 = p.val := by decide
  pointwise [taken, path_gather_at]
  rw [Finset.univ_unique, Finset.fold_singleton]
  show Scalar.select (IntOp.andi (IntOp.andi (IntOp.cmpi .sge (wrapped ix (ix3 r t 0)) 0#32) (IntOp.cmpi .sle (wrapped ix (ix3 r t 0)) 8#32)) 1#1) _ _ = _
  simp only [h, (hp p).1, (hp p).2]
  exact ValueIdx.select_one _ _

/-- The place a place is mirrored to, as a word. -/
def mirrorWord (w t : BitVec 32) : BitVec 32 := IntOp.minsi 8#32 (IntOp.maxsi 0#32 (IntOp.subi (IntOp.subi w 1#32) t))

theorem mirror_word : ∀ (L : Fin 10) (t : Fin 9), t.val < L.val →
    Scalar.select (IntOp.cmpi .slt (mirrorWord (BitVec.ofNat 32 L.val) (BitVec.ofNat 32 t.val)) 0#32)
      (IntOp.addi (mirrorWord (BitVec.ofNat 32 L.val) (BitVec.ofNat 32 t.val)) 9#32) (mirrorWord (BitVec.ofNat 32 L.val) (BitVec.ofNat 32 t.val))
      = BitVec.ofNat 32 (L.val - 1 - t.val) := by decide +kernel

/-- A path's row mirrored within the path. -/
theorem mirrored_at (x : S12800x9x128.Idx → Ideal .f32) (len : S12800.Idx → BitVec 32) (r : Fin 12800) (t : Fin 9) (e : Fin 128)
    (hl : (len (ix1 r)).toNat ≤ 9) (h : t.val < (len (ix1 r)).toNat) :
    taken (F := Ideal) x (mirror len) (ix3 r t e) = x (ix3 r (⟨(len (ix1 r)).toNat - 1 - t.val, by omega⟩ : Fin 9) e) := by
  refine taken_at x (mirror len) r t ⟨_, by omega⟩ e ?_
  have hw := mirror_word ⟨(len (ix1 r)).toNat, by omega⟩ t h
  rw [show BitVec.ofNat 32 (len (ix1 r)).toNat = len (ix1 r) from BitVec.ofNat_toNat _ _ |>.trans (BitVec.setWidth_eq _)] at hw
  refine Eq.trans ?_ hw
  pointwise [wrapped, mirror]
  rfl

/-! ## The recurrence -/

/-- A counter's slice starts at the counter. -/
theorem start_at : ∀ k : Fin 9, Host.clampedStart S9 S1 rfl (fun _ => (BitVec.ofNat 32 k.val).toInt) 0 = k.val := by decide +kernel

/-- Every path's row at a counter. -/
theorem rowsOf_at (xs : S9x12800x128.Idx → Ideal .f32) (k : Fin 9) (r : Fin 12800) (e : Fin 128) :
    rowsOf (F := Ideal) xs (fun _ => BitVec.ofNat 32 k.val) (ix2 r e) = xs (ix3 k r e) := by
  pointwise [rowsOf]
  refine congrArg xs ?_
  funext a
  refine Fin.ext ?_
  match a with
  | ⟨0, _⟩ => exact start_at k
  | ⟨1, _⟩ => exact Nat.zero_add _
  | ⟨2, _⟩ => exact Nat.zero_add _

theorem preact_at (x h : S12800x128.Idx → Ideal .f32) (wx wh : S128x512.Idx → Ideal .f32) (b : S512.Idx → Ideal .f32) (r : Fin 12800) (q : Fin 512) :
    preact (F := Ideal) x h wx wh b (ix2 r q) = gate wx wh (fun q => b (ix1 q)) (fun e => x (ix2 r e)) (fun e => h (ix2 r e)) q := by
  pointwise [preact]
  rfl

theorem cellRef_at (g : S12800x512.Idx → Ideal .f32) (c : S12800x128.Idx → Ideal .f32) (r : Fin 12800) (e : Fin 128) :
    cellRef (F := Ideal) g c (ix2 r e) = cellRow (fun q => g (ix2 r q)) (fun e => c (ix2 r e)) e := by
  pointwise [cellRef, sigm]
  rfl

theorem hiddenRef_at (g : S12800x512.Idx → Ideal .f32) (c : S12800x128.Idx → Ideal .f32) (r : Fin 12800) (e : Fin 128) :
    hiddenRef (F := Ideal) g c (ix2 r e) = hiddenRow (fun q => g (ix2 r q)) (fun e => c (ix2 r e)) e := by
  unfold hiddenRow
  rw [← cellRef_at]
  pointwise [hiddenRef, sigm]
  rfl

/-- A place against a length, as words and as numbers. -/
theorem place_lt : ∀ (L : Fin 10) (k : Fin 9), IntOp.cmpi .slt (BitVec.ofNat 32 k.val) (BitVec.ofNat 32 L.val) = if k.val < L.val then 1#1 else 0#1 := by
  decide +kernel

theorem keepRef_at (len : S12800.Idx → BitVec 32) (k : Fin 9) (new old : S12800x128.Idx → Ideal .f32) (r : Fin 12800) (e : Fin 128) (hl : (len (ix1 r)).toNat ≤ 9) :
    keepRef (F := Ideal) len (placeAt (iotaInDim S9 32 0) fun _ => BitVec.ofNat 32 k.val) new old (ix2 r e)
      = if k.val < (len (ix1 r)).toNat then new (ix2 r e) else old (ix2 r e) := by
  pointwise [keepRef, placeAt]
  have hw := place_lt ⟨(len (ix1 r)).toNat, by omega⟩ k
  rw [show BitVec.ofNat 32 (len (ix1 r)).toNat = len (ix1 r) from BitVec.ofNat_toNat _ _ |>.trans (BitVec.setWidth_eq _)] at hw
  rw [start_at k, hw]
  by_cases h : k.val < (len (ix1 r)).toNat
  · simp only [if_pos h]; exact ValueIdx.select_one _ _
  · simp only [if_neg h]; exact ValueIdx.select_zero _ _

/-- A row's states are those of its own recurrence. -/
theorem states_at (xs : S9x12800x128.Idx → Ideal .f32) (wx wh : S128x512.Idx → Ideal .f32) (b : S512.Idx → Ideal .f32) (len : S12800.Idx → BitVec 32)
    (r : Fin 12800) (hl : (len (ix1 r)).toNat ≤ 9) : ∀ k, k ≤ 9 →
    ((fun e => (statesRef (F := Ideal) xs wx wh b len k).1 (ix2 r e), fun e => (statesRef (F := Ideal) xs wx wh b len k).2 (ix2 r e)) : Lanes × Lanes)
      = runRow (gate wx wh fun q => b (ix1 q)) (fun t => t < (len (ix1 r)).toNat) (fun t e => if h : t < 9 then xs (ix3 (⟨t, h⟩ : Fin 9) r e) else 0) k
  | 0, _ => by
    have hz : ∀ e : Fin 128, (zeros : S12800x128.Idx → Ideal .f32) (ix2 r e) = 0 := fun e => by pointwise [zeros]
    rw [runRow, statesRef]
    simp only [hz]
  | k + 1, hk => by
    have ih := states_at xs wx wh b len r hl k (by omega)
    obtain ⟨ih1, ih2⟩ := Prod.mk.inj ih
    rw [runRow, statesRef, ← ih]
    have hx : (fun e => if h : k < 9 then xs (ix3 (⟨k, h⟩ : Fin 9) r e) else 0) = fun e => rowsOf (F := Ideal) xs (fun _ => BitVec.ofNat 32 k) (ix2 r e) := by
      funext e
      rw [dif_pos (show k < 9 by omega)]
      exact (rowsOf_at xs ⟨k, by omega⟩ r e).symm
    have e1 := fun new old => fun e => keepRef_at len ⟨k, by omega⟩ new old r e hl
    simp only [hx]
    simp only [e1, hiddenRef_at, cellRef_at, preact_at]
    by_cases h : k < (len (ix1 r)).toNat
    · simp only [if_pos h]
    · simp only [if_neg h]

/-- A row's length, at the row's number. -/
theorem flat_at (len : S64x200.Idx → BitVec 32) (r : Fin 12800) :
    shapeCast S12800 len shapeCasts_S64x200_S12800 (ix1 r) = len (ix2 (⟨r.val / 200, by omega⟩ : Fin 64) (⟨r.val % 200, by omega⟩ : Fin 200)) := by
  pointwise

/-- The paths turned, at an element. -/
theorem turned_at (x : S12800x9x128.Idx → Ideal .f32) (t : Fin 9) (r : Fin 12800) (e : Fin 128) :
    transpose S9x12800x128 [1, 0, 2] x transposes_S12800x9x128_S9x12800x128_1_0_2 (ix3 t r e) = x (ix3 r t e) := by
  pointwise

/-- A row's nodes along its path: their table rows. -/
def along (emb : S512x128.Idx → Ideal .f32) (idx : S64x200x9.Idx → BitVec 32) (r : Fin 12800) (t : ℕ) : Lanes := fun e =>
  if h : t < 9 then paths (F := Ideal) emb idx (ix3 r (⟨t, h⟩ : Fin 9) e) else 0

/-- The same nodes mirrored within the path. -/
def mirrored (emb : S512x128.Idx → Ideal .f32) (idx : S64x200x9.Idx → BitVec 32) (len : S64x200.Idx → BitVec 32) (r : Fin 12800) (t : ℕ) : Lanes := fun e =>
  if h : t < 9 then taken (F := Ideal) (paths emb idx) (mirror (shapeCast S12800 len shapeCasts_S64x200_S12800)) (ix3 r (⟨t, h⟩ : Fin 9) e) else 0

/-- The number of nodes on a row's path. -/
def count (len : S64x200.Idx → BitVec 32) (r : Fin 12800) : ℕ :=
  (len (ix2 (⟨r.val / 200, by omega⟩ : Fin 64) (⟨r.val % 200, by omega⟩ : Fin 200))).toNat

theorem mirrored_eq (emb : S512x128.Idx → Ideal .f32) (idx : S64x200x9.Idx → BitVec 32) (len : S64x200.Idx → BitVec 32) (r : Fin 12800)
    (hl : ∀ j, (len j).toNat ≤ 9) (t : ℕ) (ht : t < count len r) : mirrored emb idx len r t = along emb idx r (count len r - 1 - t) := by
  have h9 : count len r ≤ 9 := hl _
  have hc : (shapeCast S12800 len shapeCasts_S64x200_S12800 (ix1 r)).toNat = count len r := by rw [flat_at]; rfl
  funext e
  unfold mirrored along
  rw [dif_pos (show t < 9 by omega), dif_pos (show count len r - 1 - t < 9 by omega),
    mirrored_at _ _ r ⟨t, by omega⟩ e (by omega) (by rw [hc]; exact ht)]
  simp only [hc]

/-- The final states at an element: forward on the first half of the lanes, mirrored on the second. -/
theorem finals_at (emb : S512x128.Idx → Ideal .f32) (idx : S64x200x9.Idx → BitVec 32) (len : S64x200.Idx → BitVec 32)
    (wxf whf : S128x512.Idx → Ideal .f32) (bf : S512.Idx → Ideal .f32) (wxb whb : S128x512.Idx → Ideal .f32) (bb : S512.Idx → Ideal .f32)
    (hl : ∀ j, (len j).toNat ≤ 9) (r : Fin 12800) (k : Fin 256) :
    finals (F := Ideal) emb idx len wxf whf bf wxb whb bb (ix2 r k)
      = if h : k.val < 128 then
          (runRow (gate wxf whf fun q => bf (ix1 q)) (fun t => t < count len r) (along emb idx r) 9).1 ⟨k.val, h⟩
        else (runRow (gate wxb whb fun q => bb (ix1 q)) (fun t => t < count len r) (mirrored emb idx len r) 9).1 ⟨k.val - 128, by omega⟩ := by
  have hc : (shapeCast S12800 len shapeCasts_S64x200_S12800 (ix1 r)).toNat = count len r := by rw [flat_at]; rfl
  have h9 : count len r ≤ 9 := hl _
  have st := fun xs wx wh b e => congrFun (congrArg Prod.fst (states_at xs wx wh b (shapeCast S12800 len shapeCasts_S64x200_S12800) r (by omega) 9 le_rfl)) e
  simp only [hc, turned_at] at st
  by_cases h : k.val < 128
  · rw [dif_pos h]
    refine Eq.trans ?_ ((st (transpose S9x12800x128 [1, 0, 2] (paths emb idx) transposes_S12800x9x128_S9x12800x128_1_0_2) wxf whf bf ⟨k.val, h⟩).trans ?_)
    · pointwise [finals]
      rw [dif_pos h]
    · simp only [turned_at]; unfold along; rfl
  · rw [dif_neg h]
    refine Eq.trans ?_ ((st (transpose S9x12800x128 [1, 0, 2] (taken (paths emb idx) (mirror (shapeCast S12800 len shapeCasts_S64x200_S12800)))
        transposes_S12800x9x128_S9x12800x128_1_0_2) wxb whb bb ⟨k.val - 128, by omega⟩).trans ?_)
    · pointwise [finals]
      rw [dif_neg h]
    · refine congrArg (fun f : ℕ → Lanes => (runRow (gate wxb whb fun q => bb (ix1 q)) (fun t => t < count len r) f 9).1 ⟨k.val - 128, by omega⟩)
        (funext fun t => funext fun e => ?_)
      unfold mirrored
      by_cases ht : t < 9
      · rw [dif_pos ht, dif_pos ht]; exact turned_at _ _ _ _
      · rw [dif_neg ht, dif_neg ht]

end Cert.ReferenceIdeal.Rows

end
-- ==== Proof.Product.lean ====
/-
  The kernel's product at an element: a row's source sum, masked state and target sum, each times its rows of the weights,
  added and put through tanh; and a sum over the 512 columns as the three sums the kernel takes.
-/
module

public import proofs.«01_k».proof.Proof.KernelIdeal.GemmRegion
public import Idealize.ShloMosaic.Lib.Pointwise

@[expose] public section

noncomputable section

namespace Cert.Equal

open Cert.KernelIdeal Cert.KernelIdeal.Gen Cert.KernelIdeal.SC
open Idealize.ShloMosaic

/-- A sum over the columns, by parts. -/
theorem sum_parts (f : Fin 512 → EReal) : ∑ k, f k
    = (∑ k : Fin 128, f ⟨k.val, by omega⟩) + (∑ k : Fin 256, f ⟨128 + k.val, by omega⟩) + ∑ k : Fin 128, f ⟨384 + k.val, by omega⟩ := by
  show ∑ k : Fin (128 + 256 + 128), f k = _
  rw [Fin.sum_univ_add, Fin.sum_univ_add]
  rfl

/-- A block of the product at an element. -/
theorem gemm_at (x y : S512x128.Idx → Ideal .f32) (h : S512x256.Idx → Ideal .bf16) (v : S512x1.Idx → Ideal .f32) (w : S512x512.Idx → Ideal .bf16)
    (a n : Fin 512) :
    gemmOf (F := Ideal) x y h v w (ix2 a n)
      = Ideal.tanh ((∑ k : Fin 128, x (ix2 a k) * w (ix2 (⟨k.val, by omega⟩ : Fin 512) n))
        + (∑ k : Fin 256, h (ix2 a k) * v (ix2 a 0) * w (ix2 (⟨128 + k.val, by omega⟩ : Fin 512) n))
        + ∑ k : Fin 128, y (ix2 a k) * w (ix2 (⟨384 + k.val, by omega⟩ : Fin 512) n)) := by
  pointwise [gemmOf, k3_pay1]

/-- An index within range is itself. -/
theorem wrap_eq {p q : ℕ} (hp : 0 < p) (hq : 0 < q) (i j : ℕ) (hi : i < p) (hj : j < q) :
    wrap2 p q hp hq i j = ix2 (⟨i, hi⟩ : Fin p) (⟨j, hj⟩ : Fin q) := by
  funext a
  match a with
  | ⟨0, _⟩ => exact Fin.ext (Nat.mod_eq_of_lt hi)
  | ⟨1, _⟩ => exact Fin.ext (Nat.mod_eq_of_lt hj)

/-- The product at an element. -/
theorem product_at (x : S25600x128.Idx → Ideal .f32) (h : S12800x256.Idx → Ideal .bf16) (v : S12800x1.Idx → Ideal .f32)
    (w : S512x512.Idx → Ideal .bf16) (r : Fin 12800) (n : Fin 512) :
    product (F := Ideal) x h v w (ix2 r n)
      = Ideal.tanh ((∑ k : Fin 128, x (ix2 (⟨r.val, by omega⟩ : Fin 25600) k) * w (ix2 (⟨k.val, by omega⟩ : Fin 512) n))
        + (∑ k : Fin 256, h (ix2 r k) * v (ix2 r 0) * w (ix2 (⟨128 + k.val, by omega⟩ : Fin 512) n))
        + ∑ k : Fin 128, x (ix2 (⟨r.val + 12800, by omega⟩ : Fin 25600) k) * w (ix2 (⟨384 + k.val, by omega⟩ : Fin 512) n)) := by
  have e (m : ℕ) : 512 * (r.val / 512 + m) + r.val % 512 = r.val + 512 * m := by omega
  have e0 : 512 * (r.val / 512) + r.val % 512 = r.val := e 0
  have e25 : 512 * (r.val / 512 + 25) + r.val % 512 = r.val + 12800 := e 25
  have hx (i : ℕ) (k : Fin 128) (hi : i < 25600) : x (wrap2 25600 128 (by omega) (by omega) i k.val) = x (ix2 (⟨i, hi⟩ : Fin 25600) k) := congrArg x (wrap_eq _ _ _ _ hi k.2)
  have hh (k : Fin 256) : h (wrap2 12800 256 (by omega) (by omega) r.val k.val) = h (ix2 r k) := congrArg h (wrap_eq _ _ _ _ r.2 k.2)
  have hv : v (wrap2 12800 1 (by omega) (by omega) r.val 0) = v (ix2 r 0) := congrArg v (wrap_eq _ _ _ _ r.2 (by omega))
  show gemmOf (F := Ideal) (fun j => x (wrap2 25600 128 _ _ (512 * (r.val / 512) + (j 0).val) (j 1).val))
    (fun j => x (wrap2 25600 128 _ _ (512 * (r.val / 512 + 25) + (j 0).val) (j 1).val))
    (fun j => h (wrap2 12800 256 _ _ (512 * (r.val / 512) + (j 0).val) (j 1).val))
    (fun j => v (wrap2 12800 1 _ _ (512 * (r.val / 512) + (j 0).val) (j 1).val)) w
    (wrap2 512 512 _ _ (r.val % 512) n.val) = _
  rw [wrap_eq _ _ _ _ (by omega) n.2]
  refine (gemm_at _ _ _ _ w ⟨r.val % 512, by omega⟩ n).trans (congrArg Ideal.tanh ?_)
  refine congrArg₂ (· + ·) (congrArg₂ (· + ·) ?_ ?_) ?_
  · refine Finset.sum_congr rfl fun k _ => congrArg (· * _) ?_
    show x (wrap2 25600 128 _ _ (512 * (r.val / 512) + r.val % 512) k.val) = _
    rw [e0, hx]
  · refine Finset.sum_congr rfl fun k _ => congrArg (· * _) (congrArg₂ (· * ·) ?_ ?_)
    · show h (wrap2 12800 256 _ _ (512 * (r.val / 512) + r.val % 512) k.val) = _
      rw [e0, hh]
    · show v (wrap2 12800 1 _ _ (512 * (r.val / 512) + r.val % 512) 0) = _
      rw [e0, hv]
  · refine Finset.sum_congr rfl fun k _ => congrArg (· * _) ?_
    show x (wrap2 25600 128 _ _ (512 * (r.val / 512 + 25) + r.val % 512) k.val) = _
    simp only [e25]
    exact hx _ k (by omega)

end Cert.Equal

end
-- ==== Proof.States.lean ====
/-
  The kernel's final states of a row: those of the row's own recurrence. The kernel halves the weights and biases of the
  input, forget and output gates beforehand, and forms those gates from the tangents of the halved arguments.
-/
module

public import proofs.«01_k».proof.Proof.Recur
public import Idealize.ShloMosaic.Lib.Pointwise

@[expose] public section

noncomputable section

namespace Cert.Equal

open Cert.KernelIdeal Cert.KernelIdeal.Gen Cert.KernelIdeal.SC
open Idealize.ShloMosaic

/-! ## The gates -/

/-- A column's scale: one on the cell gate's columns, a half on the other gates'. -/
def sc (q : Fin 512) : EReal := if 256 ≤ q.val ∧ q.val < 384 then 1 else half

theorem sc_add (q : Fin 512) (x y : EReal) : sc q * (x + y) = sc q * x + sc q * y := by
  unfold sc
  split
  · simp only [one_mul]
  · exact half_add x y

theorem sc_sum {n : ℕ} (q : Fin 512) (f : Fin n → EReal) : ∑ k, f k * sc q = sc q * ∑ k, f k := by
  induction n with
  | zero => simp
  | succ n ih => rw [Fin.sum_univ_succ, Fin.sum_univ_succ, sc_add, ih, mul_comm (f 0)]

/-- The columns of the cell gate, by words. -/
theorem sc_word : ∀ q : Fin 512, IntOp.andi (IntOp.cmpi .sge (BitVec.ofNat 32 q.val) 256#32) (IntOp.cmpi .slt (BitVec.ofNat 32 q.val) 384#32)
    = if 256 ≤ q.val ∧ q.val < 384 then 1#1 else 0#1 := by decide +kernel

theorem scale_at (q : Fin 512) : k0_pay1 (F := Ideal) (ix2 0 q) = sc q := by
  have hw := sc_word q
  pointwise [k0_pay1]
  rw [hw]
  unfold sc
  by_cases h : 256 ≤ q.val ∧ q.val < 384
  · rw [if_pos h, if_pos h]; exact ValueIdx.select_one _ _
  · rw [if_neg h, if_neg h]; exact (ValueIdx.select_zero _ _).trans ofBits_half

theorem scaled_at (w : S128x512.Idx → Ideal .f32) (k : Fin 128) (q : Fin 512) : k0_pay3 (F := Ideal) w (ix2 k q) = w (ix2 k q) * sc q := by
  rw [← scale_at]
  pointwise [k0_pay3]

theorem weights_lo (wx wh : S128x512.Idx → Ideal .f32) (k : Fin 128) (q : Fin 512) :
    weightsOf (F := Ideal) wx wh (ix2 (⟨k.val, by omega⟩ : Fin 256) q) = wx (ix2 k q) * sc q :=
  (dif_pos k.2).trans (scaled_at wx k q)

theorem weights_hi (wx wh : S128x512.Idx → Ideal .f32) (k : Fin 128) (q : Fin 512) :
    weightsOf (F := Ideal) wx wh (ix2 (⟨128 + k.val, by omega⟩ : Fin 256) q) = wh (ix2 k q) * sc q :=
  (dif_neg (by show ¬ 128 + k.val < 128; omega)).trans <| by
    rw [← scaled_at]
    exact congrArg (k0_pay3 (F := Ideal) wh) (congrArg (ix2 · q) (Fin.ext (by show 128 + k.val - 128 = k.val; omega)))

/-- A gate's argument is the scaled one of the row. -/
theorem gates_at (wx wh : S128x512.Idx → Ideal .f32) (b : S1x512.Idx → Ideal .f32) (x : S512x128.Idx → Ideal .bf16) (h : S512x128.Idx → Ideal .f32)
    (bb : Fin 512 → EReal) (hb : ∀ q, b (ix2 0 q) = bb q * sc q) (a q : Fin 512) :
    gatesOf (F := Ideal) (weightsOf wx wh) b x h (ix2 a q) = sc q * gate wx wh bb (fun k => x (ix2 a k)) (fun k => h (ix2 a k)) q := by
  unfold gate
  rw [sc_add, sc_add, ← sc_sum, ← sc_sum, mul_comm (sc q), ← hb]
  pointwise [gatesOf]
  simp only [weights_lo, weights_hi, ← mul_assoc]

/-! ## One step -/

theorem cell_at (g : S512x512.Idx → Ideal .f32) (c : S512x128.Idx → Ideal .f32) (z : Fin 512 → EReal) (a : Fin 512)
    (hg : ∀ q, g (ix2 a q) = sc q * z q) (e : Fin 128) (hc : ∃ r : ℝ, c (ix2 a e) = (r : EReal)) :
    cellOf (F := Ideal) g c (ix2 a e) = cellRow z (fun e => c (ix2 a e)) e := by
  have h0 := hg ⟨e.val, by omega⟩
  have h1 := hg ⟨128 + e.val, by omega⟩
  have h2 := hg ⟨256 + e.val, by omega⟩
  obtain ⟨r, hr⟩ := hc
  rw [sc, if_neg (by show ¬ (256 ≤ e.val ∧ e.val < 384); omega)] at h0
  rw [sc, if_neg (by show ¬ (256 ≤ 128 + e.val ∧ 128 + e.val < 384); omega)] at h1
  rw [sc, if_pos (by show 256 ≤ 256 + e.val ∧ 256 + e.val < 384; omega), one_mul] at h2
  unfold cellRow
  simp only [hr]
  rw [← cell_eq, ← h0, ← h1, ← h2, ← hr]
  pointwise [cellOf]
  rw [ofBits_half]

theorem hidden_at (g : S512x512.Idx → Ideal .f32) (c : S512x128.Idx → Ideal .f32) (z : Fin 512 → EReal) (a : Fin 512)
    (hg : ∀ q, g (ix2 a q) = sc q * z q) (e : Fin 128) (hc : ∃ r : ℝ, c (ix2 a e) = (r : EReal)) :
    hiddenOf (F := Ideal) g c (ix2 a e) = hiddenRow z (fun e => c (ix2 a e)) e := by
  have h3 := hg ⟨384 + e.val, by omega⟩
  rw [sc, if_neg (by show ¬ (256 ≤ 384 + e.val ∧ 384 + e.val < 384); omega)] at h3
  unfold hiddenRow
  rw [← cell_at g c z a hg e hc, ← hidden_eq, ← h3]
  pointwise [hiddenOf]
  rw [ofBits_half]

/-- A length against a place, as words and as numbers. -/
theorem len_gt : ∀ (L : Fin 10) (k : Fin 9), IntOp.cmpi .sgt (BitVec.ofNat 32 L.val) (BitVec.ofNat 32 k.val) = if k.val < L.val then 1#1 else 0#1 := by
  decide +kernel

theorem keep_at (len : S512x1.Idx → BitVec 32) (k : Fin 9) (new old : S512x128.Idx → Ideal .f32) (a : Fin 512) (e : Fin 128) (hl : (len (ix2 a 0)).toNat ≤ 9) :
    keepOf (F := Ideal) len (BitVec.ofNat 32 k.val) new old (ix2 a e) = if k.val < (len (ix2 a 0)).toNat then new (ix2 a e) else old (ix2 a e) := by
  have hw := len_gt ⟨(len (ix2 a 0)).toNat, by omega⟩ k
  rw [show BitVec.ofNat 32 (len (ix2 a 0)).toNat = len (ix2 a 0) from BitVec.ofNat_toNat _ _ |>.trans (BitVec.setWidth_eq _)] at hw
  pointwise [keepOf]
  rw [hw]
  by_cases h : k.val < (len (ix2 a 0)).toNat
  · simp only [if_pos h]; exact ValueIdx.select_one _ _
  · simp only [if_neg h]; exact ValueIdx.select_zero _ _

/-! ## The states -/

/-- A row's states are those of its own recurrence. -/
theorem kstates_at (len : S512x1.Idx → BitVec 32) (wx wh : S128x512.Idx → Ideal .f32) (b : S1x512.Idx → Ideal .f32) (x : ℕ → S512x128.Idx → Ideal .bf16)
    (p : ℕ → ℕ) (hp : ∀ t, t < 9 → p t < 9) (bb : Fin 512 → EReal) (hb : ∀ q, b (ix2 0 q) = bb q * sc q) (a : Fin 512) (hl : (len (ix2 a 0)).toNat ≤ 9) : ∀ k, k ≤ 9 →
    ((fun e => (statesOf (F := Ideal) len (weightsOf wx wh) b x (fun t => BitVec.ofNat 32 (p t)) k).1 (ix2 a e),
      fun e => (statesOf (F := Ideal) len (weightsOf wx wh) b x (fun t => BitVec.ofNat 32 (p t)) k).2 (ix2 a e)) : Lanes × Lanes)
      = runRow (gate wx wh bb) (fun t => p t < (len (ix2 a 0)).toNat) (fun t e => x t (ix2 a e)) k
  | 0, _ => by
    have hz : ∀ e : Fin 128, (broadcast S512x128 (Scalar.ofBits .f32 0x00000000#32) : FVec Ideal S512x128 .f32) (ix2 a e) = 0 := fun e => by pointwise
    rw [runRow, statesOf]
    simp only [hz]
  | k + 1, hk => by
    have ih := kstates_at len wx wh b x p hp bb hb a hl k (by omega)
    obtain ⟨ih1, ih2⟩ := Prod.mk.inj ih
    have hr : ∀ e, ∃ r : ℝ, (statesOf (F := Ideal) len (weightsOf wx wh) b x (fun t => BitVec.ofNat 32 (p t)) k).2 (ix2 a e) = (r : EReal) := fun e => by
      obtain ⟨r, h⟩ := runRow_real (gate wx wh bb) (fun t => p t < (len (ix2 a 0)).toNat) (fun t e => x t (ix2 a e)) k e
      exact ⟨r, (congrFun ih2 e).trans h⟩
    rw [runRow, statesOf, ← ih]
    have e1 := fun new old => fun e => keep_at len ⟨p k, hp k (by omega)⟩ new old a e hl
    have hg := gates_at wx wh b (x k) (statesOf (F := Ideal) len (weightsOf wx wh) b x (fun t => BitVec.ofNat 32 (p t)) k).1 bb hb a
    have e2 := fun e => cell_at _ _ _ a hg e (hr e)
    have e3 := fun e => hidden_at _ _ _ a hg e (hr e)
    simp only [stepOf, e1, e2, e3]
    by_cases h : p k < (len (ix2 a 0)).toNat
    · simp only [if_pos h]
    · simp only [if_neg h]

/-! ## The table's rows -/

/-- The indicator's entry. -/
theorem indicator_at (w : BitVec 32) (hw : w.toNat < 512) (k : Fin 512) :
    BitVec.setWidth 32 (IntOp.cmpi .eq w (BitVec.ofNat 32 k.val)) = if k = ⟨w.toNat, hw⟩ then 1#32 else 0#32 := by
  by_cases h : k = ⟨w.toNat, hw⟩
  · subst h
    rw [if_pos rfl, show BitVec.ofNat 32 w.toNat = w from BitVec.ofNat_toNat _ _ |>.trans (BitVec.setWidth_eq _)]
    simp [IntOp.cmpi]
  · rw [if_neg h]
    have hne : (w == BitVec.ofNat 32 k.val) = false := beq_false_of_ne fun e => h (Fin.ext (by
      have e' := congrArg BitVec.toNat e
      rw [BitVec.toNat_ofNat] at e'
      show k.val = w.toNat
      omega))
    show BitVec.setWidth 32 (BitVec.ofBool (w == BitVec.ofNat 32 k.val)) = 0#32
    rw [hne]
    rfl

theorem word_one : (FloatOps.sitofp .f32 (1#32 : BitVec 32) : Ideal .f32) = 1 := by
  show (((1#32 : BitVec 32).toInt : ℝ) : EReal) = 1
  simp

theorem word_zero : (FloatOps.sitofp .f32 (0#32 : BitVec 32) : Ideal .f32) = 0 := by
  show (((0#32 : BitVec 32).toInt : ℝ) : EReal) = 0
  simp

/-- A looked-up row is the table's row. -/
theorem lookup_at (t : Fin 10) (h : S512x10.Slices ![0, t.val] S512x1) (ix : S512x10.Idx → BitVec 32) (emb : S512x128.Idx → Ideal .bf16) (a : Fin 512) (e : Fin 128)
    (hw : (ix (ix2 a t)).toNat < 512) :
    lookupOf (F := Ideal) ![0, t.val] h ix emb (ix2 a e) = emb (ix2 (⟨(ix (ix2 a t)).toNat, hw⟩ : Fin 512) e) := by
  have hs : ∑ k : Fin 512, (FloatOps.sitofp .f32 (BitVec.setWidth 32 (IntOp.cmpi .eq (ix (ix2 a t)) (BitVec.ofNat 32 k.val))) : Ideal .f32) * emb (ix2 k e)
      = emb (ix2 (⟨(ix (ix2 a t)).toNat, hw⟩ : Fin 512) e) := by
    rw [Finset.sum_eq_single (⟨(ix (ix2 a t)).toNat, hw⟩ : Fin 512)]
    · rw [indicator_at _ hw, if_pos rfl, word_one, one_mul]
    · intro k _ hk
      rw [indicator_at _ hw, if_neg hk, word_zero, zero_mul]
    · exact fun h => absurd (Finset.mem_univ _) h
  rw [← hs]
  pointwise [lookupOf]

/-- A place's row is the table's row that the block's index names. -/
theorem place_at (ix : S512x10.Idx → BitVec 32) (emb : S512x128.Idx → Ideal .bf16) (a : Fin 512) (t : ℕ) (ht : t < 9) (e : Fin 128)
    (hw : (ix (ix2 a (⟨t, by omega⟩ : Fin 10))).toNat < 512) :
    placeOf (F := Ideal) ix emb t (ix2 a e) = emb (ix2 (⟨(ix (ix2 a (⟨t, by omega⟩ : Fin 10))).toNat, hw⟩ : Fin 512) e) := by
  rcases t with _ | _ | _ | _ | _ | _ | _ | _ | t
  · exact lookup_at 0 slices_S512x10_o0_0_S512x1 ix emb a e hw
  · exact lookup_at 1 slices_S512x10_o0_1_S512x1 ix emb a e hw
  · exact lookup_at 2 slices_S512x10_o0_2_S512x1 ix emb a e hw
  · exact lookup_at 3 slices_S512x10_o0_3_S512x1 ix emb a e hw
  · exact lookup_at 4 slices_S512x10_o0_4_S512x1 ix emb a e hw
  · exact lookup_at 5 slices_S512x10_o0_5_S512x1 ix emb a e hw
  · exact lookup_at 6 slices_S512x10_o0_6_S512x1 ix emb a e hw
  · exact lookup_at 7 slices_S512x10_o0_7_S512x1 ix emb a e hw
  · obtain rfl : t = 0 := by omega
    exact lookup_at 8 slices_S512x10_o0_8_S512x1 ix emb a e hw

/-- A block's indices, turned. -/
theorem turn_at (v : S10x512.Idx → BitVec 32) (a : Fin 512) (t : Fin 10) : k2_pay2 (F := Ideal) v (ix2 a t) = v (ix2 t a) := by
  pointwise [k2_pay2]

/-- A block's lengths, its last row. -/
theorem last_at (v : S10x512.Idx → BitVec 32) (a : Fin 512) : k2_pay3 (F := Ideal) v (ix2 a 0) = v (ix2 9 a) := by
  pointwise [k2_pay3, k2_pay2]

/-- A row's nodes along its path: the table's rows its block's column names. -/
def steps (v : S10x512.Idx → BitVec 32) (emb : S512x128.Idx → EReal) (a : Fin 512) (t : ℕ) : Lanes := fun e => placeOf (F := Ideal) (k2_pay2 (F := Ideal) v) emb t (ix2 a e)

/-- A block's final states at an element: forward on the first half of the lanes, backward on the second. -/
theorem lstm_at (v : S10x512.Idx → BitVec 32) (emb : S512x128.Idx → Ideal .bf16) (wxf whf wxb whb : S128x512.Idx → Ideal .f32) (bf bb : S1x512.Idx → Ideal .f32)
    (cf cb : Fin 512 → EReal) (hf : ∀ q, bf (ix2 0 q) = cf q * sc q) (hb : ∀ q, bb (ix2 0 q) = cb q * sc q) (a : Fin 512) (hl : (v (ix2 9 a)).toNat ≤ 9) (k : Fin 256) :
    lstmOf (F := Ideal) v emb (weightsOf wxf whf) (weightsOf wxb whb) bf bb (ix2 a k)
      = if h : k.val < 128 then (runRow (gate wxf whf cf) (fun t => t < (v (ix2 9 a)).toNat) (steps v emb a) 9).1 ⟨k.val, h⟩
        else (runRow (gate wxb whb cb) (fun t => 8 - t < (v (ix2 9 a)).toNat) (fun t => steps v emb a (8 - t)) 9).1 ⟨k.val - 128, by omega⟩ := by
  have hf := fun x e => congrFun (congrArg Prod.fst (kstates_at (k2_pay3 (F := Ideal) v) wxf whf bf x (fun t => t) (fun _ h => h) cf hf a (by rw [last_at]; exact hl) 9 le_rfl)) e
  have hb := fun x e => congrFun (congrArg Prod.fst (kstates_at (k2_pay3 (F := Ideal) v) wxb whb bb x (fun t => 8 - t) (fun _ _ => by omega) cb hb a (by rw [last_at]; exact hl) 9 le_rfl)) e
  simp only [last_at] at hf hb
  by_cases h : k.val < 128
  · rw [dif_pos h]
    refine Eq.trans ?_ (hf (placeOf (k2_pay2 (F := Ideal) v) emb) ⟨k.val, h⟩)
    pointwise [lstmOf]
    rw [dif_pos h]
  · rw [dif_neg h]
    refine Eq.trans ?_ (hb (fun t => placeOf (k2_pay2 (F := Ideal) v) emb (8 - t)) ⟨k.val - 128, by omega⟩)
    pointwise [lstmOf]
    rw [dif_neg h]

end Cert.Equal

end
-- ==== Proof.Equal.lean ====
/-
  The kernel's result is the reference's. The SparseCore's rows are the reference's weighted sums: the kernel reads a row's
  indices and length from the reshaped arrays, and forms its weights through a product with a 0/1 matrix that spreads each
  length over its row's lanes; the reference compares positions with lengths directly. The reference multiplies a row of
  512 columns at once where the kernel adds three products. The final states of a row are those of its own recurrence on both
  sides: the kernel's backward pass walks the nine places down and skips those past the row's length, the reference's walks
  the path mirrored.
-/
module

public import proofs.«01_k».proof.Proof.KernelIdeal.Frame
public import proofs.«01_k».proof.Proof.Reference.Value
public import proofs.«01_k».proof.Proof.Product
public import proofs.«01_k».proof.Proof.States
public import Idealize.ShloMosaic.Lib.Pointwise

@[expose] public section

noncomputable section

namespace Cert.Equal

open Cert.KernelIdeal Cert.KernelIdeal.Gen Cert.KernelIdeal.SC
open Idealize.ShloMosaic Idealize.ShloMosaic.TcCoe Idealize.SL.Sem

/-! ## What the SparseCore reads -/

/-- The index at a row and a position. -/
theorem idx_at (s t : S64x200x6.Idx → BitVec 32) (r : Fin 25600) (k : Fin 6) (h1 h2) :
    idxOf s t (ix2 (⟨r.val / 800, h1⟩ : Fin 32) (⟨r.val % 800 * 6 + k.val, h2⟩ : Fin 4800))
      = if h : r.val < 12800 then s (ix3 ⟨r.val / 200, by omega⟩ ⟨r.val % 200, by omega⟩ k)
        else t (ix3 ⟨(r.val - 12800) / 200, by omega⟩ ⟨(r.val - 12800) % 200, by omega⟩ k) := by
  pointwise [idxOf]

/-- The length of a row, as a float. -/
theorem lens_at (s t : S64x200.Idx → BitVec 32) (r : Fin 25600) (h1 h2) :
    lensOf (F := Ideal) s t (ix2 (⟨r.val / 16, h1⟩ : Fin 1600) (⟨r.val % 16, h2⟩ : Fin 16))
      = FloatOps.sitofp .f32 (if h : r.val < 12800 then s (ix2 ⟨r.val / 200, by omega⟩ ⟨r.val % 200, by omega⟩)
        else t (ix2 ⟨(r.val - 12800) / 200, by omega⟩ ⟨(r.val - 12800) % 200, by omega⟩)) := by
  pointwise [lensOf]

/-! ## The mask -/

/-- A word divided by another, rounded down, as the kernel computes it. -/
def quot (d w : BitVec 32) : BitVec 32 :=
  Scalar.select
    (IntOp.andi
      (IntOp.cmpi .ne (IntOp.subi (BitVec.setWidth 32 (IntOp.cmpi .sgt w 0#32)) (BitVec.setWidth 32 (IntOp.cmpi .slt w 0#32)))
        (Scalar.subi (Scalar.extui (Scalar.cmpi .sgt d 0#32)) (Scalar.extui (Scalar.cmpi .slt d 0#32))))
      (IntOp.cmpi .ne (IntOp.remsi .vector w d) 0#32))
    (IntOp.subi (IntOp.divsi .vector w d) 1#32) (IntOp.divsi .vector w d)

/-- The divisor six, kept from being zero. -/
def six : BitVec 32 := Scalar.select (Scalar.cmpi .eq 6#32 0#32) 1#32 6#32

/-- A word's remainder by six, of the divisor's sign, as the kernel computes it. -/
def rem6 (w : BitVec 32) : BitVec 32 :=
  Scalar.select
    (IntOp.andi (IntOp.xori (IntOp.cmpi .slt (IntOp.remsi .vector w six) 0#32) (Scalar.cmpi .slt six 0#32))
      (IntOp.cmpi .ne (IntOp.remsi .vector w six) 0#32))
    (IntOp.addi (IntOp.remsi .vector w six) six) (IntOp.remsi .vector w six)

/-- A lane's group of ninety-six. -/
theorem quot_96 : ∀ c : Fin 1536, quot 96#32 (BitVec.ofNat 32 c.val) = BitVec.ofNat 32 (c.val / 96) := by decide +kernel

/-- A lane's position within its list. -/
theorem rem_quot : ∀ c : Fin 1536, rem6 (quot 16#32 (BitVec.ofNat 32 c.val)) = BitVec.ofNat 32 (c.val / 16 % 6) := by decide +kernel

/-- The matrix's entry, one where the row's group holds the lane. -/
theorem spread_at : ∀ g x : Fin 16, BitVec.setWidth 32 (IntOp.cmpi .eq (BitVec.ofNat 32 g.val) (BitVec.ofNat 32 x.val)) = if x = g then 1#32 else 0#32 := by
  decide +kernel

/-- The word one as a float. -/
theorem float_one : (FloatOps.sitofp .f32 (1#32 : BitVec 32) : Ideal .f32) = 1 := by
  show (((1#32 : BitVec 32).toInt : ℝ) : EReal) = 1
  simp

/-- The word zero as a float. -/
theorem float_zero : (FloatOps.sitofp .f32 (0#32 : BitVec 32) : Ideal .f32) = 0 := by
  show (((0#32 : BitVec 32).toInt : ℝ) : EReal) = 0
  simp

/-- The mask at a row of sixteen lists and a lane: one where the lane's position lies below its list's length. -/
theorem mask_at (lens : S1600x16.Idx → Ideal .f32) (a : Fin 1600) (c : Fin 1536) :
    maskOf (F := Ideal) lens (ix2 a c)
      = FloatOps.sitofp .f32 (BitVec.setWidth 32 (BitVec.ofBool (decide
          ((FloatOps.sitofp .f32 (BitVec.ofNat 32 (c.val / 16 % 6)) : Ideal .f32) < lens (ix2 a ⟨c.val / 96, by omega⟩))))) := by
  have hsum : (∑ x : Fin 16, lens (ix2 a x) * FloatOps.sitofp .f32
      (BitVec.setWidth 32 (IntOp.cmpi .eq (quot 96#32 (BitVec.ofNat 32 c.val)) (BitVec.ofNat 32 x.val)))) = lens (ix2 a ⟨c.val / 96, by omega⟩) := by
    rw [Finset.sum_eq_single (⟨c.val / 96, by omega⟩ : Fin 16)]
    · rw [quot_96, spread_at ⟨c.val / 96, by omega⟩, if_pos rfl, float_one, mul_one]
    · intro x _ hx
      rw [quot_96, spread_at ⟨c.val / 96, by omega⟩, if_neg hx, float_zero, mul_zero]
    · exact fun h => absurd (Finset.mem_univ _) h
  rw [← hsum, ← rem_quot c]
  pointwise [maskOf, k0_pay11, k0_pay10, k0_pay9]
  rfl

/-- The mask's comparison of floats is the reference's comparison of words. -/
theorem weight_eq (k : Fin 6) (len : BitVec 32) :
    (FloatOps.sitofp .f32 (BitVec.setWidth 32 (BitVec.ofBool (decide
      ((FloatOps.sitofp .f32 (BitVec.ofNat 32 k.val) : Ideal .f32) < FloatOps.sitofp .f32 len)))) : Ideal .f32)
      = Cert.ReferenceIdeal.Rows.weight k len := by
  have hiff : ((FloatOps.sitofp .f32 (BitVec.ofNat 32 k.val) : Ideal .f32) < FloatOps.sitofp .f32 len) ↔ (BitVec.ofNat 32 k.val).toInt < len.toInt := by
    show ((((BitVec.ofNat 32 k.val).toInt : ℝ) : EReal) < ((len.toInt : ℝ) : EReal)) ↔ _
    rw [EReal.coe_lt_coe_iff, Int.cast_lt]
  unfold Cert.ReferenceIdeal.Rows.weight
  by_cases h : (BitVec.ofNat 32 k.val).toInt < len.toInt
  · rw [decide_eq_true (hiff.mpr h), IntOp.cmpi_slt.2 h]
    show (((BitVec.setWidth 32 (BitVec.ofBool true)).toInt : ℝ) : EReal) = (((1#1 : BitVec 1).toNat : ℝ) : EReal)
    simp
  · have h0 : IntOp.cmpi .slt (BitVec.ofNat 32 k.val) len = 0#1 := by
      rcases BitVec.eq_zero_or_eq_one (IntOp.cmpi .slt (BitVec.ofNat 32 k.val) len) with e | e
      · exact e
      · exact absurd (IntOp.cmpi_slt.1 e) h
    rw [decide_eq_false (fun e => h (hiff.mp e)), h0]
    show (((BitVec.setWidth 32 (BitVec.ofBool false)).toInt : ℝ) : EReal) = (((0#1 : BitVec 1).toNat : ℝ) : EReal)
    simp

/-- The mask at the lane a row's position reads is the reference's weight. -/
theorem mask_row (sl tl : S64x200.Idx → BitVec 32) (r : Fin 25600) (e : ℕ) (k : Fin 6) (h1 h2) :
    maskOf (F := Ideal) (lensOf sl tl) (ix2 (⟨r.val / 16, h1⟩ : Fin 1600) (⟨(r.val % 16 * 6 + k.val) * 16 + e % 16, h2⟩ : Fin 1536))
      = Cert.ReferenceIdeal.Rows.weight k (if h : r.val < 12800 then sl (ix2 ⟨r.val / 200, by omega⟩ ⟨r.val % 200, by omega⟩)
        else tl (ix2 ⟨(r.val - 12800) / 200, by omega⟩ ⟨(r.val - 12800) % 200, by omega⟩)) := by
  rw [mask_at]
  have e1 : (⟨((r.val % 16 * 6 + k.val) * 16 + e % 16) / 96, by omega⟩ : Fin 16) = ⟨r.val % 16, by omega⟩ := Fin.ext (by show ((r.val % 16 * 6 + k.val) * 16 + e % 16) / 96 = r.val % 16; omega)
  have e2 : ((r.val % 16 * 6 + k.val) * 16 + e % 16) / 16 % 6 = k.val := by omega
  rw [e1, e2, lens_at, weight_eq]

/-! ## The results -/

/-- The kernel's rows at an element. -/
theorem target_at (si ti : S64x200x6.Idx → BitVec 32) (sl tl : S64x200.Idx → BitVec 32) (table : S100000x128.Idx → Ideal .f32)
    (r : Fin 25600) (e : Fin 128) :
    target (F := Ideal) (idxOf si ti) (maskOf (lensOf sl tl)) table (ix2 r e)
      = ∑ k : Fin 6, table (ix2 (⟨(if h : r.val < 12800 then si (ix3 ⟨r.val / 200, by omega⟩ ⟨r.val % 200, by omega⟩ k)
          else ti (ix3 ⟨(r.val - 12800) / 200, by omega⟩ ⟨(r.val - 12800) % 200, by omega⟩ k)).toNat % 100000, Nat.mod_lt _ (by omega)⟩ : Fin 100000) e)
        * Cert.ReferenceIdeal.Rows.weight k (if h : r.val < 12800 then sl (ix2 ⟨r.val / 200, by omega⟩ ⟨r.val % 200, by omega⟩)
          else tl (ix2 ⟨(r.val - 12800) / 200, by omega⟩ ⟨(r.val - 12800) % 200, by omega⟩)) := by
  have hi := fun k : Fin 6 => idx_at si ti r k (by omega) (by omega)
  have hm := fun k : Fin 6 => mask_row sl tl r e.val k (by omega) (by omega)
  simp only [← hi, ← hm]
  rw [Fin.sum_univ_six]
  simp only [ix2_eq_valueIdx]
  rfl

/-- The kernel's source rows are the reference's sums, the indices naming rows of the table. -/
theorem source_eq (si ti : S64x200x6.Idx → BitVec 32) (sl tl : S64x200.Idx → BitVec 32) (table : S100000x128.Idx → Ideal .f32)
    (h : InRange si ti) (b : Fin 64) (l : Fin 200) (e : Fin 128) :
    target (F := Ideal) (idxOf si ti) (maskOf (lensOf sl tl)) table (ix2 (⟨b.val * 200 + l.val, by omega⟩ : Fin 25600) e)
      = Cert.ReferenceIdeal.Rows.agg table si sl (ix3 b l e) := by
  have hb : (⟨(b.val * 200 + l.val) / 200, by omega⟩ : Fin 64) = b := Fin.ext (by show (b.val * 200 + l.val) / 200 = b.val; omega)
  have hl : (⟨(b.val * 200 + l.val) % 200, by omega⟩ : Fin 200) = l := Fin.ext (by show (b.val * 200 + l.val) % 200 = l.val; omega)
  have hr : b.val * 200 + l.val < 12800 := by omega
  rw [target_at, Cert.ReferenceIdeal.Rows.agg_at table si sl h.1]
  refine Finset.sum_congr rfl fun k _ => ?_
  simp only [dif_pos hr, hb, hl, Nat.mod_eq_of_lt (h.1 _)]

/-- The kernel's target rows, after the source rows, are too. -/
theorem target_eq (si ti : S64x200x6.Idx → BitVec 32) (sl tl : S64x200.Idx → BitVec 32) (table : S100000x128.Idx → Ideal .f32)
    (h : InRange si ti) (b : Fin 64) (l : Fin 200) (e : Fin 128) :
    target (F := Ideal) (idxOf si ti) (maskOf (lensOf sl tl)) table (ix2 (⟨b.val * 200 + l.val + 12800, by omega⟩ : Fin 25600) e)
      = Cert.ReferenceIdeal.Rows.agg table ti tl (ix3 b l e) := by
  have hb : (⟨(b.val * 200 + l.val + 12800 - 12800) / 200, by omega⟩ : Fin 64) = b := Fin.ext (by show (b.val * 200 + l.val + 12800 - 12800) / 200 = b.val; omega)
  have hl : (⟨(b.val * 200 + l.val + 12800 - 12800) % 200, by omega⟩ : Fin 200) = l := Fin.ext (by show (b.val * 200 + l.val + 12800 - 12800) % 200 = l.val; omega)
  have hr : ¬ b.val * 200 + l.val + 12800 < 12800 := by omega
  rw [target_at, Cert.ReferenceIdeal.Rows.agg_at table ti tl h.2]
  refine Finset.sum_congr rfl fun k _ => ?_
  simp only [dif_neg hr, hb, hl, Nat.mod_eq_of_lt (h.2 _)]

/-- The mask's column at a row. -/
theorem column_at (v : S64x200.Idx → Ideal .f32) (b : Fin 64) (l : Fin 200) :
    shapeCast S12800x1 v shapeCasts_S64x200_S12800x1 (ix2 (⟨b.val * 200 + l.val, by omega⟩ : Fin 12800) 0) = v (ix2 b l) := by
  pointwise

/-- The product's rows, by batch. -/
theorem batch_at (p : S12800x512.Idx → Ideal .f32) (b : Fin 64) (l : Fin 200) (n : Fin 512) :
    shapeCast S64x200x512 p shapeCasts_S12800x512_S64x200x512 (ix3 b l n) = p (ix2 (⟨b.val * 200 + l.val, by omega⟩ : Fin 12800) n) := by
  pointwise

/-! ## The final states -/

/-- A path's index at a row. -/
theorem node_index_at (n : S64x200x9.Idx → BitVec 32) (l : S64x200.Idx → BitVec 32) (t : Fin 9) (r : Fin 12800) :
    ixOf n l (ix2 (⟨t.val, by omega⟩ : Fin 10) r) = n (ix3 (⟨r.val / 200, by omega⟩ : Fin 64) (⟨r.val % 200, by omega⟩ : Fin 200) t) := by
  pointwise [ixOf]

/-- A path's length at a row. -/
theorem node_length_at (n : S64x200x9.Idx → BitVec 32) (l : S64x200.Idx → BitVec 32) (r : Fin 12800) :
    ixOf n l (ix2 9 r) = l (ix2 (⟨r.val / 200, by omega⟩ : Fin 64) (⟨r.val % 200, by omega⟩ : Fin 200)) := by
  pointwise [ixOf]

/-- A direction's scaled bias. -/
theorem bias_at (b : S512.Idx → Ideal .f32) (q : Fin 512) :
    k0_pay7 (F := Ideal) k0_pay1 (shapeCast S1x512 b shapeCasts_S512_S1x512) (ix2 0 q) = b (ix1 q) * sc q := by
  rw [← scale_at]
  pointwise [k0_pay7]

/-- The two directions' scaled biases. -/
theorem bias_fwd (a b : S512.Idx → Ideal .f32) (q : Fin 512) :
    biasOf (F := Ideal) (shapeCast S1x512 a shapeCasts_S512_S1x512) (shapeCast S1x512 b shapeCasts_S512_S1x512) (ix2 (0 : Fin 2) q) = a (ix1 q) * sc q :=
  (if_pos rfl).trans (bias_at a q)

theorem bias_bwd (a b : S512.Idx → Ideal .f32) (q : Fin 512) :
    biasOf (F := Ideal) (shapeCast S1x512 a shapeCasts_S512_S1x512) (shapeCast S1x512 b shapeCasts_S512_S1x512) (ix2 (1 : Fin 2) q) = b (ix1 q) * sc q :=
  (if_neg (by decide : ¬ (1 : Fin 2).val = 0)).trans (bias_at b q)

/-- A row block's columns of the indices. -/
def blockOf (ix : S10x12800.Idx → BitVec 32) (r : Fin 12800) : S10x512.Idx → BitVec 32 := fun j =>
  ix (wrap2 10 12800 (by omega) (by omega) ((j 0).val) (512 * (r.val / 512) + (j 1).val))

theorem block_at (ix : S10x12800.Idx → BitVec 32) (r : Fin 12800) (t : Fin 10) :
    blockOf ix r (ix2 t (⟨r.val % 512, by omega⟩ : Fin 512)) = ix (ix2 t r) := by
  have e : 512 * (r.val / 512) + r.val % 512 = r.val := by omega
  show ix (wrap2 10 12800 _ _ t.val (512 * (r.val / 512) + r.val % 512)) = _
  simp only [e]
  exact congrArg ix (wrap_eq _ _ _ _ t.2 r.2)

/-- The kernel's nodes of a row are the reference's. -/
theorem steps_eq (emb : S512x128.Idx → Ideal .f32) (n : S64x200x9.Idx → BitVec 32) (l : S64x200.Idx → BitVec 32) (hn : ∀ j, (n j).toNat < 512)
    (r : Fin 12800) (t : ℕ) (ht : t < 9) :
    steps (blockOf (ixOf n l) r) (k0_pay2 (F := Ideal) emb) (⟨r.val % 512, by omega⟩ : Fin 512) t = Cert.ReferenceIdeal.Rows.along emb n r t := by
  funext e
  have hb : k2_pay2 (F := Ideal) (blockOf (ixOf n l) r) (ix2 (⟨r.val % 512, by omega⟩ : Fin 512) (⟨t, by omega⟩ : Fin 10))
      = n (ix3 (⟨r.val / 200, by omega⟩ : Fin 64) (⟨r.val % 200, by omega⟩ : Fin 200) ⟨t, ht⟩) := by
    rw [turn_at, block_at, node_index_at n l ⟨t, ht⟩ r]
  unfold steps Cert.ReferenceIdeal.Rows.along
  rw [dif_pos ht, Cert.ReferenceIdeal.Rows.paths_at emb n hn, place_at _ _ _ t ht e (by rw [hb]; exact hn _)]
  simp only [hb]
  rfl

/-- The kernel's final states at an element. -/
theorem recurrence_at (ix : S10x12800.Idx → BitVec 32) (emb : S512x128.Idx → Ideal .bf16) (wxf whf wxb whb : S128x512.Idx → Ideal .f32) (bias : S2x512.Idx → Ideal .f32)
    (cf cb : Fin 512 → EReal) (hf : ∀ q, bias (ix2 (0 : Fin 2) q) = cf q * sc q) (hb : ∀ q, bias (ix2 (1 : Fin 2) q) = cb q * sc q)
    (r : Fin 12800) (hl : (blockOf ix r (ix2 9 (⟨r.val % 512, by omega⟩ : Fin 512))).toNat ≤ 9) (k : Fin 256) :
    recurrence (F := Ideal) ix emb (weightsOf wxf whf) (weightsOf wxb whb) bias (ix2 r k)
      = if h : k.val < 128 then
          (runRow (gate wxf whf cf) (fun t => t < (blockOf ix r (ix2 9 (⟨r.val % 512, by omega⟩ : Fin 512))).toNat)
            (steps (blockOf ix r) emb (⟨r.val % 512, by omega⟩ : Fin 512)) 9).1 ⟨k.val, h⟩
        else (runRow (gate wxb whb cb) (fun t => 8 - t < (blockOf ix r (ix2 9 (⟨r.val % 512, by omega⟩ : Fin 512))).toNat)
            (fun t => steps (blockOf ix r) emb (⟨r.val % 512, by omega⟩ : Fin 512) (8 - t)) 9).1 ⟨k.val - 128, by omega⟩ := by
  refine Eq.trans ?_ (lstm_at (blockOf ix r) emb wxf whf wxb whb (fun j => bias (ix2 (0 : Fin 2) (j 1))) (fun j => bias (ix2 (1 : Fin 2) (j 1))) cf cb hf hb ⟨r.val % 512, by omega⟩ hl k)
  unfold recurrence
  refine congrArg _ ?_
  exact wrap_eq _ _ _ _ (by show r.val % 512 < 512; omega) k.2

/-- The kernel's final states are the reference's, the paths' indices naming rows of the table and no path longer than nine. -/
theorem recurrence_eq (emb : S512x128.Idx → Ideal .f32) (n : S64x200x9.Idx → BitVec 32) (l : S64x200.Idx → BitVec 32)
    (wxf whf wxb whb : S128x512.Idx → Ideal .f32) (bf bb : S512.Idx → Ideal .f32) (hn : ∀ j, (n j).toNat < 512) (hl : ∀ j, (l j).toNat ≤ 9) :
    (recurrence (F := Ideal) (ixOf n l) (k0_pay2 emb) (weightsOf wxf whf) (weightsOf wxb whb)
        (biasOf (shapeCast S1x512 bf shapeCasts_S512_S1x512) (shapeCast S1x512 bb shapeCasts_S512_S1x512)) : S12800x256.Idx → EReal)
      = Cert.ReferenceIdeal.Rows.finals (F := Ideal) emb n l wxf whf bf wxb whb bb := by
  funext j
  obtain ⟨r, k, rfl⟩ : ∃ (r : Fin 12800) (k : Fin 256), j = ix2 r k := ⟨j 0, j 1, eq_ix2 j⟩
  have hL : (blockOf (ixOf n l) r (ix2 9 (⟨r.val % 512, by omega⟩ : Fin 512))).toNat = Cert.ReferenceIdeal.Rows.count l r := by
    rw [block_at, node_length_at]
    rfl
  have h9 : Cert.ReferenceIdeal.Rows.count l r ≤ 9 := hl _
  have hs := steps_eq emb n l hn r
  rw [Cert.ReferenceIdeal.Rows.finals_at emb n l wxf whf bf wxb whb bb hl r k]
  refine (recurrence_at (ixOf n l) (k0_pay2 (F := Ideal) emb) wxf whf wxb whb _ (fun q => bf (ix1 q)) (fun q => bb (ix1 q))
    (bias_fwd bf bb) (bias_bwd bf bb) r (hL ▸ h9) k).trans ?_
  simp only [hL]
  by_cases h : k.val < 128
  · rw [dif_pos h, dif_pos h]
    rw [runRow_congr (gate wxf whf fun q => bf (ix1 q)) (fun t => t < Cert.ReferenceIdeal.Rows.count l r) _ (Cert.ReferenceIdeal.Rows.along emb n r) 9 hs]
  · rw [dif_neg h, dif_neg h]
    rw [runRow_back (gate wxb whb fun q => bb (ix1 q)) (steps (blockOf (ixOf n l) r) (k0_pay2 (F := Ideal) emb) (⟨r.val % 512, by omega⟩ : Fin 512))
      (Cert.ReferenceIdeal.Rows.mirrored emb n l r) (Cert.ReferenceIdeal.Rows.count l r) h9 fun t ht => by
        rw [Cert.ReferenceIdeal.Rows.mirrored_eq emb n l r hl t ht]
        exact (hs _ (by omega)).symm]

/-! ## The result -/

/-- The kernel's result is the reference's, the indices naming rows of the table. -/
theorem results_eq (si ti : S64x200x6.Idx → BitVec 32) (sl tl : S64x200.Idx → BitVec 32) (table : S100000x128.Idx → Ideal .f32)
    (h' : S12800x256.Idx → Ideal .f32) (v : S64x200.Idx → Ideal .f32) (w : S512x512.Idx → Ideal .f32) (h : InRange si ti) :
    shapeCast S64x200x512 (product (F := Ideal) (target (idxOf si ti) (maskOf (lensOf sl tl)) table) h'
        (shapeCast S12800x1 v shapeCasts_S64x200_S12800x1) (truncf (F := Ideal) .bf16 w bitsLt_bf16_f32)) shapeCasts_S12800x512_S64x200x512
      = Cert.ReferenceIdeal.Rows.result (Cert.ReferenceIdeal.Rows.agg table si sl) (Cert.ReferenceIdeal.Rows.agg table ti tl) h' v w := by
  funext j
  obtain ⟨b, l, n, rfl⟩ : ∃ (b : Fin 64) (l : Fin 200) (n : Fin 512), j = ix3 b l n := ⟨j 0, j 1, j 2, eq_ix3 j⟩
  rw [batch_at, product_at, Cert.ReferenceIdeal.Rows.result_at]
  refine congrArg Ideal.tanh ((sum_parts _).trans ?_).symm
  refine congrArg₂ (· + ·) (congrArg₂ (· + ·) ?_ ?_) ?_
  · refine Finset.sum_congr rfl fun k _ => congrArg₂ (· * ·) ?_ rfl
    rw [dif_pos k.2]
    exact (source_eq si ti sl tl table h b l k).symm
  · refine Finset.sum_congr rfl fun k _ => congrArg₂ (· * ·) ?_ rfl
    rw [dif_neg (show ¬ 128 + k.val < 128 by omega), dif_pos (show 128 + k.val - 128 < 256 by omega)]
    have hk : (⟨128 + k.val - 128, by omega⟩ : Fin 256) = k := Fin.ext (by show 128 + k.val - 128 = k.val; omega)
    rw [hk, Cert.ReferenceIdeal.Rows.node_at, column_at]
  · refine Finset.sum_congr rfl fun k _ => congrArg₂ (· * ·) ?_ rfl
    rw [dif_neg (show ¬ 384 + k.val < 128 by omega), dif_neg (show ¬ 384 + k.val - 128 < 256 by omega)]
    have hk : (⟨384 + k.val - 128 - 256, by omega⟩ : Fin 128) = k := Fin.ext (by show 384 + k.val - 128 - 256 = k.val; omega)
    rw [hk]
    exact (target_eq si ti sl tl table h b l k).symm

/-- The contents the reference starts from, on a device's TensorCore. -/
abbrev given (m' : (ℓ : Loc Cert.ReferenceIdeal.nD Cert.ReferenceIdeal.τ Cert.ReferenceIdeal.sig) → Buf (Elt Ideal) ℓ) (c : Dev Cert.ReferenceIdeal.nD)
    (b : Ref Cert.ReferenceIdeal.sig .tc) : Buf (Elt Ideal) ((c.tc : Thread Cert.ReferenceIdeal.nD Cert.ReferenceIdeal.τ).loc b) :=
  m' ((c.tc : Thread Cert.ReferenceIdeal.nD Cert.ReferenceIdeal.τ).loc b)

/-- `Cert.algebraic_KernelIdeal_ReferenceIdeal`. -/
theorem algebraic : Cert.algebraic_KernelIdeal_ReferenceIdeal := fun m g m' g' hpre hargs =>
  ⟨fun c => outOf m c,
    (θ_run Cert.KernelIdeal.defs _ _).mono
      (fun _ h c => ⟨(h.1 c).2.2.2.2.2.2.2.2.2.2.2.2.2.2.2.2, (h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1, (h.1 c).2.2.2.2.2.2.2.2.2.2.1, (h.1 c).2.2.2.2.2.2.2.2.2.2.2.1, (h.1 c).2.2.2.2.2.2.2.2.2.2.2.2.1, (h.1 c).2.2.2.2.2.2.2.2.2.2.2.2.2.1, (h.1 c).2.2.2.2.2.2.2.2.2.2.2.2.2.2.1, (h.1 c).2.2.2.2.2.2.2.2.2.2.2.2.2.2.2.1⟩)
      (run_main (F := Ideal) m g (ok_of_pre m hpre)),
    (θ_run Cert.ReferenceIdeal.defs _ _).mono
      (fun r h c => ⟨by
        rw [h c Cert.ReferenceIdeal.main_v72, Cert.ReferenceIdeal.Rows.out_eq]
        obtain ⟨a0, a1, a2, a3, a4, a5, a6, a7, a8, a9, a10, a11, a12, a13, a14, a15⟩ := hargs c
        obtain ⟨h0, h1, h4⟩ := ranges_of_pre m hpre c
        refine Eq.trans ?_ (results_eq (arg m c main_arg0) (arg m c main_arg2) (arg m c main_arg3) (arg m c main_arg5) (arg m c main_arg7) (recOf m c) (arg m c main_arg6) (arg m c main_arg15) h0).symm
        have hrec : (recOf m c : S12800x256.Idx → EReal) = _ := recurrence_eq (arg m c main_arg8) (arg m c main_arg1) (arg m c main_arg4) (arg m c main_arg9) (arg m c main_arg10)
          (arg m c main_arg12) (arg m c main_arg13) (arg m c main_arg11) (arg m c main_arg14) h1 h4
        rw [hrec]
        show Cert.ReferenceIdeal.Rows.result (F := Ideal)
          (Cert.ReferenceIdeal.Rows.agg (given m' c Cert.ReferenceIdeal.main_arg7) (given m' c Cert.ReferenceIdeal.main_arg0) (given m' c Cert.ReferenceIdeal.main_arg3))
          (Cert.ReferenceIdeal.Rows.agg (given m' c Cert.ReferenceIdeal.main_arg7) (given m' c Cert.ReferenceIdeal.main_arg2) (given m' c Cert.ReferenceIdeal.main_arg5))
          (Cert.ReferenceIdeal.Rows.finals (given m' c Cert.ReferenceIdeal.main_arg8) (given m' c Cert.ReferenceIdeal.main_arg1) (given m' c Cert.ReferenceIdeal.main_arg4)
            (given m' c Cert.ReferenceIdeal.main_arg9) (given m' c Cert.ReferenceIdeal.main_arg10) (given m' c Cert.ReferenceIdeal.main_arg11)
            (given m' c Cert.ReferenceIdeal.main_arg12) (given m' c Cert.ReferenceIdeal.main_arg13) (given m' c Cert.ReferenceIdeal.main_arg14))
          (given m' c Cert.ReferenceIdeal.main_arg6) (given m' c Cert.ReferenceIdeal.main_arg15) = _
        unfold given
        rw [a0, a1, a2, a3, a4, a5, a6, a7, a8, a9, a10, a11, a12, a13, a14, a15],
        Cert.ReferenceIdeal.Rows.args_eq m' r.2.mem c (h c)⟩)
      (Cert.ReferenceIdeal.Rows.run_main (F := Ideal) m' g')⟩

end Cert.Equal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Kernel.Frame
public import proofs.«01_k».proof.Proof.KernelIdeal.Frame
public import proofs.«01_k».proof.Proof.Reference.Run
public import proofs.«01_k».proof.Proof.Equal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_in_range.Gen.facts,
  Cert.Kernel.SC.frame, Cert.KernelIdeal.SC.frame, Cert.ReferenceIdeal.Rows.frame, Cert.ReferenceIdeal.Rows.frame_pre, trivial,
  Cert.Equal.algebraic⟩

end Cert.Proof

end
